-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v75) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v89_0)) (v1 : (c : Dev Cert.Kernel5Ideal.nD) → Buf (Elt Ideal) ((c.tc : Thread Cert.Kernel5Ideal.nD Cert.Kernel5Ideal.τ).loc Cert.Kernel5Ideal.main_v89_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v89_0) = v0 c
          ∧ r.2.mem ((c.tc : Thread Cert.Kernel5Ideal.nD Cert.Kernel5Ideal.τ).loc Cert.Kernel5Ideal.main_v89_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v173) = v0 c
          ∧ r.2.mem ((c.tc : Thread Cert.Reference5Ideal.nD Cert.Reference5Ideal.τ).loc Cert.Reference5Ideal.main_v177) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v54) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v44) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v91) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v26) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S9216x7168 : Shape := ⟨2, ![9216, 7168]⟩
abbrev S4x64 : Shape := ⟨2, ![4, 64]⟩
abbrev S128 : Shape := ⟨1, ![128]⟩
abbrev S_ : Shape := ⟨0, ![]⟩

class Facts : Prop where
  bcast_S_S9216x7168 : S_.BroadcastsInDim S9216x7168 (![] : Fin 0 → Fin S9216x7168.rank)
  reducesTo_S9216x7168_S_d0_1 : S9216x7168.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S9216x7168 .f32) (main_arg1 : FVec F S4x64 .f32) (main_arg2 : FVec F S128 .f32) : IVec S_ 1 :=
  let main_v0 : FVec F S9216x7168 .f32 := Host.absf main_arg0
  let main_cst : FVec F S_ .f32 := constant S_ .f32 0x7F800000#32
  let main_v1 : FVec F S9216x7168 .f32 := broadcastInDim S9216x7168 ![] bcast_S_S9216x7168 main_cst
  let main_v2 : IVec S9216x7168 1 := cmpf .olt main_v0 main_v1
  let main_c : IVec S_ 1 := constantI S_ 1 1#1
  let main_v3 : IVec S_ 1 := (fun x v => Host.reduce IntOp.andi x v reducesTo_S9216x7168_S_d0_1 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  main_v8
-- ==== Kernel.lean ====
abbrev S9216x7168 : Shape := ⟨2, ![9216, 7168]⟩
abbrev S4x64 : Shape := ⟨2, ![4, 64]⟩
abbrev S128 : Shape := ⟨1, ![128]⟩
abbrev S1x128 : Shape := ⟨2, ![1, 128]⟩
abbrev S8192x1024 : Shape := ⟨2, ![8192, 1024]⟩
abbrev S1024x1024 : Shape := ⟨2, ![1024, 1024]⟩
abbrev S2048x128 : Shape := ⟨2, ![2048, 128]⟩
abbrev S256x128 : Shape := ⟨2, ![256, 128]⟩
abbrev S2048x256 : Shape := ⟨2, ![2048, 256]⟩
abbrev S256x256 : Shape := ⟨2, ![256, 256]⟩
abbrev S1x64 : Shape := ⟨2, ![1, 64]⟩
abbrev S1 : Shape := ⟨1, ![1]⟩
abbrev S1x1 : Shape := ⟨2, ![1, 1]⟩
abbrev S128x128 : Shape := ⟨2, ![128, 128]⟩
abbrev S128x2048 : Shape := ⟨2, ![128, 2048]⟩
abbrev S128x256 : Shape := ⟨2, ![128, 256]⟩
abbrev S128x1 : Shape := ⟨2, ![128, 1]⟩

abbrev nBuf : Space → Nat
  | .hbm => 6
  | .vmem => 18
  | .smem => 0
  | _ => 0

abbrev bufTy : (tb : Table) → Fin (tcTables nBuf tb) → BufTy
  | .hbm, ⟨0, _⟩ => ⟨S9216x7168, .f32⟩
  | .hbm, ⟨1, _⟩ => ⟨S4x64, .f32⟩
  | .hbm, ⟨2, _⟩ => ⟨S128, .f32⟩
  | .hbm, ⟨3, _⟩ => ⟨S1x128, .f32⟩
  | .hbm, ⟨4, _⟩ => ⟨S8192x1024, .bf16⟩
  | .hbm, ⟨5, _⟩ => ⟨S1024x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S256x128, .f32⟩
  | .local _ .vmem, ⟨5, _⟩ => ⟨S256x128, .f32⟩
  | .local _ .vmem, ⟨6, _⟩ => ⟨S2048x128, .f32⟩
  | .local _ .vmem, ⟨7, _⟩ => ⟨S2048x128, .f32⟩
  | .local _ .vmem, ⟨8, _⟩ => ⟨S256x128, .f32⟩
  | .local _ .vmem, ⟨9, _⟩ => ⟨S256x128, .f32⟩
  | .local _ .vmem, ⟨10, _⟩ => ⟨S4x64, .f32⟩
  | .local _ .vmem, ⟨11, _⟩ => ⟨S1x128, .f32⟩
  | .local _ .vmem, ⟨12, _⟩ => ⟨S256x128, .f32⟩
  | .local _ .vmem, ⟨13, _⟩ => ⟨S256x128, .f32⟩
  | .local _ .vmem, ⟨14, _⟩ => ⟨S2048x128, .bf16⟩
  | .local _ .vmem, ⟨15, _⟩ => ⟨S2048x128, .bf16⟩
  | .local _ .vmem, ⟨16, _⟩ => ⟨S256x128, .bf16⟩
  | .local _ .vmem, ⟨17, _⟩ => ⟨S256x128, .bf16⟩
  | _, _ => ⟨S9216x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c40_i32 : BitVec 32 := 40#32
  let v1 : BitVec 32 := Scalar.addi c40_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c48_i32 : BitVec 32 := 48#32
  let v1 : BitVec 32 := Scalar.addi c48_i32 arg1
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c32_i32_0 : BitVec 32 := 32#32
  let v1 : BitVec 32 := Scalar.addi c32_i32_0 arg1
  let c0_i32 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "qscale" => some (((1 / 8) * (Real.log 2)⁻¹ : ℝ) : EReal)
  | _ => none
-- ==== ReferenceIdeal.lean ====
abbrev S9216x7168 : Shape := ⟨2, ![9216, 7168]⟩
abbrev S4x64 : Shape := ⟨2, ![4, 64]⟩
abbrev S128 : Shape := ⟨1, ![128]⟩
abbrev S8192x7168 : Shape := ⟨2, ![8192, 7168]⟩
abbrev S4x2048x7168 : Shape := ⟨3, ![4, 2048, 7168]⟩
abbrev S4x2048x1024 : Shape := ⟨3, ![4, 2048, 1024]⟩
abbrev S1024x7168 : Shape := ⟨2, ![1024, 7168]⟩
abbrev S4x256x7168 : Shape := ⟨3, ![4, 256, 7168]⟩
abbrev S4x256x1024 : Shape := ⟨3, ![4, 256, 1024]⟩
abbrev S4x2048x8x2x64 : Shape := ⟨5, ![4, 2048, 8, 2, 64]⟩
abbrev S4x2x8x2048x64 : Shape := ⟨5, ![4, 2, 8, 2048, 64]⟩
abbrev S4x256x8x2x64 : Shape := ⟨5, ![4, 256, 8, 2, 64]⟩
abbrev S4x2x8x256x64 : Shape := ⟨5, ![4, 2, 8, 256, 64]⟩
abbrev S4x2048x8x128 : Shape := ⟨4, ![4, 2048, 8, 128]⟩
abbrev S4x8x2048x128 : Shape := ⟨4, ![4, 8, 2048, 128]⟩
abbrev S4x256x8x128 : Shape := ⟨4, ![4, 256, 8, 128]⟩
abbrev S4x8x256x128 : Shape := ⟨4, ![4, 8, 256, 128]⟩
abbrev S1x64 : Shape := ⟨2, ![1, 64]⟩
abbrev S64 : Shape := ⟨1, ![64]⟩
abbrev S_ : Shape := ⟨0, ![]⟩
abbrev S4x2x8x2304x64 : Shape := ⟨5, ![4, 2, 8, 2304, 64]⟩
abbrev S4x8x2304x128 : Shape := ⟨4, ![4, 8, 2304, 128]⟩
abbrev S4x2x8x2048x2304 : Shape := ⟨5, ![4, 2, 8, 2048, 2304]⟩
abbrev S4x2x8x2048 : Shape := ⟨4, ![4, 2, 8, 2048]⟩
abbrev S4x2x8x2048x1 : Shape := ⟨5, ![4, 2, 8, 2048, 1]⟩
abbrev S4x1x8x2048x2304 : Shape := ⟨5, ![4, 1, 8, 2048, 2304]⟩
abbrev S4x8x2048x2304 : Shape := ⟨4, ![4, 8, 2048, 2304]⟩
abbrev S4x8x2048 : Shape := ⟨3, ![4, 8, 2048]⟩
abbrev S4x8x2048x1 : Shape := ⟨4, ![4, 8, 2048, 1]⟩
abbrev S1x1x1x128 : Shape := ⟨4, ![1, 1, 1, 128]⟩
abbrev S8192x1024 : Shape := ⟨2, ![8192, 1024]⟩
abbrev S4x2x8x256x256 : Shape := ⟨5, ![4, 2, 8, 256, 256]⟩
abbrev S4x2x8x256 : Shape := ⟨4, ![4, 2, 8, 256]⟩
abbrev S4x2x8x256x1 : Shape := ⟨5, ![4, 2, 8, 256, 1]⟩
abbrev S4x1x8x256x256 : Shape := ⟨5, ![4, 1, 8, 256, 256]⟩
abbrev S4x8x256x256 : Shape := ⟨4, ![4, 8, 256, 256]⟩
abbrev S4x8x256 : Shape := ⟨3, ![4, 8, 256]⟩
abbrev S4x8x256x1 : Shape := ⟨4, ![4, 8, 256, 1]⟩
abbrev S1024x1024 : Shape := ⟨2, ![1024, 1024]⟩

abbrev nBuf : Space → Nat
  | .hbm => 142
  | .vmem => 0
  | .smem => 0
  | _ => 0

abbrev hbmTy0_0 (i : Nat) : BufTy := match i % 128 with
  | 0 => ⟨S9216x7168, .f32⟩
  | 1 => ⟨S4x64, .f32⟩
  | 2 => ⟨S128, .f32⟩
  | 3 => ⟨S8192x7168, .f32⟩
  | 4 => ⟨S4x2048x7168, .f32⟩
  | 5 => ⟨S4x2048x1024, .f32⟩
  | 6 => ⟨S4x2048x1024, .f32⟩
  | 7 => ⟨S4x2048x1024, .f32⟩
  | 8 => ⟨S1024x7168, .f32⟩
  | 9 => ⟨S4x256x7168, .f32⟩
  | 10 => ⟨S4x256x1024, .f32⟩
  | 11 => ⟨S4x256x1024, .f32⟩
  | 12 => ⟨S4x256x1024, .f32⟩
  | 13 => ⟨S4x2048x8x2x64, .f32⟩
  | 14 => ⟨S4x2x8x2048x64, .f32⟩
  | 15 => ⟨S4x2048x8x2x64, .f32⟩
  | 16 => ⟨S4x2x8x2048x64, .f32⟩
  | 17 => ⟨S4x256x8x2x64, .f32⟩
  | 18 => ⟨S4x2x8x256x64, .f32⟩
  | 19 => ⟨S4x256x8x2x64, .f32⟩
  | 20 => ⟨S4x2x8x256x64, .f32⟩
  | 21 => ⟨S4x2048x8x128, .f32⟩
  | 22 => ⟨S4x8x2048x128, .f32⟩
  | 23 => ⟨S4x256x8x128, .f32⟩
  | 24 => ⟨S4x8x256x128, .f32⟩
  | 25 => ⟨S1x64, .f32⟩
  | 26 => ⟨S64, .f32⟩
  | 27 => ⟨S1x64, .f32⟩
  | 28 => ⟨S64, .f32⟩
  | 29 => ⟨S64, .f32⟩
  | 30 => ⟨S_, .f32⟩
  | 31 => ⟨S_, .f32⟩
  | 32 => ⟨S_, .f32⟩
  | 33 => ⟨S1x64, .f32⟩
  | 34 => ⟨S64, .f32⟩
  | 35 => ⟨S1x64, .f32⟩
  | 36 => ⟨S64, .f32⟩
  | 37 => ⟨S64, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S4x2x8x2304x64, .f32⟩
  | 45 => ⟨S4x8x2304x128, .f32⟩
  | 46 => ⟨S4x2x8x2048x2304, .f32⟩
  | 47 => ⟨S_, .f32⟩
  | 48 => ⟨S4x2x8x2048x2304, .f32⟩
  | 49 => ⟨S4x2x8x2048x2304, .f32⟩
  | 50 => ⟨S_, .f32⟩
  | 51 => ⟨S4x2x8x2048, .f32⟩
  | 52 => ⟨S_, .f32⟩
  | 53 => ⟨S4x2x8x2048, .f32⟩
  | 54 => ⟨S4x2x8x2048, .f32⟩
  | 55 => ⟨S4x2x8x2048x1, .f32⟩
  | 56 => ⟨S4x2x8x2048x2304, .f32⟩
  | 57 => ⟨S4x2x8x2048x2304, .f32⟩
  | 58 => ⟨S4x2x8x2048x2304, .f32⟩
  | 59 => ⟨S_, .f32⟩
  | 60 => ⟨S4x2x8x2048, .f32⟩
  | 61 => ⟨S4x2x8x2048x1, .f32⟩
  | 62 => ⟨S4x2x8x2048x2304, .f32⟩
  | 63 => ⟨S4x2x8x2048x2304, .f32⟩
  | 64 => ⟨S4x1x8x2048x2304, .f32⟩
  | 65 => ⟨S4x8x2048x2304, .f32⟩
  | 66 => ⟨S4x1x8x2048x2304, .f32⟩
  | 67 => ⟨S4x8x2048x2304, .f32⟩
  | 68 => ⟨S4x8x2048x2304, .f32⟩
  | 69 => ⟨S4x8x2048x2304, .f32⟩
  | 70 => ⟨S4x8x2048x2304, .f32⟩
  | 71 => ⟨S4x8x2048x128, .f32⟩
  | 72 => ⟨S4x8x2048x128, .f32⟩
  | 73 => ⟨S_, .f32⟩
  | 74 => ⟨S4x8x2048, .f32⟩
  | 75 => ⟨S4x8x2048x1, .f32⟩
  | 76 => ⟨S_, .f32⟩
  | 77 => ⟨S4x8x2048x1, .f32⟩
  | 78 => ⟨S4x8x2048x1, .f32⟩
  | 79 => ⟨S_, .f32⟩
  | 80 => ⟨S4x8x2048x1, .f32⟩
  | 81 => ⟨S4x8x2048x1, .f32⟩
  | 82 => ⟨S4x8x2048x1, .f32⟩
  | 83 => ⟨S4x8x2048x128, .f32⟩
  | 84 => ⟨S4x8x2048x128, .f32⟩
  | 85 => ⟨S1x1x1x128, .f32⟩
  | 86 => ⟨S4x8x2048x128, .f32⟩
  | 87 => ⟨S4x8x2048x128, .f32⟩
  | 88 => ⟨S_, .f32⟩
  | 89 => ⟨S4x8x2048x128, .f32⟩
  | 90 => ⟨S4x8x2048x128, .f32⟩
  | 91 => ⟨S4x2048x8x128, .f32⟩
  | 92 => ⟨S8192x1024, .f32⟩
  | 93 => ⟨S8192x1024, .bf16⟩
  | 94 => ⟨S4x2x8x256x256, .f32⟩
  | 95 => ⟨S_, .f32⟩
  | 96 => ⟨S4x2x8x256x256, .f32⟩
  | 97 => ⟨S4x2x8x256x256, .f32⟩
  | 98 => ⟨S_, .f32⟩
  | 99 => ⟨S4x2x8x256, .f32⟩
  | 100 => ⟨S_, .f32⟩
  | 101 => ⟨S4x2x8x256, .f32⟩
  | 102 => ⟨S4x2x8x256, .f32⟩
  | 103 => ⟨S4x2x8x256x1, .f32⟩
  | 104 => ⟨S4x2x8x256x256, .f32⟩
  | 105 => ⟨S4x2x8x256x256, .f32⟩
  | 106 => ⟨S4x2x8x256x256, .f32⟩
  | 107 => ⟨S_, .f32⟩
  | 108 => ⟨S4x2x8x256, .f32⟩
  | 109 => ⟨S4x2x8x256x1, .f32⟩
  | 110 => ⟨S4x2x8x256x256, .f32⟩
  | 111 => ⟨S4x2x8x256x256, .f32⟩
  | 112 => ⟨S4x1x8x256x256, .f32⟩
  | 113 => ⟨S4x8x256x256, .f32⟩
  | 114 => ⟨S4x1x8x256x256, .f32⟩
  | 115 => ⟨S4x8x256x256, .f32⟩
  | 116 => ⟨S4x8x256x256, .f32⟩
  | 117 => ⟨S4x8x256x256, .f32⟩
  | 118 => ⟨S4x8x256x256, .f32⟩
  | 119 => ⟨S4x8x256x128, .f32⟩
  | 120 => ⟨S4x8x256x128, .f32⟩
  | 121 => ⟨S_, .f32⟩
  | 122 => ⟨S4x8x256, .f32⟩
  | 123 => ⟨S4x8x256x1, .f32⟩
  | 124 => ⟨S_, .f32⟩
  | 125 => ⟨S4x8x256x1, .f32⟩
  | 126 => ⟨S4x8x256x1, .f32⟩
  | 127 => ⟨S_, .f32⟩
  | _ => ⟨S9216x7168, .f32⟩

abbrev hbmTy0_1 (i : Nat) : BufTy := match i % 128 with
  | 0 => ⟨S4x8x256x1, .f32⟩
  | 1 => ⟨S4x8x256x1, .f32⟩
  | 2 => ⟨S4x8x256x1, .f32⟩
  | 3 => ⟨S4x8x256x128, .f32⟩
  | 4 => ⟨S4x8x256x128, .f32⟩
  | 5 => ⟨S1x1x1x128, .f32⟩
  | 6 => ⟨S4x8x256x128, .f32⟩
  | 7 => ⟨S4x8x256x128, .f32⟩
  | 8 => ⟨S_, .f32⟩
  | 9 => ⟨S4x8x256x128, .f32⟩
  | 10 => ⟨S4x8x256x128, .f32⟩
  | 11 => ⟨S4x256x8x128, .f32⟩
  | 12 => ⟨S1024x1024, .f32⟩
  | 13 => ⟨S1024x1024, .bf16⟩
  | _ => ⟨S9216x7168, .f32⟩

abbrev hbmTy (i : Nat) : BufTy := match i / 128 with
  | 0 => hbmTy0_0 i
  | 1 => hbmTy0_1 i
  | _ => ⟨S9216x7168, .f32⟩

abbrev bufTy : (tb : Table) → Fin (tcTables nBuf tb) → BufTy
  | .hbm, ⟨i, _⟩ => hbmTy i
  | _, _ => ⟨S9216x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_cst_0 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_v64 : Ref sig .tc := ⟨.hbm, 75, rfl⟩
abbrev main_cst_7 : Ref sig .tc := ⟨.hbm, 76, rfl⟩
abbrev main_v65 : Ref sig .tc := ⟨.hbm, 77, rfl⟩
abbrev main_v66 : Ref sig .tc := ⟨.hbm, 78, rfl⟩
abbrev main_cst_8 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_9 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_10 : Ref sig .tc := ⟨.hbm, 95, rfl⟩
abbrev main_v81 : Ref sig .tc := ⟨.hbm, 96, rfl⟩
abbrev main_v82 : Ref sig .tc := ⟨.hbm, 97, rfl⟩
abbrev main_cst_11 : Ref sig .tc := ⟨.hbm, 98, rfl⟩
abbrev main_v83 : Ref sig .tc := ⟨.hbm, 99, rfl⟩
abbrev main_cst_12 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_13 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_14 : Ref sig .tc := ⟨.hbm, 121, rfl⟩
abbrev main_v103 : Ref sig .tc := ⟨.hbm, 122, rfl⟩
abbrev main_v104 : Ref sig .tc := ⟨.hbm, 123, rfl⟩
abbrev main_cst_15 : Ref sig .tc := ⟨.hbm, 124, rfl⟩
abbrev main_v105 : Ref sig .tc := ⟨.hbm, 125, rfl⟩
abbrev main_v106 : Ref sig .tc := ⟨.hbm, 126, rfl⟩
abbrev main_cst_16 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_17 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩

abbrev nD : Nat := 1
abbrev τ : Topo := Topo.v7x

variable {F : FTy → Type} [FloatOps F]
-- ==== Kernel2.lean ====
abbrev S9216x2048 : Shape := ⟨2, ![9216, 2048]⟩
abbrev S5x9x2048 : Shape := ⟨3, ![5, 9, 2048]⟩
abbrev S2048 : Shape := ⟨1, ![2048]⟩
abbrev S2x2x2048x11264 : Shape := ⟨4, ![2, 2, 2048, 11264]⟩
abbrev S1x2048 : Shape := ⟨2, ![1, 2048]⟩
abbrev S9216x5632 : Shape := ⟨2, ![9216, 5632]⟩
abbrev S1024x2048 : Shape := ⟨2, ![1024, 2048]⟩
abbrev S1x9x2048 : Shape := ⟨3, ![1, 9, 2048]⟩
abbrev S1x1x2048x512 : Shape := ⟨4, ![1, 1, 2048, 512]⟩
abbrev S1024x512 : Shape := ⟨2, ![1024, 512]⟩
abbrev S1x1x2048 : Shape := ⟨3, ![1, 1, 2048]⟩
abbrev S32x2048 : Shape := ⟨2, ![32, 2048]⟩
abbrev S32 : Shape := ⟨1, ![32]⟩
abbrev S32x1 : Shape := ⟨2, ![32, 1]⟩
abbrev S2048x512 : Shape := ⟨2, ![2048, 512]⟩

abbrev nBuf : Space → Nat
  | .hbm => 6
  | .vmem => 12
  | .smem => 0
  | _ => 0

abbrev bufTy : (tb : Table) → Fin (tcTables nBuf tb) → BufTy
  | .hbm, ⟨0, _⟩ => ⟨S9216x2048, .f32⟩
  | .hbm, ⟨1, _⟩ => ⟨S5x9x2048, .f32⟩
  | .hbm, ⟨2, _⟩ => ⟨S2048, .f32⟩
  | .hbm, ⟨3, _⟩ => ⟨S2x2x2048x11264, .f32⟩
  | .hbm, ⟨4, _⟩ => ⟨S1x2048, .f32⟩
  | .hbm, ⟨5, _⟩ => ⟨S9216x5632, .bf16⟩
  | .local _ .vmem, ⟨0, _⟩ => ⟨S1024x2048, .f32⟩
  | .local _ .vmem, ⟨1, _⟩ => ⟨S1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S1x1x2048x512, .f32⟩
  | .local _ .vmem, ⟨6, _⟩ => ⟨S1x1x2048x512, .f32⟩
  | .local _ .vmem, ⟨7, _⟩ => ⟨S1x1x2048x512, .f32⟩
  | .local _ .vmem, ⟨8, _⟩ => ⟨S1x1x2048x512, .f32⟩
  | .local _ .vmem, ⟨9, _⟩ => ⟨S1024x512, .bf16⟩
  | .local _ .vmem, ⟨10, _⟩ => ⟨S1024x512, .bf16⟩
  | .local _ .vmem, ⟨11, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_24 : BitVec 32 := 0#32
  let c32_i32 : BitVec 32 := 32#32
  let v32 : BitVec 32 := Scalar.addi c0_i32_24 c32_i32
  let c1_i32 : BitVec 32 := 1#32
  ⟨c0_i32_24, v32, c1_i32⟩
def k0_mult1 (k0_t1 : Fin k0_t1_loop.trips) : BitVec 32 :=
  let c0_i32_24 : BitVec 32 := 0#32
  let c1_i32 : BitVec 32 := 1#32
  let arg9 : BitVec 32 := Scf.iv c0_i32_24 c1_i32 k0_t1
  let c32_i32_26 : BitVec 32 := 32#32
  let v33 : BitVec 32 := Scalar.muli arg9 c32_i32_26
  v33
def k0_off1 (k0_t1 : Fin k0_t1_loop.trips) : Fin 2 → Nat :=
  let c0_i32_24 : BitVec 32 := 0#32
  let c1_i32 : BitVec 32 := 1#32
  let arg9 : BitVec 32 := Scf.iv c0_i32_24 c1_i32 k0_t1
  let c32_i32_26 : BitVec 32 := 32#32
  let v33 : BitVec 32 := Scalar.muli arg9 c32_i32_26
  let v34 : BitVec 32 := v33
  let v35 : Index := Scalar.indexCast v34
  let c0_27 : Index := 0#32
  ![v35.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_4 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S9216x2048 : Shape := ⟨2, ![9216, 2048]⟩
abbrev S5x9x2048 : Shape := ⟨3, ![5, 9, 2048]⟩
abbrev S2048 : Shape := ⟨1, ![2048]⟩
abbrev S2x2x2048x11264 : Shape := ⟨4, ![2, 2, 2048, 11264]⟩
abbrev S4x9x2048 : Shape := ⟨3, ![4, 9, 2048]⟩
abbrev S4x9x1x2048 : Shape := ⟨4, ![4, 9, 1, 2048]⟩
abbrev S1x9x2048 : Shape := ⟨3, ![1, 9, 2048]⟩
abbrev S9x2048 : Shape := ⟨2, ![9, 2048]⟩
abbrev S8192x2048 : Shape := ⟨2, ![8192, 2048]⟩
abbrev S4x2048x2048 : Shape := ⟨3, ![4, 2048, 2048]⟩
abbrev S4x1x1x2048 : Shape := ⟨4, ![4, 1, 1, 2048]⟩
abbrev S4x1x2048 : Shape := ⟨3, ![4, 1, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x1x2048x11264 : Shape := ⟨4, ![1, 1, 2048, 11264]⟩
abbrev S2048x11264 : Shape := ⟨2, ![2048, 11264]⟩
abbrev S4x2048x11264 : Shape := ⟨3, ![4, 2048, 11264]⟩
abbrev S4x2048x5632 : Shape := ⟨3, ![4, 2048, 5632]⟩
abbrev S1024x2048 : Shape := ⟨2, ![1024, 2048]⟩
abbrev S4x256x2048 : Shape := ⟨3, ![4, 256, 2048]⟩
abbrev S1x2048 : Shape := ⟨2, ![1, 2048]⟩
abbrev S4x256 : Shape := ⟨2, ![4, 256]⟩
abbrev S4x256x1 : Shape := ⟨3, ![4, 256, 1]⟩
abbrev S4x256x11264 : Shape := ⟨3, ![4, 256, 11264]⟩
abbrev S4x256x5632 : Shape := ⟨3, ![4, 256, 5632]⟩
abbrev S8192x5632 : Shape := ⟨2, ![8192, 5632]⟩
abbrev S1024x5632 : Shape := ⟨2, ![1024, 5632]⟩
abbrev S9216x5632 : Shape := ⟨2, ![9216, 5632]⟩

abbrev nBuf : Space → Nat
  | .hbm => 102
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S5x9x2048, .f32⟩
  | .hbm, ⟨2, _⟩ => ⟨S2048, .f32⟩
  | .hbm, ⟨3, _⟩ => ⟨S2x2x2048x11264, .f32⟩
  | .hbm, ⟨4, _⟩ => ⟨S4x9x2048, .f32⟩
  | .hbm, ⟨5, _⟩ => ⟨S4x9x1x2048, .f32⟩
  | .hbm, ⟨6, _⟩ => ⟨S1x9x2048, .f32⟩
  | .hbm, ⟨7, _⟩ => ⟨S9x2048, .f32⟩
  | .hbm, ⟨8, _⟩ => ⟨S8192x2048, .f32⟩
  | .hbm, ⟨9, _⟩ => ⟨S4x2048x2048, .f32⟩
  | .hbm, ⟨10, _⟩ => ⟨S4x1x1x2048, .f32⟩
  | .hbm, ⟨11, _⟩ => ⟨S4x1x2048, .f32⟩
  | .hbm, ⟨12, _⟩ => ⟨S4x1x1x2048, .f32⟩
  | .hbm, ⟨13, _⟩ => ⟨S4x1x2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x1x2048, .f32⟩
  | .hbm, ⟨32, _⟩ => ⟨S4x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S1x1x2048x11264, .f32⟩
  | .hbm, ⟨38, _⟩ => ⟨S2048x11264, .f32⟩
  | .hbm, ⟨39, _⟩ => ⟨S4x2048x11264, .f32⟩
  | .hbm, ⟨40, _⟩ => ⟨S4x2048x5632, .f32⟩
  | .hbm, ⟨41, _⟩ => ⟨S4x2048x5632, .f32⟩
  | .hbm, ⟨42, _⟩ => ⟨S4x2048x5632, .f32⟩
  | .hbm, ⟨43, _⟩ => ⟨S4x2048x5632, .f32⟩
  | .hbm, ⟨44, _⟩ => ⟨S_, .f32⟩
  | .hbm, ⟨45, _⟩ => ⟨S4x2048x5632, .f32⟩
  | .hbm, ⟨46, _⟩ => ⟨S4x2048x5632, .f32⟩
  | .hbm, ⟨47, _⟩ => ⟨S_, .f32⟩
  | .hbm, ⟨48, _⟩ => ⟨S4x2048x5632, .f32⟩
  | .hbm, ⟨49, _⟩ => ⟨S4x2048x5632, .f32⟩
  | .hbm, ⟨50, _⟩ => ⟨S4x2048x5632, .f32⟩
  | .hbm, ⟨51, _⟩ => ⟨S4x2048x5632, .f32⟩
  | .hbm, ⟨52, _⟩ => ⟨S1024x2048, .f32⟩
  | .hbm, ⟨53, _⟩ => ⟨S4x256x2048, .f32⟩
  | .hbm, ⟨54, _⟩ => ⟨S1x2048, .f32⟩
  | .hbm, ⟨55, _⟩ => ⟨S2048, .f32⟩
  | .hbm, ⟨56, _⟩ => ⟨S1x2048, .f32⟩
  | .hbm, ⟨57, _⟩ => ⟨S2048, .f32⟩
  | .hbm, ⟨58, _⟩ => ⟨S4x256x2048, .f32⟩
  | .hbm, ⟨59, _⟩ => ⟨S_, .f32⟩
  | .hbm, ⟨60, _⟩ => ⟨S4x256, .f32⟩
  | .hbm, ⟨61, _⟩ => ⟨S4x256x1, .f32⟩
  | .hbm, ⟨62, _⟩ => ⟨S_, .f32⟩
  | .hbm, ⟨63, _⟩ => ⟨S4x256x1, .f32⟩
  | .hbm, ⟨64, _⟩ => ⟨S4x256x1, .f32⟩
  | .hbm, ⟨65, _⟩ => ⟨S_, .f32⟩
  | .hbm, ⟨66, _⟩ => ⟨S4x256x1, .f32⟩
  | .hbm, ⟨67, _⟩ => ⟨S4x256x1, .f32⟩
  | .hbm, ⟨68, _⟩ => ⟨S4x256x1, .f32⟩
  | .hbm, ⟨69, _⟩ => ⟨S4x256x2048, .f32⟩
  | .hbm, ⟨70, _⟩ => ⟨S4x256x2048, .f32⟩
  | .hbm, ⟨71, _⟩ => ⟨S1x1x2048, .f32⟩
  | .hbm, ⟨72, _⟩ => ⟨S4x256x2048, .f32⟩
  | .hbm, ⟨73, _⟩ => ⟨S4x256x2048, .f32⟩
  | .hbm, ⟨74, _⟩ => ⟨S_, .f32⟩
  | .hbm, ⟨75, _⟩ => ⟨S2048, .f32⟩
  | .hbm, ⟨76, _⟩ => ⟨S2048, .f32⟩
  | .hbm, ⟨77, _⟩ => ⟨S1x1x2048, .f32⟩
  | .hbm, ⟨78, _⟩ => ⟨S4x256x2048, .f32⟩
  | .hbm, ⟨79, _⟩ => ⟨S4x256x2048, .f32⟩
  | .hbm, ⟨80, _⟩ => ⟨S1x1x2048, .f32⟩
  | .hbm, ⟨81, _⟩ => ⟨S4x256x2048, .f32⟩
  | .hbm, ⟨82, _⟩ => ⟨S4x256x2048, .f32⟩
  | .hbm, ⟨83, _⟩ => ⟨S1x1x2048x11264, .f32⟩
  | .hbm, ⟨84, _⟩ => ⟨S2048x11264, .f32⟩
  | .hbm, ⟨85, _⟩ => ⟨S4x256x11264, .f32⟩
  | .hbm, ⟨86, _⟩ => ⟨S4x256x5632, .f32⟩
  | .hbm, ⟨87, _⟩ => ⟨S4x256x5632, .f32⟩
  | .hbm, ⟨88, _⟩ => ⟨S4x256x5632, .f32⟩
  | .hbm, ⟨89, _⟩ => ⟨S4x256x5632, .f32⟩
  | .hbm, ⟨90, _⟩ => ⟨S_, .f32⟩
  | .hbm, ⟨91, _⟩ => ⟨S4x256x5632, .f32⟩
  | .hbm, ⟨92, _⟩ => ⟨S4x256x5632, .f32⟩
  | .hbm, ⟨93, _⟩ => ⟨S_, .f32⟩
  | .hbm, ⟨94, _⟩ => ⟨S4x256x5632, .f32⟩
  | .hbm, ⟨95, _⟩ => ⟨S4x256x5632, .f32⟩
  | .hbm, ⟨96, _⟩ => ⟨S4x256x5632, .f32⟩
  | .hbm, ⟨97, _⟩ => ⟨S4x256x5632, .f32⟩
  | .hbm, ⟨98, _⟩ => ⟨S8192x5632, .f32⟩
  | .hbm, ⟨99, _⟩ => ⟨S1024x5632, .f32⟩
  | .hbm, ⟨100, _⟩ => ⟨S9216x5632, .f32⟩
  | .hbm, ⟨101, _⟩ => ⟨S9216x5632, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_cst_5 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_call1_v5 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]
-- ==== Kernel3.lean ====
abbrev S9216x5632 : Shape := ⟨2, ![9216, 5632]⟩
abbrev S2x2x5632x2048 : Shape := ⟨4, ![2, 2, 5632, 2048]⟩
abbrev S9216x2048 : Shape := ⟨2, ![9216, 2048]⟩
abbrev S5x9x2048 : Shape := ⟨3, ![5, 9, 2048]⟩
abbrev S2048 : Shape := ⟨1, ![2048]⟩
abbrev S1x1x5632x2048 : Shape := ⟨4, ![1, 1, 5632, 2048]⟩
abbrev S5632x2048 : Shape := ⟨2, ![5632, 2048]⟩
abbrev S1x2048 : Shape := ⟨2, ![1, 2048]⟩
abbrev S1024x1408 : Shape := ⟨2, ![1024, 1408]⟩
abbrev S1408x2048 : Shape := ⟨2, ![1408, 2048]⟩
abbrev S1024x2048 : Shape := ⟨2, ![1024, 2048]⟩
abbrev S1x9x2048 : Shape := ⟨3, ![1, 9, 2048]⟩
abbrev S1x1x2048 : Shape := ⟨3, ![1, 1, 2048]⟩
abbrev S32x2048 : Shape := ⟨2, ![32, 2048]⟩
abbrev S32 : Shape := ⟨1, ![32]⟩
abbrev S32x1 : Shape := ⟨2, ![32, 1]⟩

abbrev nBuf : Space → Nat
  | .hbm => 11
  | .vmem => 12
  | .smem => 0
  | _ => 0

abbrev bufTy : (tb : Table) → Fin (tcTables nBuf tb) → BufTy
  | .hbm, ⟨0, _⟩ => ⟨S9216x5632, .f32⟩
  | .hbm, ⟨1, _⟩ => ⟨S2x2x5632x2048, .f32⟩
  | .hbm, ⟨2, _⟩ => ⟨S9216x2048, .f32⟩
  | .hbm, ⟨3, _⟩ => ⟨S5x9x2048, .f32⟩
  | .hbm, ⟨4, _⟩ => ⟨S2048, .f32⟩
  | .hbm, ⟨5, _⟩ => ⟨S9216x5632, .bf16⟩
  | .hbm, ⟨6, _⟩ => ⟨S1x1x5632x2048, .f32⟩
  | .hbm, ⟨7, _⟩ => ⟨S5632x2048, .f32⟩
  | .hbm, ⟨8, _⟩ => ⟨S5632x2048, .bf16⟩
  | .hbm, ⟨9, _⟩ => ⟨S1x2048, .f32⟩
  | .hbm, ⟨10, _⟩ => ⟨S9216x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x2048, .bf16⟩
  | .local _ .vmem, ⟨3, _⟩ => ⟨S1408x2048, .bf16⟩
  | .local _ .vmem, ⟨4, _⟩ => ⟨S1024x2048, .f32⟩
  | .local _ .vmem, ⟨5, _⟩ => ⟨S1024x2048, .f32⟩
  | .local _ .vmem, ⟨6, _⟩ => ⟨S1x9x2048, .f32⟩
  | .local _ .vmem, ⟨7, _⟩ => ⟨S1x9x2048, .f32⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .f32⟩
  | _, _ => ⟨S9216x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 4], ![false, false]⟩

def k0_cond3 (i : grid0.Coords) : BitVec 1 :=
  let arg1 : BitVec 32 := BitVec.ofNat 32 (i 1).val
  let c3_i32 : BitVec 32 := 3#32
  let v8 : BitVec 1 := Scalar.cmpi .eq arg1 c3_i32
  let v9 : BitVec 32 := Scalar.extui v8
  let c0_i32_2 : BitVec 32 := 0#32
  let v10 : BitVec 1 := Scalar.cmpi .ne v9 c0_i32_2
  v10

@[reducible] def k0_t1_loop : Scf.Loop 32 :=
  let c0_i32_6 : BitVec 32 := 0#32
  let c32_i32 : BitVec 32 := 32#32
  let v18 : BitVec 32 := Scalar.addi c0_i32_6 c32_i32
  let c1_i32_7 : BitVec 32 := 1#32
  ⟨c0_i32_6, v18, c1_i32_7⟩
def k0_mult1 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c32_i32_9 : BitVec 32 := 32#32
  let v19 : BitVec 32 := Scalar.muli arg9 c32_i32_9
  v19
def k0_off1 (k0_t1 : Fin k0_t1_loop.trips) : Fin 2 → Nat :=
  let c0_i32_6 : BitVec 32 := 0#32
  let c1_i32_7 : BitVec 32 := 1#32
  let arg9 : BitVec 32 := Scf.iv c0_i32_6 c1_i32_7 k0_t1
  let c32_i32_9 : BitVec 32 := 32#32
  let v19 : BitVec 32 := Scalar.muli arg9 c32_i32_9
  let v20 : BitVec 32 := v19
  let v21 : Index := Scalar.indexCast v20
  let c0_10 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x9x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S9216x5632 : Shape := ⟨2, ![9216, 5632]⟩
abbrev S2x2x5632x2048 : Shape := ⟨4, ![2, 2, 5632, 2048]⟩
abbrev S9216x2048 : Shape := ⟨2, ![9216, 2048]⟩
abbrev S5x9x2048 : Shape := ⟨3, ![5, 9, 2048]⟩
abbrev S2048 : Shape := ⟨1, ![2048]⟩
abbrev S4x9x2048 : Shape := ⟨3, ![4, 9, 2048]⟩
abbrev S4x9x1x2048 : Shape := ⟨4, ![4, 9, 1, 2048]⟩
abbrev S1x9x2048 : Shape := ⟨3, ![1, 9, 2048]⟩
abbrev S9x2048 : Shape := ⟨2, ![9, 2048]⟩
abbrev S1x1x5632x2048 : Shape := ⟨4, ![1, 1, 5632, 2048]⟩
abbrev S5632x2048 : Shape := ⟨2, ![5632, 2048]⟩
abbrev S4x1x1x2048 : Shape := ⟨4, ![4, 1, 1, 2048]⟩
abbrev S4x1x2048 : Shape := ⟨3, ![4, 1, 2048]⟩
abbrev S1x2048 : Shape := ⟨2, ![1, 2048]⟩
abbrev S8192x2048 : Shape := ⟨2, ![8192, 2048]⟩
abbrev S4x2048x2048 : Shape := ⟨3, ![4, 2048, 2048]⟩
abbrev S1024x2048 : Shape := ⟨2, ![1024, 2048]⟩
abbrev S4x256x2048 : Shape := ⟨3, ![4, 256, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x256 : Shape := ⟨2, ![4, 256]⟩
abbrev S4x256x1 : Shape := ⟨3, ![4, 256, 1]⟩

abbrev nBuf : Space → Nat
  | .hbm => 72
  | .vmem => 0
  | .smem => 0
  | _ => 0

abbrev bufTy : (tb : Table) → Fin (tcTables nBuf tb) → BufTy
  | .hbm, ⟨0, _⟩ => ⟨S9216x5632, .f32⟩
  | .hbm, ⟨1, _⟩ => ⟨S2x2x5632x2048, .f32⟩
  | .hbm, ⟨2, _⟩ => ⟨S9216x2048, .f32⟩
  | .hbm, ⟨3, _⟩ => ⟨S5x9x2048, .f32⟩
  | .hbm, ⟨4, _⟩ => ⟨S2048, .f32⟩
  | .hbm, ⟨5, _⟩ => ⟨S4x9x2048, .f32⟩
  | .hbm, ⟨6, _⟩ => ⟨S4x9x1x2048, .f32⟩
  | .hbm, ⟨7, _⟩ => ⟨S1x9x2048, .f32⟩
  | .hbm, ⟨8, _⟩ => ⟨S9x2048, .f32⟩
  | .hbm, ⟨9, _⟩ => ⟨S1x1x5632x2048, .f32⟩
  | .hbm, ⟨10, _⟩ => ⟨S5632x2048, .f32⟩
  | .hbm, ⟨11, _⟩ => ⟨S9216x2048, .f32⟩
  | .hbm, ⟨12, _⟩ => ⟨S4x1x1x2048, .f32⟩
  | .hbm, ⟨13, _⟩ => ⟨S4x1x2048, .f32⟩
  | .hbm, ⟨14, _⟩ => ⟨S1x2048, .f32⟩
  | .hbm, ⟨15, _⟩ => ⟨S2048, .f32⟩
  | .hbm, ⟨16, _⟩ => ⟨S8192x2048, .f32⟩
  | .hbm, ⟨17, _⟩ => ⟨S4x2048x2048, .f32⟩
  | .hbm, ⟨18, _⟩ => ⟨S1024x2048, .f32⟩
  | .hbm, ⟨19, _⟩ => ⟨S4x256x2048, .f32⟩
  | .hbm, ⟨20, _⟩ => ⟨S8192x2048, .f32⟩
  | .hbm, ⟨21, _⟩ => ⟨S4x2048x2048, .f32⟩
  | .hbm, ⟨22, _⟩ => ⟨S1024x2048, .f32⟩
  | .hbm, ⟨23, _⟩ => ⟨S4x256x2048, .f32⟩
  | .hbm, ⟨24, _⟩ => ⟨S_, .f32⟩
  | .hbm, ⟨25, _⟩ => ⟨S4x1x2048, .f32⟩
  | .hbm, ⟨26, _⟩ => ⟨S4x1x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S1x1x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S4x256x2048, .f32⟩
  | .hbm, ⟨50, _⟩ => ⟨S_, .f32⟩
  | .hbm, ⟨51, _⟩ => ⟨S4x256, .f32⟩
  | .hbm, ⟨52, _⟩ => ⟨S4x256x1, .f32⟩
  | .hbm, ⟨53, _⟩ => ⟨S_, .f32⟩
  | .hbm, ⟨54, _⟩ => ⟨S4x256x1, .f32⟩
  | .hbm, ⟨55, _⟩ => ⟨S4x256x1, .f32⟩
  | .hbm, ⟨56, _⟩ => ⟨S_, .f32⟩
  | .hbm, ⟨57, _⟩ => ⟨S4x256x1, .f32⟩
  | .hbm, ⟨58, _⟩ => ⟨S4x256x1, .f32⟩
  | .hbm, ⟨59, _⟩ => ⟨S4x256x1, .f32⟩
  | .hbm, ⟨60, _⟩ => ⟨S4x256x2048, .f32⟩
  | .hbm, ⟨61, _⟩ => ⟨S4x256x2048, .f32⟩
  | .hbm, ⟨62, _⟩ => ⟨S1x1x2048, .f32⟩
  | .hbm, ⟨63, _⟩ => ⟨S4x256x2048, .f32⟩
  | .hbm, ⟨64, _⟩ => ⟨S4x256x2048, .f32⟩
  | .hbm, ⟨65, _⟩ => ⟨S1x1x2048, .f32⟩
  | .hbm, ⟨66, _⟩ => ⟨S4x256x2048, .f32⟩
  | .hbm, ⟨67, _⟩ => ⟨S4x256x2048, .f32⟩
  | .hbm, ⟨68, _⟩ => ⟨S4x256x2048, .f32⟩
  | .hbm, ⟨69, _⟩ => ⟨S8192x2048, .f32⟩
  | .hbm, ⟨70, _⟩ => ⟨S1024x2048, .f32⟩
  | .hbm, ⟨71, _⟩ => ⟨S9216x2048, .f32⟩
  | _, _ => ⟨S9216x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Kernel4.lean ====
abbrev S9216x2048 : Shape := ⟨2, ![9216, 2048]⟩
abbrev S5x9x2048 : Shape := ⟨3, ![5, 9, 2048]⟩
abbrev S2048 : Shape := ⟨1, ![2048]⟩
abbrev S1x2048x6144 : Shape := ⟨3, ![1, 2048, 6144]⟩
abbrev S1x2048 : Shape := ⟨2, ![1, 2048]⟩
abbrev S9216x6144 : Shape := ⟨2, ![9216, 6144]⟩
abbrev S1024x2048 : Shape := ⟨2, ![1024, 2048]⟩
abbrev S1x9x2048 : Shape := ⟨3, ![1, 9, 2048]⟩
abbrev S1x2048x1024 : Shape := ⟨3, ![1, 2048, 1024]⟩
abbrev S1024x1024 : Shape := ⟨2, ![1024, 1024]⟩
abbrev S1x1x2048 : Shape := ⟨3, ![1, 1, 2048]⟩
abbrev S32x2048 : Shape := ⟨2, ![32, 2048]⟩
abbrev S32 : Shape := ⟨1, ![32]⟩
abbrev S32x1 : Shape := ⟨2, ![32, 1]⟩
abbrev S2048x1024 : Shape := ⟨2, ![2048, 1024]⟩

abbrev nBuf : Space → Nat
  | .hbm => 6
  | .vmem => 10
  | .smem => 0
  | _ => 0

abbrev bufTy : (tb : Table) → Fin (tcTables nBuf tb) → BufTy
  | .hbm, ⟨0, _⟩ => ⟨S9216x2048, .f32⟩
  | .hbm, ⟨1, _⟩ => ⟨S5x9x2048, .f32⟩
  | .hbm, ⟨2, _⟩ => ⟨S2048, .f32⟩
  | .hbm, ⟨3, _⟩ => ⟨S1x2048x6144, .f32⟩
  | .hbm, ⟨4, _⟩ => ⟨S1x2048, .f32⟩
  | .hbm, ⟨5, _⟩ => ⟨S9216x6144, .bf16⟩
  | .local _ .vmem, ⟨0, _⟩ => ⟨S1024x2048, .f32⟩
  | .local _ .vmem, ⟨1, _⟩ => ⟨S1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S1x2048x1024, .f32⟩
  | .local _ .vmem, ⟨6, _⟩ => ⟨S1x2048x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![9, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c32_i32 : BitVec 32 := 32#32
  let v23 : BitVec 32 := Scalar.addi c0_i32_16 c32_i32
  let c1_i32 : BitVec 32 := 1#32
  ⟨c0_i32_16, v23, c1_i32⟩
def k0_mult1 (k0_t1 : Fin k0_t1_loop.trips) : BitVec 32 :=
  let c0_i32_16 : BitVec 32 := 0#32
  let c1_i32 : BitVec 32 := 1#32
  let arg8 : BitVec 32 := Scf.iv c0_i32_16 c1_i32 k0_t1
  let c32_i32_18 : BitVec 32 := 32#32
  let v24 : BitVec 32 := Scalar.muli arg8 c32_i32_18
  v24
def k0_off1 (k0_t1 : Fin k0_t1_loop.trips) : Fin 2 → Nat :=
  let c0_i32_16 : BitVec 32 := 0#32
  let c1_i32 : BitVec 32 := 1#32
  let arg8 : BitVec 32 := Scf.iv c0_i32_16 c1_i32 k0_t1
  let c32_i32_18 : BitVec 32 := 32#32
  let v24 : BitVec 32 := Scalar.muli arg8 c32_i32_18
  let v25 : BitVec 32 := v24
  let v26 : Index := Scalar.indexCast v25
  let c0_19 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S9216x2048 : Shape := ⟨2, ![9216, 2048]⟩
abbrev S5x9x2048 : Shape := ⟨3, ![5, 9, 2048]⟩
abbrev S2048 : Shape := ⟨1, ![2048]⟩
abbrev S1x2048x6144 : Shape := ⟨3, ![1, 2048, 6144]⟩
abbrev S4x9x2048 : Shape := ⟨3, ![4, 9, 2048]⟩
abbrev S4x9x1x2048 : Shape := ⟨4, ![4, 9, 1, 2048]⟩
abbrev S1x9x2048 : Shape := ⟨3, ![1, 9, 2048]⟩
abbrev S9x2048 : Shape := ⟨2, ![9, 2048]⟩
abbrev S8192x2048 : Shape := ⟨2, ![8192, 2048]⟩
abbrev S4x2048x2048 : Shape := ⟨3, ![4, 2048, 2048]⟩
abbrev S4x1x1x2048 : Shape := ⟨4, ![4, 1, 1, 2048]⟩
abbrev S4x1x2048 : Shape := ⟨3, ![4, 1, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x6144 : Shape := ⟨2, ![2048, 6144]⟩
abbrev S4x2048x6144 : Shape := ⟨3, ![4, 2048, 6144]⟩
abbrev S1024x2048 : Shape := ⟨2, ![1024, 2048]⟩
abbrev S4x256x2048 : Shape := ⟨3, ![4, 256, 2048]⟩
abbrev S1x2048 : Shape := ⟨2, ![1, 2048]⟩
abbrev S4x256 : Shape := ⟨2, ![4, 256]⟩
abbrev S4x256x1 : Shape := ⟨3, ![4, 256, 1]⟩
abbrev S4x256x6144 : Shape := ⟨3, ![4, 256, 6144]⟩
abbrev S8192x6144 : Shape := ⟨2, ![8192, 6144]⟩
abbrev S1024x6144 : Shape := ⟨2, ![1024, 6144]⟩
abbrev S9216x6144 : Shape := ⟨2, ![9216, 6144]⟩

abbrev nBuf : Space → Nat
  | .hbm => 90
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S5x9x2048, .f32⟩
  | .hbm, ⟨2, _⟩ => ⟨S2048, .f32⟩
  | .hbm, ⟨3, _⟩ => ⟨S1x2048x6144, .f32⟩
  | .hbm, ⟨4, _⟩ => ⟨S4x9x2048, .f32⟩
  | .hbm, ⟨5, _⟩ => ⟨S4x9x1x2048, .f32⟩
  | .hbm, ⟨6, _⟩ => ⟨S1x9x2048, .f32⟩
  | .hbm, ⟨7, _⟩ => ⟨S9x2048, .f32⟩
  | .hbm, ⟨8, _⟩ => ⟨S8192x2048, .f32⟩
  | .hbm, ⟨9, _⟩ => ⟨S4x2048x2048, .f32⟩
  | .hbm, ⟨10, _⟩ => ⟨S4x1x1x2048, .f32⟩
  | .hbm, ⟨11, _⟩ => ⟨S4x1x2048, .f32⟩
  | .hbm, ⟨12, _⟩ => ⟨S4x1x1x2048, .f32⟩
  | .hbm, ⟨13, _⟩ => ⟨S4x1x2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x1x2048, .f32⟩
  | .hbm, ⟨32, _⟩ => ⟨S4x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S2048x6144, .f32⟩
  | .hbm, ⟨38, _⟩ => ⟨S4x2048x6144, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S_, .f32⟩
  | .hbm, ⟨43, _⟩ => ⟨S4x2048x2048, .f32⟩
  | .hbm, ⟨44, _⟩ => ⟨S4x2048x2048, .f32⟩
  | .hbm, ⟨45, _⟩ => ⟨S4x2048x6144, .f32⟩
  | .hbm, ⟨46, _⟩ => ⟨S1024x2048, .f32⟩
  | .hbm, ⟨47, _⟩ => ⟨S4x256x2048, .f32⟩
  | .hbm, ⟨48, _⟩ => ⟨S1x2048, .f32⟩
  | .hbm, ⟨49, _⟩ => ⟨S2048, .f32⟩
  | .hbm, ⟨50, _⟩ => ⟨S1x2048, .f32⟩
  | .hbm, ⟨51, _⟩ => ⟨S2048, .f32⟩
  | .hbm, ⟨52, _⟩ => ⟨S4x256x2048, .f32⟩
  | .hbm, ⟨53, _⟩ => ⟨S_, .f32⟩
  | .hbm, ⟨54, _⟩ => ⟨S4x256, .f32⟩
  | .hbm, ⟨55, _⟩ => ⟨S4x256x1, .f32⟩
  | .hbm, ⟨56, _⟩ => ⟨S_, .f32⟩
  | .hbm, ⟨57, _⟩ => ⟨S4x256x1, .f32⟩
  | .hbm, ⟨58, _⟩ => ⟨S4x256x1, .f32⟩
  | .hbm, ⟨59, _⟩ => ⟨S_, .f32⟩
  | .hbm, ⟨60, _⟩ => ⟨S4x256x1, .f32⟩
  | .hbm, ⟨61, _⟩ => ⟨S4x256x1, .f32⟩
  | .hbm, ⟨62, _⟩ => ⟨S4x256x1, .f32⟩
  | .hbm, ⟨63, _⟩ => ⟨S4x256x2048, .f32⟩
  | .hbm, ⟨64, _⟩ => ⟨S4x256x2048, .f32⟩
  | .hbm, ⟨65, _⟩ => ⟨S1x1x2048, .f32⟩
  | .hbm, ⟨66, _⟩ => ⟨S4x256x2048, .f32⟩
  | .hbm, ⟨67, _⟩ => ⟨S4x256x2048, .f32⟩
  | .hbm, ⟨68, _⟩ => ⟨S_, .f32⟩
  | .hbm, ⟨69, _⟩ => ⟨S2048, .f32⟩
  | .hbm, ⟨70, _⟩ => ⟨S2048, .f32⟩
  | .hbm, ⟨71, _⟩ => ⟨S1x1x2048, .f32⟩
  | .hbm, ⟨72, _⟩ => ⟨S4x256x2048, .f32⟩
  | .hbm, ⟨73, _⟩ => ⟨S4x256x2048, .f32⟩
  | .hbm, ⟨74, _⟩ => ⟨S1x1x2048, .f32⟩
  | .hbm, ⟨75, _⟩ => ⟨S4x256x2048, .f32⟩
  | .hbm, ⟨76, _⟩ => ⟨S4x256x2048, .f32⟩
  | .hbm, ⟨77, _⟩ => ⟨S2048x6144, .f32⟩
  | .hbm, ⟨78, _⟩ => ⟨S4x256x6144, .f32⟩
  | .hbm, ⟨79, _⟩ => ⟨S4x256x2048, .f32⟩
  | .hbm, ⟨80, _⟩ => ⟨S4x256x2048, .f32⟩
  | .hbm, ⟨81, _⟩ => ⟨S4x256x2048, .f32⟩
  | .hbm, ⟨82, _⟩ => ⟨S_, .f32⟩
  | .hbm, ⟨83, _⟩ => ⟨S4x256x2048, .f32⟩
  | .hbm, ⟨84, _⟩ => ⟨S4x256x2048, .f32⟩
  | .hbm, ⟨85, _⟩ => ⟨S4x256x6144, .f32⟩
  | .hbm, ⟨86, _⟩ => ⟨S8192x6144, .f32⟩
  | .hbm, ⟨87, _⟩ => ⟨S1024x6144, .f32⟩
  | .hbm, ⟨88, _⟩ => ⟨S9216x6144, .f32⟩
  | .hbm, ⟨89, _⟩ => ⟨S9216x6144, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_8 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩

abbrev nD : Nat := 1
abbrev τ : Topo := Topo.v7x

variable {F : FTy → Type} [FloatOps F]
-- ==== Kernel5.lean ====
abbrev S9216x2048 : Shape := ⟨2, ![9216, 2048]⟩
abbrev S5x9x2048 : Shape := ⟨3, ![5, 9, 2048]⟩
abbrev S2048 : Shape := ⟨1, ![2048]⟩
abbrev S1x2048x7200 : Shape := ⟨3, ![1, 2048, 7200]⟩
abbrev S2048x7200 : Shape := ⟨2, ![2048, 7200]⟩
abbrev S2048x4096 : Shape := ⟨2, ![2048, 4096]⟩
abbrev S2048x3072 : Shape := ⟨2, ![2048, 3072]⟩
abbrev S2048x7168 : Shape := ⟨2, ![2048, 7168]⟩
abbrev S2048x32 : Shape := ⟨2, ![2048, 32]⟩
abbrev S_ : Shape := ⟨0, ![]⟩
abbrev S2048x128 : Shape := ⟨2, ![2048, 128]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x128 : Shape := ⟨4, ![1, 2048, 1, 128]⟩
abbrev S4x2048x1x128 : Shape := ⟨4, ![4, 2048, 1, 128]⟩
abbrev S8192x128 : Shape := ⟨2, ![8192, 128]⟩
abbrev S1024x128 : Shape := ⟨2, ![1024, 128]⟩
abbrev S9216x128 : Shape := ⟨2, ![9216, 128]⟩
abbrev S1x2048 : Shape := ⟨2, ![1, 2048]⟩
abbrev S9216x7168 : Shape := ⟨2, ![9216, 7168]⟩
abbrev S1024x2048 : Shape := ⟨2, ![1024, 2048]⟩
abbrev S1x9x2048 : Shape := ⟨3, ![1, 9, 2048]⟩
abbrev S2048x1024 : Shape := ⟨2, ![2048, 1024]⟩
abbrev S1024x1024 : Shape := ⟨2, ![1024, 1024]⟩
abbrev S1x1x2048 : Shape := ⟨3, ![1, 1, 2048]⟩
abbrev S32x2048 : Shape := ⟨2, ![32, 2048]⟩
abbrev S32 : Shape := ⟨1, ![32]⟩
abbrev S32x1 : Shape := ⟨2, ![32, 1]⟩

abbrev nBuf : Space → Nat
  | .hbm => 143
  | .vmem => 17
  | .smem => 0
  | _ => 0

abbrev hbmTy0_0 (i : Nat) : BufTy := match i % 128 with
  | 0 => ⟨S9216x2048, .f32⟩
  | 1 => ⟨S5x9x2048, .f32⟩
  | 2 => ⟨S2048, .f32⟩
  | 3 => ⟨S1x2048x7200, .f32⟩
  | 4 => ⟨S2048x7200, .f32⟩
  | 5 => ⟨S2048x4096, .f32⟩
  | 6 => ⟨S2048x3072, .f32⟩
  | 7 => ⟨S2048x7168, .f32⟩
  | 8 => ⟨S2048x7168, .bf16⟩
  | 9 => ⟨S2048x32, .f32⟩
  | 10 => ⟨S_, .i32⟩
  | 11 => ⟨S_, .f32⟩
  | 12 => ⟨S2048x128, .f32⟩
  | 13 => ⟨S2048, .i32⟩
  | 14 => ⟨S_, .i32⟩
  | 15 => ⟨S_, .i32⟩
  | 16 => ⟨S2048, .i32⟩
  | 17 => ⟨S2048, .i32⟩
  | 18 => ⟨S2048, .i32⟩
  | 19 => ⟨S_, .i32⟩
  | 20 => ⟨S2048, .i32⟩
  | 21 => ⟨S2048, .i1⟩
  | 22 => ⟨S2048, .i32⟩
  | 23 => ⟨S2048, .i32⟩
  | 24 => ⟨S_, .i32⟩
  | 25 => ⟨S2048, .i32⟩
  | 26 => ⟨S2048, .i1⟩
  | 27 => ⟨S2048, .i1⟩
  | 28 => ⟨S_, .i32⟩
  | 29 => ⟨S2048, .i32⟩
  | 30 => ⟨S2048, .i32⟩
  | 31 => ⟨S2048, .i32⟩
  | 32 => ⟨S2048, .f32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S2048, .i32⟩
  | 40 => ⟨S2048, .i32⟩
  | 41 => ⟨S_, .i32⟩
  | 42 => ⟨S2048, .i32⟩
  | 43 => ⟨S2048, .i1⟩
  | 44 => ⟨S_, .i32⟩
  | 45 => ⟨S2048, .i32⟩
  | 46 => ⟨S2048, .i1⟩
  | 47 => ⟨S_, .i32⟩
  | 48 => ⟨S_, .i1⟩
  | 49 => ⟨S2048, .i1⟩
  | 50 => ⟨S2048, .i1⟩
  | 51 => ⟨S2048, .i1⟩
  | 52 => ⟨S2048, .i32⟩
  | 53 => ⟨S2048, .i32⟩
  | 54 => ⟨S2048, .i32⟩
  | 55 => ⟨S2048, .f32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S2048x1, .f32⟩
  | 65 => ⟨S1x16, .f32⟩
  | 66 => ⟨S2048x16, .f32⟩
  | 67 => ⟨S2048x16, .f32⟩
  | 68 => ⟨S2048x16, .f32⟩
  | 69 => ⟨S2048x16, .f32⟩
  | 70 => ⟨S2048x1, .f32⟩
  | 71 => ⟨S1x16, .f32⟩
  | 72 => ⟨S2048x16, .f32⟩
  | 73 => ⟨S2048x16, .f32⟩
  | 74 => ⟨S2048x16, .f32⟩
  | 75 => ⟨S2048x16, .f32⟩
  | 76 => ⟨S2048x1, .f32⟩
  | 77 => ⟨S1x16, .f32⟩
  | 78 => ⟨S2048x16, .f32⟩
  | 79 => ⟨S2048x16, .f32⟩
  | 80 => ⟨S2048x16, .f32⟩
  | 81 => ⟨S2048x16, .f32⟩
  | 82 => ⟨S2048x1, .f32⟩
  | 83 => ⟨S1x16, .f32⟩
  | 84 => ⟨S2048x16, .f32⟩
  | 85 => ⟨S2048x16, .f32⟩
  | 86 => ⟨S2048x16, .f32⟩
  | 87 => ⟨S2048x16, .f32⟩
  | 88 => ⟨S2048x64, .f32⟩
  | 89 => ⟨S2048x1, .f32⟩
  | 90 => ⟨S1x16, .f32⟩
  | 91 => ⟨S2048x16, .f32⟩
  | 92 => ⟨S2048x16, .f32⟩
  | 93 => ⟨S2048x16, .f32⟩
  | 94 => ⟨S2048x16, .f32⟩
  | 95 => ⟨S_, .f32⟩
  | 96 => ⟨S2048x16, .f32⟩
  | 97 => ⟨S2048x16, .f32⟩
  | 98 => ⟨S2048x1, .f32⟩
  | 99 => ⟨S1x16, .f32⟩
  | 100 => ⟨S2048x16, .f32⟩
  | 101 => ⟨S2048x16, .f32⟩
  | 102 => ⟨S2048x16, .f32⟩
  | 103 => ⟨S2048x16, .f32⟩
  | 104 => ⟨S_, .f32⟩
  | 105 => ⟨S2048x16, .f32⟩
  | 106 => ⟨S2048x16, .f32⟩
  | 107 => ⟨S2048x1, .f32⟩
  | 108 => ⟨S1x16, .f32⟩
  | 109 => ⟨S2048x16, .f32⟩
  | 110 => ⟨S2048x16, .f32⟩
  | 111 => ⟨S2048x16, .f32⟩
  | 112 => ⟨S2048x16, .f32⟩
  | 113 => ⟨S_, .f32⟩
  | 114 => ⟨S2048x16, .f32⟩
  | 115 => ⟨S2048x16, .f32⟩
  | 116 => ⟨S2048x1, .f32⟩
  | 117 => ⟨S1x16, .f32⟩
  | 118 => ⟨S2048x16, .f32⟩
  | 119 => ⟨S2048x16, .f32⟩
  | 120 => ⟨S2048x16, .f32⟩
  | 121 => ⟨S2048x16, .f32⟩
  | 122 => ⟨S_, .f32⟩
  | 123 => ⟨S2048x16, .f32⟩
  | 124 => ⟨S2048x16, .f32⟩
  | 125 => ⟨S2048x64, .f32⟩
  | 126 => ⟨S2048x128, .f32⟩
  | 127 => ⟨S1x2048x1x128, .f32⟩
  | _ => ⟨S9216x2048, .f32⟩

abbrev hbmTy0_1 (i : Nat) : BufTy := match i % 128 with
  | 0 => ⟨S4x2048x1x128, .f32⟩
  | 1 => ⟨S8192x128, .f32⟩
  | 2 => ⟨S2048x128, .f32⟩
  | 3 => ⟨S1x2048x1x128, .f32⟩
  | 4 => ⟨S4x2048x1x128, .f32⟩
  | 5 => ⟨S8192x128, .f32⟩
  | 6 => ⟨S_, .f32⟩
  | 7 => ⟨S1024x128, .f32⟩
  | 8 => ⟨S9216x128, .f32⟩
  | 9 => ⟨S_, .f32⟩
  | 10 => ⟨S1024x128, .f32⟩
  | 11 => ⟨S9216x128, .f32⟩
  | 12 => ⟨S1x2048, .f32⟩
  | 13 => ⟨S9216x7168, .f32⟩
  | 14 => ⟨S9216x128, .f32⟩
  | _ => ⟨S9216x2048, .f32⟩

abbrev hbmTy (i : Nat) : BufTy := match i / 128 with
  | 0 => hbmTy0_0 i
  | 1 => hbmTy0_1 i
  | _ => ⟨S9216x2048, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S2048x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x1024, .f32⟩
  | .local _ .vmem, ⟨13, _⟩ => ⟨S1024x1024, .f32⟩
  | .local _ .vmem, ⟨14, _⟩ => ⟨S1024x128, .f32⟩
  | .local _ .vmem, ⟨15, _⟩ => ⟨S1024x128, .f32⟩
  | .local _ .vmem, ⟨16, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_c : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_0 : Ref sig .tc := ⟨.hbm, 28, rfl⟩
abbrev main_call1_v12 : Ref sig .tc := ⟨.hbm, 29, rfl⟩
abbrev main_call1_v13 : Ref sig .tc := ⟨.hbm, 30, rfl⟩
abbrev main_v8 : Ref sig .tc := ⟨.hbm, 31, rfl⟩
abbrev main_v9 : Ref sig .tc := ⟨.hbm, 32, rfl⟩
abbrev main_c_1 : Ref sig .tc := ⟨.hbm, 33, rfl⟩
abbrev main_call2_v0 : Ref sig .tc := ⟨.hbm, 34, rfl⟩
abbrev main_call2_c : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_c_1 : Ref sig .tc := ⟨.hbm, 41, rfl⟩
abbrev main_call2_v5 : Ref sig .tc := ⟨.hbm, 42, rfl⟩
abbrev main_call2_v6 : Ref sig .tc := ⟨.hbm, 43, rfl⟩
abbrev main_call2_c_2 : Ref sig .tc := ⟨.hbm, 44, rfl⟩
abbrev main_call2_v7 : Ref sig .tc := ⟨.hbm, 45, rfl⟩
abbrev main_call2_v8 : Ref sig .tc := ⟨.hbm, 46, rfl⟩
abbrev main_call2_c_3 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_v12 : Ref sig .tc := ⟨.hbm, 51, rfl⟩
abbrev main_call2_v13 : Ref sig .tc := ⟨.hbm, 52, rfl⟩
abbrev main_call2_v14 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_cst : Ref sig .tc := ⟨.hbm, 58, rfl⟩
abbrev main_v14 : Ref sig .tc := ⟨.hbm, 59, rfl⟩
abbrev main_v15 : Ref sig .tc := ⟨.hbm, 60, rfl⟩
abbrev main_cst_2 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_3 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_4 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_5 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_6 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_7 : Ref sig .tc := ⟨.hbm, 134, rfl⟩
abbrev main_v84 : Ref sig .tc := ⟨.hbm, 135, rfl⟩
abbrev main_v85 : Ref sig .tc := ⟨.hbm, 136, rfl⟩
abbrev main_cst_8 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89_0 : Ref sig .tc := ⟨.hbm, 141, rfl⟩
abbrev main_v89_1 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![9, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c32_i32 : BitVec 32 := 32#32
  let v25 : BitVec 32 := Scalar.addi c0_i32_12 c32_i32
  let c1_i32 : BitVec 32 := 1#32
  ⟨c0_i32_12, v25, c1_i32⟩
def k0_mult1 (k0_t1 : Fin k0_t1_loop.trips) : BitVec 32 :=
  let c0_i32_12 : BitVec 32 := 0#32
  let c1_i32 : BitVec 32 := 1#32
  let arg12 : BitVec 32 := Scf.iv c0_i32_12 c1_i32 k0_t1
  let c32_i32_21 : BitVec 32 := 32#32
  let v32 : BitVec 32 := Scalar.muli arg12 c32_i32_21
  v32
def k0_off1 (k0_t1 : Fin k0_t1_loop.trips) : Fin 2 → Nat :=
  let c0_i32_12 : BitVec 32 := 0#32
  let c1_i32 : BitVec 32 := 1#32
  let arg12 : BitVec 32 := Scf.iv c0_i32_12 c1_i32 k0_t1
  let c32_i32_21 : BitVec 32 := 32#32
  let v32 : BitVec 32 := Scalar.muli arg12 c32_i32_21
  let v33 : BitVec 32 := v32
  let v34 : Index := Scalar.indexCast v33
  let c0_22 : Index := 0#32
  ![v34.toNat, 0]
def k0_cond3 (i : grid0.Coords) : BitVec 1 :=
  let arg1 : BitVec 32 := BitVec.ofNat 32 (i 1).val
  let c4_i32 : BitVec 32 := 4#32
  let v6 : BitVec 1 := Scalar.cmpi .slt arg1 c4_i32
  let c6_i32 : BitVec 32 := 6#32
  let v7 : BitVec 1 := Scalar.cmpi .sge arg1 c6_i32
  let v8 : BitVec 1 := Scalar.ori v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c4_i32_4 : BitVec 32 := 4#32
  let v11 : BitVec 1 := Scalar.cmpi .sge arg1 c4_i32_4
  let c6_i32_5 : BitVec 32 := 6#32
  let v12 : BitVec 1 := Scalar.cmpi .slt arg1 c6_i32_5
  let v13 : BitVec 1 := Scalar.andi v11 v12
  let v14 : BitVec 32 := Scalar.extui v13
  let c0_i32_6 : BitVec 32 := 0#32
  let v15 : BitVec 1 := Scalar.cmpi .ne v14 c0_i32_6
  v15

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S9216x2048 : Shape := ⟨2, ![9216, 2048]⟩
abbrev S5x9x2048 : Shape := ⟨3, ![5, 9, 2048]⟩
abbrev S2048 : Shape := ⟨1, ![2048]⟩
abbrev S1x2048x7200 : Shape := ⟨3, ![1, 2048, 7200]⟩
abbrev S16 : Shape := ⟨1, ![16]⟩
abbrev S_ : Shape := ⟨0, ![]⟩
abbrev S2048x1x1 : Shape := ⟨3, ![2048, 1, 1]⟩
abbrev S1x1x16 : Shape := ⟨3, ![1, 1, 16]⟩
abbrev S2048x1x16 : Shape := ⟨3, ![2048, 1, 16]⟩
abbrev S4x9x2048 : Shape := ⟨3, ![4, 9, 2048]⟩
abbrev S4x9x1x2048 : Shape := ⟨4, ![4, 9, 1, 2048]⟩
abbrev S1x9x2048 : Shape := ⟨3, ![1, 9, 2048]⟩
abbrev S9x2048 : Shape := ⟨2, ![9, 2048]⟩
abbrev S8192x2048 : Shape := ⟨2, ![8192, 2048]⟩
abbrev S4x2048x2048 : Shape := ⟨3, ![4, 2048, 2048]⟩
abbrev S4x1x1x2048 : Shape := ⟨4, ![4, 1, 1, 2048]⟩
abbrev S4x1x2048 : Shape := ⟨3, ![4, 1, 2048]⟩
abbrev S4x2048 : Shape := ⟨2, ![4, 2048]⟩
abbrev S4x2048x1 : Shape := ⟨3, ![4, 2048, 1]⟩
abbrev S1x1x2048 : Shape := ⟨3, ![1, 1, 2048]⟩
abbrev S1024x2048 : Shape := ⟨2, ![1024, 2048]⟩
abbrev S4x256x2048 : Shape := ⟨3, ![4, 256, 2048]⟩
abbrev S1x2048 : Shape := ⟨2, ![1, 2048]⟩
abbrev S4x256 : Shape := ⟨2, ![4, 256]⟩
abbrev S4x256x1 : Shape := ⟨3, ![4, 256, 1]⟩
abbrev S2048x7200 : Shape := ⟨2, ![2048, 7200]⟩
abbrev S4x2048x7200 : Shape := ⟨3, ![4, 2048, 7200]⟩
abbrev S4x2048x4096 : Shape := ⟨3, ![4, 2048, 4096]⟩
abbrev S4x2048x32 : Shape := ⟨3, ![4, 2048, 32]⟩
abbrev S4x2048x1024 : Shape := ⟨3, ![4, 2048, 1024]⟩
abbrev S4x256x7200 : Shape := ⟨3, ![4, 256, 7200]⟩
abbrev S4x256x4096 : Shape := ⟨3, ![4, 256, 4096]⟩
abbrev S4x256x32 : Shape := ⟨3, ![4, 256, 32]⟩
abbrev S4x256x1024 : Shape := ⟨3, ![4, 256, 1024]⟩
abbrev S4x2048x16x64 : Shape := ⟨4, ![4, 2048, 16, 64]⟩
abbrev S4x2048x16x16 : Shape := ⟨4, ![4, 2048, 16, 16]⟩
abbrev S1x2048x1x16 : Shape := ⟨4, ![1, 2048, 1, 16]⟩
abbrev S4x2048x7168 : Shape := ⟨3, ![4, 2048, 7168]⟩
abbrev S4x256x7168 : Shape := ⟨3, ![4, 256, 7168]⟩
abbrev S8192x7168 : Shape := ⟨2, ![8192, 7168]⟩
abbrev S1024x7168 : Shape := ⟨2, ![1024, 7168]⟩
abbrev S9216x7168 : Shape := ⟨2, ![9216, 7168]⟩
abbrev S8192x32 : Shape := ⟨2, ![8192, 32]⟩
abbrev S1024x32 : Shape := ⟨2, ![1024, 32]⟩
abbrev S9216x32 : Shape := ⟨2, ![9216, 32]⟩
abbrev S9216x128 : Shape := ⟨2, ![9216, 128]⟩

abbrev nBuf : Space → Nat
  | .hbm => 232
  | .vmem => 0
  | .smem => 0
  | _ => 0

abbrev hbmTy0_0 (i : Nat) : BufTy := match i % 128 with
  | 0 => ⟨S9216x2048, .f32⟩
  | 1 => ⟨S5x9x2048, .f32⟩
  | 2 => ⟨S2048, .f32⟩
  | 3 => ⟨S1x2048x7200, .f32⟩
  | 4 => ⟨S2048, .i32⟩
  | 5 => ⟨S16, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S_, .i32⟩
  | 14 => ⟨S_, .i32⟩
  | 15 => ⟨S2048, .i32⟩
  | 16 => ⟨S2048, .i32⟩
  | 17 => ⟨S2048, .i32⟩
  | 18 => ⟨S_, .i32⟩
  | 19 => ⟨S2048, .i32⟩
  | 20 => ⟨S2048, .i1⟩
  | 21 => ⟨S2048, .i32⟩
  | 22 => ⟨S2048, .i32⟩
  | 23 => ⟨S_, .i32⟩
  | 24 => ⟨S2048, .i32⟩
  | 25 => ⟨S2048, .i1⟩
  | 26 => ⟨S2048, .i1⟩
  | 27 => ⟨S_, .i32⟩
  | 28 => ⟨S2048, .i32⟩
  | 29 => ⟨S2048, .i32⟩
  | 30 => ⟨S2048, .i32⟩
  | 31 => ⟨S2048, .f32⟩
  | 32 => ⟨S2048x1x1, .f32⟩
  | 33 => ⟨S1x1x16, .f32⟩
  | 34 => ⟨S2048x1x16, .f32⟩
  | 35 => ⟨S2048x1x16, .f32⟩
  | 36 => ⟨S2048x1x16, .f32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S2048, .i32⟩
  | 44 => ⟨S2048, .i32⟩
  | 45 => ⟨S_, .i32⟩
  | 46 => ⟨S2048, .i32⟩
  | 47 => ⟨S2048, .i1⟩
  | 48 => ⟨S_, .i32⟩
  | 49 => ⟨S2048, .i32⟩
  | 50 => ⟨S2048, .i1⟩
  | 51 => ⟨S_, .i32⟩
  | 52 => ⟨S_, .i1⟩
  | 53 => ⟨S2048, .i1⟩
  | 54 => ⟨S2048, .i1⟩
  | 55 => ⟨S2048, .i1⟩
  | 56 => ⟨S2048, .i32⟩
  | 57 => ⟨S2048, .i32⟩
  | 58 => ⟨S2048, .i32⟩
  | 59 => ⟨S2048, .f32⟩
  | 60 => ⟨S2048x1x1, .f32⟩
  | 61 => ⟨S1x1x16, .f32⟩
  | 62 => ⟨S2048x1x16, .f32⟩
  | 63 => ⟨S2048x1x16, .f32⟩
  | 64 => ⟨S2048x1x16, .f32⟩
  | 65 => ⟨S4x9x2048, .f32⟩
  | 66 => ⟨S4x9x1x2048, .f32⟩
  | 67 => ⟨S1x9x2048, .f32⟩
  | 68 => ⟨S9x2048, .f32⟩
  | 69 => ⟨S8192x2048, .f32⟩
  | 70 => ⟨S4x2048x2048, .f32⟩
  | 71 => ⟨S4x1x1x2048, .f32⟩
  | 72 => ⟨S4x1x2048, .f32⟩
  | 73 => ⟨S4x1x1x2048, .f32⟩
  | 74 => ⟨S4x1x2048, .f32⟩
  | 75 => ⟨S4x2048x2048, .f32⟩
  | 76 => ⟨S_, .f32⟩
  | 77 => ⟨S4x2048, .f32⟩
  | 78 => ⟨S4x2048x1, .f32⟩
  | 79 => ⟨S_, .f32⟩
  | 80 => ⟨S4x2048x1, .f32⟩
  | 81 => ⟨S4x2048x1, .f32⟩
  | 82 => ⟨S_, .f32⟩
  | 83 => ⟨S4x2048x1, .f32⟩
  | 84 => ⟨S4x2048x1, .f32⟩
  | 85 => ⟨S4x2048x1, .f32⟩
  | 86 => ⟨S4x2048x2048, .f32⟩
  | 87 => ⟨S4x2048x2048, .f32⟩
  | 88 => ⟨S1x1x2048, .f32⟩
  | 89 => ⟨S4x2048x2048, .f32⟩
  | 90 => ⟨S4x2048x2048, .f32⟩
  | 91 => ⟨S_, .f32⟩
  | 92 => ⟨S4x1x2048, .f32⟩
  | 93 => ⟨S4x1x2048, .f32⟩
  | 94 => ⟨S4x2048x2048, .f32⟩
  | 95 => ⟨S4x2048x2048, .f32⟩
  | 96 => ⟨S4x2048x2048, .f32⟩
  | 97 => ⟨S4x2048x2048, .f32⟩
  | 98 => ⟨S1024x2048, .f32⟩
  | 99 => ⟨S4x256x2048, .f32⟩
  | 100 => ⟨S1x2048, .f32⟩
  | 101 => ⟨S2048, .f32⟩
  | 102 => ⟨S1x2048, .f32⟩
  | 103 => ⟨S2048, .f32⟩
  | 104 => ⟨S4x256x2048, .f32⟩
  | 105 => ⟨S_, .f32⟩
  | 106 => ⟨S4x256, .f32⟩
  | 107 => ⟨S4x256x1, .f32⟩
  | 108 => ⟨S_, .f32⟩
  | 109 => ⟨S4x256x1, .f32⟩
  | 110 => ⟨S4x256x1, .f32⟩
  | 111 => ⟨S_, .f32⟩
  | 112 => ⟨S4x256x1, .f32⟩
  | 113 => ⟨S4x256x1, .f32⟩
  | 114 => ⟨S4x256x1, .f32⟩
  | 115 => ⟨S4x256x2048, .f32⟩
  | 116 => ⟨S4x256x2048, .f32⟩
  | 117 => ⟨S1x1x2048, .f32⟩
  | 118 => ⟨S4x256x2048, .f32⟩
  | 119 => ⟨S4x256x2048, .f32⟩
  | 120 => ⟨S_, .f32⟩
  | 121 => ⟨S2048, .f32⟩
  | 122 => ⟨S2048, .f32⟩
  | 123 => ⟨S1x1x2048, .f32⟩
  | 124 => ⟨S4x256x2048, .f32⟩
  | 125 => ⟨S4x256x2048, .f32⟩
  | 126 => ⟨S1x1x2048, .f32⟩
  | 127 => ⟨S4x256x2048, .f32⟩
  | _ => ⟨S9216x2048, .f32⟩

abbrev hbmTy0_1 (i : Nat) : BufTy := match i % 128 with
  | 0 => ⟨S4x256x2048, .f32⟩
  | 1 => ⟨S2048x7200, .f32⟩
  | 2 => ⟨S4x2048x7200, .f32⟩
  | 3 => ⟨S4x2048x4096, .f32⟩
  | 4 => ⟨S4x2048x32, .f32⟩
  | 5 => ⟨S4x2048x1024, .f32⟩
  | 6 => ⟨S4x2048x1024, .f32⟩
  | 7 => ⟨S4x2048x1024, .f32⟩
  | 8 => ⟨S2048x7200, .f32⟩
  | 9 => ⟨S4x256x7200, .f32⟩
  | 10 => ⟨S4x256x4096, .f32⟩
  | 11 => ⟨S4x256x32, .f32⟩
  | 12 => ⟨S4x256x1024, .f32⟩
  | 13 => ⟨S4x256x1024, .f32⟩
  | 14 => ⟨S4x256x1024, .f32⟩
  | 15 => ⟨S4x2048x16x64, .f32⟩
  | 16 => ⟨S4x2048x16x16, .f32⟩
  | 17 => ⟨S4x2048x16x16, .f32⟩
  | 18 => ⟨S4x2048x16x16, .f32⟩
  | 19 => ⟨S4x2048x16x16, .f32⟩
  | 20 => ⟨S2048x1x16, .f32⟩
  | 21 => ⟨S2048x1x16, .f32⟩
  | 22 => ⟨S1x2048x1x16, .f32⟩
  | 23 => ⟨S4x2048x16x16, .f32⟩
  | 24 => ⟨S4x2048x16x16, .f32⟩
  | 25 => ⟨S1x2048x1x16, .f32⟩
  | 26 => ⟨S4x2048x16x16, .f32⟩
  | 27 => ⟨S4x2048x16x16, .f32⟩
  | 28 => ⟨S4x2048x16x16, .f32⟩
  | 29 => ⟨S1x2048x1x16, .f32⟩
  | 30 => ⟨S4x2048x16x16, .f32⟩
  | 31 => ⟨S4x2048x16x16, .f32⟩
  | 32 => ⟨S1x2048x1x16, .f32⟩
  | 33 => ⟨S4x2048x16x16, .f32⟩
  | 34 => ⟨S4x2048x16x16, .f32⟩
  | 35 => ⟨S4x2048x16x16, .f32⟩
  | 36 => ⟨S2048x1x16, .f32⟩
  | 37 => ⟨S2048x1x16, .f32⟩
  | 38 => ⟨S1x2048x1x16, .f32⟩
  | 39 => ⟨S4x2048x16x16, .f32⟩
  | 40 => ⟨S4x2048x16x16, .f32⟩
  | 41 => ⟨S1x2048x1x16, .f32⟩
  | 42 => ⟨S4x2048x16x16, .f32⟩
  | 43 => ⟨S4x2048x16x16, .f32⟩
  | 44 => ⟨S4x2048x16x16, .f32⟩
  | 45 => ⟨S1x2048x1x16, .f32⟩
  | 46 => ⟨S4x2048x16x16, .f32⟩
  | 47 => ⟨S4x2048x16x16, .f32⟩
  | 48 => ⟨S1x2048x1x16, .f32⟩
  | 49 => ⟨S4x2048x16x16, .f32⟩
  | 50 => ⟨S4x2048x16x16, .f32⟩
  | 51 => ⟨S4x2048x16x16, .f32⟩
  | 52 => ⟨S4x2048x16x64, .f32⟩
  | 53 => ⟨S4x2048x1024, .f32⟩
  | 54 => ⟨S4x2048x16x64, .f32⟩
  | 55 => ⟨S4x2048x16x16, .f32⟩
  | 56 => ⟨S4x2048x16x16, .f32⟩
  | 57 => ⟨S4x2048x16x16, .f32⟩
  | 58 => ⟨S4x2048x16x16, .f32⟩
  | 59 => ⟨S2048x1x16, .f32⟩
  | 60 => ⟨S2048x1x16, .f32⟩
  | 61 => ⟨S1x2048x1x16, .f32⟩
  | 62 => ⟨S4x2048x16x16, .f32⟩
  | 63 => ⟨S4x2048x16x16, .f32⟩
  | 64 => ⟨S1x2048x1x16, .f32⟩
  | 65 => ⟨S4x2048x16x16, .f32⟩
  | 66 => ⟨S4x2048x16x16, .f32⟩
  | 67 => ⟨S4x2048x16x16, .f32⟩
  | 68 => ⟨S1x2048x1x16, .f32⟩
  | 69 => ⟨S4x2048x16x16, .f32⟩
  | 70 => ⟨S4x2048x16x16, .f32⟩
  | 71 => ⟨S1x2048x1x16, .f32⟩
  | 72 => ⟨S4x2048x16x16, .f32⟩
  | 73 => ⟨S4x2048x16x16, .f32⟩
  | 74 => ⟨S4x2048x16x16, .f32⟩
  | 75 => ⟨S2048x1x16, .f32⟩
  | 76 => ⟨S2048x1x16, .f32⟩
  | 77 => ⟨S1x2048x1x16, .f32⟩
  | 78 => ⟨S4x2048x16x16, .f32⟩
  | 79 => ⟨S4x2048x16x16, .f32⟩
  | 80 => ⟨S1x2048x1x16, .f32⟩
  | 81 => ⟨S4x2048x16x16, .f32⟩
  | 82 => ⟨S4x2048x16x16, .f32⟩
  | 83 => ⟨S4x2048x16x16, .f32⟩
  | 84 => ⟨S1x2048x1x16, .f32⟩
  | 85 => ⟨S4x2048x16x16, .f32⟩
  | 86 => ⟨S4x2048x16x16, .f32⟩
  | 87 => ⟨S1x2048x1x16, .f32⟩
  | 88 => ⟨S4x2048x16x16, .f32⟩
  | 89 => ⟨S4x2048x16x16, .f32⟩
  | 90 => ⟨S4x2048x16x16, .f32⟩
  | 91 => ⟨S4x2048x16x64, .f32⟩
  | 92 => ⟨S4x2048x1024, .f32⟩
  | 93 => ⟨S4x2048x7168, .f32⟩
  | 94 => ⟨S4x256x7168, .f32⟩
  | 95 => ⟨S8192x7168, .f32⟩
  | 96 => ⟨S1024x7168, .f32⟩
  | 97 => ⟨S9216x7168, .f32⟩
  | 98 => ⟨S8192x32, .f32⟩
  | 99 => ⟨S1024x32, .f32⟩
  | 100 => ⟨S9216x32, .f32⟩
  | 101 => ⟨S_, .i32⟩
  | 102 => ⟨S_, .f32⟩
  | 103 => ⟨S9216x128, .f32⟩
  | _ => ⟨S9216x2048, .f32⟩

abbrev hbmTy (i : Nat) : BufTy := match i / 128 with
  | 0 => hbmTy0_0 i
  | 1 => hbmTy0_1 i
  | _ => ⟨S9216x2048, .f32⟩

abbrev bufTy : (tb : Table) → Fin (tcTables nBuf tb) → BufTy
  | .hbm, ⟨i, _⟩ => hbmTy i
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_1 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_2 : Ref sig .tc := ⟨.hbm, 76, rfl⟩
abbrev main_v32 : Ref sig .tc := ⟨.hbm, 77, rfl⟩
abbrev main_v33 : Ref sig .tc := ⟨.hbm, 78, rfl⟩
abbrev main_cst_3 : Ref sig .tc := ⟨.hbm, 79, rfl⟩
abbrev main_v34 : Ref sig .tc := ⟨.hbm, 80, rfl⟩
abbrev main_v35 : Ref sig .tc := ⟨.hbm, 81, rfl⟩
abbrev main_cst_4 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst_5 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_6 : Ref sig .tc := ⟨.hbm, 105, rfl⟩
abbrev main_v57 : Ref sig .tc := ⟨.hbm, 106, rfl⟩
abbrev main_v58 : Ref sig .tc := ⟨.hbm, 107, rfl⟩
abbrev main_cst_7 : Ref sig .tc := ⟨.hbm, 108, rfl⟩
abbrev main_v59 : Ref sig .tc := ⟨.hbm, 109, rfl⟩
abbrev main_v60 : Ref sig .tc := ⟨.hbm, 110, rfl⟩
abbrev main_cst_8 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_cst_9 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_c_10 : Ref sig .tc := ⟨.hbm, 229, rfl⟩
abbrev main_call2_v0 : Ref sig .tc := ⟨.hbm, 230, rfl⟩
abbrev main_v177 : Ref sig .tc := ⟨.hbm, 231, rfl⟩

abbrev nD : Nat := 1
abbrev τ : Topo := Topo.v7x

variable {F : FTy → Type} [FloatOps F]
-- ==== Kernel6.lean ====
abbrev S9216x1024 : Shape := ⟨2, ![9216, 1024]⟩
abbrev S1x2048x2048 : Shape := ⟨3, ![1, 2048, 2048]⟩
abbrev S9216x2048 : Shape := ⟨2, ![9216, 2048]⟩
abbrev S5x9x2048 : Shape := ⟨3, ![5, 9, 2048]⟩
abbrev S2048 : Shape := ⟨1, ![2048]⟩
abbrev S2048x2048 : Shape := ⟨2, ![2048, 2048]⟩
abbrev S1x2048 : Shape := ⟨2, ![1, 2048]⟩
abbrev S1024x1024 : Shape := ⟨2, ![1024, 1024]⟩
abbrev S1024x2048 : Shape := ⟨2, ![1024, 2048]⟩
abbrev S1x9x2048 : Shape := ⟨3, ![1, 9, 2048]⟩
abbrev S1x1x2048 : Shape := ⟨3, ![1, 1, 2048]⟩
abbrev S32x2048 : Shape := ⟨2, ![32, 2048]⟩
abbrev S32 : Shape := ⟨1, ![32]⟩
abbrev S32x1 : Shape := ⟨2, ![32, 1]⟩

abbrev nBuf : Space → Nat
  | .hbm => 12
  | .vmem => 14
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S1x2048x2048, .f32⟩
  | .hbm, ⟨3, _⟩ => ⟨S9216x2048, .f32⟩
  | .hbm, ⟨4, _⟩ => ⟨S5x9x2048, .f32⟩
  | .hbm, ⟨5, _⟩ => ⟨S2048, .f32⟩
  | .hbm, ⟨6, _⟩ => ⟨S9216x1024, .bf16⟩
  | .hbm, ⟨7, _⟩ => ⟨S9216x1024, .bf16⟩
  | .hbm, ⟨8, _⟩ => ⟨S2048x2048, .f32⟩
  | .hbm, ⟨9, _⟩ => ⟨S2048x2048, .bf16⟩
  | .hbm, ⟨10, _⟩ => ⟨S1x2048, .f32⟩
  | .hbm, ⟨11, _⟩ => ⟨S9216x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | .local _ .vmem, ⟨7, _⟩ => ⟨S1024x2048, .f32⟩
  | .local _ .vmem, ⟨8, _⟩ => ⟨S1x9x2048, .f32⟩
  | .local _ .vmem, ⟨9, _⟩ => ⟨S1x9x2048, .f32⟩
  | .local _ .vmem, ⟨10, _⟩ => ⟨S1x2048, .f32⟩
  | .local _ .vmem, ⟨11, _⟩ => ⟨S1024x2048, .f32⟩
  | .local _ .vmem, ⟨12, _⟩ => ⟨S1024x2048, .f32⟩
  | .local _ .vmem, ⟨13, _⟩ => ⟨S1024x2048, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![9, 2], ![false, false]⟩

def k0_cond4 (i : grid0.Coords) : BitVec 1 :=
  let arg1 : BitVec 32 := BitVec.ofNat 32 (i 1).val
  let c1_i32_5 : BitVec 32 := 1#32
  let v13 : BitVec 1 := Scalar.cmpi .eq arg1 c1_i32_5
  let v14 : BitVec 32 := Scalar.extui v13
  let c0_i32_6 : BitVec 32 := 0#32
  let v15 : BitVec 1 := Scalar.cmpi .ne v14 c0_i32_6
  v15

@[reducible] def k0_t1_loop : Scf.Loop 32 :=
  let c0_i32_10 : BitVec 32 := 0#32
  let c32_i32 : BitVec 32 := 32#32
  let v23 : BitVec 32 := Scalar.addi c0_i32_10 c32_i32
  let c1_i32_11 : BitVec 32 := 1#32
  ⟨c0_i32_10, v23, c1_i32_11⟩
def k0_mult1 (k0_t1 : Fin k0_t1_loop.trips) : BitVec 32 :=
  let c0_i32_10 : BitVec 32 := 0#32
  let c1_i32_11 : BitVec 32 := 1#32
  let arg10 : BitVec 32 := Scf.iv c0_i32_10 c1_i32_11 k0_t1
  let c32_i32_13 : BitVec 32 := 32#32
  let v24 : BitVec 32 := Scalar.muli arg10 c32_i32_13
  v24
def k0_off1 (k0_t1 : Fin k0_t1_loop.trips) : Fin 2 → Nat :=
  let c0_i32_10 : BitVec 32 := 0#32
  let c1_i32_11 : BitVec 32 := 1#32
  let arg10 : BitVec 32 := Scf.iv c0_i32_10 c1_i32_11 k0_t1
  let c32_i32_13 : BitVec 32 := 32#32
  let v24 : BitVec 32 := Scalar.muli arg10 c32_i32_13
  let v25 : BitVec 32 := v24
  let v26 : Index := Scalar.indexCast v25
  let c0_14 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x9x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S9216x1024 : Shape := ⟨2, ![9216, 1024]⟩
abbrev S1x2048x2048 : Shape := ⟨3, ![1, 2048, 2048]⟩
abbrev S9216x2048 : Shape := ⟨2, ![9216, 2048]⟩
abbrev S5x9x2048 : Shape := ⟨3, ![5, 9, 2048]⟩
abbrev S2048 : Shape := ⟨1, ![2048]⟩
abbrev S4x9x2048 : Shape := ⟨3, ![4, 9, 2048]⟩
abbrev S4x9x1x2048 : Shape := ⟨4, ![4, 9, 1, 2048]⟩
abbrev S1x9x2048 : Shape := ⟨3, ![1, 9, 2048]⟩
abbrev S9x2048 : Shape := ⟨2, ![9, 2048]⟩
abbrev S2048x2048 : Shape := ⟨2, ![2048, 2048]⟩
abbrev S8192x2048 : Shape := ⟨2, ![8192, 2048]⟩
abbrev S4x2048x2048 : Shape := ⟨3, ![4, 2048, 2048]⟩
abbrev S1024x2048 : Shape := ⟨2, ![1024, 2048]⟩
abbrev S4x256x2048 : Shape := ⟨3, ![4, 256, 2048]⟩
abbrev S4x1x1x2048 : Shape := ⟨4, ![4, 1, 1, 2048]⟩
abbrev S4x1x2048 : Shape := ⟨3, ![4, 1, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048 : Shape := ⟨2, ![1, 2048]⟩
abbrev S4x256 : Shape := ⟨2, ![4, 256]⟩
abbrev S4x256x1 : Shape := ⟨3, ![4, 256, 1]⟩

abbrev nBuf : Space → Nat
  | .hbm => 67
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S1x2048x2048, .f32⟩
  | .hbm, ⟨3, _⟩ => ⟨S9216x2048, .f32⟩
  | .hbm, ⟨4, _⟩ => ⟨S5x9x2048, .f32⟩
  | .hbm, ⟨5, _⟩ => ⟨S2048, .f32⟩
  | .hbm, ⟨6, _⟩ => ⟨S4x9x2048, .f32⟩
  | .hbm, ⟨7, _⟩ => ⟨S4x9x1x2048, .f32⟩
  | .hbm, ⟨8, _⟩ => ⟨S1x9x2048, .f32⟩
  | .hbm, ⟨9, _⟩ => ⟨S9x2048, .f32⟩
  | .hbm, ⟨10, _⟩ => ⟨S9216x2048, .f32⟩
  | .hbm, ⟨11, _⟩ => ⟨S2048x2048, .f32⟩
  | .hbm, ⟨12, _⟩ => ⟨S9216x2048, .f32⟩
  | .hbm, ⟨13, _⟩ => ⟨S8192x2048, .f32⟩
  | .hbm, ⟨14, _⟩ => ⟨S4x2048x2048, .f32⟩
  | .hbm, ⟨15, _⟩ => ⟨S1024x2048, .f32⟩
  | .hbm, ⟨16, _⟩ => ⟨S4x256x2048, .f32⟩
  | .hbm, ⟨17, _⟩ => ⟨S8192x2048, .f32⟩
  | .hbm, ⟨18, _⟩ => ⟨S4x2048x2048, .f32⟩
  | .hbm, ⟨19, _⟩ => ⟨S1024x2048, .f32⟩
  | .hbm, ⟨20, _⟩ => ⟨S4x256x2048, .f32⟩
  | .hbm, ⟨21, _⟩ => ⟨S4x1x1x2048, .f32⟩
  | .hbm, ⟨22, _⟩ => ⟨S4x1x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S1x1x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S1x2048, .f32⟩
  | .hbm, ⟨43, _⟩ => ⟨S2048, .f32⟩
  | .hbm, ⟨44, _⟩ => ⟨S4x256x2048, .f32⟩
  | .hbm, ⟨45, _⟩ => ⟨S_, .f32⟩
  | .hbm, ⟨46, _⟩ => ⟨S4x256, .f32⟩
  | .hbm, ⟨47, _⟩ => ⟨S4x256x1, .f32⟩
  | .hbm, ⟨48, _⟩ => ⟨S_, .f32⟩
  | .hbm, ⟨49, _⟩ => ⟨S4x256x1, .f32⟩
  | .hbm, ⟨50, _⟩ => ⟨S4x256x1, .f32⟩
  | .hbm, ⟨51, _⟩ => ⟨S_, .f32⟩
  | .hbm, ⟨52, _⟩ => ⟨S4x256x1, .f32⟩
  | .hbm, ⟨53, _⟩ => ⟨S4x256x1, .f32⟩
  | .hbm, ⟨54, _⟩ => ⟨S4x256x1, .f32⟩
  | .hbm, ⟨55, _⟩ => ⟨S4x256x2048, .f32⟩
  | .hbm, ⟨56, _⟩ => ⟨S4x256x2048, .f32⟩
  | .hbm, ⟨57, _⟩ => ⟨S1x1x2048, .f32⟩
  | .hbm, ⟨58, _⟩ => ⟨S4x256x2048, .f32⟩
  | .hbm, ⟨59, _⟩ => ⟨S4x256x2048, .f32⟩
  | .hbm, ⟨60, _⟩ => ⟨S1x1x2048, .f32⟩
  | .hbm, ⟨61, _⟩ => ⟨S4x256x2048, .f32⟩
  | .hbm, ⟨62, _⟩ => ⟨S4x256x2048, .f32⟩
  | .hbm, ⟨63, _⟩ => ⟨S4x256x2048, .f32⟩
  | .hbm, ⟨64, _⟩ => ⟨S8192x2048, .f32⟩
  | .hbm, ⟨65, _⟩ => ⟨S1024x2048, .f32⟩
  | .hbm, ⟨66, _⟩ => ⟨S9216x2048, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Kernel7.lean ====
abbrev S8192x2048 : Shape := ⟨2, ![8192, 2048]⟩
abbrev S1x2048x2048 : Shape := ⟨3, ![1, 2048, 2048]⟩
abbrev S9216x2048 : Shape := ⟨2, ![9216, 2048]⟩
abbrev S5x9x2048 : Shape := ⟨3, ![5, 9, 2048]⟩
abbrev S2048 : Shape := ⟨1, ![2048]⟩
abbrev S2048x2048 : Shape := ⟨2, ![2048, 2048]⟩
abbrev S1x2048 : Shape := ⟨2, ![1, 2048]⟩
abbrev S1024x1024 : Shape := ⟨2, ![1024, 1024]⟩
abbrev S1024x2048 : Shape := ⟨2, ![1024, 2048]⟩
abbrev S1x9x2048 : Shape := ⟨3, ![1, 9, 2048]⟩
abbrev S1x1x2048 : Shape := ⟨3, ![1, 1, 2048]⟩
abbrev S32x2048 : Shape := ⟨2, ![32, 2048]⟩
abbrev S32 : Shape := ⟨1, ![32]⟩
abbrev S32x1 : Shape := ⟨2, ![32, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .f32⟩
  | .hbm, ⟨2, _⟩ => ⟨S9216x2048, .f32⟩
  | .hbm, ⟨3, _⟩ => ⟨S5x9x2048, .f32⟩
  | .hbm, ⟨4, _⟩ => ⟨S2048, .f32⟩
  | .hbm, ⟨5, _⟩ => ⟨S8192x2048, .bf16⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1x9x2048, .f32⟩
  | .local _ .vmem, ⟨7, _⟩ => ⟨S1x9x2048, .f32⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32_2 : BitVec 32 := 1#32
  let v8 : BitVec 1 := Scalar.cmpi .eq arg1 c1_i32_2
  let v9 : BitVec 32 := Scalar.extui v8
  let c0_i32_3 : BitVec 32 := 0#32
  let v10 : BitVec 1 := Scalar.cmpi .ne v9 c0_i32_3
  v10

@[reducible] def k0_t1_loop : Scf.Loop 32 :=
  let c0_i32_7 : BitVec 32 := 0#32
  let c32_i32 : BitVec 32 := 32#32
  let v18 : BitVec 32 := Scalar.addi c0_i32_7 c32_i32
  let c1_i32_8 : BitVec 32 := 1#32
  ⟨c0_i32_7, v18, c1_i32_8⟩
def k0_mult1 (k0_t1 : Fin k0_t1_loop.trips) : BitVec 32 :=
  let c0_i32_7 : BitVec 32 := 0#32
  let c1_i32_8 : BitVec 32 := 1#32
  let arg9 : BitVec 32 := Scf.iv c0_i32_7 c1_i32_8 k0_t1
  let c32_i32_10 : BitVec 32 := 32#32
  let v19 : BitVec 32 := Scalar.muli arg9 c32_i32_10
  v19
def k0_off1 (k0_t1 : Fin k0_t1_loop.trips) : Fin 2 → Nat :=
  let c0_i32_7 : BitVec 32 := 0#32
  let c1_i32_8 : BitVec 32 := 1#32
  let arg9 : BitVec 32 := Scf.iv c0_i32_7 c1_i32_8 k0_t1
  let c32_i32_10 : BitVec 32 := 32#32
  let v19 : BitVec 32 := Scalar.muli arg9 c32_i32_10
  let v20 : BitVec 32 := v19
  let v21 : Index := Scalar.indexCast v20
  let c0_11 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x9x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S8192x2048 : Shape := ⟨2, ![8192, 2048]⟩
abbrev S1x2048x2048 : Shape := ⟨3, ![1, 2048, 2048]⟩
abbrev S9216x2048 : Shape := ⟨2, ![9216, 2048]⟩
abbrev S5x9x2048 : Shape := ⟨3, ![5, 9, 2048]⟩
abbrev S2048 : Shape := ⟨1, ![2048]⟩
abbrev S4x9x2048 : Shape := ⟨3, ![4, 9, 2048]⟩
abbrev S4x9x1x2048 : Shape := ⟨4, ![4, 9, 1, 2048]⟩
abbrev S4x2048x2048 : Shape := ⟨3, ![4, 2048, 2048]⟩
abbrev S2048x2048 : Shape := ⟨2, ![2048, 2048]⟩
abbrev S4x1x1x2048 : Shape := ⟨4, ![4, 1, 1, 2048]⟩
abbrev S4x1x2048 : Shape := ⟨3, ![4, 1, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .f32⟩
  | .hbm, ⟨2, _⟩ => ⟨S9216x2048, .f32⟩
  | .hbm, ⟨3, _⟩ => ⟨S5x9x2048, .f32⟩
  | .hbm, ⟨4, _⟩ => ⟨S2048, .f32⟩
  | .hbm, ⟨5, _⟩ => ⟨S4x9x2048, .f32⟩
  | .hbm, ⟨6, _⟩ => ⟨S4x9x1x2048, .f32⟩
  | .hbm, ⟨7, _⟩ => ⟨S8192x2048, .f32⟩
  | .hbm, ⟨8, _⟩ => ⟨S4x2048x2048, .f32⟩
  | .hbm, ⟨9, _⟩ => ⟨S2048x2048, .f32⟩
  | .hbm, ⟨10, _⟩ => ⟨S8192x2048, .f32⟩
  | .hbm, ⟨11, _⟩ => ⟨S4x2048x2048, .f32⟩
  | .hbm, ⟨12, _⟩ => ⟨S4x1x1x2048, .f32⟩
  | .hbm, ⟨13, _⟩ => ⟨S4x1x2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel8.lean ====
abbrev S4x2048 : Shape := ⟨2, ![4, 2048]⟩
abbrev S2048 : Shape := ⟨1, ![2048]⟩
abbrev S2x2048x18432 : Shape := ⟨3, ![2, 2048, 18432]⟩
abbrev S2x18432 : Shape := ⟨2, ![2, 18432]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x1x18432 : Shape := ⟨3, ![2, 1, 18432]⟩
abbrev S2x8x18432 : Shape := ⟨3, ![2, 8, 18432]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x18432, .f32⟩
  | .hbm, ⟨3, _⟩ => ⟨S2x18432, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S2x1x18432, .f32⟩
  | .hbm, ⟨9, _⟩ => ⟨S2x8x18432, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4x2048 : Shape := ⟨2, ![4, 2048]⟩
abbrev S2048 : Shape := ⟨1, ![2048]⟩
abbrev S2x2048x18432 : Shape := ⟨3, ![2, 2048, 18432]⟩
abbrev S2x18432 : Shape := ⟨2, ![2, 18432]⟩
abbrev S_ : Shape := ⟨0, ![]⟩
abbrev S1x2048x18432 : Shape := ⟨3, ![1, 2048, 18432]⟩
abbrev S2048x18432 : Shape := ⟨2, ![2048, 18432]⟩
abbrev S4x18432 : Shape := ⟨2, ![4, 18432]⟩
abbrev S1x18432 : Shape := ⟨2, ![1, 18432]⟩
abbrev S18432 : Shape := ⟨1, ![18432]⟩
abbrev S3x18432 : Shape := ⟨2, ![3, 18432]⟩
abbrev S8x18432 : Shape := ⟨2, ![8, 18432]⟩
abbrev S1x8x18432 : Shape := ⟨3, ![1, 8, 18432]⟩
abbrev S2x8x18432 : Shape := ⟨3, ![2, 8, 18432]⟩

abbrev nBuf : Space → Nat
  | .hbm => 81
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x18432, .f32⟩
  | .hbm, ⟨3, _⟩ => ⟨S2x18432, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S1x2048x18432, .f32⟩
  | .hbm, ⟨14, _⟩ => ⟨S2048x18432, .f32⟩
  | .hbm, ⟨15, _⟩ => ⟨S4x18432, .f32⟩
  | .hbm, ⟨16, _⟩ => ⟨S1x18432, .f32⟩
  | .hbm, ⟨17, _⟩ => ⟨S18432, .f32⟩
  | .hbm, ⟨18, _⟩ => ⟨S1x18432, .f32⟩
  | .hbm, ⟨19, _⟩ => ⟨S4x18432, .f32⟩
  | .hbm, ⟨20, _⟩ => ⟨S4x18432, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S1x2048x18432, .f32⟩
  | .hbm, ⟨31, _⟩ => ⟨S2048x18432, .f32⟩
  | .hbm, ⟨32, _⟩ => ⟨S18432, .f32⟩
  | .hbm, ⟨33, _⟩ => ⟨S1x18432, .f32⟩
  | .hbm, ⟨34, _⟩ => ⟨S18432, .f32⟩
  | .hbm, ⟨35, _⟩ => ⟨S18432, .f32⟩
  | .hbm, ⟨36, _⟩ => ⟨S1x18432, .f32⟩
  | .hbm, ⟨37, _⟩ => ⟨S18432, .f32⟩
  | .hbm, ⟨38, _⟩ => ⟨S3x18432, .f32⟩
  | .hbm, ⟨39, _⟩ => ⟨S1x18432, .f32⟩
  | .hbm, ⟨40, _⟩ => ⟨S8x18432, .f32⟩
  | .hbm, ⟨41, _⟩ => ⟨S4x2048, .f32⟩
  | .hbm, ⟨42, _⟩ => ⟨S4x2048, .f32⟩
  | .hbm, ⟨43, _⟩ => ⟨S_, .f32⟩
  | .hbm, ⟨44, _⟩ => ⟨S4x2048, .f32⟩
  | .hbm, ⟨45, _⟩ => ⟨S4x2048, .f32⟩
  | .hbm, ⟨46, _⟩ => ⟨S_, .f32⟩
  | .hbm, ⟨47, _⟩ => ⟨S4x2048, .f32⟩
  | .hbm, ⟨48, _⟩ => ⟨S4x2048, .f32⟩
  | .hbm, ⟨49, _⟩ => ⟨S4x2048, .f32⟩
  | .hbm, ⟨50, _⟩ => ⟨S1x2048x18432, .f32⟩
  | .hbm, ⟨51, _⟩ => ⟨S2048x18432, .f32⟩
  | .hbm, ⟨52, _⟩ => ⟨S4x18432, .f32⟩
  | .hbm, ⟨53, _⟩ => ⟨S1x18432, .f32⟩
  | .hbm, ⟨54, _⟩ => ⟨S18432, .f32⟩
  | .hbm, ⟨55, _⟩ => ⟨S1x18432, .f32⟩
  | .hbm, ⟨56, _⟩ => ⟨S4x18432, .f32⟩
  | .hbm, ⟨57, _⟩ => ⟨S4x18432, .f32⟩
  | .hbm, ⟨58, _⟩ => ⟨S2048, .f32⟩
  | .hbm, ⟨59, _⟩ => ⟨S2048, .f32⟩
  | .hbm, ⟨60, _⟩ => ⟨S_, .f32⟩
  | .hbm, ⟨61, _⟩ => ⟨S2048, .f32⟩
  | .hbm, ⟨62, _⟩ => ⟨S2048, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S2048, .f32⟩
  | .hbm, ⟨67, _⟩ => ⟨S1x2048x18432, .f32⟩
  | .hbm, ⟨68, _⟩ => ⟨S2048x18432, .f32⟩
  | .hbm, ⟨69, _⟩ => ⟨S18432, .f32⟩
  | .hbm, ⟨70, _⟩ => ⟨S1x18432, .f32⟩
  | .hbm, ⟨71, _⟩ => ⟨S18432, .f32⟩
  | .hbm, ⟨72, _⟩ => ⟨S18432, .f32⟩
  | .hbm, ⟨73, _⟩ => ⟨S1x18432, .f32⟩
  | .hbm, ⟨74, _⟩ => ⟨S18432, .f32⟩
  | .hbm, ⟨75, _⟩ => ⟨S3x18432, .f32⟩
  | .hbm, ⟨76, _⟩ => ⟨S1x18432, .f32⟩
  | .hbm, ⟨77, _⟩ => ⟨S8x18432, .f32⟩
  | .hbm, ⟨78, _⟩ => ⟨S1x8x18432, .f32⟩
  | .hbm, ⟨79, _⟩ => ⟨S1x8x18432, .f32⟩
  | .hbm, ⟨80, _⟩ => ⟨S2x8x18432, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call3_v0 : Ref sig .tc := ⟨.hbm, 58, rfl⟩
abbrev main_call3_v1 : Ref sig .tc := ⟨.hbm, 59, rfl⟩
abbrev main_call3_cst : Ref sig .tc := ⟨.hbm, 60, rfl⟩
abbrev main_call3_v2 : Ref sig .tc := ⟨.hbm, 61, rfl⟩
abbrev main_call3_v3 : Ref sig .tc := ⟨.hbm, 62, rfl⟩
abbrev main_call3_cst_0 : Ref sig .tc := ⟨.hbm, 63, rfl⟩
abbrev main_call3_v4 : Ref sig .tc := ⟨.hbm, 64, rfl⟩
abbrev main_call3_v5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩

abbrev nD : Nat := 1
abbrev τ : Topo := Topo.v7x

variable {F : FTy → Type} [FloatOps F]
-- ==== Kernel9.lean ====
abbrev S9216x7168 : Shape := ⟨2, ![9216, 7168]⟩
abbrev S1x5x2048 : Shape := ⟨3, ![1, 5, 2048]⟩
abbrev S5x2048 : Shape := ⟨2, ![5, 2048]⟩
abbrev S9216x2048 : Shape := ⟨2, ![9216, 2048]⟩
abbrev S256x1024 : Shape := ⟨2, ![256, 1024]⟩
abbrev S8x1024 : Shape := ⟨2, ![8, 1024]⟩
abbrev S5x1024 : Shape := ⟨2, ![5, 1024]⟩
abbrev S1x1024 : Shape := ⟨2, ![1, 1024]⟩

abbrev nBuf : Space → Nat
  | .hbm => 4
  | .vmem => 10
  | .smem => 0
  | _ => 0

abbrev bufTy : (tb : Table) → Fin (tcTables nBuf tb) → BufTy
  | .hbm, ⟨0, _⟩ => ⟨S9216x7168, .f32⟩
  | .hbm, ⟨1, _⟩ => ⟨S1x5x2048, .f32⟩
  | .hbm, ⟨2, _⟩ => ⟨S5x2048, .f32⟩
  | .hbm, ⟨3, _⟩ => ⟨S9216x2048, .bf16⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S5x1024, .f32⟩
  | .local _ .vmem, ⟨7, _⟩ => ⟨S5x1024, .f32⟩
  | .local _ .vmem, ⟨8, _⟩ => ⟨S256x1024, .bf16⟩
  | .local _ .vmem, ⟨9, _⟩ => ⟨S256x1024, .bf16⟩
  | _, _ => ⟨S9216x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![36, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c1151_i32 : BitVec 32 := 1151#32
  let v2 : BitVec 32 := Scalar.minsi v1 c1151_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S9216x7168 : Shape := ⟨2, ![9216, 7168]⟩
abbrev S1x5x2048 : Shape := ⟨3, ![1, 5, 2048]⟩
abbrev S8192x2048 : Shape := ⟨2, ![8192, 2048]⟩
abbrev S4x2048x2048 : Shape := ⟨3, ![4, 2048, 2048]⟩
abbrev S1024x2048 : Shape := ⟨2, ![1024, 2048]⟩
abbrev S4x256x2048 : Shape := ⟨3, ![4, 256, 2048]⟩
abbrev S5x2048 : Shape := ⟨2, ![5, 2048]⟩
abbrev S_ : Shape := ⟨0, ![]⟩
abbrev S4x2052x2048 : Shape := ⟨3, ![4, 2052, 2048]⟩
abbrev S1x2048 : Shape := ⟨2, ![1, 2048]⟩
abbrev S2048 : Shape := ⟨1, ![2048]⟩
abbrev S1x1x2048 : Shape := ⟨3, ![1, 1, 2048]⟩
abbrev S4x2048x1024 : Shape := ⟨3, ![4, 2048, 1024]⟩
abbrev S4x260x2048 : Shape := ⟨3, ![4, 260, 2048]⟩
abbrev S4x256x1024 : Shape := ⟨3, ![4, 256, 1024]⟩
abbrev S9216x2048 : Shape := ⟨2, ![9216, 2048]⟩

abbrev nBuf : Space → Nat
  | .hbm => 116
  | .vmem => 0
  | .smem => 0
  | _ => 0

abbrev bufTy : (tb : Table) → Fin (tcTables nBuf tb) → BufTy
  | .hbm, ⟨0, _⟩ => ⟨S9216x7168, .f32⟩
  | .hbm, ⟨1, _⟩ => ⟨S1x5x2048, .f32⟩
  | .hbm, ⟨2, _⟩ => ⟨S8192x2048, .f32⟩
  | .hbm, ⟨3, _⟩ => ⟨S4x2048x2048, .f32⟩
  | .hbm, ⟨4, _⟩ => ⟨S1024x2048, .f32⟩
  | .hbm, ⟨5, _⟩ => ⟨S4x256x2048, .f32⟩
  | .hbm, ⟨6, _⟩ => ⟨S5x2048, .f32⟩
  | .hbm, ⟨7, _⟩ => ⟨S_, .i32⟩
  | .hbm, ⟨8, _⟩ => ⟨S_, .f32⟩
  | .hbm, ⟨9, _⟩ => ⟨S4x2052x2048, .f32⟩
  | .hbm, ⟨10, _⟩ => ⟨S4x2048x2048, .f32⟩
  | .hbm, ⟨11, _⟩ => ⟨S1x2048, .f32⟩
  | .hbm, ⟨12, _⟩ => ⟨S2048, .f32⟩
  | .hbm, ⟨13, _⟩ => ⟨S1x1x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S1x2048, .f32⟩
  | .hbm, ⟨18, _⟩ => ⟨S2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S1x2048, .f32⟩
  | .hbm, ⟨25, _⟩ => ⟨S2048, .f32⟩
  | .hbm, ⟨26, _⟩ => ⟨S1x1x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S1x2048, .f32⟩
  | .hbm, ⟨32, _⟩ => ⟨S2048, .f32⟩
  | .hbm, ⟨33, _⟩ => ⟨S1x1x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S1x2048, .f32⟩
  | .hbm, ⟨39, _⟩ => ⟨S2048, .f32⟩
  | .hbm, ⟨40, _⟩ => ⟨S1x1x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S4x2048x2048, .f32⟩
  | .hbm, ⟨48, _⟩ => ⟨S4x2048x2048, .f32⟩
  | .hbm, ⟨49, _⟩ => ⟨S_, .f32⟩
  | .hbm, ⟨50, _⟩ => ⟨S4x2048x2048, .f32⟩
  | .hbm, ⟨51, _⟩ => ⟨S4x2048x2048, .f32⟩
  | .hbm, ⟨52, _⟩ => ⟨S4x2048x2048, .f32⟩
  | .hbm, ⟨53, _⟩ => ⟨S4x2048x1024, .f32⟩
  | .hbm, ⟨54, _⟩ => ⟨S4x2048x1024, .f32⟩
  | .hbm, ⟨55, _⟩ => ⟨S_, .f32⟩
  | .hbm, ⟨56, _⟩ => ⟨S4x2048x1024, .f32⟩
  | .hbm, ⟨57, _⟩ => ⟨S4x2048x1024, .f32⟩
  | .hbm, ⟨58, _⟩ => ⟨S4x2048x2048, .f32⟩
  | .hbm, ⟨59, _⟩ => ⟨S8192x2048, .f32⟩
  | .hbm, ⟨60, _⟩ => ⟨S5x2048, .f32⟩
  | .hbm, ⟨61, _⟩ => ⟨S_, .i32⟩
  | .hbm, ⟨62, _⟩ => ⟨S_, .f32⟩
  | .hbm, ⟨63, _⟩ => ⟨S4x260x2048, .f32⟩
  | .hbm, ⟨64, _⟩ => ⟨S4x256x2048, .f32⟩
  | .hbm, ⟨65, _⟩ => ⟨S1x2048, .f32⟩
  | .hbm, ⟨66, _⟩ => ⟨S2048, .f32⟩
  | .hbm, ⟨67, _⟩ => ⟨S1x1x2048, .f32⟩
  | .hbm, ⟨68, _⟩ => ⟨S4x256x2048, .f32⟩
  | .hbm, ⟨69, _⟩ => ⟨S4x256x2048, .f32⟩
  | .hbm, ⟨70, _⟩ => ⟨S4x256x2048, .f32⟩
  | .hbm, ⟨71, _⟩ => ⟨S1x2048, .f32⟩
  | .hbm, ⟨72, _⟩ => ⟨S2048, .f32⟩
  | .hbm, ⟨73, _⟩ => ⟨S1x1x2048, .f32⟩
  | .hbm, ⟨74, _⟩ => ⟨S4x256x2048, .f32⟩
  | .hbm, ⟨75, _⟩ => ⟨S4x256x2048, .f32⟩
  | .hbm, ⟨76, _⟩ => ⟨S4x256x2048, .f32⟩
  | .hbm, ⟨77, _⟩ => ⟨S4x256x2048, .f32⟩
  | .hbm, ⟨78, _⟩ => ⟨S1x2048, .f32⟩
  | .hbm, ⟨79, _⟩ => ⟨S2048, .f32⟩
  | .hbm, ⟨80, _⟩ => ⟨S1x1x2048, .f32⟩
  | .hbm, ⟨81, _⟩ => ⟨S4x256x2048, .f32⟩
  | .hbm, ⟨82, _⟩ => ⟨S4x256x2048, .f32⟩
  | .hbm, ⟨83, _⟩ => ⟨S4x256x2048, .f32⟩
  | .hbm, ⟨84, _⟩ => ⟨S4x256x2048, .f32⟩
  | .hbm, ⟨85, _⟩ => ⟨S1x2048, .f32⟩
  | .hbm, ⟨86, _⟩ => ⟨S2048, .f32⟩
  | .hbm, ⟨87, _⟩ => ⟨S1x1x2048, .f32⟩
  | .hbm, ⟨88, _⟩ => ⟨S4x256x2048, .f32⟩
  | .hbm, ⟨89, _⟩ => ⟨S4x256x2048, .f32⟩
  | .hbm, ⟨90, _⟩ => ⟨S4x256x2048, .f32⟩
  | .hbm, ⟨91, _⟩ => ⟨S4x256x2048, .f32⟩
  | .hbm, ⟨92, _⟩ => ⟨S1x2048, .f32⟩
  | .hbm, ⟨93, _⟩ => ⟨S2048, .f32⟩
  | .hbm, ⟨94, _⟩ => ⟨S1x1x2048, .f32⟩
  | .hbm, ⟨95, _⟩ => ⟨S4x256x2048, .f32⟩
  | .hbm, ⟨96, _⟩ => ⟨S4x256x2048, .f32⟩
  | .hbm, ⟨97, _⟩ => ⟨S4x256x2048, .f32⟩
  | .hbm, ⟨98, _⟩ => ⟨S4x256x2048, .f32⟩
  | .hbm, ⟨99, _⟩ => ⟨S4x256x2048, .f32⟩
  | .hbm, ⟨100, _⟩ => ⟨S_, .f32⟩
  | .hbm, ⟨101, _⟩ => ⟨S4x256x2048, .f32⟩
  | .hbm, ⟨102, _⟩ => ⟨S4x256x2048, .f32⟩
  | .hbm, ⟨103, _⟩ => ⟨S_, .f32⟩
  | .hbm, ⟨104, _⟩ => ⟨S4x256x2048, .f32⟩
  | .hbm, ⟨105, _⟩ => ⟨S4x256x2048, .f32⟩
  | .hbm, ⟨106, _⟩ => ⟨S4x256x2048, .f32⟩
  | .hbm, ⟨107, _⟩ => ⟨S4x256x1024, .f32⟩
  | .hbm, ⟨108, _⟩ => ⟨S4x256x1024, .f32⟩
  | .hbm, ⟨109, _⟩ => ⟨S_, .f32⟩
  | .hbm, ⟨110, _⟩ => ⟨S4x256x1024, .f32⟩
  | .hbm, ⟨111, _⟩ => ⟨S4x256x1024, .f32⟩
  | .hbm, ⟨112, _⟩ => ⟨S4x256x2048, .f32⟩
  | .hbm, ⟨113, _⟩ => ⟨S1024x2048, .f32⟩
  | .hbm, ⟨114, _⟩ => ⟨S9216x2048, .f32⟩
  | .hbm, ⟨115, _⟩ => ⟨S9216x2048, .bf16⟩
  | _, _ => ⟨S9216x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_0 : Ref sig .tc := ⟨.hbm, 61, rfl⟩
abbrev main_call2_v0 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_call3_v0 : Ref sig .tc := ⟨.hbm, 98, rfl⟩
abbrev main_call3_v1 : Ref sig .tc := ⟨.hbm, 99, rfl⟩
abbrev main_call3_cst : Ref sig .tc := ⟨.hbm, 100, rfl⟩
abbrev main_call3_v2 : Ref sig .tc := ⟨.hbm, 101, rfl⟩
abbrev main_call3_v3 : Ref sig .tc := ⟨.hbm, 102, rfl⟩
abbrev main_call3_cst_0 : Ref sig .tc := ⟨.hbm, 103, rfl⟩
abbrev main_call3_v4 : Ref sig .tc := ⟨.hbm, 104, rfl⟩
abbrev main_call3_v5 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_1 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩

abbrev nD : Nat := 1
abbrev τ : Topo := Topo.v7x

variable {F : FTy → Type} [FloatOps F]
-- ==== Kernel10.lean ====
abbrev S9216x1024 : Shape := ⟨2, ![9216, 1024]⟩
abbrev S9216x7168 : Shape := ⟨2, ![9216, 7168]⟩
abbrev S1x1024 : Shape := ⟨2, ![1, 1024]⟩
abbrev S1024 : Shape := ⟨1, ![1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x128 : Shape := ⟨2, ![1, 128]⟩

abbrev nBuf : Space → Nat
  | .hbm => 7
  | .vmem => 9
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x7168, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S9216x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S9216x1024 : Shape := ⟨2, ![9216, 1024]⟩
abbrev S9216x7168 : Shape := ⟨2, ![9216, 7168]⟩
abbrev S1x1024 : Shape := ⟨2, ![1, 1024]⟩
abbrev S9216x8x128 : Shape := ⟨3, ![9216, 8, 128]⟩
abbrev S1024 : Shape := ⟨1, ![1024]⟩
abbrev S8x128 : Shape := ⟨2, ![8, 128]⟩
abbrev S_ : Shape := ⟨0, ![]⟩
abbrev S9216x8 : Shape := ⟨2, ![9216, 8]⟩
abbrev S9216x8x1 : Shape := ⟨3, ![9216, 8, 1]⟩
abbrev S1x8x128 : Shape := ⟨3, ![1, 8, 128]⟩

abbrev nBuf : Space → Nat
  | .hbm => 36
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x7168, .f32⟩
  | .hbm, ⟨3, _⟩ => ⟨S1x1024, .f32⟩
  | .hbm, ⟨4, _⟩ => ⟨S9216x1024, .f32⟩
  | .hbm, ⟨5, _⟩ => ⟨S9216x1024, .f32⟩
  | .hbm, ⟨6, _⟩ => ⟨S9216x8x128, .f32⟩
  | .hbm, ⟨7, _⟩ => ⟨S1024, .f32⟩
  | .hbm, ⟨8, _⟩ => ⟨S8x128, .f32⟩
  | .hbm, ⟨9, _⟩ => ⟨S9216x8x128, .f32⟩
  | .hbm, ⟨10, _⟩ => ⟨S_, .f32⟩
  | .hbm, ⟨11, _⟩ => ⟨S9216x8, .f32⟩
  | .hbm, ⟨12, _⟩ => ⟨S9216x8x1, .f32⟩
  | .hbm, ⟨13, _⟩ => ⟨S_, .f32⟩
  | .hbm, ⟨14, _⟩ => ⟨S9216x8x1, .f32⟩
  | .hbm, ⟨15, _⟩ => ⟨S9216x8x1, .f32⟩
  | .hbm, ⟨16, _⟩ => ⟨S_, .f32⟩
  | .hbm, ⟨17, _⟩ => ⟨S9216x8x1, .f32⟩
  | .hbm, ⟨18, _⟩ => ⟨S9216x8x1, .f32⟩
  | .hbm, ⟨19, _⟩ => ⟨S9216x8x1, .f32⟩
  | .hbm, ⟨20, _⟩ => ⟨S9216x8x128, .f32⟩
  | .hbm, ⟨21, _⟩ => ⟨S9216x8x128, .f32⟩
  | .hbm, ⟨22, _⟩ => ⟨S1x8x128, .f32⟩
  | .hbm, ⟨23, _⟩ => ⟨S9216x8x128, .f32⟩
  | .hbm, ⟨24, _⟩ => ⟨S9216x8x128, .f32⟩
  | .hbm, ⟨25, _⟩ => ⟨S9216x1024, .f32⟩
  | .hbm, ⟨26, _⟩ => ⟨S9216x1024, .f32⟩
  | .hbm, ⟨27, _⟩ => ⟨S9216x1024, .f32⟩
  | .hbm, ⟨28, _⟩ => ⟨S_, .f32⟩
  | .hbm, ⟨29, _⟩ => ⟨S9216x1024, .f32⟩
  | .hbm, ⟨30, _⟩ => ⟨S9216x1024, .f32⟩
  | .hbm, ⟨31, _⟩ => ⟨S_, .f32⟩
  | .hbm, ⟨32, _⟩ => ⟨S9216x1024, .f32⟩
  | .hbm, ⟨33, _⟩ => ⟨S9216x1024, .f32⟩
  | .hbm, ⟨34, _⟩ => ⟨S9216x1024, .f32⟩
  | .hbm, ⟨35, _⟩ => ⟨S9216x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Diff.Math.lean ====
module

public import Idealize.ShloMosaic.PureOps.Ideal
public import Idealize.ShloMosaic.PureOps.Ideal.Laws

/-! The mathematics of differential attention for one query row: a softmax written with powers of two and any subtracted
    maximum is the softmax, and the difference of two weighted means is the weighted mean under the difference of the
    two softmaxes. All of it holds for real (finite) scores and values; the statements here read them as extended reals. -/

@[expose] public section

noncomputable section

namespace Cert.Diff

open Idealize.ShloMosaic

/-- The word of minus infinity. -/
theorem negInf : Ideal.ofBits .f32 0xFF800000#32 = ⊥ := by
  simp [Ideal.ofBits, Ideal.ieee]

/-- The word of one eighth. -/
theorem eighth : Ideal.ofBits .f32 0x3E000000#32 = (((1 : ℝ) / 8 : ℝ) : EReal) := by
  simp [Ideal.ofBits, Ideal.ieee, -EReal.coe_mul]; norm_num

theorem zero32 : Ideal.ofBits .f32 0x00000000#32 = 0 := by
  simp [Ideal.ofBits, Ideal.ieee]

theorem lamInit : ∃ r : ℝ, Ideal.ofBits .f32 0x3E4CCCCD#32 = (r : EReal) := by
  refine ⟨13421773 / 67108864, ?_⟩
  simp [Ideal.ofBits, Ideal.ieee, -EReal.coe_mul]; norm_num

/-- A finite sum of reals, read as extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of finitely many reals, at least one, is a real. -/
theorem fold_max_real {ι : Type*} [DecidableEq ι] (s : Finset ι) (hs : s.Nonempty) (f : ι → ℝ) :
    ∃ M : ℝ, s.fold max (⊥ : EReal) (fun i => ((f i : ℝ) : EReal)) = (M : EReal) := by
  induction s using Finset.induction_on with
  | empty => simp at hs
  | insert a s ha ih =>
    rw [Finset.fold_insert ha]
    rcases s.eq_empty_or_nonempty with h | h
    · subst h; exact ⟨f a, by simp⟩
    · obtain ⟨M, hM⟩ := ih h
      exact ⟨max (f a) M, by rw [hM]; exact (EReal.coe_strictMono.monotone.map_max).symm⟩

/-- The mean of `v` under the softmax of the scores `s`. -/
def softMean {ι : Type} [Fintype ι] (s v : ι → ℝ) : ℝ := (∑ i, Real.exp (s i) * v i) / ∑ i, Real.exp (s i)

/-- Subtracting one number from every score changes neither the softmax … -/
theorem softMean_shift {ι : Type} [Fintype ι] (s v : ι → ℝ) (M : ℝ) :
    (∑ i, Real.exp (s i - M) * v i) / ∑ i, Real.exp (s i - M) = softMean s v := by
  have h1 : ∀ i, Real.exp (s i - M) = Real.exp (-M) * Real.exp (s i) := fun i => by
    rw [← Real.exp_add]; congr 1; ring
  simp only [h1, mul_assoc, ← Finset.mul_sum, softMean]
  exact mul_div_mul_left _ _ (Real.exp_pos _).ne'

/-- A power of two of a score divided by `log 2` is the exponential of the score. -/
theorem exp2_scaled (x M : ℝ) :
    Ideal.exp2 (((x * (Real.log 2)⁻¹ : ℝ) : EReal) - (M : EReal)) = ((Real.exp (x - M * Real.log 2) : ℝ) : EReal) := by
  have hl : Real.log 2 ≠ 0 := (Real.log_pos (by norm_num)).ne'
  rw [← EReal.coe_sub, Ideal.exp2_coe]
  congr 1
  show (2 : ℝ) ^ (x * (Real.log 2)⁻¹ - M) = _
  rw [Real.rpow_def_of_pos (by norm_num)]
  congr 1
  field_simp

theorem sum_exp_pos {ι : Type} [Fintype ι] [Nonempty ι] (s : ι → ℝ) : (∑ i, Real.exp (s i)) ≠ 0 :=
  (Finset.sum_pos (fun i _ => Real.exp_pos _) Finset.univ_nonempty).ne'

/-- The kernel's softmax mean over one group of keys. -/
theorem kernelMean_one {n : Nat} [NeZero n] (s v : Fin n → ℝ) :
    Ideal.div
      (∑ k, Ideal.exp2 (((s k * (Real.log 2)⁻¹ : ℝ) : EReal)
        - Finset.univ.fold max ⊥ (fun k => ((s k * (Real.log 2)⁻¹ : ℝ) : EReal))) * ((v k : ℝ) : EReal))
      (∑ k, Ideal.exp2 (((s k * (Real.log 2)⁻¹ : ℝ) : EReal)
        - Finset.univ.fold max ⊥ (fun k => ((s k * (Real.log 2)⁻¹ : ℝ) : EReal))) * 1)
      = ((softMean s v : ℝ) : EReal) := by
  obtain ⟨M, hM⟩ := fold_max_real (Finset.univ : Finset (Fin n)) Finset.univ_nonempty (fun k => s k * (Real.log 2)⁻¹)
  rw [hM]
  simp only [exp2_scaled, mul_one, ← EReal.coe_mul, coe_sum]
  rw [Ideal.div_coe (sum_exp_pos _), ← EReal.coe_mul, ← softMean_shift s v (M * Real.log 2), mul_one_div]

/-- The kernel's softmax mean over two groups of keys, one shared maximum subtracted. -/
theorem kernelMean_two {a b : Nat} [NeZero a] [NeZero b] (s v : Fin (a + b) → ℝ) (M : EReal)
    (hM : M = max (Finset.univ.fold max ⊥ (fun k : Fin a => ((s (Fin.castAdd b k) * (Real.log 2)⁻¹ : ℝ) : EReal)))
      (Finset.univ.fold max ⊥ (fun k : Fin b => ((s (Fin.natAdd a k) * (Real.log 2)⁻¹ : ℝ) : EReal)))) :
    Ideal.div
      (∑ k : Fin a, Ideal.exp2 (((s (Fin.castAdd b k) * (Real.log 2)⁻¹ : ℝ) : EReal) - M) * ((v (Fin.castAdd b k) : ℝ) : EReal)
        + ∑ k : Fin b, Ideal.exp2 (((s (Fin.natAdd a k) * (Real.log 2)⁻¹ : ℝ) : EReal) - M) * ((v (Fin.natAdd a k) : ℝ) : EReal))
      (∑ k : Fin a, Ideal.exp2 (((s (Fin.castAdd b k) * (Real.log 2)⁻¹ : ℝ) : EReal) - M) * 1
        + ∑ k : Fin b, Ideal.exp2 (((s (Fin.natAdd a k) * (Real.log 2)⁻¹ : ℝ) : EReal) - M) * 1)
      = ((softMean s v : ℝ) : EReal) := by
  obtain ⟨M1, h1⟩ := fold_max_real (Finset.univ : Finset (Fin a)) Finset.univ_nonempty
    (fun k => s (Fin.castAdd b k) * (Real.log 2)⁻¹)
  obtain ⟨M2, h2⟩ := fold_max_real (Finset.univ : Finset (Fin b)) Finset.univ_nonempty
    (fun k => s (Fin.natAdd a k) * (Real.log 2)⁻¹)
  obtain ⟨N, hN⟩ : ∃ N : ℝ, M = (N : EReal) :=
    ⟨max M1 M2, by rw [hM, h1, h2]; exact (EReal.coe_strictMono.monotone.map_max).symm⟩
  subst hN
  haveI : Nonempty (Fin (a + b)) := ⟨Fin.castAdd b 0⟩
  simp only [exp2_scaled, mul_one, ← EReal.coe_mul, coe_sum, ← EReal.coe_add]
  rw [← Fin.sum_univ_add (fun k => Real.exp (s k - N * Real.log 2) * v k),
    ← Fin.sum_univ_add (fun k => Real.exp (s k - N * Real.log 2)),
    Ideal.div_coe (sum_exp_pos _), ← EReal.coe_mul, ← softMean_shift s v (N * Real.log 2), mul_one_div]

/-- The reference's one softmax weight. -/
theorem refWeight {ι : Type} [Fintype ι] [Nonempty ι] (s : ι → ℝ) (M : ℝ) (k : ι) :
    Ideal.div (Ideal.exp (((s k : ℝ) : EReal) - (M : EReal))) (0 + ∑ i, Ideal.exp (((s i : ℝ) : EReal) - (M : EReal)))
      = ((Real.exp (s k - M) / ∑ i, Real.exp (s i - M) : ℝ) : EReal) := by
  simp only [← EReal.coe_sub, Ideal.exp_coe, coe_sum, zero_add]
  rw [Ideal.div_coe (sum_exp_pos _), ← EReal.coe_mul, mul_one_div]

/-- The values weighted by the difference of two softmaxes: the difference of the two means. -/
theorem refDiff {ι : Type} [Fintype ι] [Nonempty ι] (s s' v : ι → ℝ) (M M' l : ℝ) :
    ∑ k, ((((Real.exp (s k - M) / ∑ i, Real.exp (s i - M) : ℝ) : EReal)
      - (l : EReal) * ((Real.exp (s' k - M') / ∑ i, Real.exp (s' i - M') : ℝ) : EReal)) * ((v k : ℝ) : EReal))
      = ((softMean s v - l * softMean s' v : ℝ) : EReal) := by
  simp only [← EReal.coe_mul, ← EReal.coe_sub, coe_sum]
  congr 1
  rw [← softMean_shift s v M, ← softMean_shift s' v M', Finset.sum_div, Finset.sum_div, Finset.mul_sum,
    ← Finset.sum_sub_distrib]
  refine Finset.sum_congr rfl fun k _ => ?_
  ring

/-- One score: the product of a query and a key row of one map, over eight. -/
def score (q k : Fin 64 → ℝ) : ℝ := (∑ d, q d * k d) * (1 / 8)

/-- A query and key row of 128 lanes hold two maps; with the other map's lanes set to zero and the scale and `1/log 2`
    in the query, their product is the first map's score over `log 2`. -/
theorem masked_score_lo (q k : Fin 128 → ℝ) :
    ∑ d : Fin 128, (if d.val < 64 then ((q d * (1 / 8 * (Real.log 2)⁻¹) : ℝ) : EReal) else 0) * ((k d : ℝ) : EReal)
      = ((score (fun d => q ⟨d.val, by omega⟩) (fun d => k ⟨d.val, by omega⟩) * (Real.log 2)⁻¹ : ℝ) : EReal) := by
  have h : ∀ d : Fin 128, (if d.val < 64 then ((q d * (1 / 8 * (Real.log 2)⁻¹) : ℝ) : EReal) else 0) * ((k d : ℝ) : EReal)
      = (((if d.val < 64 then q d * k d else 0) * (1 / 8 * (Real.log 2)⁻¹) : ℝ) : EReal) := fun d => by
    split
    · rw [← EReal.coe_mul]; congr 1; ring
    · simp
  simp only [h, coe_sum]
  congr 1
  rw [← Finset.sum_mul, score, mul_assoc, Fin.sum_univ_add (a := 64) (b := 64) (f := fun d : Fin 128 => if d.val < 64 then q d * k d else 0)]
  congr 1
  rw [Finset.sum_eq_zero (s := (Finset.univ : Finset (Fin 64))) (f := fun i => (fun d : Fin 128 => if d.val < 64 then q d * k d else 0) (Fin.natAdd 64 i)) (fun i _ => by simp), add_zero]
  exact Finset.sum_congr rfl fun d _ => by simp [Fin.castAdd, Fin.castLE]

/-- … and with the first map's lanes set to zero the second's. -/
theorem masked_score_hi (q k : Fin 128 → ℝ) :
    ∑ d : Fin 128, (if 64 ≤ d.val then ((q d * (1 / 8 * (Real.log 2)⁻¹) : ℝ) : EReal) else 0) * ((k d : ℝ) : EReal)
      = ((score (fun d => q ⟨64 + d.val, by omega⟩) (fun d => k ⟨64 + d.val, by omega⟩) * (Real.log 2)⁻¹ : ℝ) : EReal) := by
  have h : ∀ d : Fin 128, (if 64 ≤ d.val then ((q d * (1 / 8 * (Real.log 2)⁻¹) : ℝ) : EReal) else 0) * ((k d : ℝ) : EReal)
      = (((if 64 ≤ d.val then q d * k d else 0) * (1 / 8 * (Real.log 2)⁻¹) : ℝ) : EReal) := fun d => by
    split
    · rw [← EReal.coe_mul]; congr 1; ring
    · simp
  simp only [h, coe_sum]
  congr 1
  rw [← Finset.sum_mul, score, mul_assoc, Fin.sum_univ_add (a := 64) (b := 64) (f := fun d : Fin 128 => if 64 ≤ d.val then q d * k d else 0)]
  congr 1
  rw [Finset.sum_eq_zero (s := (Finset.univ : Finset (Fin 64))) (f := fun i => (fun d : Fin 128 => if 64 ≤ d.val then q d * k d else 0) (Fin.castAdd 64 i)) (fun i _ => by simp), zero_add]
  exact Finset.sum_congr rfl fun d _ => by simp [Fin.natAdd]

/-- A row's differential attention in one value lane: keys `k` (both maps' lanes), that lane's values `v`. -/
def diffMean {ι : Type} [Fintype ι] (q : Fin 128 → ℝ) (k : ι → Fin 128 → ℝ) (v : ι → ℝ) (l : ℝ) : ℝ :=
  softMean (fun i => score (fun d => q ⟨d.val, by omega⟩) (fun d => k i ⟨d.val, by omega⟩)) v
    - l * softMean (fun i => score (fun d => q ⟨64 + d.val, by omega⟩) (fun d => k i ⟨64 + d.val, by omega⟩)) v

/-- The norm over a head's 128 lanes, the gain and the closing factor. -/
def finish (x g : Fin 128 → EReal) (j : Fin 128) : EReal :=
  x j * Ideal.rsqrt (Ideal.div (∑ d, x d * x d) (Ideal.ofBits .f32 0x43000000#32) + Ideal.ofBits .f32 0x358637BD#32) * g j
    * Ideal.ofBits .f32 0x3F4CCCCD#32

end Cert.Diff

end
-- ==== Proof.Diff.Sub.lean ====
module

public import proofs.«01_k».proof.Proof.Gen.KernelIdeal.Value
public import Idealize.ShloMosaic.Lib.Pipeline.ValueKit
public import proofs.«01_k».proof.Proof.Diff.Math

@[expose] public section

/-! What one 128-row block of the attention kernel computes, element by element. -/

set_option maxRecDepth 16384

noncomputable section

namespace Cert.KernelIdeal.Diff

open Cert.KernelIdeal Cert.KernelIdeal.Gen
open Idealize.ShloMosaic Idealize.ShloMosaic.TcCoe Idealize.SL.Sem
open Idealize.ShloMosaic.Pipeline (Dat)

open Cert.Diff

theorem qscale : Named.named (F := Ideal) (φ := .f32) Cert.KernelIdeal.κ "qscale" 0x3E38AA3B#32
    = (((1 / 8) * (Real.log 2)⁻¹ : ℝ) : EReal) :=
  IdealRules.named_const.ideal_named_scalar _ _ _ _ rfl

theorem exp2_read (x : EReal) : FloatOps.exp2 (F := Ideal) (φ := .f32) x = Ideal.exp2 x := rfl

theorem lane_lt (d : Fin 128) : IntOp.cmpi .slt (BitVec.ofNat 32 d.val) 64#32 = if d.val < 64 then 1#1 else 0#1 := by
  revert d; decide +kernel

theorem lane_ge (d : Fin 128) : IntOp.cmpi .sge (BitVec.ofNat 32 d.val) 64#32 = if 64 ≤ d.val then 1#1 else 0#1 := by
  revert d; decide +kernel

/-- The first map's query lanes: scaled, the second map's set to zero. -/
theorem qlo_apply (q : Vec Ideal S128x128 .f32) (i d : Fin 128) (r : ℝ) (h : q (ix2 i d) = (r : EReal)) :
    k0_pay8 q (ix2 i d) = if d.val < 64 then ((r * (1 / 8 * (Real.log 2)⁻¹) : ℝ) : EReal) else 0 := by
  pointwise [k0_pay8, k0_pay7]
  rw [qscale, h, lane_lt, ← EReal.coe_mul]
  split <;> simp [Scalar.select]

/-- The scaled query. -/
theorem qs_apply (q : Vec Ideal S128x128 .f32) (i d : Fin 128) (r : ℝ) (h : q (ix2 i d) = (r : EReal)) :
    k0_pay7 q (ix2 i d) = ((r * (1 / 8 * (Real.log 2)⁻¹) : ℝ) : EReal) := by
  pointwise [k0_pay7]
  rw [qscale, h, ← EReal.coe_mul]

/-- The softmax mean of a block's values under the scores of one masked query. -/
theorem soft_apply (v1 : FVec Ideal S2048x128 .bf16) (v3 : FVec Ideal S256x128 .bf16) (v7 : FVec Ideal S2048x256 .bf16)
    (v11 : FVec Ideal S256x256 .bf16) (qm : FVec Ideal S128x128 .bf16) (i j : Fin 128) (s v : Fin (2048 + 256) → ℝ)
    (h1 : ∀ k : Fin 2048, ∑ d : Fin 128, qm (ix2 i d) * v1 (ix2 k d) = ((s (Fin.castAdd 256 k) * (Real.log 2)⁻¹ : ℝ) : EReal))
    (h2 : ∀ k : Fin 256, ∑ d : Fin 128, qm (ix2 i d) * v3 (ix2 k d) = ((s (Fin.natAdd 2048 k) * (Real.log 2)⁻¹ : ℝ) : EReal))
    (h3 : ∀ k : Fin 2048, v7 (ix2 k ⟨j.val, by omega⟩) = ((v (Fin.castAdd 256 k) : ℝ) : EReal))
    (h4 : ∀ k : Fin 256, v11 (ix2 k ⟨j.val, by omega⟩) = ((v (Fin.natAdd 2048 k) : ℝ) : EReal))
    (h5 : ∀ k : Fin 2048, v7 (ix2 k ⟨128 + j.val, by omega⟩) = 1)
    (h6 : ∀ k : Fin 256, v11 (ix2 k ⟨128 + j.val, by omega⟩) = 1) :
    k0_pay9 v1 v3 v7 v11 qm (constant S128x2048 .f32 0x00000000#32) (ix2 i j) = ((softMean s v : ℝ) : EReal) := by
  pointwise [k0_pay9]
  simp only [h1, h2, h3, h4, h5, h6, negInf, exp2_read]
  exact kernelMean_two s v _ rfl

/-- The second map's mean is the same function of the query with the first map's lanes set to zero. -/
theorem soft_hi (v1 : FVec Ideal S2048x128 .bf16) (v3 : FVec Ideal S256x128 .bf16) (v7 : FVec Ideal S2048x256 .bf16)
    (v11 : FVec Ideal S256x256 .bf16) (q : FVec Ideal S128x128 .bf16) (i j : Fin 128) (s v : Fin (2048 + 256) → ℝ)
    (h1 : ∀ k : Fin 2048, ∑ d : Fin 128, (if 64 ≤ d.val then q (ix2 i d) else 0) * v1 (ix2 k d)
      = ((s (Fin.castAdd 256 k) * (Real.log 2)⁻¹ : ℝ) : EReal))
    (h2 : ∀ k : Fin 256, ∑ d : Fin 128, (if 64 ≤ d.val then q (ix2 i d) else 0) * v3 (ix2 k d)
      = ((s (Fin.natAdd 2048 k) * (Real.log 2)⁻¹ : ℝ) : EReal))
    (h3 : ∀ k : Fin 2048, v7 (ix2 k ⟨j.val, by omega⟩) = ((v (Fin.castAdd 256 k) : ℝ) : EReal))
    (h4 : ∀ k : Fin 256, v11 (ix2 k ⟨j.val, by omega⟩) = ((v (Fin.natAdd 2048 k) : ℝ) : EReal))
    (h5 : ∀ k : Fin 2048, v7 (ix2 k ⟨128 + j.val, by omega⟩) = 1)
    (h6 : ∀ k : Fin 256, v11 (ix2 k ⟨128 + j.val, by omega⟩) = 1) :
    k0_pay10 v1 v3 v7 v11 (iota .tc S128x128 32 [1] iota_S128x128_d1_w32) q (ix2 i j) = ((softMean s v : ℝ) : EReal) := by
  have hs : ∀ (d : Fin 128) (y : EReal),
      Scalar.select (IntOp.cmpi .sge (BitVec.ofNat 32 d.val) 64#32) (q (ix2 i d) * y) (0 : EReal)
        = (if 64 ≤ d.val then q (ix2 i d) else 0) * y := fun d y => by
    rw [lane_ge]; split <;> simp [Scalar.select]
  pointwise [k0_pay10]
  simp only [hs, h1, h2, h3, h4, h5, h6, negInf, exp2_read]
  exact kernelMean_two s v _ rfl

theorem fin_apply (o0 o1 : Vec Ideal S128x128 .f32) (lam : Vec Ideal S1x1 .f32) (g : Vec Ideal S1x128 .f32) (i j : Fin 128) :
    k0_pay12 o0 o1 (k0_pay11 lam) g (ix2 i j)
      = finish (fun d => o0 (ix2 i d) - lam (ix2 0 0) * o1 (ix2 i d)) (fun d => g (ix2 0 d)) j := by
  pointwise [k0_pay12, k0_pay11]
  rfl

theorem lam_apply (v : Vec Ideal S4x64 .f32) (j : S1x1.Idx) : k0_pay6 v j
    = Ideal.exp (∑ x : Fin 64, v (ix2 0 x) * v (ix2 1 x)) - Ideal.exp (∑ x : Fin 64, v (ix2 2 x) * v (ix2 3 x)) + Ideal.ofBits .f32 0x3E4CCCCD#32 := by
  pointwise [k0_pay6]

theorem keys_lat (v : Vec Ideal S2048x128 .f32) (k : Fin 2048) (j : Fin 128) : k0_pay2 v (ix2 k j) = v (ix2 k j) := by
  pointwise [k0_pay2]

theorem keys_ctx (v : Vec Ideal S256x128 .f32) (k : Fin 256) (j : Fin 128) : k0_pay3 v (ix2 k j) = v (ix2 k j) := by
  pointwise [k0_pay3]

theorem vals_lat (v : Vec Ideal S2048x128 .f32) (k : Fin 2048) (j : Fin 256) :
    k0_pay4 v (ix2 k j) = if h : j.val < 128 then v (ix2 k ⟨j.val, h⟩) else 1 := by
  pointwise [k0_pay4]

theorem vals_ctx (v : Vec Ideal S256x128 .f32) (k : Fin 256) (j : Fin 256) :
    k0_pay5 v (ix2 k j) = if h : j.val < 128 then v (ix2 k ⟨j.val, h⟩) else 1 := by
  pointwise [k0_pay5]

/-- One 128-row block of queries through the body: both maps' means, their difference, the norm. -/
def subOut (kl : Vec Ideal S2048x128 .f32) (kc : Vec Ideal S256x128 .f32) (vl : Vec Ideal S2048x128 .f32)
    (vc : Vec Ideal S256x128 .f32) (lp : Vec Ideal S4x64 .f32) (q : Vec Ideal S128x128 .f32) (g : Vec Ideal S1x128 .f32) :
    FVec Ideal S128x128 .bf16 :=
  k0_pay12 (k0_pay9 (k0_pay2 kl) (k0_pay3 kc) (k0_pay4 vl) (k0_pay5 vc) (k0_pay8 q) (constant S128x2048 .f32 0x00000000#32))
    (k0_pay10 (k0_pay2 kl) (k0_pay3 kc) (k0_pay4 vl) (k0_pay5 vc) (iota .tc S128x128 32 [1] iota_S128x128_d1_w32) (k0_pay7 q))
    (k0_pay11 (k0_pay6 lp)) g

theorem sub_apply (kl : Vec Ideal S2048x128 .f32) (kc : Vec Ideal S256x128 .f32) (vl : Vec Ideal S2048x128 .f32)
    (vc : Vec Ideal S256x128 .f32) (lp : Vec Ideal S4x64 .f32) (q : Vec Ideal S128x128 .f32) (g : Vec Ideal S1x128 .f32)
    (i j : Fin 128) (Q : Fin 128 → ℝ) (K V : Fin (2048 + 256) → Fin 128 → ℝ) (l : ℝ)
    (hq : ∀ d, q (ix2 i d) = ((Q d : ℝ) : EReal))
    (hkl : ∀ k d, kl (ix2 k d) = ((K (Fin.castAdd 256 k) d : ℝ) : EReal))
    (hkc : ∀ k d, kc (ix2 k d) = ((K (Fin.natAdd 2048 k) d : ℝ) : EReal))
    (hvl : ∀ k d, vl (ix2 k d) = ((V (Fin.castAdd 256 k) d : ℝ) : EReal))
    (hvc : ∀ k d, vc (ix2 k d) = ((V (Fin.natAdd 2048 k) d : ℝ) : EReal))
    (hl : k0_pay6 lp (ix2 0 0) = (l : EReal)) :
    subOut kl kc vl vc lp q g (ix2 i j)
      = finish (fun d => ((diffMean Q K (fun k => V k d) l : ℝ) : EReal)) (fun d => g (ix2 0 d)) j := by
  rw [subOut, fin_apply]
  congr 1
  funext d
  rw [hl, diffMean, EReal.coe_sub, EReal.coe_mul]
  congr 1
  · refine soft_apply _ _ _ _ _ i d _ _ (fun k => ?_) (fun k => ?_) (fun k => ?_) (fun k => ?_) (fun k => ?_) (fun k => ?_)
    · simp only [qlo_apply q i _ _ (hq _), keys_lat, hkl]; exact masked_score_lo _ _
    · simp only [qlo_apply q i _ _ (hq _), keys_ctx, hkc]; exact masked_score_lo _ _
    · rw [vals_lat, dif_pos d.isLt, hvl]
    · rw [vals_ctx, dif_pos d.isLt, hvc]
    · rw [vals_lat, dif_neg (by simp)]
    · rw [vals_ctx, dif_neg (by simp)]
  · congr 1
    refine soft_hi _ _ _ _ _ i d _ _ (fun k => ?_) (fun k => ?_) (fun k => ?_) (fun k => ?_) (fun k => ?_) (fun k => ?_)
    · simp only [qs_apply q i _ _ (hq _), keys_lat, hkl]; exact masked_score_hi _ _
    · simp only [qs_apply q i _ _ (hq _), keys_ctx, hkc]; exact masked_score_hi _ _
    · rw [vals_lat, dif_pos d.isLt, hvl]
    · rw [vals_ctx, dif_pos d.isLt, hvc]
    · rw [vals_lat, dif_neg (by simp)]
    · rw [vals_ctx, dif_neg (by simp)]

end Cert.KernelIdeal.Diff
end
-- ==== Proof.Diff.SubCtx.lean ====
module

public import proofs.«01_k».proof.Proof.Gen.KernelIdeal.Value
public import Idealize.ShloMosaic.Lib.Pipeline.ValueKit
public import proofs.«01_k».proof.Proof.Diff.Sub

@[expose] public section

/-! What one 128-row block of context queries, which see the context keys only, computes. -/

set_option maxRecDepth 16384

noncomputable section

namespace Cert.KernelIdeal.Diff

open Cert.KernelIdeal Cert.KernelIdeal.Gen
open Idealize.ShloMosaic Idealize.ShloMosaic.TcCoe Idealize.SL.Sem
open Idealize.ShloMosaic.Pipeline (Dat)

open Cert.Diff

theorem qscaled_apply (q : Vec Ideal S128x128 .f32) (i d : Fin 128) (r : ℝ) (h : q (ix2 i d) = (r : EReal)) :
    k0_pay123 q (ix2 i d) = ((r * (1 / 8 * (Real.log 2)⁻¹) : ℝ) : EReal) := by
  pointwise [k0_pay123]
  rw [qscale, h, ← EReal.coe_mul]

theorem ctx_lo (v3 : FVec Ideal S256x128 .bf16) (v11 : FVec Ideal S256x256 .bf16) (q : Vec Ideal S128x128 .f32) (i j : Fin 128)
    (s v : Fin 256 → ℝ)
    (h2 : ∀ k : Fin 256, ∑ d : Fin 128, (if d.val < 64 then k0_pay123 q (ix2 i d) else 0) * v3 (ix2 k d)
      = ((s k * (Real.log 2)⁻¹ : ℝ) : EReal))
    (h4 : ∀ k : Fin 256, v11 (ix2 k ⟨j.val, by omega⟩) = ((v k : ℝ) : EReal))
    (h6 : ∀ k : Fin 256, v11 (ix2 k ⟨128 + j.val, by omega⟩) = 1) :
    k0_pay124 v3 v11 (iota .tc S128x128 32 [1] iota_S128x128_d1_w32) q (ix2 i j) = ((softMean s v : ℝ) : EReal) := by
  unfold k0_pay124
  generalize k0_pay123 q = p at *
  have hs : ∀ (d : Fin 128) (y : EReal),
      Scalar.select (IntOp.cmpi .slt (BitVec.ofNat 32 d.val) 64#32) (p (ix2 i d) * y) (0 : EReal)
        = (if d.val < 64 then p (ix2 i d) else 0) * y := fun d y => by
    rw [lane_lt]; split <;> simp [Scalar.select]
  pointwise
  simp only [hs, h2, h4, h6, negInf, exp2_read]
  exact kernelMean_one s v

theorem ctx_hi (v3 : FVec Ideal S256x128 .bf16) (v11 : FVec Ideal S256x256 .bf16) (q : Vec Ideal S128x128 .f32) (i j : Fin 128)
    (s v : Fin 256 → ℝ)
    (h2 : ∀ k : Fin 256, ∑ d : Fin 128, (if 64 ≤ d.val then k0_pay123 q (ix2 i d) else 0) * v3 (ix2 k d)
      = ((s k * (Real.log 2)⁻¹ : ℝ) : EReal))
    (h4 : ∀ k : Fin 256, v11 (ix2 k ⟨j.val, by omega⟩) = ((v k : ℝ) : EReal))
    (h6 : ∀ k : Fin 256, v11 (ix2 k ⟨128 + j.val, by omega⟩) = 1) :
    Ideal.div (k0_pay126 v3 v11 (iota .tc S128x128 32 [1] iota_S128x128_d1_w32) q (ix2 i j))
      (k0_pay127 v3 v11 (iota .tc S128x128 32 [1] iota_S128x128_d1_w32) q (ix2 i j)) = ((softMean s v : ℝ) : EReal) := by
  unfold k0_pay126 k0_pay127 k0_pay125
  generalize k0_pay123 q = p at *
  have hs : ∀ (d : Fin 128) (y : EReal),
      Scalar.select (IntOp.cmpi .sge (BitVec.ofNat 32 d.val) 64#32) (p (ix2 i d) * y) (0 : EReal)
        = (if 64 ≤ d.val then p (ix2 i d) else 0) * y := fun d y => by
    rw [lane_ge]; split <;> simp [Scalar.select]
  pointwise
  simp only [hs, h2, h4, h6, negInf, exp2_read]
  exact kernelMean_one s v

theorem fin_ctx (lam : Vec Ideal S1x1 .f32) (o0 a b : Vec Ideal S128x128 .f32) (g : Vec Ideal S1x128 .f32) (i j : Fin 128) :
    k0_pay128 lam o0 a b g (ix2 i j)
      = finish (fun d => o0 (ix2 i d) - lam (ix2 0 0) * Ideal.div (a (ix2 i d)) (b (ix2 i d))) (fun d => g (ix2 0 d)) j := by
  pointwise [k0_pay128]
  rfl

/-- One 128-row block of context queries through the body. -/
def subCtx (kc vc : Vec Ideal S256x128 .f32) (lp : Vec Ideal S4x64 .f32) (q : Vec Ideal S128x128 .f32) (g : Vec Ideal S1x128 .f32) :
    FVec Ideal S128x128 .bf16 :=
  k0_pay128 (k0_pay6 lp)
    (k0_pay124 (k0_pay3 kc) (k0_pay5 vc) (iota .tc S128x128 32 [1] iota_S128x128_d1_w32) q)
    (k0_pay126 (k0_pay3 kc) (k0_pay5 vc) (iota .tc S128x128 32 [1] iota_S128x128_d1_w32) q)
    (k0_pay127 (k0_pay3 kc) (k0_pay5 vc) (iota .tc S128x128 32 [1] iota_S128x128_d1_w32) q) g

theorem subCtx_apply (kc vc : Vec Ideal S256x128 .f32) (lp : Vec Ideal S4x64 .f32) (q : Vec Ideal S128x128 .f32)
    (g : Vec Ideal S1x128 .f32) (i j : Fin 128) (Q : Fin 128 → ℝ) (K V : Fin 256 → Fin 128 → ℝ) (l : ℝ)
    (hq : ∀ d, q (ix2 i d) = ((Q d : ℝ) : EReal))
    (hkc : ∀ k d, kc (ix2 k d) = ((K k d : ℝ) : EReal))
    (hvc : ∀ k d, vc (ix2 k d) = ((V k d : ℝ) : EReal))
    (hl : k0_pay6 lp (ix2 0 0) = (l : EReal)) :
    subCtx kc vc lp q g (ix2 i j)
      = finish (fun d => ((diffMean Q K (fun k => V k d) l : ℝ) : EReal)) (fun d => g (ix2 0 d)) j := by
  rw [subCtx, fin_ctx]
  congr 1
  funext d
  rw [hl, diffMean, EReal.coe_sub, EReal.coe_mul]
  congr 1
  · refine ctx_lo _ _ _ i d _ _ (fun k => ?_) (fun k => ?_) (fun k => ?_)
    · simp only [qscaled_apply q i _ _ (hq _), keys_ctx, hkc]; exact masked_score_lo _ _
    · rw [vals_ctx, dif_pos d.isLt, hvc]
    · rw [vals_ctx, dif_neg (by simp)]
  · congr 1
    refine ctx_hi _ _ _ i d _ _ (fun k => ?_) (fun k => ?_) (fun k => ?_)
    · simp only [qscaled_apply q i _ _ (hq _), keys_ctx, hkc]; exact masked_score_hi _ _
    · rw [vals_ctx, dif_pos d.isLt, hvc]
    · rw [vals_ctx, dif_neg (by simp)]

end Cert.KernelIdeal.Diff
end
-- ==== Proof.Diff.Spec.lean ====
module

public import proofs.«01_k».proof.Proof.Diff.Math
public import Idealize.ShloMosaic.Lib.Pointwise.Index

/-! The two results of differential attention at a row and column, from the projection's real entries `X`: columns
    4096.. hold the queries, 5120.. the keys, 6144.. the values; rows 0..8191 the four batches' 2048 latent rows each, rows
    8192.. their 256 context rows each. -/

@[expose] public section

noncomputable section

namespace Cert.Diff

open Idealize.ShloMosaic

/-- A row of keys (or values, by the column they start at) of batch `b`, head `h`: the 2048 latent rows, then the 256
    context rows. -/
def rowsAll (X : ℕ → ℕ → ℝ) (col b h : ℕ) (k : Fin (2048 + 256)) (d : Fin 128) : ℝ :=
  X (if k.val < 2048 then b * 2048 + k.val else 8192 + b * 256 + (k.val - 2048)) (col + h * 128 + d.val)

/-- The context rows alone. -/
def rowsCtx (X : ℕ → ℕ → ℝ) (col b h : ℕ) (k : Fin 256) (d : Fin 128) : ℝ :=
  X (8192 + b * 256 + k.val) (col + h * 128 + d.val)

/-- The latent result at row `R`, column `C`. -/
def latOut (X : ℕ → ℕ → ℝ) (l : ℝ) (g : Fin 128 → EReal) (R C : ℕ) : EReal :=
  finish (fun d => ((diffMean (fun e => X R (4096 + C / 128 * 128 + e.val)) (rowsAll X 5120 (R / 2048) (C / 128))
    (fun k => rowsAll X 6144 (R / 2048) (C / 128) k d) l : ℝ) : EReal)) g ⟨C % 128, Nat.mod_lt _ (by decide)⟩

/-- The context result at row `R`, column `C`. -/
def ctxOut (X : ℕ → ℕ → ℝ) (l : ℝ) (g : Fin 128 → EReal) (R C : ℕ) : EReal :=
  finish (fun d => ((diffMean (fun e => X (8192 + R) (4096 + C / 128 * 128 + e.val)) (rowsCtx X 5120 (R / 256) (C / 128))
    (fun k => rowsCtx X 6144 (R / 256) (C / 128) k d) l : ℝ) : EReal)) g ⟨C % 128, Nat.mod_lt _ (by decide)⟩

/-- The weight of the second map, as the body and the reference compute it from the four parameter rows. -/
def lamOf (v : (⟨2, ![4, 64]⟩ : Shape).Idx → EReal) : EReal :=
  Ideal.exp (∑ x : Fin 64, v (ix2 0 x) * v (ix2 1 x)) - Ideal.exp (∑ x : Fin 64, v (ix2 2 x) * v (ix2 3 x))
    + Ideal.ofBits .f32 0x3E4CCCCD#32

end Cert.Diff

end
-- ==== Proof.Diff.Kernel.lean ====
module

public import proofs.«01_k».proof.Proof.Diff.SubCtx
public import proofs.«01_k».proof.Proof.Diff.Spec

/-! What the attention kernel's two result arrays hold after the run, element by element. -/

@[expose] public section

set_option maxRecDepth 16384

noncomputable section

namespace Cert.KernelIdeal.Diff

open Cert.Diff
open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8, 32 + t.val % 8] ∧ win0_1.index t = ![t.val / 8, 40 + t.val % 8]
    ∧ win0_2.index t = ![32 + t.val / 8, 40 + t.val % 8] ∧ win0_3.index t = ![t.val / 8, 48 + t.val % 8]
    ∧ win0_4.index t = ![32 + t.val / 8, 48 + t.val % 8] ∧ win0_5.index t = ![0, 0] ∧ win0_6.index t = ![0, 0]
    ∧ win0_7.index t = ![32 + t.val / 8, 32 + t.val % 8] ∧ win0_8.index t = ![t.val / 8, t.val % 8]
    ∧ win0_9.index t = ![t.val / 8, t.val % 8] := (by decide +kernel : ∀ t : Fin grid0.N, _)

/-- The blocks the body reads, as elements of the argument arrays. -/
theorem x1 (c : Dev nD) (t : Fin cfg0.N) (k : Fin 2048) (d : Fin 128) (y : S9216x7168.Idx)
   (h0 : (y 0).val = t.val / 8 * 2048 + k.val) (h1 : (y 1).val = (40 + t.val % 8) * 128 + d.val) :
   X0_1 m c t (ix2 k d) = m ((c : Thread nD τ).loc main_arg0) y := by
  unfold X0_1 Pipeline.Window.fill
  rw [dif_pos (moved0_1 t _)]
  blk_ext [iblk, V, idx t]

theorem x2 (c : Dev nD) (t : Fin cfg0.N) (k : Fin 256) (d : Fin 128) (y : S9216x7168.Idx)
   (h0 : (y 0).val = (32 + t.val / 8) * 256 + k.val) (h1 : (y 1).val = (40 + t.val % 8) * 128 + d.val) :
   iblk m c 2 t (ix2 k d) = m ((c : Thread nD τ).loc main_arg0) y := by
  blk_ext [iblk, V, idx t]

theorem x3 (c : Dev nD) (t : Fin cfg0.N) (k : Fin 2048) (d : Fin 128) (y : S9216x7168.Idx)
   (h0 : (y 0).val = t.val / 8 * 2048 + k.val) (h1 : (y 1).val = (48 + t.val % 8) * 128 + d.val) :
   X0_3 m c t (ix2 k d) = m ((c : Thread nD τ).loc main_arg0) y := by
  unfold X0_3 Pipeline.Window.fill
  rw [dif_pos (moved0_3 t _)]
  blk_ext [iblk, V, idx t]

theorem x4 (c : Dev nD) (t : Fin cfg0.N) (k : Fin 256) (d : Fin 128) (y : S9216x7168.Idx)
   (h0 : (y 0).val = (32 + t.val / 8) * 256 + k.val) (h1 : (y 1).val = (48 + t.val % 8) * 128 + d.val) :
   iblk m c 4 t (ix2 k d) = m ((c : Thread nD τ).loc main_arg0) y := by
  blk_ext [iblk, V, idx t]

theorem x5 (c : Dev nD) (t : Fin cfg0.N) (k : Fin 4) (d : Fin 64) :
   iblk m c 5 t (ix2 k d) = m ((c : Thread nD τ).loc main_arg1) (ix2 k d) := by
  blk_ext [iblk, V, idx t]

theorem x6 (c : Dev nD) (t : Fin cfg0.N) (k : Fin 1) (d : Fin 128) :
   iblk m c 6 t (ix2 k d) = m ((c : Thread nD τ).loc main_arg2) (ix1 d) := by
  blk_simp [iblk]
  entry_read
  pointwise
  blk_ext [V, idx t]

theorem q8 (c : Dev nD) (t : Fin cfg0.N) (off : Nat) (hb) (i : Fin 128) (d : Fin 128) (y : S9216x7168.Idx)
   (h0 : (y 0).val = t.val / 8 * 2048 + (off + i.val)) (h1 : (y 1).val = (32 + t.val % 8) * 128 + d.val) :
   View.ld (X0_0 m c t) (Rect.unit ![off, 0] ![128, 128] hb) (ix2 i d) = m ((c : Thread nD τ).loc main_arg0) y := by
  rw [View.ld_apply]
  unfold X0_0 Pipeline.Window.fill
  rw [dif_pos (moved0_0 t _)]
  blk_ext [iblk, V, idx t]
  all_goals (simp [Rect.idx_unit_val]; omega)

theorem q9 (c : Dev nD) (t : Fin cfg0.N) (off : Nat) (hb) (i : Fin 128) (d : Fin 128) (y : S9216x7168.Idx)
   (h0 : (y 0).val = (32 + t.val / 8) * 256 + (off + i.val)) (h1 : (y 1).val = (32 + t.val % 8) * 128 + d.val) :
   View.ld (iblk m c 7 t) (Rect.unit ![off, 0] ![128, 128] hb) (ix2 i d) = m ((c : Thread nD τ).loc main_arg0) y := by
  rw [View.ld_apply]
  blk_ext [iblk, V, idx t]
  all_goals (simp [Rect.idx_unit_val]; omega)

theorem lam_at (c : Dev nD) (t : Fin cfg0.N) :
    k0_pay6 (iblk m c 5 t) (ix2 0 0) = lamOf (m ((c : Thread nD τ).loc main_arg1)) := by
  rw [lam_apply]; simp only [x5, lamOf]

section
variable (c : Dev nD) (X : ℕ → ℕ → ℝ) (l : ℝ)
  (hX : ∀ i : S9216x7168.Idx, m ((c : Thread nD τ).loc main_arg0) i = ((X (i 0).val (i 1).val : ℝ) : EReal))
  (hl : lamOf (m ((c : Thread nD τ).loc main_arg1)) = (l : EReal))
include hX hl

theorem tile8 (t : Fin cfg0.N) (off : Nat) (hb) (x : S128x128.Idx) (R C : ℕ) (ho : off + (x 0).val < 2048)
    (hR : R = t.val / 8 * 2048 + (off + (x 0).val)) (hC : C = t.val % 8 * 128 + (x 1).val) :
    subOut (X0_1 m c t) (iblk m c 2 t) (X0_3 m c t) (iblk m c 4 t) (iblk m c 5 t)
      (View.ld (X0_0 m c t) (Rect.unit ![off, 0] ![128, 128] hb)) (iblk m c 6 t) x
      = latOut X l (fun d => m ((c : Thread nD τ).loc main_arg2) (ix1 d)) R C := by
  have ht : t.val < 32 := t.isLt
  obtain ⟨i, j, rfl⟩ : ∃ (i j : Fin 128), x = ix2 i j :=
    ⟨x 0, x 1, funext fun a => match a with | ⟨0, _⟩ => rfl | ⟨1, _⟩ => rfl⟩
  have e0 : (((ix2 i j : S128x128.Idx) 0 : Fin _) : ℕ) = i.val := rfl
  have e1 : (((ix2 i j : S128x128.Idx) 1 : Fin _) : ℕ) = j.val := rfl
  rw [e0] at hR ho
  rw [e1] at hC
  have hb2 : R / 2048 = t.val / 8 := by omega
  have hc2 : C / 128 = t.val % 8 := by omega
  have hj : (⟨C % 128, Nat.mod_lt _ (by decide)⟩ : Fin 128) = j := Fin.ext (by show C % 128 = j.val; omega)
  rw [latOut, hj, hb2, hc2]
  simp only [← x6 m c t 0]
  refine sub_apply _ _ _ _ _ _ _ i j _ _ _ l (fun d => ?_) (fun k d => ?_) (fun k d => ?_) (fun k d => ?_) (fun k d => ?_)
    ((lam_at m c t).trans hl)
  · rw [q8 m c t off hb i d (ix2 ⟨R, by omega⟩ ⟨4096 + t.val % 8 * 128 + d.val, by omega⟩) (by show R = _; omega)
      (by show 4096 + t.val % 8 * 128 + d.val = _; omega), hX]; rfl
  · rw [x1 m c t k d (ix2 ⟨t.val / 8 * 2048 + k.val, by omega⟩ ⟨5120 + t.val % 8 * 128 + d.val, by omega⟩) rfl
      (by show 5120 + t.val % 8 * 128 + d.val = _; omega), hX]
    simp [rowsAll, ix2]
  · rw [x2 m c t k d (ix2 ⟨8192 + t.val / 8 * 256 + k.val, by omega⟩ ⟨5120 + t.val % 8 * 128 + d.val, by omega⟩)
      (by show 8192 + t.val / 8 * 256 + k.val = _; omega) (by show 5120 + t.val % 8 * 128 + d.val = _; omega), hX]
    simp [rowsAll, ix2]
  · rw [x3 m c t k d (ix2 ⟨t.val / 8 * 2048 + k.val, by omega⟩ ⟨6144 + t.val % 8 * 128 + d.val, by omega⟩) rfl
      (by show 6144 + t.val % 8 * 128 + d.val = _; omega), hX]
    simp [rowsAll, ix2]
  · rw [x4 m c t k d (ix2 ⟨8192 + t.val / 8 * 256 + k.val, by omega⟩ ⟨6144 + t.val % 8 * 128 + d.val, by omega⟩)
      (by show 8192 + t.val / 8 * 256 + k.val = _; omega) (by show 6144 + t.val % 8 * 128 + d.val = _; omega), hX]
    simp [rowsAll, ix2]

theorem tile9 (t : Fin cfg0.N) (off : Nat) (hb) (x : S128x128.Idx) (R C : ℕ) (ho : off + (x 0).val < 256)
    (hR : R = t.val / 8 * 256 + (off + (x 0).val)) (hC : C = t.val % 8 * 128 + (x 1).val) :
    subCtx (iblk m c 2 t) (iblk m c 4 t) (iblk m c 5 t)
      (View.ld (iblk m c 7 t) (Rect.unit ![off, 0] ![128, 128] hb)) (iblk m c 6 t) x
      = ctxOut X l (fun d => m ((c : Thread nD τ).loc main_arg2) (ix1 d)) R C := by
  have ht : t.val < 32 := t.isLt
  obtain ⟨i, j, rfl⟩ : ∃ (i j : Fin 128), x = ix2 i j :=
    ⟨x 0, x 1, funext fun a => match a with | ⟨0, _⟩ => rfl | ⟨1, _⟩ => rfl⟩
  have e0 : (((ix2 i j : S128x128.Idx) 0 : Fin _) : ℕ) = i.val := rfl
  have e1 : (((ix2 i j : S128x128.Idx) 1 : Fin _) : ℕ) = j.val := rfl
  rw [e0] at hR ho
  rw [e1] at hC
  have hb2 : R / 256 = t.val / 8 := by omega
  have hc2 : C / 128 = t.val % 8 := by omega
  have hj : (⟨C % 128, Nat.mod_lt _ (by decide)⟩ : Fin 128) = j := Fin.ext (by show C % 128 = j.val; omega)
  rw [ctxOut, hj, hb2, hc2]
  simp only [← x6 m c t 0]
  refine subCtx_apply _ _ _ _ _ i j _ _ _ l (fun d => ?_) (fun k d => ?_) (fun k d => ?_) ((lam_at m c t).trans hl)
  · rw [q9 m c t off hb i d (ix2 ⟨8192 + R, by omega⟩ ⟨4096 + t.val % 8 * 128 + d.val, by omega⟩) (by show 8192 + R = _; omega)
      (by show 4096 + t.val % 8 * 128 + d.val = _; omega), hX]; rfl
  · rw [x2 m c t k d (ix2 ⟨8192 + t.val / 8 * 256 + k.val, by omega⟩ ⟨5120 + t.val % 8 * 128 + d.val, by omega⟩)
      (by show 8192 + t.val / 8 * 256 + k.val = _; omega) (by show 5120 + t.val % 8 * 128 + d.val = _; omega), hX]
    rfl
  · rw [x4 m c t k d (ix2 ⟨8192 + t.val / 8 * 256 + k.val, by omega⟩ ⟨6144 + t.val % 8 * 128 + d.val, by omega⟩)
      (by show 8192 + t.val / 8 * 256 + k.val = _; omega) (by show 6144 + t.val % 8 * 128 + d.val = _; omega), hX]
    rfl

theorem point8 (t : Fin cfg0.N) (y : S2048x128.Idx) : (outsAt0 m c t).1 y
    = latOut X l (fun d => m ((c : Thread nD τ).loc main_arg2) (ix1 d)) (t.val / 8 * 2048 + (y 0).val) (t.val % 8 * 128 + (y 1).val) := by
  have H := fun (off : Nat) (hb) (x : S128x128.Idx) (ho : off + (x 0).val < 2048) (h0 : (y 0).val = off + (x 0).val) (h1 : (y 1).val = (x 1).val) =>
    tile8 m c X l hX hl t off hb x (t.val / 8 * 2048 + (y 0).val) (t.val % 8 * 128 + (y 1).val) ho (by omega) (by omega)
  unfold Gen.outsAt0
  frame_out
  canon_tiles x h
  all_goals exact H _ _ x (by omega) (by omega) (by omega)

theorem point9 (t : Fin cfg0.N) (y : S256x128.Idx) : (outsAt0 m c t).2 y
    = ctxOut X l (fun d => m ((c : Thread nD τ).loc main_arg2) (ix1 d)) (t.val / 8 * 256 + (y 0).val) (t.val % 8 * 128 + (y 1).val) := by
  have H := fun (off : Nat) (hb) (x : S128x128.Idx) (ho : off + (x 0).val < 256) (h0 : (y 0).val = off + (x 0).val) (h1 : (y 1).val = (x 1).val) =>
    tile9 m c X l hX hl t off hb x (t.val / 8 * 256 + (y 0).val) (t.val % 8 * 128 + (y 1).val) ho (by omega) (by omega)
  unfold Gen.outsAt0
  frame_out
  canon_tiles x h
  all_goals exact H _ _ x (by omega) (by omega) (by omega)

/-- The latent result after the run. -/
theorem final8 : (dats m 0 c).arrAt 8 cfg0.N
    = fun i => latOut X l (fun d => m ((c : Thread nD τ).loc main_arg2) (ix1 d)) (i 0).val (i 1).val := by
  refine (dats m 0 c).arrAt_eq_of_covers 8 _ (by decide +kernel) fun t hf y => ?_
  blk_simp [idx t]
  rw [after0_8]
  exact point8 m c X l hX hl t y

/-- The context result after the run. -/
theorem final9 : (dats m 0 c).arrAt 9 cfg0.N
    = fun i => ctxOut X l (fun d => m ((c : Thread nD τ).loc main_arg2) (ix1 d)) (i 0).val (i 1).val := by
  refine (dats m 0 c).arrAt_eq_of_covers 9 _ (by decide +kernel) fun t hf y => ?_
  blk_simp [idx t]
  rw [after0_9]
  exact point9 m c X l hX hl t y

end

end Cert.KernelIdeal.Diff
end
-- ==== Proof.Diff.Reference.lean ====
module

public import proofs.«01_k».proof.Proof.Gen.ReferenceIdeal.Read
public import proofs.«01_k».proof.Proof.Diff.Spec
public import Idealize.ShloMosaic.Lib.Pipeline.ValueKit

/-! The reference's two results, element by element. -/

@[expose] public section

set_option maxRecDepth 16384

noncomputable section

namespace Cert.ReferenceIdeal.Diff

open Cert.ReferenceIdeal Cert.ReferenceIdeal.Gen Cert.ReferenceIdeal.Read Cert.Diff
open Idealize.ShloMosaic Idealize.ShloMosaic.TcCoe Idealize.SL.Sem

/-- A sum over the indices of a vector. -/
theorem sum_one (f : S64.Idx → EReal) : ∑ j, f j = ∑ k : Fin 64, f (ix1 k) :=
  Fintype.sum_equiv ⟨fun j => j 0, fun k => ix1 k, fun j => funext fun a => match a with | ⟨0, _⟩ => rfl, fun _ => rfl⟩ _ _ fun j =>
    congrArg f (funext fun a => match a with | ⟨0, _⟩ => rfl)

/-- The weight of the second map. -/
theorem lam_at (x1 : (⟨S4x64, .f32⟩ : BufTy).Contents (Elt Ideal)) (i : S_.Idx) : val_main_v37 (F := Ideal) x1 i = lamOf x1 := by
  rw [val_main_v37_apply, val_main_v36_apply, val_main_v28_apply, val_main_v35_apply, val_main_v27_apply, val_main_v34_apply]
  have e1 : ∀ k : Fin 64, val_main_v26 (F := Ideal) x1 (ix1 k) = x1 (ix2 0 k) * x1 (ix2 1 k) := fun k => by
    rw [val_main_v26_apply, val_main_v23_apply, val_main_v22_apply, val_main_v25_apply, val_main_v24_apply]
    refine congrArg₂ (fun a b => x1 a * x1 b) ?_ ?_ <;>
      exact funext fun a => Fin.ext (by match a with | ⟨0, _⟩ => (simp [ix2]) | ⟨1, _⟩ => (simp [ix2]))
  have e2 : ∀ k : Fin 64, val_main_v33 (F := Ideal) x1 (ix1 k) = x1 (ix2 2 k) * x1 (ix2 3 k) := fun k => by
    rw [val_main_v33_apply, val_main_v30_apply, val_main_v29_apply, val_main_v32_apply, val_main_v31_apply]
    refine congrArg₂ (fun a b => x1 a * x1 b) ?_ ?_ <;>
      exact funext fun a => Fin.ext (by match a with | ⟨0, _⟩ => (simp [ix2]) | ⟨1, _⟩ => (simp [ix2]))
  rw [sum_one, sum_one]
  simp only [e1, e2]
  refine congrArg₂ (· + ·) (congrArg₂ (· - ·) (congrArg Ideal.exp ?_) (congrArg Ideal.exp ?_)) rfl
  · exact (congrArg (· + _) zero32).trans (zero_add _)
  · exact (congrArg (· + _) zero32).trans (zero_add _)

section
variable (x0 : (⟨S9216x7168, .f32⟩ : BufTy).Contents (Elt Ideal)) (X : ℕ → ℕ → ℝ)
  (hX : ∀ i : S9216x7168.Idx, x0 i = ((X (i 0).val (i 1).val : ℝ) : EReal))
include hX

/-- The latent query rows, both maps, by batch and head. -/
theorem q_lat (b : Fin 4) (u : Fin 2) (h : Fin 8) (r : Fin 2048) (d : Fin 64) :
    val_main_v11 (F := Ideal) x0 (ix5 b u h r d) = ((X (b.val * 2048 + r.val) (4096 + h.val * 128 + (64 * u.val + d.val)) : ℝ) : EReal) := by
  rw [val_main_v11_apply, val_main_v10_apply, val_main_v2_apply, val_main_v1_apply, val_main_v0_apply, hX]
  congr 2
  · simp [ix5]
    omega
  · simp [ix5]
    omega

/-- The latent key rows, both maps, by batch and head. -/
theorem k_lat (b : Fin 4) (u : Fin 2) (h : Fin 8) (r : Fin 2048) (d : Fin 64) :
    val_main_v13 (F := Ideal) x0 (ix5 b u h r d) = ((X (b.val * 2048 + r.val) (5120 + h.val * 128 + (64 * u.val + d.val)) : ℝ) : EReal) := by
  rw [val_main_v13_apply, val_main_v12_apply, val_main_v3_apply, val_main_v1_apply, val_main_v0_apply, hX]
  congr 2
  · simp [ix5]
    omega
  · simp [ix5]
    omega

/-- The context query rows, both maps, by batch and head. -/
theorem q_ctx (b : Fin 4) (u : Fin 2) (h : Fin 8) (r : Fin 256) (d : Fin 64) :
    val_main_v15 (F := Ideal) x0 (ix5 b u h r d) = ((X (8192 + b.val * 256 + r.val) (4096 + h.val * 128 + (64 * u.val + d.val)) : ℝ) : EReal) := by
  rw [val_main_v15_apply, val_main_v14_apply, val_main_v7_apply, val_main_v6_apply, val_main_v5_apply, hX]
  congr 2
  · simp [ix5]
    omega
  · simp [ix5]
    omega

/-- The context key rows, both maps, by batch and head. -/
theorem k_ctx (b : Fin 4) (u : Fin 2) (h : Fin 8) (r : Fin 256) (d : Fin 64) :
    val_main_v17 (F := Ideal) x0 (ix5 b u h r d) = ((X (8192 + b.val * 256 + r.val) (5120 + h.val * 128 + (64 * u.val + d.val)) : ℝ) : EReal) := by
  rw [val_main_v17_apply, val_main_v16_apply, val_main_v8_apply, val_main_v6_apply, val_main_v5_apply, hX]
  congr 2
  · simp [ix5]
    omega
  · simp [ix5]
    omega

theorem v_lat (b : Fin 4) (h : Fin 8) (r : Fin 2048) (d : Fin 128) :
    val_main_v19 (F := Ideal) x0 (ix4 b h r d) = ((X (b.val * 2048 + r.val) (6144 + h.val * 128 + d.val) : ℝ) : EReal) := by
  rw [val_main_v19_apply, val_main_v18_apply, val_main_v4_apply, val_main_v1_apply, val_main_v0_apply, hX]
  congr 2
  · simp [ix4]
    omega
  · simp [ix4]
    omega

theorem v_ctx (b : Fin 4) (h : Fin 8) (r : Fin 256) (d : Fin 128) :
    val_main_v21 (F := Ideal) x0 (ix4 b h r d) = ((X (8192 + b.val * 256 + r.val) (6144 + h.val * 128 + d.val) : ℝ) : EReal) := by
  rw [val_main_v21_apply, val_main_v20_apply, val_main_v9_apply, val_main_v6_apply, val_main_v5_apply, hX]
  congr 2
  · simp [ix4]
    omega
  · simp [ix4]
    omega

/-- The keys of both streams. -/
theorem k_all (b : Fin 4) (u : Fin 2) (h : Fin 8) (k : Fin 2304) (d : Fin 64) :
    val_main_v38 (F := Ideal) x0 (ix5 b u h k d) = ((rowsAll X 5120 b.val h.val k ⟨64 * u.val + d.val, by omega⟩ : ℝ) : EReal) := by
  unfold val_main_v38
  by_cases hk : k.val < 2048
  · rw [concatenate_pair_apply_left (s₁ := S4x2x8x2048x64) (s₂ := S4x2x8x256x64) 3 _ _ _ (ix5 b u h k d) rfl (ix5 b u h (⟨k.val, hk⟩ : Fin 2048) d)
      (fun a => match a with | ⟨0, _⟩ => rfl | ⟨1, _⟩ => rfl | ⟨2, _⟩ => rfl | ⟨3, _⟩ => rfl | ⟨4, _⟩ => rfl), k_lat x0 X hX, rowsAll, if_pos hk]
  · rw [concatenate_pair_apply_right (s₁ := S4x2x8x2048x64) (s₂ := S4x2x8x256x64) 3 _ _ _ (ix5 b u h k d) rfl rfl (ix5 b u h (⟨k.val - 2048, by omega⟩ : Fin 256) d)
      (fun a ha => match a, ha with | ⟨0, _⟩, _ => rfl | ⟨1, _⟩, _ => rfl | ⟨2, _⟩, _ => rfl | ⟨3, _⟩, ha => absurd rfl ha | ⟨4, _⟩, _ => rfl)
      (by show k.val - 2048 + 2048 = k.val; omega), k_ctx x0 X hX, rowsAll, if_neg hk]

/-- The values of both streams. -/
theorem v_all (b : Fin 4) (h : Fin 8) (k : Fin 2304) (d : Fin 128) :
    val_main_v39 (F := Ideal) x0 (ix4 b h k d) = ((rowsAll X 6144 b.val h.val k d : ℝ) : EReal) := by
  unfold val_main_v39
  by_cases hk : k.val < 2048
  · rw [concatenate_pair_apply_left (s₁ := S4x8x2048x128) (s₂ := S4x8x256x128) 2 _ _ _ (ix4 b h k d) rfl (ix4 b h (⟨k.val, hk⟩ : Fin 2048) d)
      (fun a => match a with | ⟨0, _⟩ => rfl | ⟨1, _⟩ => rfl | ⟨2, _⟩ => rfl | ⟨3, _⟩ => rfl), v_lat x0 X hX, rowsAll, if_pos hk]
  · rw [concatenate_pair_apply_right (s₁ := S4x8x2048x128) (s₂ := S4x8x256x128) 2 _ _ _ (ix4 b h k d) rfl rfl (ix4 b h (⟨k.val - 2048, by omega⟩ : Fin 256) d)
      (fun a ha => match a, ha with | ⟨0, _⟩, _ => rfl | ⟨1, _⟩, _ => rfl | ⟨2, _⟩, ha => absurd rfl ha | ⟨3, _⟩, _ => rfl)
      (by show k.val - 2048 + 2048 = k.val; omega), v_ctx x0 X hX, rowsAll, if_neg hk]

/-- A score. -/
theorem s_q_lat (b : Fin 4) (u : Fin 2) (h : Fin 8) (r : Fin 2048) (k : Fin 2304) :
    val_main_v42 (F := Ideal) x0 (ix5 b u h r k) = ((score (fun e => (fun d : Fin 128 => X (b.val * 2048 + r.val) (4096 + h.val * 128 + d.val)) ⟨64 * u.val + e.val, by omega⟩) (fun e => rowsAll X 5120 b.val h.val k ⟨64 * u.val + e.val, by omega⟩) : ℝ) : EReal) := by
  rw [val_main_v42_apply, val_main_v40_apply, val_main_v41_apply]
  have e : ∀ d : Fin 64, val_main_v11 (F := Ideal) x0 (lidx_main_v40 (ix5 b u h r k) d) * val_main_v38 (F := Ideal) x0 (ridx_main_v40 (ix5 b u h r k) d)
      = ((X (b.val * 2048 + r.val) (4096 + h.val * 128 + (64 * u.val + d.val)) * rowsAll X 5120 b.val h.val k ⟨64 * u.val + d.val, by omega⟩ : ℝ) : EReal) := fun d => by
    have el : lidx_main_v40 (ix5 b u h r k) d = ix5 b u h r d :=
      funext fun a => match a with | ⟨0, _⟩ => rfl | ⟨1, _⟩ => rfl | ⟨2, _⟩ => rfl | ⟨3, _⟩ => rfl | ⟨4, _⟩ => rfl
    have er : ridx_main_v40 (ix5 b u h r k) d = ix5 b u h k d :=
      funext fun a => match a with | ⟨0, _⟩ => rfl | ⟨1, _⟩ => rfl | ⟨2, _⟩ => rfl | ⟨3, _⟩ => rfl | ⟨4, _⟩ => rfl
    rw [el, er, EReal.coe_mul, q_lat x0 X hX, k_all x0 X hX]
  simp only [e, coe_sum]
  show _ * Ideal.ofBits .f32 0x3E000000#32 = _
  rw [eighth, ← EReal.coe_mul]
  rfl

/-- The maximum the reference subtracts is a real. -/
theorem max_q_lat (b : Fin 4) (u : Fin 2) (h : Fin 8) (r : Fin 2048) :
    ∃ M : ℝ, val_main_v45 (F := Ideal) x0 (ix4 b u h r) = (M : EReal) := by
  have hr : ∃ M : ℝ, val_main_v43 (F := Ideal) x0 (ix4 b u h r) = (M : EReal) := by
    unfold val_main_v43
    rw [Host.reduce_eq_fold_single (FloatOps.maximumf (F := Ideal) (φ := .f32)) _ _ reducesTo_S4x2x8x2048x2304_S4x2x8x2048_d4 (by decide)]
    obtain ⟨M, hM⟩ := fold_max_real (Finset.univ : Finset (Fin 2304)) ⟨⟨0, by decide⟩, Finset.mem_univ _⟩ (fun k => score (fun e => (fun d : Fin 128 => X (b.val * 2048 + r.val) (4096 + h.val * 128 + d.val)) ⟨64 * u.val + e.val, by omega⟩) (fun e => rowsAll X 5120 b.val h.val k ⟨64 * u.val + e.val, by omega⟩))
    refine ⟨M, ?_⟩
    rw [← hM]
    show Finset.fold max (Ideal.ofBits .f32 0xFF800000#32) _ _ = _
    rw [negInf]
    refine Finset.fold_congr fun k _ => ?_
    rw [← s_q_lat x0 X hX b u h r k]
    exact congrArg (val_main_v42 (F := Ideal) x0)
      (funext fun a => Fin.ext (by match a with | ⟨0, _⟩ => rfl | ⟨1, _⟩ => rfl | ⟨2, _⟩ => rfl | ⟨3, _⟩ => rfl | ⟨4, _⟩ => rfl))
  obtain ⟨M, hM⟩ := hr
  refine ⟨M, ?_⟩
  rw [val_main_v45_apply, hM, val_main_v44_apply]
  show max (Ideal.ofBits .f32 0xFF800000#32) _ = _
  rw [negInf]
  exact max_eq_right bot_le

/-- A softmax weight, for the real number subtracted from the row's scores. -/
theorem w_q_lat (b : Fin 4) (u : Fin 2) (h : Fin 8) (r : Fin 2048) :
    ∃ M : ℝ, ∀ k : Fin 2304, val_main_v53 (F := Ideal) x0 (ix5 b u h r k)
      = ((Real.exp (score (fun e => (fun d : Fin 128 => X (b.val * 2048 + r.val) (4096 + h.val * 128 + d.val)) ⟨64 * u.val + e.val, by omega⟩) (fun e => rowsAll X 5120 b.val h.val k ⟨64 * u.val + e.val, by omega⟩) - M)
        / ∑ i : Fin 2304, Real.exp (score (fun e => (fun d : Fin 128 => X (b.val * 2048 + r.val) (4096 + h.val * 128 + d.val)) ⟨64 * u.val + e.val, by omega⟩) (fun e => rowsAll X 5120 b.val h.val i ⟨64 * u.val + e.val, by omega⟩) - M) : ℝ) : EReal) := by
  obtain ⟨M, hM⟩ := max_q_lat x0 X hX b u h r
  refine ⟨M, fun k => ?_⟩
  haveI : Nonempty (Fin 2304) := ⟨⟨0, by decide⟩⟩
  rw [← refWeight (fun i : Fin 2304 => score (fun e => (fun d : Fin 128 => X (b.val * 2048 + r.val) (4096 + h.val * 128 + d.val)) ⟨64 * u.val + e.val, by omega⟩) (fun e => rowsAll X 5120 b.val h.val i ⟨64 * u.val + e.val, by omega⟩)) M k, val_main_v53_apply]
  have he : ∀ i : Fin 2304, val_main_v49 (F := Ideal) x0 (ix5 b u h r i)
      = Ideal.exp (((score (fun e => (fun d : Fin 128 => X (b.val * 2048 + r.val) (4096 + h.val * 128 + d.val)) ⟨64 * u.val + e.val, by omega⟩) (fun e => rowsAll X 5120 b.val h.val i ⟨64 * u.val + e.val, by omega⟩) : ℝ) : EReal) - (M : EReal)) := fun i => by
    rw [val_main_v49_apply, val_main_v48_apply, val_main_v47_apply, val_main_v46_apply, s_q_lat x0 X hX]
    have ei : idx_main_v46 (idx_main_v47 (ix5 b u h r i)) = ix4 b u h r :=
      funext fun a => match a with | ⟨0, _⟩ => rfl | ⟨1, _⟩ => rfl | ⟨2, _⟩ => rfl | ⟨3, _⟩ => rfl
    rw [ei, hM]
    rfl
  have hs : val_main_v52 (F := Ideal) x0 (ix5 b u h r k) = 0 + ∑ i : Fin 2304,
      Ideal.exp (((score (fun e => (fun d : Fin 128 => X (b.val * 2048 + r.val) (4096 + h.val * 128 + d.val)) ⟨64 * u.val + e.val, by omega⟩) (fun e => rowsAll X 5120 b.val h.val i ⟨64 * u.val + e.val, by omega⟩) : ℝ) : EReal) - (M : EReal)) := by
    rw [val_main_v52_apply, val_main_v51_apply, val_main_v50_apply]
    refine congrArg₂ (· + ·) zero32 (Finset.sum_congr rfl fun i _ => ?_)
    rw [← he i]
    exact congrArg (val_main_v49 (F := Ideal) x0)
      (funext fun a => match a with | ⟨0, _⟩ => rfl | ⟨1, _⟩ => rfl | ⟨2, _⟩ => rfl | ⟨3, _⟩ => rfl | ⟨4, _⟩ => rfl)
  rw [he, hs]
  rfl

/-- The attended values of a row. -/
theorem o_q_lat (x1 : (⟨S4x64, .f32⟩ : BufTy).Contents (Elt Ideal)) (l : ℝ) (hl : lamOf x1 = (l : EReal))
    (b : Fin 4) (h : Fin 8) (r : Fin 2048) (d : Fin 128) :
    val_main_v61 (F := Ideal) x0 x1 (ix4 b h r d) = ((diffMean (fun e => X (b.val * 2048 + r.val) (4096 + h.val * 128 + e.val))
      (rowsAll X 5120 b.val h.val) (fun k => rowsAll X 6144 b.val h.val k d) l : ℝ) : EReal) := by
  obtain ⟨M, hM⟩ := w_q_lat x0 X hX b 0 h r
  obtain ⟨M', hM'⟩ := w_q_lat x0 X hX b 1 h r
  haveI : Nonempty (Fin 2304) := ⟨⟨0, by decide⟩⟩
  rw [val_main_v61_apply, diffMean, ← refDiff _ _ _ M M' l]
  refine Finset.sum_congr rfl fun k _ => ?_
  have e0 : val_main_v55 (F := Ideal) x0 (ix4 b h r k) = val_main_v53 (F := Ideal) x0 (ix5 b 0 h r k) := by
    rw [val_main_v55_apply, val_main_v54_apply]
    exact congrArg (val_main_v53 (F := Ideal) x0) (funext fun a => Fin.ext (by
      match a with
      | ⟨0, _⟩ => (simp [ix4, ix5] <;> omega)
      | ⟨1, _⟩ => (simp [ix4, ix5] <;> omega)
      | ⟨2, _⟩ => (simp [ix4, ix5] <;> omega)
      | ⟨3, _⟩ => (simp [ix4, ix5] <;> omega)
      | ⟨4, _⟩ => (simp [ix4, ix5] <;> omega)))
  have e1 : val_main_v57 (F := Ideal) x0 (ix4 b h r k) = val_main_v53 (F := Ideal) x0 (ix5 b 1 h r k) := by
    rw [val_main_v57_apply, val_main_v56_apply]
    exact congrArg (val_main_v53 (F := Ideal) x0) (funext fun a => Fin.ext (by
      match a with
      | ⟨0, _⟩ => (simp [ix4, ix5] <;> omega)
      | ⟨1, _⟩ => (simp [ix4, ix5] <;> omega)
      | ⟨2, _⟩ => (simp [ix4, ix5] <;> omega)
      | ⟨3, _⟩ => (simp [ix4, ix5] <;> omega)
      | ⟨4, _⟩ => (simp [ix4, ix5] <;> omega)))
  have el : lidx_main_v61 (ix4 b h r d) k = ix4 b h r k :=
    funext fun a => match a with | ⟨0, _⟩ => rfl | ⟨1, _⟩ => rfl | ⟨2, _⟩ => rfl | ⟨3, _⟩ => rfl
  have er : ridx_main_v61 (ix4 b h r d) k = ix4 b h k d :=
    funext fun a => match a with | ⟨0, _⟩ => rfl | ⟨1, _⟩ => rfl | ⟨2, _⟩ => rfl | ⟨3, _⟩ => rfl
  rw [el, er, val_main_v60_apply, val_main_v59_apply, val_main_v58_apply, e0, e1, hM, hM', lam_at, hl, v_all x0 X hX]
  rfl

/-- A result element. -/
theorem r_q_lat (x1 : (⟨S4x64, .f32⟩ : BufTy).Contents (Elt Ideal)) (x2 : (⟨S128, .f32⟩ : BufTy).Contents (Elt Ideal))
    (l : ℝ) (hl : lamOf x1 = (l : EReal)) (b : Fin 4) (h : Fin 8) (r : Fin 2048) (d : Fin 128) :
    val_main_v76 (F := Ideal) x0 x1 x2 (ix4 b h r d)
      = finish (fun d => ((diffMean (fun e => X (b.val * 2048 + r.val) (4096 + h.val * 128 + e.val))
          (rowsAll X 5120 b.val h.val) (fun k => rowsAll X 6144 b.val h.val k d) l : ℝ) : EReal)) (fun d => x2 (ix1 d)) d := by
  have hn : val_main_v69 (F := Ideal) x0 x1 (ix4 b h r 0) = Ideal.rsqrt (Ideal.div (∑ e : Fin 128,
      val_main_v61 (F := Ideal) x0 x1 (ix4 b h r e) * val_main_v61 (F := Ideal) x0 x1 (ix4 b h r e)) (Ideal.ofBits .f32 0x43000000#32)
        + Ideal.ofBits .f32 0x358637BD#32) := by
    rw [val_main_v69_apply, val_main_v68_apply, val_main_v66_apply, val_main_v64_apply, val_main_v63_apply,
      val_main_v65_apply, val_main_v67_apply]
    refine congrArg Ideal.rsqrt (congrArg (· + _) (congrArg (Ideal.div · _) ?_))
    refine (congrArg₂ (· + ·) zero32 (Finset.sum_congr rfl fun e _ => ?_)).trans (zero_add _)
    rw [val_main_v62_apply]
    have ei : idx_main_v63 (idx_main_v64 (ix4 b h r 0)) e = ix4 b h r e :=
      funext fun a => match a with | ⟨0, _⟩ => rfl | ⟨1, _⟩ => rfl | ⟨2, _⟩ => rfl | ⟨3, _⟩ => rfl
    rw [ei]
    rfl
  have hi : idx_main_v70 (ix4 b h r d) = ix4 b h r 0 :=
    funext fun a => match a with | ⟨0, _⟩ => rfl | ⟨1, _⟩ => rfl | ⟨2, _⟩ => rfl | ⟨3, _⟩ => rfl
  have hg : val_main_v73 (F := Ideal) x2 (ix4 b h r d) = x2 (ix1 d) := by
    rw [val_main_v73_apply, val_main_v72_apply]
    exact congrArg x2 (funext fun a => match a with | ⟨0, _⟩ => rfl)
  rw [val_main_v76_apply, val_main_v74_apply, val_main_v71_apply, val_main_v70_apply, hi, hn, hg, val_main_v75_apply]
  simp only [o_q_lat x0 X hX x1 l hl]
  rfl

/-- A score. -/
theorem s_q_ctx (b : Fin 4) (u : Fin 2) (h : Fin 8) (r : Fin 256) (k : Fin 256) :
    val_main_v82 (F := Ideal) x0 (ix5 b u h r k) = ((score (fun e => (fun d : Fin 128 => X (8192 + b.val * 256 + r.val) (4096 + h.val * 128 + d.val)) ⟨64 * u.val + e.val, by omega⟩) (fun e => rowsCtx X 5120 b.val h.val k ⟨64 * u.val + e.val, by omega⟩) : ℝ) : EReal) := by
  rw [val_main_v82_apply, val_main_v80_apply, val_main_v81_apply]
  have e : ∀ d : Fin 64, val_main_v15 (F := Ideal) x0 (lidx_main_v80 (ix5 b u h r k) d) * val_main_v17 (F := Ideal) x0 (ridx_main_v80 (ix5 b u h r k) d)
      = ((X (8192 + b.val * 256 + r.val) (4096 + h.val * 128 + (64 * u.val + d.val)) * rowsCtx X 5120 b.val h.val k ⟨64 * u.val + d.val, by omega⟩ : ℝ) : EReal) := fun d => by
    have el : lidx_main_v80 (ix5 b u h r k) d = ix5 b u h r d :=
      funext fun a => match a with | ⟨0, _⟩ => rfl | ⟨1, _⟩ => rfl | ⟨2, _⟩ => rfl | ⟨3, _⟩ => rfl | ⟨4, _⟩ => rfl
    have er : ridx_main_v80 (ix5 b u h r k) d = ix5 b u h k d :=
      funext fun a => match a with | ⟨0, _⟩ => rfl | ⟨1, _⟩ => rfl | ⟨2, _⟩ => rfl | ⟨3, _⟩ => rfl | ⟨4, _⟩ => rfl
    rw [el, er, EReal.coe_mul, q_ctx x0 X hX, k_ctx x0 X hX]
    rfl
  simp only [e, coe_sum]
  show _ * Ideal.ofBits .f32 0x3E000000#32 = _
  rw [eighth, ← EReal.coe_mul]
  rfl

/-- The maximum the reference subtracts is a real. -/
theorem max_q_ctx (b : Fin 4) (u : Fin 2) (h : Fin 8) (r : Fin 256) :
    ∃ M : ℝ, val_main_v85 (F := Ideal) x0 (ix4 b u h r) = (M : EReal) := by
  have hr : ∃ M : ℝ, val_main_v83 (F := Ideal) x0 (ix4 b u h r) = (M : EReal) := by
    unfold val_main_v83
    rw [Host.reduce_eq_fold_single (FloatOps.maximumf (F := Ideal) (φ := .f32)) _ _ reducesTo_S4x2x8x256x256_S4x2x8x256_d4 (by decide)]
    obtain ⟨M, hM⟩ := fold_max_real (Finset.univ : Finset (Fin 256)) ⟨⟨0, by decide⟩, Finset.mem_univ _⟩ (fun k => score (fun e => (fun d : Fin 128 => X (8192 + b.val * 256 + r.val) (4096 + h.val * 128 + d.val)) ⟨64 * u.val + e.val, by omega⟩) (fun e => rowsCtx X 5120 b.val h.val k ⟨64 * u.val + e.val, by omega⟩))
    refine ⟨M, ?_⟩
    rw [← hM]
    show Finset.fold max (Ideal.ofBits .f32 0xFF800000#32) _ _ = _
    rw [negInf]
    refine Finset.fold_congr fun k _ => ?_
    rw [← s_q_ctx x0 X hX b u h r k]
    exact congrArg (val_main_v82 (F := Ideal) x0)
      (funext fun a => Fin.ext (by match a with | ⟨0, _⟩ => rfl | ⟨1, _⟩ => rfl | ⟨2, _⟩ => rfl | ⟨3, _⟩ => rfl | ⟨4, _⟩ => rfl))
  obtain ⟨M, hM⟩ := hr
  refine ⟨M, ?_⟩
  rw [val_main_v85_apply, hM, val_main_v84_apply]
  show max (Ideal.ofBits .f32 0xFF800000#32) _ = _
  rw [negInf]
  exact max_eq_right bot_le

/-- A softmax weight, for the real number subtracted from the row's scores. -/
theorem w_q_ctx (b : Fin 4) (u : Fin 2) (h : Fin 8) (r : Fin 256) :
    ∃ M : ℝ, ∀ k : Fin 256, val_main_v93 (F := Ideal) x0 (ix5 b u h r k)
      = ((Real.exp (score (fun e => (fun d : Fin 128 => X (8192 + b.val * 256 + r.val) (4096 + h.val * 128 + d.val)) ⟨64 * u.val + e.val, by omega⟩) (fun e => rowsCtx X 5120 b.val h.val k ⟨64 * u.val + e.val, by omega⟩) - M)
        / ∑ i : Fin 256, Real.exp (score (fun e => (fun d : Fin 128 => X (8192 + b.val * 256 + r.val) (4096 + h.val * 128 + d.val)) ⟨64 * u.val + e.val, by omega⟩) (fun e => rowsCtx X 5120 b.val h.val i ⟨64 * u.val + e.val, by omega⟩) - M) : ℝ) : EReal) := by
  obtain ⟨M, hM⟩ := max_q_ctx x0 X hX b u h r
  refine ⟨M, fun k => ?_⟩
  haveI : Nonempty (Fin (256)) := ⟨⟨0, by decide⟩⟩
  rw [← refWeight (fun i : Fin 256 => score (fun e => (fun d : Fin 128 => X (8192 + b.val * 256 + r.val) (4096 + h.val * 128 + d.val)) ⟨64 * u.val + e.val, by omega⟩) (fun e => rowsCtx X 5120 b.val h.val i ⟨64 * u.val + e.val, by omega⟩)) M k, val_main_v93_apply]
  have he : ∀ i : Fin 256, val_main_v89 (F := Ideal) x0 (ix5 b u h r i)
      = Ideal.exp (((score (fun e => (fun d : Fin 128 => X (8192 + b.val * 256 + r.val) (4096 + h.val * 128 + d.val)) ⟨64 * u.val + e.val, by omega⟩) (fun e => rowsCtx X 5120 b.val h.val i ⟨64 * u.val + e.val, by omega⟩) : ℝ) : EReal) - (M : EReal)) := fun i => by
    rw [val_main_v89_apply, val_main_v88_apply, val_main_v87_apply, val_main_v86_apply, s_q_ctx x0 X hX]
    have ei : idx_main_v86 (idx_main_v87 (ix5 b u h r i)) = ix4 b u h r :=
      funext fun a => match a with | ⟨0, _⟩ => rfl | ⟨1, _⟩ => rfl | ⟨2, _⟩ => rfl | ⟨3, _⟩ => rfl
    rw [ei, hM]
    rfl
  have hs : val_main_v92 (F := Ideal) x0 (ix5 b u h r k) = 0 + ∑ i : Fin 256,
      Ideal.exp (((score (fun e => (fun d : Fin 128 => X (8192 + b.val * 256 + r.val) (4096 + h.val * 128 + d.val)) ⟨64 * u.val + e.val, by omega⟩) (fun e => rowsCtx X 5120 b.val h.val i ⟨64 * u.val + e.val, by omega⟩) : ℝ) : EReal) - (M : EReal)) := by
    rw [val_main_v92_apply, val_main_v91_apply, val_main_v90_apply]
    refine congrArg₂ (· + ·) zero32 (Finset.sum_congr rfl fun i _ => ?_)
    rw [← he i]
    exact congrArg (val_main_v89 (F := Ideal) x0)
      (funext fun a => match a with | ⟨0, _⟩ => rfl | ⟨1, _⟩ => rfl | ⟨2, _⟩ => rfl | ⟨3, _⟩ => rfl | ⟨4, _⟩ => rfl)
  rw [he, hs]
  rfl

/-- The attended values of a row. -/
theorem o_q_ctx (x1 : (⟨S4x64, .f32⟩ : BufTy).Contents (Elt Ideal)) (l : ℝ) (hl : lamOf x1 = (l : EReal))
    (b : Fin 4) (h : Fin 8) (r : Fin 256) (d : Fin 128) :
    val_main_v101 (F := Ideal) x0 x1 (ix4 b h r d) = ((diffMean (fun e => X (8192 + b.val * 256 + r.val) (4096 + h.val * 128 + e.val))
      (rowsCtx X 5120 b.val h.val) (fun k => rowsCtx X 6144 b.val h.val k d) l : ℝ) : EReal) := by
  obtain ⟨M, hM⟩ := w_q_ctx x0 X hX b 0 h r
  obtain ⟨M', hM'⟩ := w_q_ctx x0 X hX b 1 h r
  haveI : Nonempty (Fin (256)) := ⟨⟨0, by decide⟩⟩
  rw [val_main_v101_apply, diffMean, ← refDiff _ _ _ M M' l]
  refine Finset.sum_congr rfl fun k _ => ?_
  have e0 : val_main_v95 (F := Ideal) x0 (ix4 b h r k) = val_main_v93 (F := Ideal) x0 (ix5 b 0 h r k) := by
    rw [val_main_v95_apply, val_main_v94_apply]
    exact congrArg (val_main_v93 (F := Ideal) x0) (funext fun a => Fin.ext (by
      match a with
      | ⟨0, _⟩ => (simp [ix4, ix5] <;> omega)
      | ⟨1, _⟩ => (simp [ix4, ix5] <;> omega)
      | ⟨2, _⟩ => (simp [ix4, ix5] <;> omega)
      | ⟨3, _⟩ => (simp [ix4, ix5] <;> omega)
      | ⟨4, _⟩ => (simp [ix4, ix5] <;> omega)))
  have e1 : val_main_v97 (F := Ideal) x0 (ix4 b h r k) = val_main_v93 (F := Ideal) x0 (ix5 b 1 h r k) := by
    rw [val_main_v97_apply, val_main_v96_apply]
    exact congrArg (val_main_v93 (F := Ideal) x0) (funext fun a => Fin.ext (by
      match a with
      | ⟨0, _⟩ => (simp [ix4, ix5] <;> omega)
      | ⟨1, _⟩ => (simp [ix4, ix5] <;> omega)
      | ⟨2, _⟩ => (simp [ix4, ix5] <;> omega)
      | ⟨3, _⟩ => (simp [ix4, ix5] <;> omega)
      | ⟨4, _⟩ => (simp [ix4, ix5] <;> omega)))
  have el : lidx_main_v101 (ix4 b h r d) k = ix4 b h r k :=
    funext fun a => match a with | ⟨0, _⟩ => rfl | ⟨1, _⟩ => rfl | ⟨2, _⟩ => rfl | ⟨3, _⟩ => rfl
  have er : ridx_main_v101 (ix4 b h r d) k = ix4 b h k d :=
    funext fun a => match a with | ⟨0, _⟩ => rfl | ⟨1, _⟩ => rfl | ⟨2, _⟩ => rfl | ⟨3, _⟩ => rfl
  rw [el, er, val_main_v100_apply, val_main_v99_apply, val_main_v98_apply, e0, e1, hM, hM', lam_at, hl, v_ctx x0 X hX]
  rfl

/-- A result element. -/
theorem r_q_ctx (x1 : (⟨S4x64, .f32⟩ : BufTy).Contents (Elt Ideal)) (x2 : (⟨S128, .f32⟩ : BufTy).Contents (Elt Ideal))
    (l : ℝ) (hl : lamOf x1 = (l : EReal)) (b : Fin 4) (h : Fin 8) (r : Fin 256) (d : Fin 128) :
    val_main_v116 (F := Ideal) x0 x1 x2 (ix4 b h r d)
      = finish (fun d => ((diffMean (fun e => X (8192 + b.val * 256 + r.val) (4096 + h.val * 128 + e.val))
          (rowsCtx X 5120 b.val h.val) (fun k => rowsCtx X 6144 b.val h.val k d) l : ℝ) : EReal)) (fun d => x2 (ix1 d)) d := by
  have hn : val_main_v109 (F := Ideal) x0 x1 (ix4 b h r 0) = Ideal.rsqrt (Ideal.div (∑ e : Fin 128,
      val_main_v101 (F := Ideal) x0 x1 (ix4 b h r e) * val_main_v101 (F := Ideal) x0 x1 (ix4 b h r e)) (Ideal.ofBits .f32 0x43000000#32)
        + Ideal.ofBits .f32 0x358637BD#32) := by
    rw [val_main_v109_apply, val_main_v108_apply, val_main_v106_apply, val_main_v104_apply, val_main_v103_apply,
      val_main_v105_apply, val_main_v107_apply]
    refine congrArg Ideal.rsqrt (congrArg (· + _) (congrArg (Ideal.div · _) ?_))
    refine (congrArg₂ (· + ·) zero32 (Finset.sum_congr rfl fun e _ => ?_)).trans (zero_add _)
    rw [val_main_v102_apply]
    have ei : idx_main_v103 (idx_main_v104 (ix4 b h r 0)) e = ix4 b h r e :=
      funext fun a => match a with | ⟨0, _⟩ => rfl | ⟨1, _⟩ => rfl | ⟨2, _⟩ => rfl | ⟨3, _⟩ => rfl
    rw [ei]
    rfl
  have hi : idx_main_v110 (ix4 b h r d) = ix4 b h r 0 :=
    funext fun a => match a with | ⟨0, _⟩ => rfl | ⟨1, _⟩ => rfl | ⟨2, _⟩ => rfl | ⟨3, _⟩ => rfl
  have hg : val_main_v113 (F := Ideal) x2 (ix4 b h r d) = x2 (ix1 d) := by
    rw [val_main_v113_apply, val_main_v112_apply]
    exact congrArg x2 (funext fun a => match a with | ⟨0, _⟩ => rfl)
  rw [val_main_v116_apply, val_main_v114_apply, val_main_v111_apply, val_main_v110_apply, hi, hn, hg, val_main_v115_apply]
  simp only [o_q_ctx x0 X hX x1 l hl]
  rfl

/-- The latent result, element by element. -/
theorem lat_eq (x1 : (⟨S4x64, .f32⟩ : BufTy).Contents (Elt Ideal)) (x2 : (⟨S128, .f32⟩ : BufTy).Contents (Elt Ideal))
    (l : ℝ) (hl : lamOf x1 = (l : EReal)) :
    val_main_v79 (F := Ideal) x0 x1 x2 = fun i => latOut X l (fun d => x2 (ix1 d)) (i 0).val (i 1).val := by
  funext i
  have h0 : (i 0).val < 8192 := (i 0).isLt
  have h1 : (i 1).val < 1024 := (i 1).isLt
  rw [val_main_v79_apply, val_main_v78_apply, val_main_v77_apply]
  have ei : idx_main_v77 (idx_main_v78 i) = ix4 ⟨(i 0).val / 2048, by omega⟩ ⟨(i 1).val / 128, by omega⟩ ⟨(i 0).val % 2048, by omega⟩
      ⟨(i 1).val % 128, by omega⟩ := funext fun a => Fin.ext (by
    match a with
    | ⟨0, _⟩ => (simp [ix4]; omega)
    | ⟨1, _⟩ => (simp [ix4]; omega)
    | ⟨2, _⟩ => (simp [ix4]; omega)
    | ⟨3, _⟩ => (simp [ix4]; omega))
  rw [ei, r_q_lat x0 X hX x1 x2 l hl]
  have e : (i 0).val / 2048 * 2048 + (i 0).val % 2048 = (i 0).val := by omega
  simp only [latOut, e]
  rfl

/-- The context result, element by element. -/
theorem ctx_eq (x1 : (⟨S4x64, .f32⟩ : BufTy).Contents (Elt Ideal)) (x2 : (⟨S128, .f32⟩ : BufTy).Contents (Elt Ideal))
    (l : ℝ) (hl : lamOf x1 = (l : EReal)) :
    val_main_v119 (F := Ideal) x0 x1 x2 = fun i => ctxOut X l (fun d => x2 (ix1 d)) (i 0).val (i 1).val := by
  funext i
  have h0 : (i 0).val < 1024 := (i 0).isLt
  have h1 : (i 1).val < 1024 := (i 1).isLt
  rw [val_main_v119_apply, val_main_v118_apply, val_main_v117_apply]
  have ei : idx_main_v117 (idx_main_v118 i) = ix4 ⟨(i 0).val / 256, by omega⟩ ⟨(i 1).val / 128, by omega⟩ ⟨(i 0).val % 256, by omega⟩
      ⟨(i 1).val % 128, by omega⟩ := funext fun a => Fin.ext (by
    match a with
    | ⟨0, _⟩ => (simp [ix4]; omega)
    | ⟨1, _⟩ => (simp [ix4]; omega)
    | ⟨2, _⟩ => (simp [ix4]; omega)
    | ⟨3, _⟩ => (simp [ix4]; omega))
  rw [ei, r_q_ctx x0 X hX x1 x2 l hl]
  have e : 8192 + (i 0).val / 256 * 256 + (i 0).val % 256 = 8192 + (i 0).val := by omega
  simp only [ctxOut, e]
  rfl

end

end Cert.ReferenceIdeal.Diff

end
-- ==== Proof.Diff.Equation.lean ====
module

public import proofs.«01_k».proof.Defs
public import proofs.«01_k».proof.Proof.Gen.Pre_finite
public import proofs.«01_k».proof.Proof.Gen.ReferenceIdeal.Run
public import proofs.«01_k».proof.Proof.Diff.Kernel
public import proofs.«01_k».proof.Proof.Diff.Reference
public import Idealize.ShloMosaic.Lib.ReduceAll

/-! Differential attention: the call and the reference end with the same two arrays, on projections and parameters whose
    entries are real numbers. -/

@[expose] public section

noncomputable section

namespace Cert.Diff

open Idealize.ShloMosaic Idealize.SL.Sem

/-- An entry whose absolute value is below infinity is a real number. -/
theorem real_of_lt (x : EReal) (h : FloatOps.cmpf (F := Ideal) (φ := .f32) .olt (FloatOps.absf (F := Ideal) (φ := .f32) x) (Ideal.ofBits .f32 0x7F800000#32) = 1#1) : x = ((x.toReal : ℝ) : EReal) := by
  have hi : Ideal.ofBits .f32 0x7F800000#32 = ⊤ := by simp [Ideal.ofBits, Ideal.ieee]
  rw [hi] at h
  have h' : max x (-x) < ⊤ := by
    by_contra hc
    have : FloatOps.cmpf (F := Ideal) (φ := .f32) .olt (FloatOps.absf (F := Ideal) (φ := .f32) x) (⊤ : EReal) = 0#1 := by
      show Ideal.cmp .olt (max x (-x)) ⊤ = 0#1
      simp [Ideal.cmp, hc]
    rw [this] at h
    exact absurd h (by decide)
  refine (EReal.coe_toReal ?_ ?_).symm
  · rintro rfl
    simp at h'
  · rintro rfl
    simp at h'

instance : Subsingleton Cert.Pre_finite.S_.Idx := ⟨fun a b => funext fun x => x.elim0⟩

attribute [local instance] Cert.Pre_finite.Gen.facts in
/-- What the precondition says: the entries of the projection and of the parameter rows are real numbers. -/
theorem real_entries (x : (⟨2, ![9216, 7168]⟩ : Shape).Idx → EReal) (y : (⟨2, ![4, 64]⟩ : Shape).Idx → EReal) (z : (⟨1, ![128]⟩ : Shape).Idx → EReal)
    (h : Cert.Pre_finite.fn (F := Ideal) x y z = fun _ => 1#1) :
    (∀ i, x i = (((x i).toReal : ℝ) : EReal)) ∧ ∀ i, y i = (((y i).toReal : ℝ) : EReal) := by
  have h0 := congrFun h (fun a => a.elim0)
  obtain ⟨h1, h2⟩ := IntOp.andi_eq_one.1 h0
  exact ⟨fun i => real_of_lt _ (Host.reduce_andi_all _ _ _ _ _ h1 i), fun i => real_of_lt _ (Host.reduce_andi_all _ _ _ _ _ h2 i)⟩

/-- The second map's weight is a real number when the parameters are. -/
theorem lam_real (y : (⟨2, ![4, 64]⟩ : Shape).Idx → EReal) (h : ∀ i, y i = (((y i).toReal : ℝ) : EReal)) :
    ∃ l : ℝ, lamOf y = (l : EReal) := by
  obtain ⟨r, hr⟩ := lamInit
  have e : ∀ a b : Fin 4, ∑ x : Fin 64, y (ix2 a x) * y (ix2 b x) = ((∑ x : Fin 64, (y (ix2 a x)).toReal * (y (ix2 b x)).toReal : ℝ) : EReal) := by
    intro a b
    rw [← coe_sum]
    refine Finset.sum_congr rfl fun x _ => ?_
    rw [EReal.coe_mul, ← h, ← h]
  exact ⟨_, by rw [lamOf, e, e, hr, Ideal.exp_coe, Ideal.exp_coe, ← EReal.coe_sub, ← EReal.coe_add]⟩

end Cert.Diff

namespace Cert.Proof

open Idealize.ShloMosaic Idealize.SL.Sem

attribute [local instance] Cert.KernelIdeal.Gen.facts Cert.ReferenceIdeal.Gen.facts Cert.Pre_finite.Gen.facts in
/-- The call of differential attention computes the reference's two results. -/
theorem diff_equal : algebraic_KernelIdeal_ReferenceIdeal_pre_finite := by
  intro m g m' g' hp ha
  have hr := fun c => Cert.Diff.real_entries _ _ _ (hp c)
  choose l hl using fun c => Cert.Diff.lam_real _ (hr c).2
  have hX : ∀ c : Dev Cert.KernelIdeal.nD, ∃ X : ℕ → ℕ → ℝ, ∀ i : Cert.KernelIdeal.S9216x7168.Idx,
      m ((c.tc : Thread Cert.KernelIdeal.nD Cert.KernelIdeal.τ).loc Cert.KernelIdeal.main_arg0) i = ((X (i 0).val (i 1).val : ℝ) : EReal) := fun c =>
    ⟨fun a b => if h : a < 9216 ∧ b < 7168 then
        (m ((c.tc : Thread Cert.KernelIdeal.nD Cert.KernelIdeal.τ).loc Cert.KernelIdeal.main_arg0) (ix2 ⟨a, h.1⟩ ⟨b, h.2⟩)).toReal else 0, fun i => by
      have h0 : (i 0).val < 9216 := (i 0).isLt
      have h1 : (i 1).val < 7168 := (i 1).isLt
      beta_reduce
      rw [dif_pos ⟨h0, h1⟩, show (ix2 ⟨(i 0).val, h0⟩ ⟨(i 1).val, h1⟩ : Cert.KernelIdeal.S9216x7168.Idx) = i from
        funext fun a => match a with | ⟨0, _⟩ => rfl | ⟨1, _⟩ => rfl]
      exact (hr c).1 i⟩
  choose X hX using hX
  refine ⟨fun c => fun i => Cert.Diff.latOut (X c) (l c)
      (fun d => m ((c.tc : Thread Cert.KernelIdeal.nD Cert.KernelIdeal.τ).loc Cert.KernelIdeal.main_arg2) (ix1 d)) (i 0).val (i 1).val,
    fun c => fun i => Cert.Diff.ctxOut (X c) (l c)
      (fun d => m ((c.tc : Thread Cert.KernelIdeal.nD Cert.KernelIdeal.τ).loc Cert.KernelIdeal.main_arg2) (ix1 d)) (i 0).val (i 1).val,
    (θ_run _ _ _).mono (fun r h c => ?_) (Cert.KernelIdeal.Value.run_blocks (F := Ideal) m g),
    (θ_run _ _ _).mono (fun r h c => ?_) (Cert.ReferenceIdeal.Value.run (F := Ideal) m' g')⟩
  · obtain ⟨h8, h9, k⟩ := h c
    exact ⟨h8.trans (Cert.KernelIdeal.Diff.final8 m c (X c) (l c) (hX c) (hl c)),
      h9.trans (Cert.KernelIdeal.Diff.final9 m c (X c) (l c) (hX c) (hl c)), k⟩
  · obtain ⟨h8, h9, k⟩ := h c
    obtain ⟨a0, a1, a2⟩ := ha c
    refine ⟨h8.trans ((Cert.ReferenceIdeal.Read.val_main_v79_eq m' c).trans ?_),
      h9.trans ((Cert.ReferenceIdeal.Read.val_main_v119_eq m' c).trans ?_), k⟩
    · rw [a0, a1, a2]
      exact Cert.ReferenceIdeal.Diff.lat_eq _ (X c) (hX c) _ _ (l c) (hl c)
    · rw [a0, a1, a2]
      exact Cert.ReferenceIdeal.Diff.ctx_eq _ (X c) (hX c) _ _ (l c) (hl c)

end Cert.Proof

end
-- ==== Proof.FfnIn.Spec.lean ====
module

public import Idealize.ShloMosaic.Lib.Pipeline.ValueKit
public import proofs.«01_k».proof.Proof.Diff.Math

/-! The feed-forward block's formulas: a row normalised, scaled and shifted, and the gated product of two projections of it. -/

@[expose] public section

noncomputable section

namespace Cert.Ffn

open Idealize.ShloMosaic

/-- One over the root of the mean square of a row of 2048 entries, the small constant under the root. -/
def rowScale (x : Fin 2048 → EReal) : EReal :=
  Ideal.rsqrt (Ideal.div (∑ k, x k * x k) (Ideal.ofBits .f32 0x45000000#32) + Ideal.ofBits .f32 0x358637BD#32)

/-- Entry `j` of the row `x` normalised, times the gain `g`, scaled by `1 + sc` and shifted by `sh`. -/
def modRow (x g sc sh : Fin 2048 → EReal) (j : Fin 2048) : EReal := x j * rowScale x * (g j * (1 + sc j)) + sh j

/-- `x` times the logistic function of `x`. -/
def silu (x : EReal) : EReal := x * Ideal.div 1 (1 + Ideal.exp (0 - x))

/-- The gated product: `silu` of the row times the gate column, times the row times the up column. -/
def gated (u wg wu : Fin 2048 → EReal) : EReal := silu (∑ k, u k * wg k) * ∑ k, u k * wu k

/-- Entry `(R, C)` of the feed-forward input layer: row `R` of `x` in the modulation of sample `min (R / 1024 / 2) 4`, gate
    column `C` and up column `5632 + C` of the weights. -/
def ffnIn (x : Fin 9216 → Fin 2048 → EReal) (md : Fin 5 → Fin 9 → Fin 2048 → EReal) (g : Fin 2048 → EReal)
    (w : Fin 2048 → Fin 11264 → EReal) (R : Fin 9216) (C : Fin 5632) : EReal :=
  gated (modRow (x R) g (md ⟨min (R.val / 2048) 4, by omega⟩ 1) (md ⟨min (R.val / 2048) 4, by omega⟩ 0))
    (fun k => w k ⟨C.val, by omega⟩) (fun k => w k ⟨5632 + C.val, by omega⟩)

end Cert.Ffn
end
-- ==== Proof.FfnIn.Block.lean ====
module

public import proofs.«01_k».proof.Proof.Gen.Kernel2Ideal.Value
public import Idealize.ShloMosaic.Lib.Pipeline.ValueKit
public import Idealize.ShloMosaic.Lib.Pipeline.ValueKit.Held
public import Idealize.ShloMosaic.Lib.Pipeline.ReadBack
public import Idealize.ShloMosaic.Lib.Writes
public import proofs.«01_k».proof.Proof.FfnIn.Spec

/-! What one block of the feed-forward input kernel computes. -/

@[expose] public section

set_option maxRecDepth 16384

noncomputable section

namespace Cert.Kernel2Ideal.FfnIn

open Cert.Ffn
open Cert.Kernel2Ideal Cert.Kernel2Ideal.Gen
open Idealize.ShloMosaic Idealize.ShloMosaic.TcCoe Idealize.SL.Sem
open Idealize.ShloMosaic.Pipeline (Dat)

theorem pay1_apply (g : Vec Ideal S1x2048 .f32) (sc sh : Vec Ideal S1x1x2048 .f32) (x : Vec Ideal S32x2048 .f32)
    (i : Fin 32) (j : Fin 2048) : k0_pay1 g sc sh x (ix2 i j)
      = modRow (fun k => x (ix2 i k)) (fun k => g (ix2 0 k)) (fun k => sc (ix3 0 0 k)) (fun k => sh (ix3 0 0 k)) j := by
  pointwise [k0_pay1]
  rfl

theorem pay2_apply (u : Vec Ideal S1024x2048 .bf16) (wg wu : Vec Ideal S1x1x2048x512 .f32)
    (i : Fin 1024) (j : Fin 512) : k0_pay2 u wg wu (ix2 i j)
      = gated (fun k => u (ix2 i k)) (fun k => wg (ix4 0 0 k j)) (fun k => wu (ix4 0 0 k j)) := by
  pointwise [k0_pay2]
  rfl

/-- The whole scratch block after the loop, from the row tile `x`. -/
def modTile (x : Vec Ideal S1024x2048 .f32) (g : Vec Ideal S1x2048 .f32) (sc sh : Vec Ideal S1x1x2048 .f32) :
    Vec Ideal S1024x2048 .bf16 :=
  fun y => modRow (fun k => x (ix2 (y 0) k)) (fun k => g (ix2 0 k)) (fun k => sc (ix3 0 0 k)) (fun k => sh (ix3 0 0 k)) (y 1)

theorem rows_at (x : Vec Ideal S1024x2048 .f32) (g : Vec Ideal S1x2048 .f32) (sc sh : Vec Ideal S1x1x2048 .f32)
    (off : Fin 2 → ℕ) (r : ℕ) (hr : r + 32 ≤ 1024) (e : off = ![r, 0]) (hb) (i : Fin 32) (j : Fin 2048) :
    modRow (fun k => View.ld x (Rect.unit (s := S1024x2048) off ![32, 2048] hb) (ix2 i k))
        (fun k => g (ix2 0 k)) (fun k => sc (ix3 0 0 k)) (fun k => sh (ix3 0 0 k)) j
      = modTile x g sc sh ((Rect.unit (s := S1024x2048) off ![32, 2048] hb).emb (ix2 i j)) := by
  subst e
  have a0 : (((Rect.unit (s := S1024x2048) ![r, 0] ![32, 2048] hb).emb (ix2 i j)) 0 : Fin _).val = r + i.val := by
    simp [Rect.idx_unit_val]
  have a1 : ((Rect.unit (s := S1024x2048) ![r, 0] ![32, 2048] hb).emb (ix2 i j)) 1 = j := Fin.ext (by
    simp [Rect.idx_unit_val])
  unfold modTile
  rw [a1]
  congr 1
  funext k
  rw [View.ld_apply]
  congr 1
  refine funext fun a => match a with
    | ⟨0, _⟩ => Fin.ext (by simp [Rect.idx_unit_val])
    | ⟨1, _⟩ => Fin.ext (by simp [Rect.idx_unit_val])

/-- One trip writes thirty-two rows of it. -/
theorem trip_rows (c : Dev nD) (t : Fin cfg0.N) (h1 : k0_cond1 (grid0.coords t) = 1#1)
    (x : Vec Ideal S1024x2048 .f32) (g : Vec Ideal S1x2048 .f32) (sc sh : Vec Ideal S1x1x2048 .f32) (k : Fin k0_t1_loop.trips) :
    ∀ p ∈ tripL_k0_t1 (F := Ideal) Variants.none c none (grid0.coords t) (ms0_0 t) (hs0_0 t) (ms0_1 t) (hs0_1 t) (ms0_2 t) (hs0_2 t)
        (ms0_3 t) (hs0_3 t) (ms0_4 t) (hs0_4 t) (ms0_5 t) (hs0_5 t) scM0_0 (Memref.isWhole_whole _) h1 g sc sh ((hs0_0 t).unread x) k,
      ∀ y, p.2 y = modTile x g sc sh (p.1.emb y) := by
  unfold tripL_k0_t1 trip_k0_t1
  dsimp only
  sl_unfold_words
  simp only [List.mem_singleton, forall_eq]
  have e : ![BitVec.toNat (Scalar.indexCast (Scalar.muli (Scf.iv 0#32 1#32 ↑k) 32#32)), 0] = ![32 * k.val, 0] := k0_off1_eq k
  intro y
  obtain ⟨i, j, rfl⟩ : ∃ (i : Fin 32) (j : Fin 2048), y = ix2 i j :=
    ⟨y 0, y 1, funext fun a => match a with | ⟨0, _⟩ => rfl | ⟨1, _⟩ => rfl⟩
  refine (pay1_apply _ _ _ _ i j).trans ?_
  simp only [View.readAt_eq_ld, Memref.IsWhole.read_unread]
  exact rows_at x g sc sh _ _ (by have := k.isLt; have := k0_t1_abs.2.1; omega) e _ i j

theorem loop_rows (c : Dev nD) (t : Fin cfg0.N) (h1 : k0_cond1 (grid0.coords t) = 1#1)
    (x : Vec Ideal S1024x2048 .f32) (g : Vec Ideal S1x2048 .f32) (sc sh : Vec Ideal S1x1x2048 .f32) (n : ℕ) (hn : n ≤ k0_t1_loop.trips) :
    ∀ p ∈ pb_k0_t1 (F := Ideal) Variants.none c none (grid0.coords t) (ms0_0 t) (hs0_0 t) (ms0_1 t) (hs0_1 t) (ms0_2 t) (hs0_2 t)
        (ms0_3 t) (hs0_3 t) (ms0_4 t) (hs0_4 t) (ms0_5 t) (hs0_5 t) scM0_0 (Memref.isWhole_whole _) h1 g sc sh ((hs0_0 t).unread x) n,
      ∀ y, p.2 y = modTile x g sc sh (p.1.emb y) := by
  induction n with
  | zero => intro p hp; exact absurd hp List.not_mem_nil
  | succ n ih =>
    intro p hp
    rw [pb_k0_t1_succ _ _ _ _ _ _ _ _ _ _ _ _ _ _ _ _ _ _ _ _ _ _ _ ⟨n, hn⟩] at hp
    rcases List.mem_append.mp hp with h | h
    · exact trip_rows c t h1 x g sc sh ⟨n, hn⟩ p h
    · exact ih (by omega) p h

variable (m : (ℓ : Loc nD τ sig) → Buf (Elt Ideal) ℓ)

/-- At the first point of a row tile the scratch holds the tile's modulated rows … -/
theorem scrA (c : Dev nD) (t : Fin cfg0.N) (h : t.val % 11 = 0) (y) :
    (outsAt0 m c t.val t.isLt).2 y = modTile (iblk m c 0 t) (iblk m c 2 t)
      (View.ld (iblk m c 1 t) (Rect.unit ![0, 1, 0] ![1, 1, 2048] inb_S1x9x2048_S1x1x2048_0_1_0))
      (View.ld (iblk m c 1 t) (Rect.unit ![0, 0, 0] ![1, 1, 2048] inb_S1x9x2048_S1x1x2048_0_0_0)) y := by
  rw [outsAt0_A m c t h]
  dsimp only
  unfold sout0_A_0
  refine View.read_writes_apply_of_pieces _ _ _ _ ?_ y (scover0_A_0 ..)
  unfold kernelRun0_A
  dsimp only
  sl_unfold_words
  simp (disch := decide) only [View.readAt_eq_ld, Memref.IsWhole.read_unread, View.ld_unit_lit]
  exact loop_rows c t ((hcond0_0 t).mpr h) (iblk m c 0 t) (iblk m c 2 t) _ _ k0_t1_loop.trips le_rfl

/-- … and the points after it leave it. -/
theorem scrB (c : Dev nD) (t : Fin cfg0.N) (h : ¬ t.val % 11 = 0) :
    (outsAt0 m c t.val t.isLt).2 = (outsAt0 m c (t.val-1) (Nat.lt_of_le_of_lt (Nat.sub_le _ _) t.isLt)).2 := by
  rw [outsAt0_B m c t h]
  rfl

/-- The output block is the payload at the scratch and the two weight blocks. -/
theorem out_at (c : Dev nD) (t : Fin cfg0.N) :
    (outsAt0 m c t.val t.isLt).1 = k0_pay2 (outsAt0 m c t.val t.isLt).2 (iblk m c 3 t) (iblk m c 4 t) := by
  by_cases h : t.val % 11 = 0
  · rw [outsAt0_A m c t h]
    frame_out
    congr 1
    rw [View.readCov_eq_canon']
    exact View.ld_unit_lit _ _ (by decide)
  · rw [outsAt0_B m c t h]
    frame_out
    simp only [read_unread_whole]
    rfl

end Cert.Kernel2Ideal.FfnIn
end
-- ==== Proof.FfnIn.Kernel.lean ====
module

public import proofs.«01_k».proof.Proof.FfnIn.Block

/-! What the feed-forward input kernel's result array holds after the run, element by element. -/

@[expose] public section

set_option maxRecDepth 16384

noncomputable section

namespace Cert.Kernel2Ideal.FfnIn

open Cert.Ffn
open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 11, 0] ∧ win0_1.index t = ![min (t.val / 11 / 2) 4, 0, 0]
    ∧ win0_2.index t = ![0, 0] ∧ win0_3.index t = ![0, 0, 0, t.val % 11] ∧ win0_4.index t = ![0, 0, 0, t.val % 11 + 11]
    ∧ win0_5.index t = ![t.val / 11, t.val % 11] := (by decide +kernel : ∀ t : Fin grid0.N, _)

/-- The blocks the body reads, as elements of the argument arrays. -/
theorem x0 (c : Dev nD) (t : Fin cfg0.N) (i : Fin 1024) (k : Fin 2048) (y : S9216x2048.Idx)
    (h0 : (y 0).val = t.val / 11 * 1024 + i.val) (h1 : (y 1).val = k.val) :
    iblk m c 0 t (ix2 i k) = m ((c : Thread nD τ).loc main_arg0) y := by
  blk_ext [iblk, V, idx t]

theorem x1 (c : Dev nD) (t : Fin cfg0.N) (r : Nat) (hb) (k : Fin 2048) (y : S5x9x2048.Idx)
    (h0 : (y 0).val = min (t.val / 11 / 2) 4) (h1 : (y 1).val = r) (h2 : (y 2).val = k.val) :
    View.ld (iblk m c 1 t) (Rect.unit ![0, r, 0] ![1, 1, 2048] hb) (ix3 0 0 k) = m ((c : Thread nD τ).loc main_arg1) y := by
  rw [View.ld_apply]
  blk_ext [iblk, V, idx t]
  all_goals (simp [Rect.idx_unit_val]; omega)

theorem x2 (c : Dev nD) (t : Fin cfg0.N) (k : Fin 2048) :
    iblk m c 2 t (ix2 0 k) = m ((c : Thread nD τ).loc main_arg2) (ix1 k) := by
  blk_simp [iblk]
  entry_read
  pointwise
  blk_ext [V, idx t]

theorem x3 (c : Dev nD) (t : Fin cfg0.N) (k : Fin 2048) (j : Fin 512) (y : S2x2x2048x11264.Idx)
    (h0 : (y 0).val = 0) (h1 : (y 1).val = 0) (h2 : (y 2).val = k.val) (h3 : (y 3).val = t.val % 11 * 512 + j.val) :
    iblk m c 3 t (ix4 0 0 k j) = m ((c : Thread nD τ).loc main_arg3) y := by
  blk_ext [iblk, V, idx t]

theorem x4 (c : Dev nD) (t : Fin cfg0.N) (k : Fin 2048) (j : Fin 512) (y : S2x2x2048x11264.Idx)
    (h0 : (y 0).val = 0) (h1 : (y 1).val = 0) (h2 : (y 2).val = k.val) (h3 : (y 3).val = (t.val % 11 + 11) * 512 + j.val) :
    iblk m c 4 t (ix4 0 0 k j) = m ((c : Thread nD τ).loc main_arg3) y := by
  blk_ext [iblk, V, idx t]

/-- The scratch at every point: the modulated rows of the point's row tile. -/
theorem scratch_at (c : Dev nD) (t : Fin cfg0.N) (i : Fin 1024) (k : Fin 2048) (R : Fin 9216) (hR : R.val = t.val / 11 * 1024 + i.val) :
    (outsAt0 m c t.val t.isLt).2 (ix2 i k)
      = modRow (fun j => m ((c : Thread nD τ).loc main_arg0) (ix2 R j)) (fun j => m ((c : Thread nD τ).loc main_arg2) (ix1 j))
          (fun j => m ((c : Thread nD τ).loc main_arg1) (ix3 ⟨min (R.val / 2048) 4, by omega⟩ 1 j))
          (fun j => m ((c : Thread nD τ).loc main_arg1) (ix3 ⟨min (R.val / 2048) 4, by omega⟩ 0 j)) k := by
  rw [Pipeline.eq_of_write_hold_apply (fun n h => (outsAt0 m c n h).2) 11 _ (fun t h i => scrA m c t h i)
    (fun t h i => congrFun (scrB m c t h) i) t (ix2 i k)]
  have ht : t.val < 99 := t.isLt
  have hm : min (R.val / 2048) 4 = min (11 * (t.val / 11) / 11 / 2) 4 := by omega
  show modRow _ _ _ _ _ = _
  congr 1
  · funext j
    exact x0 m c _ i j _ (by show R.val = 11 * (t.val / 11) / 11 * 1024 + i.val; omega) rfl
  · funext j
    exact x2 m c _ j
  · funext j
    exact x1 m c _ 1 _ j _ hm rfl rfl
  · funext j
    exact x1 m c _ 0 _ j _ hm rfl rfl

theorem point5 (c : Dev nD) (t : Fin cfg0.N) (y : S1024x512.Idx) (R : Fin 9216) (C : Fin 5632)
    (hR : R.val = t.val / 11 * 1024 + (y 0).val) (hC : C.val = t.val % 11 * 512 + (y 1).val) :
    (outsAt0 m c t.val t.isLt).1 y
      = ffnIn (fun r j => m ((c : Thread nD τ).loc main_arg0) (ix2 r j)) (fun s q j => m ((c : Thread nD τ).loc main_arg1) (ix3 s q j))
          (fun j => m ((c : Thread nD τ).loc main_arg2) (ix1 j)) (fun k j => m ((c : Thread nD τ).loc main_arg3) (ix4 0 0 k j)) R C := by
  obtain ⟨i, j, rfl⟩ : ∃ (i : Fin 1024) (j : Fin 512), y = ix2 i j :=
    ⟨y 0, y 1, funext fun a => match a with | ⟨0, _⟩ => rfl | ⟨1, _⟩ => rfl⟩
  have hR' : R.val = t.val / 11 * 1024 + i.val := hR
  have hC' : C.val = t.val % 11 * 512 + j.val := hC
  rw [out_at, pay2_apply, ffnIn]
  congr 1
  · funext k
    exact scratch_at m c t i k R hR'
  · funext k
    exact x3 m c t k j _ rfl rfl rfl hC'
  · funext k
    exact x4 m c t k j _ rfl rfl rfl (by show 5632 + C.val = _; omega)

/-- The result after the run. -/
theorem final5 (c : Dev nD) : (dats m 0 c).arrAt 5 cfg0.N
    = fun i => ffnIn (fun r j => m ((c : Thread nD τ).loc main_arg0) (ix2 r j)) (fun s q j => m ((c : Thread nD τ).loc main_arg1) (ix3 s q j))
          (fun j => m ((c : Thread nD τ).loc main_arg2) (ix1 j)) (fun k j => m ((c : Thread nD τ).loc main_arg3) (ix4 0 0 k j)) (i 0) (i 1) := by
  refine (dats m 0 c).arrAt_eq_of_covers 5 _ (by decide +kernel) fun t hf y => ?_
  rw [after0_5]
  refine point5 m c t y _ _ ?_ ?_
  · blk_simp [idx t]
  · blk_simp [idx t]

end Cert.Kernel2Ideal.FfnIn
end
-- ==== Proof.FfnIn.Reference.lean ====
module

public import proofs.«01_k».proof.Proof.Gen.Reference2Ideal.Read
public import proofs.«01_k».proof.Proof.FfnIn.Spec
public import Idealize.ShloMosaic.Lib.Pipeline.ValueKit

/-! The input half of the feed-forward network as the reference computes it: one stream at a time, then both stacked. -/

@[expose] public section

set_option maxRecDepth 16384

noncomputable section

namespace Cert.Reference2Ideal.FfnIn

open Cert.Reference2Ideal Cert.Reference2Ideal.Gen Cert.Reference2Ideal.Read Cert.Ffn Cert.Diff
open Idealize.ShloMosaic Idealize.ShloMosaic.TcCoe Idealize.SL.Sem

variable (x0 : (⟨S9216x2048, .f32⟩ : BufTy).Contents (Elt Ideal)) (x1 : (⟨S5x9x2048, .f32⟩ : BufTy).Contents (Elt Ideal))
  (x2 : (⟨S2048, .f32⟩ : BufTy).Contents (Elt Ideal)) (x3 : (⟨S2x2x2048x11264, .f32⟩ : BufTy).Contents (Elt Ideal))

/-- The word of one. -/
theorem one32 : Ideal.ofBits .f32 0x3F800000#32 = 1 := by
  simp [Ideal.ofBits, Ideal.ieee, -EReal.coe_mul]; norm_num

/-- The gate as the reference spells it. -/
theorem silu_form (x y : EReal) :
    x * Ideal.div (Ideal.ofBits .f32 0x3F800000#32) (Ideal.ofBits .f32 0x3F800000#32 + Ideal.exp (-x)) * y = silu x * y := by
  rw [one32, silu, zero_sub]

/-- A row of the latent stream. -/
theorem h_lat (b : Fin 4) (r : Fin 2048) (k : Fin 2048) : val_main_v5 (F := Ideal) x0 (ix3 b r k) = x0 (ix2 ⟨b.val * 2048 + r.val, by omega⟩ k) := by
  rw [val_main_v5_apply, val_main_v4_apply]
  exact congrArg x0 (funext fun a => Fin.ext (by match a with | ⟨0, _⟩ => (simp [ix2, ix3] <;> omega) | ⟨1, _⟩ => (simp [ix2, ix3] <;> omega)))

/-- The shift of a latent sample. -/
theorem sh_lat (b : Fin 4) (k : Fin 2048) : val_main_v7 (F := Ideal) x1 (ix3 b 0 k) = x1 (ix3 b.castSucc 0 k) := by
  rw [val_main_v7_apply, val_main_v6_apply, val_main_v1_apply, val_main_v0_apply]
  exact congrArg x1 (funext fun a => Fin.ext (by match a with | ⟨0, _⟩ => (simp [ix3] <;> omega) | ⟨1, _⟩ => (simp [ix3] <;> omega) | ⟨2, _⟩ => (simp [ix3] <;> omega)))

/-- The scale of a latent sample. -/
theorem sc_lat (b : Fin 4) (k : Fin 2048) : val_main_v9 (F := Ideal) x1 (ix3 b 0 k) = x1 (ix3 b.castSucc 1 k) := by
  rw [val_main_v9_apply, val_main_v8_apply, val_main_v1_apply, val_main_v0_apply]
  exact congrArg x1 (funext fun a => Fin.ext (by match a with | ⟨0, _⟩ => (simp [ix3] <;> omega) | ⟨1, _⟩ => (simp [ix3] <;> omega) | ⟨2, _⟩ => (simp [ix3] <;> omega)))

/-- The scale of a normalised latent row. -/
theorem rs_lat (b : Fin 4) (r : Fin 2048) (k : Fin 2048) :
    val_main_v18 (F := Ideal) x0 (ix3 b r k) = rowScale (fun j => x0 (ix2 ⟨b.val * 2048 + r.val, by omega⟩ j)) := by
  rw [val_main_v18_apply, val_main_v17_apply, val_main_v16_apply, val_main_v14_apply, val_main_v12_apply, val_main_v11_apply]
  have e : ∀ j : Fin 2048, val_main_v10 (F := Ideal) x0 (idx_main_v11 (idx_main_v12 (idx_main_v18 (ix3 b r k))) j) = x0 (ix2 ⟨b.val * 2048 + r.val, by omega⟩ j) * x0 (ix2 ⟨b.val * 2048 + r.val, by omega⟩ j) := fun j => by
    have ei : idx_main_v11 (idx_main_v12 (idx_main_v18 (ix3 b r k))) j = ix3 b r j :=
      funext fun a => match a with | ⟨0, _⟩ => rfl | ⟨1, _⟩ => rfl | ⟨2, _⟩ => rfl
    rw [ei, val_main_v10_apply, h_lat]
    rfl
  refine congrArg Ideal.rsqrt (congrArg₂ (· + ·) (congrArg₂ Ideal.div ?_ rfl) rfl)
  refine (congrArg (· + _) zero32).trans ((zero_add _).trans (Finset.sum_congr rfl fun j _ => e j))

/-- A modulated latent row. -/
theorem u_lat (b : Fin 4) (r : Fin 2048) (k : Fin 2048) :
    val_main_v28 (F := Ideal) x0 x1 x2 (ix3 b r k)
      = modRow (fun j => x0 (ix2 ⟨b.val * 2048 + r.val, by omega⟩ j)) (fun j => x2 (ix1 j)) (fun j => x1 (ix3 b.castSucc 1 j)) (fun j => x1 (ix3 b.castSucc 0 j)) k := by
  rw [val_main_v28_apply, val_main_v26_apply, val_main_v22_apply, val_main_v19_apply, val_main_v21_apply, val_main_v20_apply, val_main_v25_apply, val_main_v24_apply, val_main_v27_apply, h_lat, rs_lat]
  have eg : idx_main_v20 (idx_main_v21 (ix3 b r k)) = ix1 k := funext fun a => match a with | ⟨0, _⟩ => rfl
  have ec : idx_main_v25 (ix3 b r k) = ix3 b 0 k := funext fun a => match a with | ⟨0, _⟩ => rfl | ⟨1, _⟩ => rfl | ⟨2, _⟩ => rfl
  have eh : idx_main_v27 (ix3 b r k) = ix3 b 0 k := funext fun a => match a with | ⟨0, _⟩ => rfl | ⟨1, _⟩ => rfl | ⟨2, _⟩ => rfl
  rw [eg, ec, eh, sc_lat, sh_lat]
  show x0 (ix2 ⟨b.val * 2048 + r.val, by omega⟩ k) * rowScale (fun j => x0 (ix2 ⟨b.val * 2048 + r.val, by omega⟩ j)) * x2 (ix1 k) * (Ideal.ofBits .f32 0x3F800000#32 + x1 (ix3 b.castSucc 1 k)) + x1 (ix3 b.castSucc 0 k) = _
  rw [one32, mul_assoc (x0 (ix2 ⟨b.val * 2048 + r.val, by omega⟩ k) * _)]
  rfl

/-- The weights the latent rows meet. -/
theorem w_lat (k : Fin 2048) (j : Fin 11264) : val_main_v30 (F := Ideal) x3 (ix2 k j) = x3 (ix4 0 0 k j) := by
  rw [val_main_v30_apply, val_main_v29_apply]
  exact congrArg x3 (funext fun a => Fin.ext (by match a with | ⟨0, _⟩ => (simp [ix2, ix4] <;> omega) | ⟨1, _⟩ => (simp [ix2, ix4] <;> omega) | ⟨2, _⟩ => (simp [ix2, ix4] <;> omega) | ⟨3, _⟩ => (simp [ix2, ix4] <;> omega)))

/-- A product entry of the latent rows. -/
theorem p_lat (b : Fin 4) (r : Fin 2048) (j : Fin 11264) :
    val_main_v31 (F := Ideal) x0 x1 x2 x3 (ix3 b r j)
      = ∑ k : Fin 2048, modRow (fun j => x0 (ix2 ⟨b.val * 2048 + r.val, by omega⟩ j)) (fun j => x2 (ix1 j)) (fun j => x1 (ix3 b.castSucc 1 j)) (fun j => x1 (ix3 b.castSucc 0 j)) k * x3 (ix4 0 0 k j) := by
  rw [val_main_v31_apply]
  refine Finset.sum_congr rfl fun k _ => ?_
  have el : lidx_main_v31 (ix3 b r j) k = ix3 b r k := funext fun a => match a with | ⟨0, _⟩ => rfl | ⟨1, _⟩ => rfl | ⟨2, _⟩ => rfl
  have er : ridx_main_v31 (ix3 b r j) k = ix2 k j := funext fun a => match a with | ⟨0, _⟩ => rfl | ⟨1, _⟩ => rfl
  rw [el, er, u_lat, w_lat]

/-- A result of the latent stream. -/
theorem o_lat (b : Fin 4) (r : Fin 2048) (C : Fin 5632) :
    val_main_v35 (F := Ideal) x0 x1 x2 x3 (ix3 b r C)
      = gated (modRow (fun j => x0 (ix2 ⟨b.val * 2048 + r.val, by omega⟩ j)) (fun j => x2 (ix1 j)) (fun j => x1 (ix3 b.castSucc 1 j)) (fun j => x1 (ix3 b.castSucc 0 j)))
        (fun k => x3 (ix4 0 0 k ⟨C.val, by omega⟩)) (fun k => x3 (ix4 0 0 k ⟨5632 + C.val, by omega⟩)) := by
  have ea : val_main_v32 (F := Ideal) x0 x1 x2 x3 (ix3 b r C) = ∑ k : Fin 2048, modRow (fun j => x0 (ix2 ⟨b.val * 2048 + r.val, by omega⟩ j)) (fun j => x2 (ix1 j)) (fun j => x1 (ix3 b.castSucc 1 j)) (fun j => x1 (ix3 b.castSucc 0 j)) k * x3 (ix4 0 0 k ⟨C.val, by omega⟩) := by
    rw [val_main_v32_apply, ← p_lat x0 x1 x2 x3 b r ⟨C.val, by omega⟩]
    exact congrArg _ (funext fun a => match a with | ⟨0, _⟩ => rfl | ⟨1, _⟩ => rfl | ⟨2, _⟩ => rfl)
  have eb : val_main_v33 (F := Ideal) x0 x1 x2 x3 (ix3 b r C) = ∑ k : Fin 2048, modRow (fun j => x0 (ix2 ⟨b.val * 2048 + r.val, by omega⟩ j)) (fun j => x2 (ix1 j)) (fun j => x1 (ix3 b.castSucc 1 j)) (fun j => x1 (ix3 b.castSucc 0 j)) k * x3 (ix4 0 0 k ⟨5632 + C.val, by omega⟩) := by
    rw [val_main_v33_apply, ← p_lat x0 x1 x2 x3 b r ⟨5632 + C.val, by omega⟩]
    exact congrArg _ (funext fun a => match a with | ⟨0, _⟩ => rfl | ⟨1, _⟩ => rfl | ⟨2, _⟩ => rfl)
  rw [val_main_v35_apply, val_main_v34_apply, val_main_call0_v5_apply, val_main_call0_v3_apply, val_main_call0_v1_apply, val_main_call0_v0_apply,
    val_main_call0_v4_apply, val_main_call0_v2_apply, val_main_call0_cst_apply, val_main_call0_cst_0_apply, ea, eb]
  exact silu_form _ _

/-- A row of the context stream. -/
theorem h_ctx (b : Fin 4) (r : Fin 256) (k : Fin 2048) : val_main_v37 (F := Ideal) x0 (ix3 b r k) = x0 (ix2 ⟨8192 + (b.val * 256 + r.val), by omega⟩ k) := by
  rw [val_main_v37_apply, val_main_v36_apply]
  exact congrArg x0 (funext fun a => Fin.ext (by match a with | ⟨0, _⟩ => (simp [ix2, ix3] <;> omega) | ⟨1, _⟩ => (simp [ix2, ix3] <;> omega)))

/-- The shift of the context. -/
theorem sh_ctx (k : Fin 2048) : val_main_v39 (F := Ideal) x1 (ix1 k) = x1 (ix3 4 0 k) := by
  rw [val_main_v39_apply, val_main_v38_apply, val_main_v3_apply, val_main_v2_apply]
  exact congrArg x1 (funext fun a => Fin.ext (by match a with | ⟨0, _⟩ => (simp [ix1, ix3] <;> omega) | ⟨1, _⟩ => (simp [ix1, ix3] <;> omega) | ⟨2, _⟩ => (simp [ix1, ix3] <;> omega)))

/-- The scale of the context. -/
theorem sc_ctx (k : Fin 2048) : val_main_v41 (F := Ideal) x1 (ix1 k) = x1 (ix3 4 1 k) := by
  rw [val_main_v41_apply, val_main_v40_apply, val_main_v3_apply, val_main_v2_apply]
  exact congrArg x1 (funext fun a => Fin.ext (by match a with | ⟨0, _⟩ => (simp [ix1, ix3] <;> omega) | ⟨1, _⟩ => (simp [ix1, ix3] <;> omega) | ⟨2, _⟩ => (simp [ix1, ix3] <;> omega)))

/-- The scale of a normalised context row. -/
theorem rs_ctx (b : Fin 4) (r : Fin 256) (k : Fin 2048) :
    val_main_v50 (F := Ideal) x0 (ix3 b r k) = rowScale (fun j => x0 (ix2 ⟨8192 + (b.val * 256 + r.val), by omega⟩ j)) := by
  rw [val_main_v50_apply, val_main_v49_apply, val_main_v48_apply, val_main_v46_apply, val_main_v44_apply, val_main_v43_apply]
  have e : ∀ j : Fin 2048, val_main_v42 (F := Ideal) x0 (idx_main_v43 (idx_main_v44 (idx_main_v50 (ix3 b r k))) j) = x0 (ix2 ⟨8192 + (b.val * 256 + r.val), by omega⟩ j) * x0 (ix2 ⟨8192 + (b.val * 256 + r.val), by omega⟩ j) := fun j => by
    have ei : idx_main_v43 (idx_main_v44 (idx_main_v50 (ix3 b r k))) j = ix3 b r j :=
      funext fun a => match a with | ⟨0, _⟩ => rfl | ⟨1, _⟩ => rfl | ⟨2, _⟩ => rfl
    rw [ei, val_main_v42_apply, h_ctx]
    rfl
  refine congrArg Ideal.rsqrt (congrArg₂ (· + ·) (congrArg₂ Ideal.div ?_ rfl) rfl)
  refine (congrArg (· + _) zero32).trans ((zero_add _).trans (Finset.sum_congr rfl fun j _ => e j))

/-- A modulated context row. -/
theorem u_ctx (b : Fin 4) (r : Fin 256) (k : Fin 2048) :
    val_main_v62 (F := Ideal) x0 x1 x2 (ix3 b r k)
      = modRow (fun j => x0 (ix2 ⟨8192 + (b.val * 256 + r.val), by omega⟩ j)) (fun j => x2 (ix1 j)) (fun j => x1 (ix3 4 1 j)) (fun j => x1 (ix3 4 0 j)) k := by
  rw [val_main_v62_apply, val_main_v59_apply, val_main_v54_apply, val_main_v51_apply, val_main_v53_apply, val_main_v52_apply, val_main_v58_apply, val_main_v57_apply, val_main_v56_apply, val_main_v61_apply, val_main_v60_apply, h_ctx, rs_ctx]
  have eg : idx_main_v52 (idx_main_v53 (ix3 b r k)) = ix1 k := funext fun a => match a with | ⟨0, _⟩ => rfl
  have ec : idx_main_v57 (idx_main_v58 (ix3 b r k)) = ix1 k := funext fun a => match a with | ⟨0, _⟩ => rfl
  have eh : idx_main_v60 (idx_main_v61 (ix3 b r k)) = ix1 k := funext fun a => match a with | ⟨0, _⟩ => rfl
  rw [eg, ec, eh, sc_ctx, sh_ctx]
  show x0 (ix2 ⟨8192 + (b.val * 256 + r.val), by omega⟩ k) * rowScale (fun j => x0 (ix2 ⟨8192 + (b.val * 256 + r.val), by omega⟩ j)) * x2 (ix1 k) * (Ideal.ofBits .f32 0x3F800000#32 + x1 (ix3 4 1 k)) + x1 (ix3 4 0 k) = _
  rw [one32, mul_assoc (x0 (ix2 ⟨8192 + (b.val * 256 + r.val), by omega⟩ k) * _)]
  rfl

/-- The weights the context rows meet. -/
theorem w_ctx (k : Fin 2048) (j : Fin 11264) : val_main_v64 (F := Ideal) x3 (ix2 k j) = x3 (ix4 0 0 k j) := by
  rw [val_main_v64_apply, val_main_v63_apply]
  exact congrArg x3 (funext fun a => Fin.ext (by match a with | ⟨0, _⟩ => (simp [ix2, ix4] <;> omega) | ⟨1, _⟩ => (simp [ix2, ix4] <;> omega) | ⟨2, _⟩ => (simp [ix2, ix4] <;> omega) | ⟨3, _⟩ => (simp [ix2, ix4] <;> omega)))

/-- A product entry of the context rows. -/
theorem p_ctx (b : Fin 4) (r : Fin 256) (j : Fin 11264) :
    val_main_v65 (F := Ideal) x0 x1 x2 x3 (ix3 b r j)
      = ∑ k : Fin 2048, modRow (fun j => x0 (ix2 ⟨8192 + (b.val * 256 + r.val), by omega⟩ j)) (fun j => x2 (ix1 j)) (fun j => x1 (ix3 4 1 j)) (fun j => x1 (ix3 4 0 j)) k * x3 (ix4 0 0 k j) := by
  rw [val_main_v65_apply]
  refine Finset.sum_congr rfl fun k _ => ?_
  have el : lidx_main_v65 (ix3 b r j) k = ix3 b r k := funext fun a => match a with | ⟨0, _⟩ => rfl | ⟨1, _⟩ => rfl | ⟨2, _⟩ => rfl
  have er : ridx_main_v65 (ix3 b r j) k = ix2 k j := funext fun a => match a with | ⟨0, _⟩ => rfl | ⟨1, _⟩ => rfl
  rw [el, er, u_ctx, w_ctx]

/-- A result of the context stream. -/
theorem o_ctx (b : Fin 4) (r : Fin 256) (C : Fin 5632) :
    val_main_v69 (F := Ideal) x0 x1 x2 x3 (ix3 b r C)
      = gated (modRow (fun j => x0 (ix2 ⟨8192 + (b.val * 256 + r.val), by omega⟩ j)) (fun j => x2 (ix1 j)) (fun j => x1 (ix3 4 1 j)) (fun j => x1 (ix3 4 0 j)))
        (fun k => x3 (ix4 0 0 k ⟨C.val, by omega⟩)) (fun k => x3 (ix4 0 0 k ⟨5632 + C.val, by omega⟩)) := by
  have ea : val_main_v66 (F := Ideal) x0 x1 x2 x3 (ix3 b r C) = ∑ k : Fin 2048, modRow (fun j => x0 (ix2 ⟨8192 + (b.val * 256 + r.val), by omega⟩ j)) (fun j => x2 (ix1 j)) (fun j => x1 (ix3 4 1 j)) (fun j => x1 (ix3 4 0 j)) k * x3 (ix4 0 0 k ⟨C.val, by omega⟩) := by
    rw [val_main_v66_apply, ← p_ctx x0 x1 x2 x3 b r ⟨C.val, by omega⟩]
    exact congrArg _ (funext fun a => match a with | ⟨0, _⟩ => rfl | ⟨1, _⟩ => rfl | ⟨2, _⟩ => rfl)
  have eb : val_main_v67 (F := Ideal) x0 x1 x2 x3 (ix3 b r C) = ∑ k : Fin 2048, modRow (fun j => x0 (ix2 ⟨8192 + (b.val * 256 + r.val), by omega⟩ j)) (fun j => x2 (ix1 j)) (fun j => x1 (ix3 4 1 j)) (fun j => x1 (ix3 4 0 j)) k * x3 (ix4 0 0 k ⟨5632 + C.val, by omega⟩) := by
    rw [val_main_v67_apply, ← p_ctx x0 x1 x2 x3 b r ⟨5632 + C.val, by omega⟩]
    exact congrArg _ (funext fun a => match a with | ⟨0, _⟩ => rfl | ⟨1, _⟩ => rfl | ⟨2, _⟩ => rfl)
  rw [val_main_v69_apply, val_main_v68_apply, val_main_call1_v5_apply, val_main_call1_v3_apply, val_main_call1_v1_apply, val_main_call1_v0_apply,
    val_main_call1_v4_apply, val_main_call1_v2_apply, val_main_call1_cst_apply, val_main_call1_cst_0_apply, ea, eb]
  exact silu_form _ _

/-- Every result of the reference. -/
theorem result_at (R : Fin 9216) (C : Fin 5632) :
    val_main_v73 (F := Ideal) x0 x1 x2 x3 (ix2 R C)
      = ffnIn (fun r j => x0 (ix2 r j)) (fun s q j => x1 (ix3 s q j)) (fun j => x2 (ix1 j)) (fun k j => x3 (ix4 0 0 k j)) R C := by
  rw [val_main_v73_apply]
  show val_main_v72 (F := Ideal) x0 x1 x2 x3 (ix2 R C) = _
  unfold val_main_v72
  by_cases hR : R.val < 8192
  · rw [concatenate_pair_apply_left (s₁ := S8192x5632) (s₂ := S1024x5632) 0 _ _ _ (ix2 R C) rfl (ix2 (⟨R.val, hR⟩ : Fin 8192) C)
      (fun a => match a with | ⟨0, _⟩ => rfl | ⟨1, _⟩ => rfl), val_main_v70_apply]
    have ei : idx_main_v70 (ix2 (⟨R.val, hR⟩ : Fin 8192) C) = ix3 (⟨R.val / 2048, by omega⟩ : Fin 4) (⟨R.val % 2048, by omega⟩ : Fin 2048) C :=
      funext fun a => Fin.ext (by match a with | ⟨0, _⟩ => (simp [ix2, ix3] <;> omega) | ⟨1, _⟩ => (simp [ix2, ix3] <;> omega) | ⟨2, _⟩ => (simp [ix2, ix3] <;> omega))
    rw [ei, o_lat]
    have e0 : (⟨R.val / 2048 * 2048 + R.val % 2048, by omega⟩ : Fin 9216) = R := Fin.ext (by show R.val / 2048 * 2048 + R.val % 2048 = R.val; omega)
    have e1 : (⟨R.val / 2048, by omega⟩ : Fin 4).castSucc = (⟨min (R.val / 2048) 4, by omega⟩ : Fin 5) := Fin.ext (by show R.val / 2048 = min (R.val / 2048) 4; omega)
    rw [e1, ffnIn]
    exact congrArg (fun q : Fin 9216 => gated (modRow (fun j => x0 (ix2 q j)) _ _ _) _ _) e0
  · rw [concatenate_pair_apply_right (s₁ := S8192x5632) (s₂ := S1024x5632) 0 _ _ _ (ix2 R C) rfl rfl (ix2 (⟨R.val - 8192, by omega⟩ : Fin 1024) C)
      (fun a ha => match a, ha with | ⟨0, _⟩, ha => absurd rfl ha | ⟨1, _⟩, _ => rfl)
      (by show R.val - 8192 + 8192 = R.val; omega), val_main_v71_apply]
    have ei : idx_main_v71 (ix2 (⟨R.val - 8192, by omega⟩ : Fin 1024) C) = ix3 (⟨(R.val - 8192) / 256, by omega⟩ : Fin 4) (⟨(R.val - 8192) % 256, by omega⟩ : Fin 256) C :=
      funext fun a => Fin.ext (by match a with | ⟨0, _⟩ => (simp [ix2, ix3] <;> omega) | ⟨1, _⟩ => (simp [ix2, ix3] <;> omega) | ⟨2, _⟩ => (simp [ix2, ix3] <;> omega))
    rw [ei, o_ctx]
    have e0 : (⟨8192 + ((R.val - 8192) / 256 * 256 + (R.val - 8192) % 256), by omega⟩ : Fin 9216) = R :=
      Fin.ext (by show 8192 + ((R.val - 8192) / 256 * 256 + (R.val - 8192) % 256) = R.val; omega)
    have e1 : (4 : Fin 5) = (⟨min (R.val / 2048) 4, by omega⟩ : Fin 5) := Fin.ext (by show 4 = min (R.val / 2048) 4; omega)
    rw [e1, ffnIn]
    exact congrArg (fun q : Fin 9216 => gated (modRow (fun j => x0 (ix2 q j)) _ _ _) _ _) e0

end Cert.Reference2Ideal.FfnIn

end
-- ==== Proof.FfnIn.Equation.lean ====
module

public import proofs.«01_k».proof.Defs
public import proofs.«01_k».proof.Proof.Gen.Reference2Ideal.Run
public import proofs.«01_k».proof.Proof.FfnIn.Kernel
public import proofs.«01_k».proof.Proof.FfnIn.Reference

/-! The input half of the feed-forward network: the call and the reference end with the same array, on any arguments. -/

@[expose] public section

noncomputable section

namespace Cert.Proof

open Idealize.ShloMosaic Idealize.SL.Sem

attribute [local instance] Cert.Kernel2Ideal.Gen.facts Cert.Reference2Ideal.Gen.facts in
/-- The call of the feed-forward input half computes the reference's result. -/
theorem ffn_in_equal : algebraic_Kernel2Ideal_Reference2Ideal := by
  intro m g m' g' hp ha
  refine ⟨fun c => fun i => Cert.Ffn.ffnIn
      (fun r j => m ((c.tc : Thread Cert.Kernel2Ideal.nD Cert.Kernel2Ideal.τ).loc Cert.Kernel2Ideal.main_arg0) (ix2 r j))
      (fun s q j => m ((c.tc : Thread Cert.Kernel2Ideal.nD Cert.Kernel2Ideal.τ).loc Cert.Kernel2Ideal.main_arg1) (ix3 s q j))
      (fun j => m ((c.tc : Thread Cert.Kernel2Ideal.nD Cert.Kernel2Ideal.τ).loc Cert.Kernel2Ideal.main_arg2) (ix1 j))
      (fun k j => m ((c.tc : Thread Cert.Kernel2Ideal.nD Cert.Kernel2Ideal.τ).loc Cert.Kernel2Ideal.main_arg3) (ix4 0 0 k j)) (i 0) (i 1),
    (θ_run _ _ _).mono (fun r h c => ?_) (Cert.Kernel2Ideal.Value.run_blocks (F := Ideal) m g),
    (θ_run _ _ _).mono (fun r h c => ?_) (Cert.Reference2Ideal.Value.run (F := Ideal) m' g')⟩
  · obtain ⟨h5, k⟩ := h c
    exact ⟨h5.trans (Cert.Kernel2Ideal.FfnIn.final5 m c), k⟩
  · obtain ⟨h5, k⟩ := h c
    obtain ⟨a0, a1, a2, a3⟩ := ha c
    refine ⟨h5.trans ((Cert.Reference2Ideal.Read.val_main_v73_eq m' c).trans ?_), k⟩
    rw [a0, a1, a2, a3]
    funext i
    obtain ⟨R, C, rfl⟩ : ∃ (R : Fin 9216) (C : Fin 5632), i = ix2 R C :=
      ⟨i 0, i 1, funext fun a => match a with | ⟨0, _⟩ => rfl | ⟨1, _⟩ => rfl⟩
    exact Cert.Reference2Ideal.FfnIn.result_at _ _ _ _ R C

end Cert.Proof

end
-- ==== Proof.FfnOut.Spec.lean ====
module

public import proofs.«01_k».proof.Proof.FfnIn.Spec

/-! The output half of the feed-forward network for one row: the product with the output weights, its scaled root mean
    square normalisation under half the gate, added to the residual row. -/

@[expose] public section

noncomputable section

namespace Cert.Ffn

open Idealize.ShloMosaic

/-- The residual row `h` plus the normalised row `y` under the gate and the norm's weight. -/
def residRow (y h gate g : Fin 2048 → EReal) (j : Fin 2048) : EReal :=
  h j + y j * rowScale y * (gate j * Ideal.ofBits .f32 0x3F000000#32 * g j)

/-- A product entry. -/
def dotOf {n : ℕ} (a w : Fin n → EReal) : EReal := ∑ k, a k * w k

/-- Row `R`, column `C` of the result: the row's sample is its tile of 2048 rows, the context rows sharing the last. -/
def ffnOut (a : Fin 9216 → Fin 5632 → EReal) (w : Fin 5632 → Fin 2048 → EReal) (h : Fin 9216 → Fin 2048 → EReal)
    (md : Fin 5 → Fin 9 → Fin 2048 → EReal) (g : Fin 2048 → EReal) (R : Fin 9216) (C : Fin 2048) : EReal :=
  residRow (fun j => dotOf (a R) fun k => w k j) (h R) (md ⟨min (R.val / 2048) 4, by omega⟩ 2) g C

end Cert.Ffn

end
-- ==== Proof.FfnOut.Block.lean ====
module

public import proofs.«01_k».proof.Proof.Gen.Kernel3Ideal.Value
public import Idealize.ShloMosaic.Lib.Pipeline.ValueKit
public import Idealize.ShloMosaic.Lib.Pipeline.ValueKit.Held
public import Idealize.ShloMosaic.Lib.Pipeline.ReadBack
public import Idealize.ShloMosaic.Lib.Writes
public import Idealize.ShloMosaic.Lib.VecWindow
public import proofs.«01_k».proof.Proof.FfnOut.Spec

/-! What one block of the feed-forward output kernel computes. -/

@[expose] public section

set_option maxRecDepth 16384

noncomputable section

namespace Cert.Kernel3Ideal.FfnOut

open Cert.Ffn
open Cert.Kernel3Ideal Cert.Kernel3Ideal.Gen
open Idealize.ShloMosaic Idealize.ShloMosaic.TcCoe Idealize.SL.Sem
open Idealize.ShloMosaic.Pipeline (Dat)

theorem pay1_apply (a : Vec Ideal S1024x1408 .bf16) (w : Vec Ideal S1408x2048 .bf16) (i : Fin 1024) (j : Fin 2048) :
    k0_pay1 a w (ix2 i j) = ∑ k : Fin 1408, a (ix2 i k) * w (ix2 k j) := by
  pointwise [k0_pay1]

theorem pay2_apply (p : Vec Ideal S1024x2048 .f32) (a : Vec Ideal S1024x1408 .bf16) (w : Vec Ideal S1408x2048 .bf16) (i : Fin 1024) (j : Fin 2048) :
    k0_pay2 p a w (ix2 i j) = p (ix2 i j) + ∑ k : Fin 1408, a (ix2 i k) * w (ix2 k j) := by
  pointwise [k0_pay2]

theorem pay3_apply (ga : Vec Ideal S1x1x2048 .f32) (g : Vec Ideal S1x2048 .f32) (y h : Vec Ideal S32x2048 .f32)
    (i : Fin 32) (j : Fin 2048) : k0_pay3 ga g y h (ix2 i j)
      = residRow (fun k => y (ix2 i k)) (fun k => h (ix2 i k)) (fun k => ga (ix3 0 0 k)) (fun k => g (ix2 0 k)) j := by
  pointwise [k0_pay3]
  rfl

/-- The whole output block after the loop, from the accumulated tile `y` and the residual tile `h`. -/
def residTile (y h : Vec Ideal S1024x2048 .f32) (ga : Vec Ideal S1x1x2048 .f32) (g : Vec Ideal S1x2048 .f32) :
    Vec Ideal S1024x2048 .f32 :=
  fun z => residRow (fun k => y (ix2 (z 0) k)) (fun k => h (ix2 (z 0) k)) (fun k => ga (ix3 0 0 k)) (fun k => g (ix2 0 k)) (z 1)

theorem ld_rows (x : Vec Ideal S1024x2048 .f32) (r : ℕ) (hb) (i : Fin 32) (j k : Fin 2048) :
    View.ld x (Rect.unit (s := S1024x2048) ![r, 0] ![32, 2048] hb) (ix2 i k)
      = x (ix2 (((Rect.unit (s := S1024x2048) ![r, 0] ![32, 2048] hb).emb (ix2 i j)) 0) k) := by
  rw [View.ld_apply]
  congr 1
  refine funext fun a => match a with
    | ⟨0, _⟩ => Fin.ext (by simp [Rect.idx_unit_val])
    | ⟨1, _⟩ => Fin.ext (by simp [Rect.idx_unit_val])

theorem rows_at (x h : Vec Ideal S1024x2048 .f32) (ga : Vec Ideal S1x1x2048 .f32) (g : Vec Ideal S1x2048 .f32)
    (off : Fin 2 → ℕ) (r : ℕ) (e : off = ![r, 0]) (hb) (i : Fin 32) (j : Fin 2048) :
    residRow (fun k => View.ld x (Rect.unit (s := S1024x2048) off ![32, 2048] hb) (ix2 i k))
        (fun k => View.ld h (Rect.unit (s := S1024x2048) off ![32, 2048] hb) (ix2 i k))
        (fun k => ga (ix3 0 0 k)) (fun k => g (ix2 0 k)) j
      = residTile x h ga g ((Rect.unit (s := S1024x2048) off ![32, 2048] hb).emb (ix2 i j)) := by
  subst e
  have a1 : ((Rect.unit (s := S1024x2048) ![r, 0] ![32, 2048] hb).emb (ix2 i j)) 1 = j := Fin.ext (by
    simp [Rect.idx_unit_val])
  unfold residTile
  rw [a1]
  congr 1
  · funext k
    exact ld_rows x r hb i j k
  · funext k
    exact ld_rows h r hb i j k

/-- One trip writes thirty-two rows of it. -/
theorem trip_rows (c : Dev nD) (t : Fin cfg0.N) (h3 : k0_cond3 (grid0.coords t) = 1#1)
    (x : Vec Ideal S1024x2048 .f32) (h : Vec Ideal S1024x2048 .f32) (ga : Vec Ideal S1x1x2048 .f32) (g : Vec Ideal S1x2048 .f32)
    (X) (hX : scM0_0.view.read (Elt Ideal) X = x) (k : Fin k0_t1_loop.trips) :
    ∀ p ∈ tripL_k0_t1 (F := Ideal) Variants.none c none (grid0.coords t) (ms0_0 t) (hs0_0 t) (ms0_1 t) (hs0_1 t) (ms0_2 t) (hs0_2 t)
        (ms0_3 t) (hs0_3 t) (ms0_4 t) (hs0_4 t) (ms0_5 t) (hs0_5 t) scM0_0 (Memref.isWhole_whole _) h3 ga g ((hs0_2 t).unread h) X k,
      ∀ y, p.2 y = residTile x h ga g (p.1.emb y) := by
  unfold tripL_k0_t1 trip_k0_t1
  dsimp only
  sl_unfold_words
  simp only [List.mem_singleton, forall_eq]
  have e : ![BitVec.toNat (Scalar.indexCast (Scalar.muli (Scf.iv 0#32 1#32 ↑k) 32#32)), 0] = ![32 * k.val, 0] := k0_off1_eq k
  intro y
  obtain ⟨i, j, rfl⟩ : ∃ (i : Fin 32) (j : Fin 2048), y = ix2 i j :=
    ⟨y 0, y 1, funext fun a => match a with | ⟨0, _⟩ => rfl | ⟨1, _⟩ => rfl⟩
  refine (pay3_apply _ _ _ _ i j).trans ?_
  simp only [View.readAt_eq_ld, Memref.IsWhole.read_unread, hX]
  exact rows_at x h ga g _ _ e _ i j

theorem loop_rows (c : Dev nD) (t : Fin cfg0.N) (h3 : k0_cond3 (grid0.coords t) = 1#1)
    (x : Vec Ideal S1024x2048 .f32) (h : Vec Ideal S1024x2048 .f32) (ga : Vec Ideal S1x1x2048 .f32) (g : Vec Ideal S1x2048 .f32)
    (X) (hX : scM0_0.view.read (Elt Ideal) X = x) (n : ℕ) (hn : n ≤ k0_t1_loop.trips) :
    ∀ p ∈ pb_k0_t1 (F := Ideal) Variants.none c none (grid0.coords t) (ms0_0 t) (hs0_0 t) (ms0_1 t) (hs0_1 t) (ms0_2 t) (hs0_2 t)
        (ms0_3 t) (hs0_3 t) (ms0_4 t) (hs0_4 t) (ms0_5 t) (hs0_5 t) scM0_0 (Memref.isWhole_whole _) h3 ga g ((hs0_2 t).unread h) X n,
      ∀ y, p.2 y = residTile x h ga g (p.1.emb y) := by
  induction n with
  | zero => intro p hp; exact absurd hp List.not_mem_nil
  | succ n ih =>
    intro p hp
    rw [pb_k0_t1_succ _ _ _ _ _ _ _ _ _ _ _ _ _ _ _ _ _ _ _ _ _ _ _ ⟨n, hn⟩] at hp
    rcases List.mem_append.mp hp with q | q
    · exact trip_rows c t h3 x h ga g X hX ⟨n, hn⟩ p q
    · exact ih (by omega) p q

variable (m : (ℓ : Loc nD τ sig) → Buf (Elt Ideal) ℓ)

/-- At the first point of a row tile the scratch holds the first partial product … -/
theorem accA (c : Dev nD) (t : Fin cfg0.N) (h : t.val % 4 = 0) :
    (outsAt0 m c t.val t.isLt).2 = k0_pay1 (iblk m c 0 t) (iblk m c 1 t) := by
  rw [outsAt0_A m c t h (by omega) (by omega)]
  frame_out

/-- … and every later point adds its own. -/
theorem accB (c : Dev nD) (t : Fin cfg0.N) (h : ¬ t.val % 4 = 0) :
    (outsAt0 m c t.val t.isLt).2
      = k0_pay2 (outsAt0 m c (t.val-1) (Nat.lt_of_le_of_lt (Nat.sub_le _ _) t.isLt)).2 (iblk m c 0 t) (iblk m c 1 t) := by
  by_cases h3 : t.val % 4 = 3
  · rw [outsAt0_C m c t h (by omega) h3]
    frame_out
    simp only [read_unread_whole]
  · rw [outsAt0_B m c t h (by omega) h3]
    frame_out
    simp only [read_unread_whole]

/-- The output block at the last point of a row tile. -/
theorem out_at (c : Dev nD) (t : Fin cfg0.N) (h : t.val % 4 = 3) (y) :
    (outsAt0 m c t.val t.isLt).1 y = residTile (outsAt0 m c t.val t.isLt).2 (iblk m c 2 t)
      (View.ld (iblk m c 3 t) (Rect.unit ![0, 2, 0] ![1, 1, 2048] inb_S1x9x2048_S1x1x2048_0_2_0)) (iblk m c 4 t) y := by
  rw [accB m c t (by omega), outsAt0_C m c t (by omega) (by omega) h]
  dsimp only
  unfold out0_C_5
  refine View.read_writes_apply_of_pieces _ _ _ _ ?_ y (cover0_C_5 ..)
  unfold kernelRun0_C
  dsimp only
  sl_unfold_words
  simp (disch := decide) only [View.readAt_eq_ld, Memref.IsWhole.read_unread, View.ld_unit_lit]
  refine loop_rows c t ((hcond0_2 t).mpr h) _ (iblk m c 2 t) _ (iblk m c 4 t) _ ?_ k0_t1_loop.trips le_rfl
  rw [read_unread_whole]
  exact View.read_writes_full _ _ _ _ _

end Cert.Kernel3Ideal.FfnOut
end
-- ==== Proof.FfnOut.Kernel.lean ====
module

public import proofs.«01_k».proof.Proof.FfnOut.Block

/-! What the feed-forward output kernel's result array holds after the run, element by element. -/

@[expose] public section

set_option maxRecDepth 16384

noncomputable section

namespace Cert.Kernel3Ideal.FfnOut

open Cert.Ffn
open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, t.val % 4] ∧ win0_1.index t = ![t.val % 4, 0]
    ∧ win0_2.index t = ![t.val / 4, 0] ∧ win0_3.index t = ![min (t.val / 4 / 2) 4, 0, 0] ∧ win0_4.index t = ![0, 0]
    ∧ win0_5.index t = ![t.val / 4, 0] := (by decide +kernel : ∀ t : Fin grid0.N, _)

/-- The blocks the body reads, as elements of the argument arrays. -/
theorem x0 (c : Dev nD) (t : Fin cfg0.N) (i : Fin 1024) (k : Fin 1408) (y : S9216x5632.Idx)
    (h0 : (y 0).val = t.val / 4 * 1024 + i.val) (h1 : (y 1).val = t.val % 4 * 1408 + k.val) :
    iblk m c 0 t (ix2 i k) = m ((c : Thread nD τ).loc main_arg0) y := by
  blk_simp [iblk]
  entry_read
  pointwise
  blk_ext [V, idx t]

theorem x1 (c : Dev nD) (t : Fin cfg0.N) (k : Fin 1408) (j : Fin 2048) (K : Fin 5632) (h : K.val = t.val % 4 * 1408 + k.val) :
    iblk m c 1 t (ix2 k j) = m ((c : Thread nD τ).loc main_arg1) (ix4 0 0 K j) := by
  blk_simp [iblk]
  entry_read
  pointwise
  blk_ext [V, idx t]

theorem x2 (c : Dev nD) (t : Fin cfg0.N) (i : Fin 1024) (k : Fin 2048) (y : S9216x2048.Idx)
    (h0 : (y 0).val = t.val / 4 * 1024 + i.val) (h1 : (y 1).val = k.val) :
    iblk m c 2 t (ix2 i k) = m ((c : Thread nD τ).loc main_arg2) y := by
  blk_ext [iblk, V, idx t]

theorem x3 (c : Dev nD) (t : Fin cfg0.N) (r : Nat) (hb) (k : Fin 2048) (y : S5x9x2048.Idx)
    (h0 : (y 0).val = min (t.val / 4 / 2) 4) (h1 : (y 1).val = r) (h2 : (y 2).val = k.val) :
    View.ld (iblk m c 3 t) (Rect.unit ![0, r, 0] ![1, 1, 2048] hb) (ix3 0 0 k) = m ((c : Thread nD τ).loc main_arg3) y := by
  rw [View.ld_apply]
  blk_ext [iblk, V, idx t]
  all_goals (simp [Rect.idx_unit_val]; omega)

theorem x4 (c : Dev nD) (t : Fin cfg0.N) (k : Fin 2048) :
    iblk m c 4 t (ix2 0 k) = m ((c : Thread nD τ).loc main_arg4) (ix1 k) := by
  blk_simp [iblk]
  entry_read
  pointwise
  blk_ext [V, idx t]

/-- The partial product of the point `n`, at one element. -/
def part (c : Dev nD) (n : ℕ) (z : S1024x2048.Idx) : EReal :=
  if h : n < cfg0.N then dotOf (fun k : Fin 1408 => iblk m c 0 ⟨n, h⟩ (ix2 (z 0) k)) (fun k => iblk m c 1 ⟨n, h⟩ (ix2 k (z 1))) else 0

/-- The accumulator at the last point of a row tile: the whole product. -/
theorem acc_at (c : Dev nD) (t : Fin cfg0.N) (h : t.val % 4 = 3) (i : Fin 1024) (j : Fin 2048) (R : Fin 9216)
    (hR : R.val = t.val / 4 * 1024 + i.val) :
    (outsAt0 m c t.val t.isLt).2 (ix2 i j)
      = dotOf (fun k : Fin 5632 => m ((c : Thread nD τ).loc main_arg0) (ix2 R k)) (fun k => m ((c : Thread nD τ).loc main_arg1) (ix4 0 0 k j)) := by
  have hs := Pipeline.eq_sum_of_reset_step_of_mod (fun n h => (outsAt0 m c n h).2 (ix2 i j)) 4 (0 : EReal) (fun n => part m c n (ix2 i j))
    (fun t h => by
      show _ = 0 + part m c t.val (ix2 i j)
      rw [accA m c t h, pay1_apply, part, dif_pos t.isLt, zero_add]
      rfl)
    (fun t h => by
      show _ = _ + part m c t.val (ix2 i j)
      rw [accB m c t h, pay2_apply, part, dif_pos t.isLt]
      rfl) t h
  refine hs.trans ?_
  have ht : t.val < 36 := t.isLt
  rw [zero_add, Finset.sum_range]
  have hN : ∀ s : Fin (3 + 1), 4 * (t.val / 4) + s.val < cfg0.N := fun s => by
    show _ < 36
    omega
  have hp : ∀ s : Fin (3 + 1), part m c (4 * (t.val / 4) + s.val) (ix2 i j)
      = dotOf (fun k : Fin 1408 => iblk m c 0 ⟨4 * (t.val / 4) + s.val, hN s⟩ (ix2 i k)) (fun k => iblk m c 1 ⟨4 * (t.val / 4) + s.val, hN s⟩ (ix2 k j)) :=
    fun s => dif_pos (hN s)
  simp only [hp, dotOf]
  refine Fin.sum_mul_add_congr fun s k hl => ?_
  refine congrArg₂ (fun p q : EReal => p * q) (x0 m c _ i k _ ?_ ?_) (x1 m c _ k j _ ?_)
  · show R.val = (4 * (t.val / 4) + s.val) / 4 * 1024 + i.val
    omega
  · show s.val * 1408 + k.val = (4 * (t.val / 4) + s.val) % 4 * 1408 + k.val
    omega
  · show s.val * 1408 + k.val = (4 * (t.val / 4) + s.val) % 4 * 1408 + k.val
    omega

theorem point5 (c : Dev nD) (t : Fin cfg0.N) (h : t.val % 4 = 3) (y : S1024x2048.Idx) (R : Fin 9216) (C : Fin 2048)
    (hR : R.val = t.val / 4 * 1024 + (y 0).val) (hC : C.val = (y 1).val) :
    (outsAt0 m c t.val t.isLt).1 y
      = ffnOut (fun r k => m ((c : Thread nD τ).loc main_arg0) (ix2 r k)) (fun k j => m ((c : Thread nD τ).loc main_arg1) (ix4 0 0 k j))
          (fun r j => m ((c : Thread nD τ).loc main_arg2) (ix2 r j)) (fun s q j => m ((c : Thread nD τ).loc main_arg3) (ix3 s q j))
          (fun j => m ((c : Thread nD τ).loc main_arg4) (ix1 j)) R C := by
  obtain ⟨i, j, rfl⟩ : ∃ (i : Fin 1024) (j : Fin 2048), y = ix2 i j :=
    ⟨y 0, y 1, funext fun a => match a with | ⟨0, _⟩ => rfl | ⟨1, _⟩ => rfl⟩
  have hR' : R.val = t.val / 4 * 1024 + i.val := hR
  obtain rfl : C = j := Fin.ext hC
  have ht : t.val < 36 := t.isLt
  rw [out_at m c t h, residTile, ffnOut]
  show residRow (fun k => (outsAt0 m c t.val t.isLt).2 (ix2 i k)) (fun k => iblk m c 2 t (ix2 i k)) _ _ C = _
  congr 1
  · funext k
    exact acc_at m c t h i k R hR'
  · funext k
    exact x2 m c t i k _ hR' rfl
  · funext k
    exact x3 m c t 2 _ k _ (by show min (R.val / 2048) 4 = min (t.val / 4 / 2) 4; omega) rfl rfl
  · funext k
    exact x4 m c t k

/-- The result after the run. -/
theorem final5 (c : Dev nD) : (dats m 0 c).arrAt 5 cfg0.N
    = fun i => ffnOut (fun r k => m ((c : Thread nD τ).loc main_arg0) (ix2 r k)) (fun k j => m ((c : Thread nD τ).loc main_arg1) (ix4 0 0 k j))
          (fun r j => m ((c : Thread nD τ).loc main_arg2) (ix2 r j)) (fun s q j => m ((c : Thread nD τ).loc main_arg3) (ix3 s q j))
          (fun j => m ((c : Thread nD τ).loc main_arg4) (ix1 j)) (i 0) (i 1) := by
  refine (dats m 0 c).arrAt_eq_of_covers 5 _ (by decide +kernel) fun t hf y => ?_
  rw [after0_5]
  refine point5 m c t ((flush0_5 t).mp hf) y _ _ ?_ ?_
  · blk_simp [idx t]
  · blk_simp [idx t]

end Cert.Kernel3Ideal.FfnOut
end
-- ==== Proof.FfnOut.Reference.lean ====
module

public import proofs.«01_k».proof.Proof.Gen.Reference3Ideal.Read
public import proofs.«01_k».proof.Proof.FfnOut.Spec
public import Idealize.ShloMosaic.Lib.Pipeline.ValueKit

/-! The output half of the feed-forward network as the reference computes it: one stream at a time, then both stacked. -/

@[expose] public section

set_option maxRecDepth 16384

noncomputable section

namespace Cert.Reference3Ideal.FfnOut

open Cert.Reference3Ideal Cert.Reference3Ideal.Gen Cert.Reference3Ideal.Read Cert.Ffn Cert.Diff
open Idealize.ShloMosaic Idealize.ShloMosaic.TcCoe Idealize.SL.Sem

variable (x0 : (⟨S9216x5632, .f32⟩ : BufTy).Contents (Elt Ideal)) (x1 : (⟨S2x2x5632x2048, .f32⟩ : BufTy).Contents (Elt Ideal))
  (x2 : (⟨S9216x2048, .f32⟩ : BufTy).Contents (Elt Ideal)) (x3 : (⟨S5x9x2048, .f32⟩ : BufTy).Contents (Elt Ideal))
  (x4 : (⟨S2048, .f32⟩ : BufTy).Contents (Elt Ideal))

/-- An entry of the product with the output weights. -/
theorem p_at (R : Fin 9216) (j : Fin 2048) :
    val_main_v6 (F := Ideal) x0 x1 (ix2 R j) = dotOf (fun k : Fin 5632 => x0 (ix2 R k)) (fun k => x1 (ix4 0 0 k j)) := by
  rw [val_main_v6_apply, dotOf]
  refine Finset.sum_congr rfl fun k _ => ?_
  have el : lidx_main_v6 (ix2 R j) k = ix2 R k := funext fun a => match a with | ⟨0, _⟩ => rfl | ⟨1, _⟩ => rfl
  rw [el, val_main_v5_apply, val_main_v4_apply]
  exact congrArg (fun q => x0 (ix2 R k) * x1 q) (funext fun a => Fin.ext (by match a with | ⟨0, _⟩ => (simp [ix2, ix4] <;> omega) | ⟨1, _⟩ => (simp [ix2, ix4] <;> omega) | ⟨2, _⟩ => (simp [ix2, ix4] <;> omega) | ⟨3, _⟩ => (simp [ix2, ix4] <;> omega)))

/-- The normalised row under the gate, as the reference spells it. -/
theorem resid_form (y h gate g : Fin 2048 → EReal) (j : Fin 2048) :
    h j + Ideal.ofBits .f32 0x3F000000#32 * gate j * (y j * rowScale y * g j) = residRow y h gate g j := by
  rw [residRow, mul_comm (Ideal.ofBits .f32 0x3F000000#32), mul_left_comm]

/-- A residual row of the latent stream. -/
theorem h_lat (b : Fin 4) (r : Fin 2048) (k : Fin 2048) : val_main_v12 (F := Ideal) x2 (ix3 b r k) = x2 (ix2 ⟨b.val * 2048 + r.val, by omega⟩ k) := by
  rw [val_main_v12_apply, val_main_v11_apply]
  exact congrArg x2 (funext fun a => Fin.ext (by match a with | ⟨0, _⟩ => (simp [ix2, ix3] <;> omega) | ⟨1, _⟩ => (simp [ix2, ix3] <;> omega)))

/-- A product row of the latent stream. -/
theorem y_lat (b : Fin 4) (r : Fin 2048) (k : Fin 2048) :
    val_main_v16 (F := Ideal) x0 x1 (ix3 b r k) = dotOf (fun q : Fin 5632 => x0 (ix2 ⟨b.val * 2048 + r.val, by omega⟩ q)) (fun q => x1 (ix4 0 0 q k)) := by
  rw [val_main_v16_apply, val_main_v15_apply, ← p_at x0 x1 ⟨b.val * 2048 + r.val, by omega⟩ k]
  exact congrArg _ (funext fun a => Fin.ext (by match a with | ⟨0, _⟩ => (simp [ix2, ix3] <;> omega) | ⟨1, _⟩ => (simp [ix2, ix3] <;> omega)))

/-- The gate of the latent stream. -/
theorem gate_lat (b : Fin 4) (k : Fin 2048) : val_main_v8 (F := Ideal) x3 (ix3 b 0 k) = x3 (ix3 b.castSucc 2 k) := by
  rw [val_main_v8_apply, val_main_v7_apply, val_main_v1_apply, val_main_v0_apply]
  exact congrArg x3 (funext fun a => Fin.ext (by match a with | ⟨0, _⟩ => (simp [ix1, ix3] <;> omega) | ⟨1, _⟩ => (simp [ix1, ix3] <;> omega) | ⟨2, _⟩ => (simp [ix1, ix3] <;> omega)))

/-- The scale of a normalised latent row. -/
theorem rs_lat (b : Fin 4) (r : Fin 2048) (k : Fin 2048) :
    val_main_v29 (F := Ideal) x0 x1 (ix3 b r k) = rowScale (fun j => dotOf (fun q : Fin 5632 => x0 (ix2 ⟨b.val * 2048 + r.val, by omega⟩ q)) (fun q => x1 (ix4 0 0 q j))) := by
  rw [val_main_v29_apply, val_main_v28_apply, val_main_v27_apply, val_main_v25_apply, val_main_v23_apply, val_main_v22_apply]
  have e : ∀ j : Fin 2048, val_main_v21 (F := Ideal) x0 x1 (idx_main_v22 (idx_main_v23 (idx_main_v29 (ix3 b r k))) j)
      = dotOf (fun q : Fin 5632 => x0 (ix2 ⟨b.val * 2048 + r.val, by omega⟩ q)) (fun q => x1 (ix4 0 0 q j)) * dotOf (fun q : Fin 5632 => x0 (ix2 ⟨b.val * 2048 + r.val, by omega⟩ q)) (fun q => x1 (ix4 0 0 q j)) := fun j => by
    have ei : idx_main_v22 (idx_main_v23 (idx_main_v29 (ix3 b r k))) j = ix3 b r j :=
      funext fun a => match a with | ⟨0, _⟩ => rfl | ⟨1, _⟩ => rfl | ⟨2, _⟩ => rfl
    rw [ei, val_main_v21_apply, y_lat]
    rfl
  refine congrArg Ideal.rsqrt (congrArg₂ (· + ·) (congrArg₂ Ideal.div ?_ rfl) rfl)
  refine (congrArg (· + _) zero32).trans ((zero_add _).trans (Finset.sum_congr rfl fun j _ => e j))

/-- A result of the latent stream. -/
theorem o_lat (b : Fin 4) (r : Fin 2048) (j : Fin 2048) :
    val_main_v36 (F := Ideal) x0 x1 x2 x3 x4 (ix3 b r j)
      = residRow (fun j => dotOf (fun q : Fin 5632 => x0 (ix2 ⟨b.val * 2048 + r.val, by omega⟩ q)) (fun q => x1 (ix4 0 0 q j))) (fun j => x2 (ix2 ⟨b.val * 2048 + r.val, by omega⟩ j))
          (fun j => x3 (ix3 b.castSucc 2 j)) (fun j => x4 (ix1 j)) j := by
  rw [val_main_v36_apply, val_main_v35_apply, val_main_v34_apply, val_main_v20_apply, val_main_v33_apply, val_main_v30_apply, val_main_v32_apply, val_main_v31_apply, h_lat, y_lat, rs_lat]
  have eg : idx_main_v31 (idx_main_v32 (ix3 b r j)) = ix1 j := funext fun a => match a with | ⟨0, _⟩ => rfl
  have ec : idx_main_v34 (ix3 b r j) = ix3 b 0 j := funext fun a => match a with | ⟨0, _⟩ => rfl | ⟨1, _⟩ => rfl | ⟨2, _⟩ => rfl
  rw [eg, ec, gate_lat, val_main_v19_apply]
  exact resid_form (fun j => dotOf (fun q : Fin 5632 => x0 (ix2 ⟨b.val * 2048 + r.val, by omega⟩ q)) (fun q => x1 (ix4 0 0 q j))) (fun j => x2 (ix2 ⟨b.val * 2048 + r.val, by omega⟩ j))
    (fun j => x3 (ix3 b.castSucc 2 j)) (fun j => x4 (ix1 j)) j

/-- A residual row of the context stream. -/
theorem h_ctx (b : Fin 4) (r : Fin 256) (k : Fin 2048) : val_main_v14 (F := Ideal) x2 (ix3 b r k) = x2 (ix2 ⟨8192 + (b.val * 256 + r.val), by omega⟩ k) := by
  rw [val_main_v14_apply, val_main_v13_apply]
  exact congrArg x2 (funext fun a => Fin.ext (by match a with | ⟨0, _⟩ => (simp [ix2, ix3] <;> omega) | ⟨1, _⟩ => (simp [ix2, ix3] <;> omega)))

/-- A product row of the context stream. -/
theorem y_ctx (b : Fin 4) (r : Fin 256) (k : Fin 2048) :
    val_main_v18 (F := Ideal) x0 x1 (ix3 b r k) = dotOf (fun q : Fin 5632 => x0 (ix2 ⟨8192 + (b.val * 256 + r.val), by omega⟩ q)) (fun q => x1 (ix4 0 0 q k)) := by
  rw [val_main_v18_apply, val_main_v17_apply, ← p_at x0 x1 ⟨8192 + (b.val * 256 + r.val), by omega⟩ k]
  exact congrArg _ (funext fun a => Fin.ext (by match a with | ⟨0, _⟩ => (simp [ix2, ix3] <;> omega) | ⟨1, _⟩ => (simp [ix2, ix3] <;> omega)))

/-- The gate of the context stream. -/
theorem gate_ctx (k : Fin 2048) : val_main_v10 (F := Ideal) x3 (ix1 k) = x3 (ix3 4 2 k) := by
  rw [val_main_v10_apply, val_main_v9_apply, val_main_v3_apply, val_main_v2_apply]
  exact congrArg x3 (funext fun a => Fin.ext (by match a with | ⟨0, _⟩ => (simp [ix1, ix3] <;> omega) | ⟨1, _⟩ => (simp [ix1, ix3] <;> omega) | ⟨2, _⟩ => (simp [ix1, ix3] <;> omega)))

/-- The scale of a normalised context row. -/
theorem rs_ctx (b : Fin 4) (r : Fin 256) (k : Fin 2048) :
    val_main_v47 (F := Ideal) x0 x1 (ix3 b r k) = rowScale (fun j => dotOf (fun q : Fin 5632 => x0 (ix2 ⟨8192 + (b.val * 256 + r.val), by omega⟩ q)) (fun q => x1 (ix4 0 0 q j))) := by
  rw [val_main_v47_apply, val_main_v46_apply, val_main_v45_apply, val_main_v43_apply, val_main_v41_apply, val_main_v40_apply]
  have e : ∀ j : Fin 2048, val_main_v39 (F := Ideal) x0 x1 (idx_main_v40 (idx_main_v41 (idx_main_v47 (ix3 b r k))) j)
      = dotOf (fun q : Fin 5632 => x0 (ix2 ⟨8192 + (b.val * 256 + r.val), by omega⟩ q)) (fun q => x1 (ix4 0 0 q j)) * dotOf (fun q : Fin 5632 => x0 (ix2 ⟨8192 + (b.val * 256 + r.val), by omega⟩ q)) (fun q => x1 (ix4 0 0 q j)) := fun j => by
    have ei : idx_main_v40 (idx_main_v41 (idx_main_v47 (ix3 b r k))) j = ix3 b r j :=
      funext fun a => match a with | ⟨0, _⟩ => rfl | ⟨1, _⟩ => rfl | ⟨2, _⟩ => rfl
    rw [ei, val_main_v39_apply, y_ctx]
    rfl
  refine congrArg Ideal.rsqrt (congrArg₂ (· + ·) (congrArg₂ Ideal.div ?_ rfl) rfl)
  refine (congrArg (· + _) zero32).trans ((zero_add _).trans (Finset.sum_congr rfl fun j _ => e j))

/-- A result of the context stream. -/
theorem o_ctx (b : Fin 4) (r : Fin 256) (j : Fin 2048) :
    val_main_v55 (F := Ideal) x0 x1 x2 x3 x4 (ix3 b r j)
      = residRow (fun j => dotOf (fun q : Fin 5632 => x0 (ix2 ⟨8192 + (b.val * 256 + r.val), by omega⟩ q)) (fun q => x1 (ix4 0 0 q j))) (fun j => x2 (ix2 ⟨8192 + (b.val * 256 + r.val), by omega⟩ j))
          (fun j => x3 (ix3 4 2 j)) (fun j => x4 (ix1 j)) j := by
  rw [val_main_v55_apply, val_main_v54_apply, val_main_v53_apply, val_main_v52_apply, val_main_v38_apply, val_main_v51_apply, val_main_v48_apply, val_main_v50_apply, val_main_v49_apply, h_ctx, y_ctx, rs_ctx]
  have eg : idx_main_v49 (idx_main_v50 (ix3 b r j)) = ix1 j := funext fun a => match a with | ⟨0, _⟩ => rfl
  have ec : idx_main_v52 (idx_main_v53 (ix3 b r j)) = ix1 j := funext fun a => match a with | ⟨0, _⟩ => rfl
  rw [eg, ec, gate_ctx, val_main_v37_apply]
  exact resid_form (fun j => dotOf (fun q : Fin 5632 => x0 (ix2 ⟨8192 + (b.val * 256 + r.val), by omega⟩ q)) (fun q => x1 (ix4 0 0 q j))) (fun j => x2 (ix2 ⟨8192 + (b.val * 256 + r.val), by omega⟩ j))
    (fun j => x3 (ix3 4 2 j)) (fun j => x4 (ix1 j)) j

/-- Every result of the reference. -/
theorem result_at (R : Fin 9216) (C : Fin 2048) :
    val_main_v58 (F := Ideal) x0 x1 x2 x3 x4 (ix2 R C)
      = ffnOut (fun r k => x0 (ix2 r k)) (fun k j => x1 (ix4 0 0 k j)) (fun r j => x2 (ix2 r j)) (fun s q j => x3 (ix3 s q j)) (fun j => x4 (ix1 j)) R C := by
  unfold val_main_v58
  by_cases hR : R.val < 8192
  · rw [concatenate_pair_apply_left (s₁ := S8192x2048) (s₂ := S1024x2048) 0 _ _ _ (ix2 R C) rfl (ix2 (⟨R.val, hR⟩ : Fin 8192) C)
      (fun a => match a with | ⟨0, _⟩ => rfl | ⟨1, _⟩ => rfl), val_main_v56_apply]
    have ei : idx_main_v56 (ix2 (⟨R.val, hR⟩ : Fin 8192) C) = ix3 (⟨R.val / 2048, by omega⟩ : Fin 4) (⟨R.val % 2048, by omega⟩ : Fin 2048) C :=
      funext fun a => Fin.ext (by match a with | ⟨0, _⟩ => (simp [ix2, ix3] <;> omega) | ⟨1, _⟩ => (simp [ix2, ix3] <;> omega) | ⟨2, _⟩ => (simp [ix2, ix3] <;> omega))
    rw [ei, o_lat]
    have e0 : (⟨R.val / 2048 * 2048 + R.val % 2048, by omega⟩ : Fin 9216) = R := Fin.ext (by show R.val / 2048 * 2048 + R.val % 2048 = R.val; omega)
    have e1 : (⟨R.val / 2048, by omega⟩ : Fin 4).castSucc = (⟨min (R.val / 2048) 4, by omega⟩ : Fin 5) := Fin.ext (by show R.val / 2048 = min (R.val / 2048) 4; omega)
    rw [e1, ffnOut]
    exact congrArg (fun p : Fin 9216 => residRow (fun j => dotOf (fun q : Fin 5632 => x0 (ix2 p q)) (fun q => x1 (ix4 0 0 q j))) (fun j => x2 (ix2 p j)) _ _ C) e0
  · rw [concatenate_pair_apply_right (s₁ := S8192x2048) (s₂ := S1024x2048) 0 _ _ _ (ix2 R C) rfl rfl (ix2 (⟨R.val - 8192, by omega⟩ : Fin 1024) C)
      (fun a ha => match a, ha with | ⟨0, _⟩, ha => absurd rfl ha | ⟨1, _⟩, _ => rfl)
      (by show R.val - 8192 + 8192 = R.val; omega), val_main_v57_apply]
    have ei : idx_main_v57 (ix2 (⟨R.val - 8192, by omega⟩ : Fin 1024) C) = ix3 (⟨(R.val - 8192) / 256, by omega⟩ : Fin 4) (⟨(R.val - 8192) % 256, by omega⟩ : Fin 256) C :=
      funext fun a => Fin.ext (by match a with | ⟨0, _⟩ => (simp [ix2, ix3] <;> omega) | ⟨1, _⟩ => (simp [ix2, ix3] <;> omega) | ⟨2, _⟩ => (simp [ix2, ix3] <;> omega))
    rw [ei, o_ctx]
    have e0 : (⟨8192 + ((R.val - 8192) / 256 * 256 + (R.val - 8192) % 256), by omega⟩ : Fin 9216) = R :=
      Fin.ext (by show 8192 + ((R.val - 8192) / 256 * 256 + (R.val - 8192) % 256) = R.val; omega)
    have e1 : (4 : Fin 5) = (⟨min (R.val / 2048) 4, by omega⟩ : Fin 5) := Fin.ext (by show 4 = min (R.val / 2048) 4; omega)
    rw [e1, ffnOut]
    exact congrArg (fun p : Fin 9216 => residRow (fun j => dotOf (fun q : Fin 5632 => x0 (ix2 p q)) (fun q => x1 (ix4 0 0 q j))) (fun j => x2 (ix2 p j)) _ _ C) e0

end Cert.Reference3Ideal.FfnOut

end
-- ==== Proof.FfnOut.Equation.lean ====
module

public import proofs.«01_k».proof.Defs
public import proofs.«01_k».proof.Proof.Gen.Reference3Ideal.Run
public import proofs.«01_k».proof.Proof.FfnOut.Kernel
public import proofs.«01_k».proof.Proof.FfnOut.Reference

/-! The output half of the feed-forward network: the call and the reference end with the same array, on any arguments. -/

@[expose] public section

noncomputable section

namespace Cert.Proof

open Idealize.ShloMosaic Idealize.SL.Sem

attribute [local instance] Cert.Kernel3Ideal.Gen.facts Cert.Reference3Ideal.Gen.facts in
/-- The call of the feed-forward output half computes the reference's result. -/
theorem ffn_out_equal : algebraic_Kernel3Ideal_Reference3Ideal := by
  intro m g m' g' hp ha
  refine ⟨fun c => fun i => Cert.Ffn.ffnOut
      (fun r k => m ((c.tc : Thread Cert.Kernel3Ideal.nD Cert.Kernel3Ideal.τ).loc Cert.Kernel3Ideal.main_arg0) (ix2 r k))
      (fun k j => m ((c.tc : Thread Cert.Kernel3Ideal.nD Cert.Kernel3Ideal.τ).loc Cert.Kernel3Ideal.main_arg1) (ix4 0 0 k j))
      (fun r j => m ((c.tc : Thread Cert.Kernel3Ideal.nD Cert.Kernel3Ideal.τ).loc Cert.Kernel3Ideal.main_arg2) (ix2 r j))
      (fun s q j => m ((c.tc : Thread Cert.Kernel3Ideal.nD Cert.Kernel3Ideal.τ).loc Cert.Kernel3Ideal.main_arg3) (ix3 s q j))
      (fun j => m ((c.tc : Thread Cert.Kernel3Ideal.nD Cert.Kernel3Ideal.τ).loc Cert.Kernel3Ideal.main_arg4) (ix1 j)) (i 0) (i 1),
    (θ_run _ _ _).mono (fun r h c => ?_) (Cert.Kernel3Ideal.Value.run_blocks (F := Ideal) m g),
    (θ_run _ _ _).mono (fun r h c => ?_) (Cert.Reference3Ideal.Value.run (F := Ideal) m' g')⟩
  · obtain ⟨h5, k⟩ := h c
    exact ⟨h5.trans (Cert.Kernel3Ideal.FfnOut.final5 m c), k⟩
  · obtain ⟨h5, k⟩ := h c
    obtain ⟨a0, a1, a2, a3, a4⟩ := ha c
    refine ⟨h5.trans ((Cert.Reference3Ideal.Read.val_main_v58_eq m' c).trans ?_), k⟩
    rw [a0, a1, a2, a3, a4]
    funext i
    obtain ⟨R, C, rfl⟩ : ∃ (R : Fin 9216) (C : Fin 2048), i = ix2 R C :=
      ⟨i 0, i 1, funext fun a => match a with | ⟨0, _⟩ => rfl | ⟨1, _⟩ => rfl⟩
    exact Cert.Reference3Ideal.FfnOut.result_at _ _ _ _ _ R C

end Cert.Proof

end
-- ==== Proof.OddIn.Spec.lean ====
module

public import proofs.«01_k».proof.Proof.FfnIn.Spec

/-! The projection into a mixer: the formulas. -/

@[expose] public section

noncomputable section

namespace Cert.Proj

open Idealize.ShloMosaic
open Cert.Ffn

/-- The modulated row `R` that a mixer is given: the third modulation vector of its sample shifts, the fourth scales. -/
def mixRow (x : Fin 9216 → Fin 2048 → EReal) (md : Fin 5 → Fin 9 → Fin 2048 → EReal) (g : Fin 2048 → EReal)
    (R : Fin 9216) : Fin 2048 → EReal :=
  modRow (x R) g (md ⟨min (R.val / 2048) 4, by omega⟩ 4) (md ⟨min (R.val / 2048) 4, by omega⟩ 3)

/-- A row against a column. -/
def dotOf (u w : Fin 2048 → EReal) : EReal := ∑ k, u k * w k

/-- The factor of column `C` of the odd projection: the queries' scale on the first 2048 columns, one on the others. -/
def oddScale (C : ℕ) : EReal := if C < 2048 then Ideal.ofBits .f32 0x3DB504F3#32 else 1

/-- Entry `(R, C)` of the odd projection. -/
def oddIn (x : Fin 9216 → Fin 2048 → EReal) (md : Fin 5 → Fin 9 → Fin 2048 → EReal) (g : Fin 2048 → EReal)
    (w : Fin 2048 → Fin 6144 → EReal) (R : Fin 9216) (C : Fin 6144) : EReal :=
  dotOf (mixRow x md g R) (fun k => w k C) * oddScale C.val

/-- The word of one. -/
theorem one32 : Ideal.ofBits .f32 0x3F800000#32 = 1 := by
  simp [Ideal.ofBits, Ideal.ieee, -EReal.coe_mul]; norm_num

end Cert.Proj
end
-- ==== Proof.OddIn.Block.lean ====
module

public import proofs.«01_k».proof.Proof.Gen.Kernel4Ideal.Value
public import Idealize.ShloMosaic.Lib.Pipeline.ValueKit
public import Idealize.ShloMosaic.Lib.Pipeline.ValueKit.Held
public import Idealize.ShloMosaic.Lib.Pipeline.ReadBack
public import Idealize.ShloMosaic.Lib.Writes
public import proofs.«01_k».proof.Proof.OddIn.Spec

/-! What one block of the odd projection computes. -/

@[expose] public section

set_option maxRecDepth 16384

noncomputable section

namespace Cert.Kernel4Ideal.OddIn

open Cert.Ffn Cert.Proj
open Cert.Kernel4Ideal Cert.Kernel4Ideal.Gen
open Idealize.ShloMosaic Idealize.ShloMosaic.TcCoe Idealize.SL.Sem
open Idealize.ShloMosaic.Pipeline (Dat)

theorem pay1_apply (g : Vec Ideal S1x2048 .f32) (sc sh : Vec Ideal S1x1x2048 .f32) (x : Vec Ideal S32x2048 .f32)
    (i : Fin 32) (j : Fin 2048) : k0_pay1 g sc sh x (ix2 i j)
      = modRow (fun k => x (ix2 i k)) (fun k => g (ix2 0 k)) (fun k => sc (ix3 0 0 k)) (fun k => sh (ix3 0 0 k)) j := by
  pointwise [k0_pay1]
  rfl

theorem coord : ∀ t : Fin cfg0.N, ((grid0.coords t) 1).val = t.val % 6 := (by decide +kernel : ∀ t : Fin grid0.N, _)

theorem pick (n : Fin 6) : Scalar.cmpi .slt (BitVec.ofNat 32 n.val) 2#32 = if n.val < 2 then 1#1 else 0#1 := by
  revert n; decide

theorem pay2_apply (t : Fin cfg0.N) (u : Vec Ideal S1024x2048 .bf16) (w : Vec Ideal S1x2048x1024 .f32)
    (i : Fin 1024) (j : Fin 1024) : k0_pay2 (grid0.coords t) u w (ix2 i j)
      = dotOf (fun k => u (ix2 i k)) (fun k => w (ix3 0 k j)) * oddScale (t.val % 6 * 1024 + j.val) := by
  have e : Scalar.cmpi .slt (BitVec.ofNat 32 ((grid0.coords t) 1).val) 2#32 = if t.val % 6 < 2 then 1#1 else 0#1 := by
    rw [coord t]
    exact pick ⟨t.val % 6, Nat.mod_lt _ (by decide)⟩
  pointwise [k0_pay2]
  rw [e]
  refine congrArg₂ (· * ·) rfl ?_
  unfold oddScale
  by_cases h : t.val % 6 < 2
  · rw [if_pos h, if_pos (show t.val % 6 * 1024 + j.val < 2048 by omega)]
    rfl
  · rw [if_neg h, if_neg (show ¬ t.val % 6 * 1024 + j.val < 2048 by omega)]
    rfl

/-- The whole scratch block after the loop, from the row tile `x`. -/
def modTile (x : Vec Ideal S1024x2048 .f32) (g : Vec Ideal S1x2048 .f32) (sc sh : Vec Ideal S1x1x2048 .f32) :
    Vec Ideal S1024x2048 .bf16 :=
  fun y => modRow (fun k => x (ix2 (y 0) k)) (fun k => g (ix2 0 k)) (fun k => sc (ix3 0 0 k)) (fun k => sh (ix3 0 0 k)) (y 1)

theorem rows_at (x : Vec Ideal S1024x2048 .f32) (g : Vec Ideal S1x2048 .f32) (sc sh : Vec Ideal S1x1x2048 .f32)
    (off : Fin 2 → ℕ) (r : ℕ) (hr : r + 32 ≤ 1024) (e : off = ![r, 0]) (hb) (i : Fin 32) (j : Fin 2048) :
    modRow (fun k => View.ld x (Rect.unit (s := S1024x2048) off ![32, 2048] hb) (ix2 i k))
        (fun k => g (ix2 0 k)) (fun k => sc (ix3 0 0 k)) (fun k => sh (ix3 0 0 k)) j
      = modTile x g sc sh ((Rect.unit (s := S1024x2048) off ![32, 2048] hb).emb (ix2 i j)) := by
  subst e
  have a0 : (((Rect.unit (s := S1024x2048) ![r, 0] ![32, 2048] hb).emb (ix2 i j)) 0 : Fin _).val = r + i.val := by
    simp [Rect.idx_unit_val]
  have a1 : ((Rect.unit (s := S1024x2048) ![r, 0] ![32, 2048] hb).emb (ix2 i j)) 1 = j := Fin.ext (by
    simp [Rect.idx_unit_val])
  unfold modTile
  rw [a1]
  congr 1
  funext k
  rw [View.ld_apply]
  congr 1
  refine funext fun a => match a with
    | ⟨0, _⟩ => Fin.ext (by simp [Rect.idx_unit_val])
    | ⟨1, _⟩ => Fin.ext (by simp [Rect.idx_unit_val])

/-- One trip writes thirty-two rows of it. -/
theorem trip_rows (c : Dev nD) (t : Fin cfg0.N) (h1 : k0_cond1 (grid0.coords t) = 1#1)
    (x : Vec Ideal S1024x2048 .f32) (g : Vec Ideal S1x2048 .f32) (sc sh : Vec Ideal S1x1x2048 .f32) (k : Fin k0_t1_loop.trips) :
    ∀ p ∈ tripL_k0_t1 (F := Ideal) Variants.none c none (grid0.coords t) (ms0_0 t) (hs0_0 t) (ms0_1 t) (hs0_1 t) (ms0_2 t) (hs0_2 t)
        (ms0_3 t) (hs0_3 t) (ms0_4 t) (hs0_4 t) scM0_0 (Memref.isWhole_whole _) h1 g sc sh ((hs0_0 t).unread x) k,
      ∀ y, p.2 y = modTile x g sc sh (p.1.emb y) := by
  unfold tripL_k0_t1 trip_k0_t1
  dsimp only
  sl_unfold_words
  simp only [List.mem_singleton, forall_eq]
  have e : ![BitVec.toNat (Scalar.indexCast (Scalar.muli (Scf.iv 0#32 1#32 ↑k) 32#32)), 0] = ![32 * k.val, 0] := k0_off1_eq k
  intro y
  obtain ⟨i, j, rfl⟩ : ∃ (i : Fin 32) (j : Fin 2048), y = ix2 i j :=
    ⟨y 0, y 1, funext fun a => match a with | ⟨0, _⟩ => rfl | ⟨1, _⟩ => rfl⟩
  refine (pay1_apply _ _ _ _ i j).trans ?_
  simp only [View.readAt_eq_ld, Memref.IsWhole.read_unread]
  exact rows_at x g sc sh _ _ (by have := k.isLt; have := k0_t1_abs.2.1; omega) e _ i j

theorem loop_rows (c : Dev nD) (t : Fin cfg0.N) (h1 : k0_cond1 (grid0.coords t) = 1#1)
    (x : Vec Ideal S1024x2048 .f32) (g : Vec Ideal S1x2048 .f32) (sc sh : Vec Ideal S1x1x2048 .f32) (n : ℕ) (hn : n ≤ k0_t1_loop.trips) :
    ∀ p ∈ pb_k0_t1 (F := Ideal) Variants.none c none (grid0.coords t) (ms0_0 t) (hs0_0 t) (ms0_1 t) (hs0_1 t) (ms0_2 t) (hs0_2 t)
        (ms0_3 t) (hs0_3 t) (ms0_4 t) (hs0_4 t) scM0_0 (Memref.isWhole_whole _) h1 g sc sh ((hs0_0 t).unread x) n,
      ∀ y, p.2 y = modTile x g sc sh (p.1.emb y) := by
  induction n with
  | zero => intro p hp; exact absurd hp List.not_mem_nil
  | succ n ih =>
    intro p hp
    rw [pb_k0_t1_succ _ _ _ _ _ _ _ _ _ _ _ _ _ _ _ _ _ _ _ _ _ ⟨n, hn⟩] at hp
    rcases List.mem_append.mp hp with h | h
    · exact trip_rows c t h1 x g sc sh ⟨n, hn⟩ p h
    · exact ih (by omega) p h

variable (m : (ℓ : Loc nD τ sig) → Buf (Elt Ideal) ℓ)

/-- At the first point of a row tile the scratch holds the tile's modulated rows … -/
theorem scrA (c : Dev nD) (t : Fin cfg0.N) (h : t.val % 6 = 0) (y) :
    (outsAt0 m c t.val t.isLt).2 y = modTile (iblk m c 0 t) (iblk m c 2 t)
      (View.ld (iblk m c 1 t) (Rect.unit ![0, 4, 0] ![1, 1, 2048] inb_S1x9x2048_S1x1x2048_0_4_0))
      (View.ld (iblk m c 1 t) (Rect.unit ![0, 3, 0] ![1, 1, 2048] inb_S1x9x2048_S1x1x2048_0_3_0)) y := by
  rw [outsAt0_A m c t h]
  dsimp only
  unfold sout0_A_0
  refine View.read_writes_apply_of_pieces _ _ _ _ ?_ y (scover0_A_0 ..)
  unfold kernelRun0_A
  dsimp only
  sl_unfold_words
  simp (disch := decide) only [View.readAt_eq_ld, Memref.IsWhole.read_unread, View.ld_unit_lit]
  exact loop_rows c t ((hcond0_0 t).mpr h) (iblk m c 0 t) (iblk m c 2 t) _ _ k0_t1_loop.trips le_rfl

/-- … and the points after it leave it. -/
theorem scrB (c : Dev nD) (t : Fin cfg0.N) (h : ¬ t.val % 6 = 0) :
    (outsAt0 m c t.val t.isLt).2 = (outsAt0 m c (t.val-1) (Nat.lt_of_le_of_lt (Nat.sub_le _ _) t.isLt)).2 := by
  rw [outsAt0_B m c t h]
  rfl

/-- The output block is the payload at the scratch and the weight block. -/
theorem out_at (c : Dev nD) (t : Fin cfg0.N) :
    (outsAt0 m c t.val t.isLt).1 = k0_pay2 (grid0.coords t) (outsAt0 m c t.val t.isLt).2 (iblk m c 3 t) := by
  by_cases h : t.val % 6 = 0
  · rw [outsAt0_A m c t h]
    frame_out
    congr 1
    rw [View.readCov_eq_canon']
    exact View.ld_unit_lit _ _ (by decide)
  · rw [outsAt0_B m c t h]
    frame_out
    simp only [read_unread_whole]
    rfl

end Cert.Kernel4Ideal.OddIn
end
-- ==== Proof.OddIn.Kernel.lean ====
module

public import proofs.«01_k».proof.Proof.OddIn.Block

/-! What the odd projection's result array holds after the run, element by element. -/

@[expose] public section

set_option maxRecDepth 16384

noncomputable section

namespace Cert.Kernel4Ideal.OddIn

open Cert.Ffn Cert.Proj
open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 6, 0] ∧ win0_1.index t = ![min (t.val / 6 / 2) 4, 0, 0]
    ∧ win0_2.index t = ![0, 0] ∧ win0_3.index t = ![0, 0, t.val % 6]
    ∧ win0_4.index t = ![t.val / 6, t.val % 6] := (by decide +kernel : ∀ t : Fin grid0.N, _)

/-- The blocks the body reads, as elements of the argument arrays. -/
theorem x0 (c : Dev nD) (t : Fin cfg0.N) (i : Fin 1024) (k : Fin 2048) (y : S9216x2048.Idx)
    (h0 : (y 0).val = t.val / 6 * 1024 + i.val) (h1 : (y 1).val = k.val) :
    iblk m c 0 t (ix2 i k) = m ((c : Thread nD τ).loc main_arg0) y := by
  blk_ext [iblk, V, idx t]

theorem x1 (c : Dev nD) (t : Fin cfg0.N) (r : Nat) (hb) (k : Fin 2048) (y : S5x9x2048.Idx)
    (h0 : (y 0).val = min (t.val / 6 / 2) 4) (h1 : (y 1).val = r) (h2 : (y 2).val = k.val) :
    View.ld (iblk m c 1 t) (Rect.unit ![0, r, 0] ![1, 1, 2048] hb) (ix3 0 0 k) = m ((c : Thread nD τ).loc main_arg1) y := by
  rw [View.ld_apply]
  blk_ext [iblk, V, idx t]
  all_goals (simp [Rect.idx_unit_val]; omega)

theorem x2 (c : Dev nD) (t : Fin cfg0.N) (k : Fin 2048) :
    iblk m c 2 t (ix2 0 k) = m ((c : Thread nD τ).loc main_arg2) (ix1 k) := by
  blk_simp [iblk]
  entry_read
  pointwise
  blk_ext [V, idx t]

theorem x3 (c : Dev nD) (t : Fin cfg0.N) (k : Fin 2048) (j : Fin 1024) (y : S1x2048x6144.Idx)
    (h0 : (y 0).val = 0) (h2 : (y 1).val = k.val) (h3 : (y 2).val = t.val % 6 * 1024 + j.val) :
    iblk m c 3 t (ix3 0 k j) = m ((c : Thread nD τ).loc main_arg3) y := by
  blk_ext [iblk, V, idx t]

/-- The scratch at every point: the modulated rows of the point's row tile. -/
theorem scratch_at (c : Dev nD) (t : Fin cfg0.N) (i : Fin 1024) (k : Fin 2048) (R : Fin 9216) (hR : R.val = t.val / 6 * 1024 + i.val) :
    (outsAt0 m c t.val t.isLt).2 (ix2 i k)
      = modRow (fun j => m ((c : Thread nD τ).loc main_arg0) (ix2 R j)) (fun j => m ((c : Thread nD τ).loc main_arg2) (ix1 j))
          (fun j => m ((c : Thread nD τ).loc main_arg1) (ix3 ⟨min (R.val / 2048) 4, by omega⟩ 4 j))
          (fun j => m ((c : Thread nD τ).loc main_arg1) (ix3 ⟨min (R.val / 2048) 4, by omega⟩ 3 j)) k := by
  rw [Pipeline.eq_of_write_hold_apply (fun n h => (outsAt0 m c n h).2) 6 _ (fun t h i => scrA m c t h i)
    (fun t h i => congrFun (scrB m c t h) i) t (ix2 i k)]
  have ht : t.val < 54 := t.isLt
  have hm : min (R.val / 2048) 4 = min (6 * (t.val / 6) / 6 / 2) 4 := by omega
  show modRow _ _ _ _ _ = _
  congr 1
  · funext j
    exact x0 m c _ i j _ (by show R.val = 6 * (t.val / 6) / 6 * 1024 + i.val; omega) rfl
  · funext j
    exact x2 m c _ j
  · funext j
    exact x1 m c _ 4 _ j _ hm rfl rfl
  · funext j
    exact x1 m c _ 3 _ j _ hm rfl rfl

theorem point4 (c : Dev nD) (t : Fin cfg0.N) (y : S1024x1024.Idx) (R : Fin 9216) (C : Fin 6144)
    (hR : R.val = t.val / 6 * 1024 + (y 0).val) (hC : C.val = t.val % 6 * 1024 + (y 1).val) :
    (outsAt0 m c t.val t.isLt).1 y
      = oddIn (fun r j => m ((c : Thread nD τ).loc main_arg0) (ix2 r j)) (fun s q j => m ((c : Thread nD τ).loc main_arg1) (ix3 s q j))
          (fun j => m ((c : Thread nD τ).loc main_arg2) (ix1 j)) (fun k j => m ((c : Thread nD τ).loc main_arg3) (ix3 0 k j)) R C := by
  obtain ⟨i, j, rfl⟩ : ∃ (i : Fin 1024) (j : Fin 1024), y = ix2 i j :=
    ⟨y 0, y 1, funext fun a => match a with | ⟨0, _⟩ => rfl | ⟨1, _⟩ => rfl⟩
  have hR' : R.val = t.val / 6 * 1024 + i.val := hR
  have hC' : C.val = t.val % 6 * 1024 + j.val := hC
  rw [out_at, pay2_apply, oddIn, hC']
  refine congrArg₂ (· * ·) (congrArg₂ dotOf ?_ ?_) rfl
  · funext k
    exact scratch_at m c t i k R hR'
  · funext k
    exact x3 m c t k j _ rfl rfl hC'

/-- The result after the run. -/
theorem final4 (c : Dev nD) : (dats m 0 c).arrAt 4 cfg0.N
    = fun i => oddIn (fun r j => m ((c : Thread nD τ).loc main_arg0) (ix2 r j)) (fun s q j => m ((c : Thread nD τ).loc main_arg1) (ix3 s q j))
          (fun j => m ((c : Thread nD τ).loc main_arg2) (ix1 j)) (fun k j => m ((c : Thread nD τ).loc main_arg3) (ix3 0 k j)) (i 0) (i 1) := by
  refine (dats m 0 c).arrAt_eq_of_covers 4 _ (by decide +kernel) fun t hf y => ?_
  rw [after0_4]
  refine point4 m c t y _ _ ?_ ?_
  · blk_simp [idx t]
  · blk_simp [idx t]

end Cert.Kernel4Ideal.OddIn
end
-- ==== Proof.OddIn.Reference.lean ====
module

public import proofs.«01_k».proof.Proof.Gen.Reference4Ideal.Read
public import proofs.«01_k».proof.Proof.OddIn.Spec
public import Idealize.ShloMosaic.Lib.Pipeline.ValueKit

/-! The odd projection as the reference computes it: one stream at a time, then both stacked. -/

@[expose] public section

set_option maxRecDepth 16384

noncomputable section

namespace Cert.Reference4Ideal.OddIn

open Cert.Reference4Ideal Cert.Reference4Ideal.Gen Cert.Reference4Ideal.Read Cert.Ffn Cert.Proj Cert.Diff
open Idealize.ShloMosaic Idealize.ShloMosaic.TcCoe Idealize.SL.Sem

variable (x0 : (⟨S9216x2048, .f32⟩ : BufTy).Contents (Elt Ideal)) (x1 : (⟨S5x9x2048, .f32⟩ : BufTy).Contents (Elt Ideal))
  (x2 : (⟨S2048, .f32⟩ : BufTy).Contents (Elt Ideal)) (x3 : (⟨S1x2048x6144, .f32⟩ : BufTy).Contents (Elt Ideal))

/-- A row of the latent stream. -/
theorem h_lat (b : Fin 4) (r : Fin 2048) (k : Fin 2048) : val_main_v5 (F := Ideal) x0 (ix3 b r k) = x0 (ix2 ⟨b.val * 2048 + r.val, by omega⟩ k) := by
  rw [val_main_v5_apply, val_main_v4_apply]
  exact congrArg x0 (funext fun a => Fin.ext (by match a with | ⟨0, _⟩ => (simp [ix2, ix3] <;> omega) | ⟨1, _⟩ => (simp [ix2, ix3] <;> omega)))

/-- The shift of a latent sample. -/
theorem sh_lat (b : Fin 4) (k : Fin 2048) : val_main_v7 (F := Ideal) x1 (ix3 b 0 k) = x1 (ix3 b.castSucc 3 k) := by
  rw [val_main_v7_apply, val_main_v6_apply, val_main_v1_apply, val_main_v0_apply]
  exact congrArg x1 (funext fun a => Fin.ext (by match a with | ⟨0, _⟩ => (simp [ix3] <;> omega) | ⟨1, _⟩ => (simp [ix3] <;> omega) | ⟨2, _⟩ => (simp [ix3] <;> omega)))

/-- The scale of a latent sample. -/
theorem sc_lat (b : Fin 4) (k : Fin 2048) : val_main_v9 (F := Ideal) x1 (ix3 b 0 k) = x1 (ix3 b.castSucc 4 k) := by
  rw [val_main_v9_apply, val_main_v8_apply, val_main_v1_apply, val_main_v0_apply]
  exact congrArg x1 (funext fun a => Fin.ext (by match a with | ⟨0, _⟩ => (simp [ix3] <;> omega) | ⟨1, _⟩ => (simp [ix3] <;> omega) | ⟨2, _⟩ => (simp [ix3] <;> omega)))

/-- The scale of a normalised latent row. -/
theorem rs_lat (b : Fin 4) (r : Fin 2048) (k : Fin 2048) :
    val_main_v18 (F := Ideal) x0 (ix3 b r k) = rowScale (fun j => x0 (ix2 ⟨b.val * 2048 + r.val, by omega⟩ j)) := by
  rw [val_main_v18_apply, val_main_v17_apply, val_main_v16_apply, val_main_v14_apply, val_main_v12_apply, val_main_v11_apply]
  have e : ∀ j : Fin 2048, val_main_v10 (F := Ideal) x0 (idx_main_v11 (idx_main_v12 (idx_main_v18 (ix3 b r k))) j) = x0 (ix2 ⟨b.val * 2048 + r.val, by omega⟩ j) * x0 (ix2 ⟨b.val * 2048 + r.val, by omega⟩ j) := fun j => by
    have ei : idx_main_v11 (idx_main_v12 (idx_main_v18 (ix3 b r k))) j = ix3 b r j :=
      funext fun a => match a with | ⟨0, _⟩ => rfl | ⟨1, _⟩ => rfl | ⟨2, _⟩ => rfl
    rw [ei, val_main_v10_apply, h_lat]
    rfl
  refine congrArg Ideal.rsqrt (congrArg₂ (· + ·) (congrArg₂ Ideal.div ?_ rfl) rfl)
  refine (congrArg (· + _) zero32).trans ((zero_add _).trans (Finset.sum_congr rfl fun j _ => e j))

/-- A modulated latent row. -/
theorem u_lat (b : Fin 4) (r : Fin 2048) (k : Fin 2048) :
    val_main_v28 (F := Ideal) x0 x1 x2 (ix3 b r k)
      = modRow (fun j => x0 (ix2 ⟨b.val * 2048 + r.val, by omega⟩ j)) (fun j => x2 (ix1 j)) (fun j => x1 (ix3 b.castSucc 4 j)) (fun j => x1 (ix3 b.castSucc 3 j)) k := by
  rw [val_main_v28_apply, val_main_v26_apply, val_main_v22_apply, val_main_v19_apply, val_main_v21_apply, val_main_v20_apply, val_main_v25_apply, val_main_v24_apply, val_main_v27_apply, h_lat, rs_lat]
  have eg : idx_main_v20 (idx_main_v21 (ix3 b r k)) = ix1 k := funext fun a => match a with | ⟨0, _⟩ => rfl
  have ec : idx_main_v25 (ix3 b r k) = ix3 b 0 k := funext fun a => match a with | ⟨0, _⟩ => rfl | ⟨1, _⟩ => rfl | ⟨2, _⟩ => rfl
  have eh : idx_main_v27 (ix3 b r k) = ix3 b 0 k := funext fun a => match a with | ⟨0, _⟩ => rfl | ⟨1, _⟩ => rfl | ⟨2, _⟩ => rfl
  rw [eg, ec, eh, sc_lat, sh_lat]
  show x0 (ix2 ⟨b.val * 2048 + r.val, by omega⟩ k) * rowScale (fun j => x0 (ix2 ⟨b.val * 2048 + r.val, by omega⟩ j)) * x2 (ix1 k) * (Ideal.ofBits .f32 0x3F800000#32 + x1 (ix3 b.castSucc 4 k)) + x1 (ix3 b.castSucc 3 k) = _
  rw [one32, mul_assoc (x0 (ix2 ⟨b.val * 2048 + r.val, by omega⟩ k) * _)]
  rfl

/-- The weights the latent rows meet. -/
theorem w_lat (k : Fin 2048) (j : Fin 6144) : val_main_v29 (F := Ideal) x3 (ix2 k j) = x3 (ix3 0 k j) := by
  rw [val_main_v29_apply]
  exact congrArg x3 (funext fun a => Fin.ext (by match a with | ⟨0, _⟩ => (simp [ix2, ix3] <;> omega) | ⟨1, _⟩ => (simp [ix2, ix3] <;> omega) | ⟨2, _⟩ => (simp [ix2, ix3] <;> omega)))

/-- A product entry of the latent rows. -/
theorem p_lat (b : Fin 4) (r : Fin 2048) (j : Fin 6144) :
    val_main_v30 (F := Ideal) x0 x1 x2 x3 (ix3 b r j)
      = dotOf (modRow (fun j => x0 (ix2 ⟨b.val * 2048 + r.val, by omega⟩ j)) (fun j => x2 (ix1 j)) (fun j => x1 (ix3 b.castSucc 4 j)) (fun j => x1 (ix3 b.castSucc 3 j))) (fun k => x3 (ix3 0 k j)) := by
  rw [val_main_v30_apply]
  refine Finset.sum_congr rfl fun k _ => ?_
  have el : lidx_main_v30 (ix3 b r j) k = ix3 b r k := funext fun a => match a with | ⟨0, _⟩ => rfl | ⟨1, _⟩ => rfl | ⟨2, _⟩ => rfl
  have er : ridx_main_v30 (ix3 b r j) k = ix2 k j := funext fun a => match a with | ⟨0, _⟩ => rfl | ⟨1, _⟩ => rfl
  rw [el, er, u_lat, w_lat]

/-- A result of the latent stream: the columns of the queries are scaled, those of the keys and the values are not. -/
theorem o_lat (b : Fin 4) (r : Fin 2048) (C : Fin 6144) :
    val_main_v36 (F := Ideal) x0 x1 x2 x3 (ix3 b r C)
      = dotOf (modRow (fun j => x0 (ix2 ⟨b.val * 2048 + r.val, by omega⟩ j)) (fun j => x2 (ix1 j)) (fun j => x1 (ix3 b.castSucc 4 j)) (fun j => x1 (ix3 b.castSucc 3 j))) (fun k => x3 (ix3 0 k C)) * oddScale C.val := by
  rw [← p_lat]
  unfold val_main_v36 oddScale
  by_cases h0 : C.val < 2048
  · rw [if_pos h0]
    refine (concatenate_apply_piece (t := S4x2048x6144) 2 _ _ (ix3 b r C) 0 (by show _ < 3; decide) S4x2048x2048 _ rfl rfl 0 rfl (ix3 b r (⟨C.val, h0⟩ : Fin 2048))
      (fun a ha => match a, ha with | ⟨0, _⟩, _ => rfl | ⟨1, _⟩, _ => rfl | ⟨2, _⟩, ha => absurd rfl ha) (Nat.zero_add _)).trans ?_
    rw [      val_main_v35_apply, val_main_v34_apply, val_main_cst_3_apply, val_main_v31_apply]
    refine congrArg₂ (fun a b : EReal => a * b) (congrArg _ ?_) rfl
    exact funext fun a => match a with | ⟨0, _⟩ => rfl | ⟨1, _⟩ => rfl | ⟨2, _⟩ => rfl
  · rw [if_neg h0, mul_one]
    by_cases h1 : C.val < 4096
    · refine (concatenate_apply_piece (t := S4x2048x6144) 2 _ _ (ix3 b r C) 1 (by show _ < 3; decide) S4x2048x2048 _ rfl rfl 2048 rfl (ix3 b r (⟨C.val - 2048, by omega⟩ : Fin 2048))
        (fun a ha => match a, ha with | ⟨0, _⟩, _ => rfl | ⟨1, _⟩, _ => rfl | ⟨2, _⟩, ha => absurd rfl ha) (by show 2048 + (C.val - 2048) = C.val; omega)).trans ?_
      rw [val_main_v32_apply]
      exact congrArg _ (funext fun a => Fin.ext (by match a with | ⟨0, _⟩ => rfl | ⟨1, _⟩ => rfl | ⟨2, _⟩ => (show 2048 + (C.val - 2048) = C.val; omega)))
    · refine (concatenate_apply_piece (t := S4x2048x6144) 2 _ _ (ix3 b r C) 2 (by show _ < 3; decide) S4x2048x2048 _ rfl rfl 4096 rfl (ix3 b r (⟨C.val - 4096, by omega⟩ : Fin 2048))
        (fun a ha => match a, ha with | ⟨0, _⟩, _ => rfl | ⟨1, _⟩, _ => rfl | ⟨2, _⟩, ha => absurd rfl ha) (by show 4096 + (C.val - 4096) = C.val; omega)).trans ?_
      rw [val_main_v33_apply]
      exact congrArg _ (funext fun a => Fin.ext (by match a with | ⟨0, _⟩ => rfl | ⟨1, _⟩ => rfl | ⟨2, _⟩ => (show 4096 + (C.val - 4096) = C.val; omega)))

/-- A row of the context stream. -/
theorem h_ctx (b : Fin 4) (r : Fin 256) (k : Fin 2048) : val_main_v38 (F := Ideal) x0 (ix3 b r k) = x0 (ix2 ⟨8192 + (b.val * 256 + r.val), by omega⟩ k) := by
  rw [val_main_v38_apply, val_main_v37_apply]
  exact congrArg x0 (funext fun a => Fin.ext (by match a with | ⟨0, _⟩ => (simp [ix2, ix3] <;> omega) | ⟨1, _⟩ => (simp [ix2, ix3] <;> omega)))

/-- The shift of the context. -/
theorem sh_ctx (k : Fin 2048) : val_main_v40 (F := Ideal) x1 (ix1 k) = x1 (ix3 4 3 k) := by
  rw [val_main_v40_apply, val_main_v39_apply, val_main_v3_apply, val_main_v2_apply]
  exact congrArg x1 (funext fun a => Fin.ext (by match a with | ⟨0, _⟩ => (simp [ix1, ix3] <;> omega) | ⟨1, _⟩ => (simp [ix1, ix3] <;> omega) | ⟨2, _⟩ => (simp [ix1, ix3] <;> omega)))

/-- The scale of the context. -/
theorem sc_ctx (k : Fin 2048) : val_main_v42 (F := Ideal) x1 (ix1 k) = x1 (ix3 4 4 k) := by
  rw [val_main_v42_apply, val_main_v41_apply, val_main_v3_apply, val_main_v2_apply]
  exact congrArg x1 (funext fun a => Fin.ext (by match a with | ⟨0, _⟩ => (simp [ix1, ix3] <;> omega) | ⟨1, _⟩ => (simp [ix1, ix3] <;> omega) | ⟨2, _⟩ => (simp [ix1, ix3] <;> omega)))

/-- The scale of a normalised context row. -/
theorem rs_ctx (b : Fin 4) (r : Fin 256) (k : Fin 2048) :
    val_main_v51 (F := Ideal) x0 (ix3 b r k) = rowScale (fun j => x0 (ix2 ⟨8192 + (b.val * 256 + r.val), by omega⟩ j)) := by
  rw [val_main_v51_apply, val_main_v50_apply, val_main_v49_apply, val_main_v47_apply, val_main_v45_apply, val_main_v44_apply]
  have e : ∀ j : Fin 2048, val_main_v43 (F := Ideal) x0 (idx_main_v44 (idx_main_v45 (idx_main_v51 (ix3 b r k))) j) = x0 (ix2 ⟨8192 + (b.val * 256 + r.val), by omega⟩ j) * x0 (ix2 ⟨8192 + (b.val * 256 + r.val), by omega⟩ j) := fun j => by
    have ei : idx_main_v44 (idx_main_v45 (idx_main_v51 (ix3 b r k))) j = ix3 b r j :=
      funext fun a => match a with | ⟨0, _⟩ => rfl | ⟨1, _⟩ => rfl | ⟨2, _⟩ => rfl
    rw [ei, val_main_v43_apply, h_ctx]
    rfl
  refine congrArg Ideal.rsqrt (congrArg₂ (· + ·) (congrArg₂ Ideal.div ?_ rfl) rfl)
  refine (congrArg (· + _) zero32).trans ((zero_add _).trans (Finset.sum_congr rfl fun j _ => e j))

/-- A modulated context row. -/
theorem u_ctx (b : Fin 4) (r : Fin 256) (k : Fin 2048) :
    val_main_v63 (F := Ideal) x0 x1 x2 (ix3 b r k)
      = modRow (fun j => x0 (ix2 ⟨8192 + (b.val * 256 + r.val), by omega⟩ j)) (fun j => x2 (ix1 j)) (fun j => x1 (ix3 4 4 j)) (fun j => x1 (ix3 4 3 j)) k := by
  rw [val_main_v63_apply, val_main_v60_apply, val_main_v55_apply, val_main_v52_apply, val_main_v54_apply, val_main_v53_apply, val_main_v59_apply, val_main_v58_apply, val_main_v57_apply, val_main_v62_apply, val_main_v61_apply, h_ctx, rs_ctx]
  have eg : idx_main_v53 (idx_main_v54 (ix3 b r k)) = ix1 k := funext fun a => match a with | ⟨0, _⟩ => rfl
  have ec : idx_main_v58 (idx_main_v59 (ix3 b r k)) = ix1 k := funext fun a => match a with | ⟨0, _⟩ => rfl
  have eh : idx_main_v61 (idx_main_v62 (ix3 b r k)) = ix1 k := funext fun a => match a with | ⟨0, _⟩ => rfl
  rw [eg, ec, eh, sc_ctx, sh_ctx]
  show x0 (ix2 ⟨8192 + (b.val * 256 + r.val), by omega⟩ k) * rowScale (fun j => x0 (ix2 ⟨8192 + (b.val * 256 + r.val), by omega⟩ j)) * x2 (ix1 k) * (Ideal.ofBits .f32 0x3F800000#32 + x1 (ix3 4 4 k)) + x1 (ix3 4 3 k) = _
  rw [one32, mul_assoc (x0 (ix2 ⟨8192 + (b.val * 256 + r.val), by omega⟩ k) * _)]
  rfl

/-- The weights the context rows meet. -/
theorem w_ctx (k : Fin 2048) (j : Fin 6144) : val_main_v64 (F := Ideal) x3 (ix2 k j) = x3 (ix3 0 k j) := by
  rw [val_main_v64_apply]
  exact congrArg x3 (funext fun a => Fin.ext (by match a with | ⟨0, _⟩ => (simp [ix2, ix3] <;> omega) | ⟨1, _⟩ => (simp [ix2, ix3] <;> omega) | ⟨2, _⟩ => (simp [ix2, ix3] <;> omega)))

/-- A product entry of the context rows. -/
theorem p_ctx (b : Fin 4) (r : Fin 256) (j : Fin 6144) :
    val_main_v65 (F := Ideal) x0 x1 x2 x3 (ix3 b r j)
      = dotOf (modRow (fun j => x0 (ix2 ⟨8192 + (b.val * 256 + r.val), by omega⟩ j)) (fun j => x2 (ix1 j)) (fun j => x1 (ix3 4 4 j)) (fun j => x1 (ix3 4 3 j))) (fun k => x3 (ix3 0 k j)) := by
  rw [val_main_v65_apply]
  refine Finset.sum_congr rfl fun k _ => ?_
  have el : lidx_main_v65 (ix3 b r j) k = ix3 b r k := funext fun a => match a with | ⟨0, _⟩ => rfl | ⟨1, _⟩ => rfl | ⟨2, _⟩ => rfl
  have er : ridx_main_v65 (ix3 b r j) k = ix2 k j := funext fun a => match a with | ⟨0, _⟩ => rfl | ⟨1, _⟩ => rfl
  rw [el, er, u_ctx, w_ctx]

/-- A result of the context stream: the columns of the queries are scaled, those of the keys and the values are not. -/
theorem o_ctx (b : Fin 4) (r : Fin 256) (C : Fin 6144) :
    val_main_v71 (F := Ideal) x0 x1 x2 x3 (ix3 b r C)
      = dotOf (modRow (fun j => x0 (ix2 ⟨8192 + (b.val * 256 + r.val), by omega⟩ j)) (fun j => x2 (ix1 j)) (fun j => x1 (ix3 4 4 j)) (fun j => x1 (ix3 4 3 j))) (fun k => x3 (ix3 0 k C)) * oddScale C.val := by
  rw [← p_ctx]
  unfold val_main_v71 oddScale
  by_cases h0 : C.val < 2048
  · rw [if_pos h0]
    refine (concatenate_apply_piece (t := S4x256x6144) 2 _ _ (ix3 b r C) 0 (by show _ < 3; decide) S4x256x2048 _ rfl rfl 0 rfl (ix3 b r (⟨C.val, h0⟩ : Fin 2048))
      (fun a ha => match a, ha with | ⟨0, _⟩, _ => rfl | ⟨1, _⟩, _ => rfl | ⟨2, _⟩, ha => absurd rfl ha) (Nat.zero_add _)).trans ?_
    rw [      val_main_v70_apply, val_main_v69_apply, val_main_cst_8_apply, val_main_v66_apply]
    refine congrArg₂ (fun a b : EReal => a * b) (congrArg _ ?_) rfl
    exact funext fun a => match a with | ⟨0, _⟩ => rfl | ⟨1, _⟩ => rfl | ⟨2, _⟩ => rfl
  · rw [if_neg h0, mul_one]
    by_cases h1 : C.val < 4096
    · refine (concatenate_apply_piece (t := S4x256x6144) 2 _ _ (ix3 b r C) 1 (by show _ < 3; decide) S4x256x2048 _ rfl rfl 2048 rfl (ix3 b r (⟨C.val - 2048, by omega⟩ : Fin 2048))
        (fun a ha => match a, ha with | ⟨0, _⟩, _ => rfl | ⟨1, _⟩, _ => rfl | ⟨2, _⟩, ha => absurd rfl ha) (by show 2048 + (C.val - 2048) = C.val; omega)).trans ?_
      rw [val_main_v67_apply]
      exact congrArg _ (funext fun a => Fin.ext (by match a with | ⟨0, _⟩ => rfl | ⟨1, _⟩ => rfl | ⟨2, _⟩ => (show 2048 + (C.val - 2048) = C.val; omega)))
    · refine (concatenate_apply_piece (t := S4x256x6144) 2 _ _ (ix3 b r C) 2 (by show _ < 3; decide) S4x256x2048 _ rfl rfl 4096 rfl (ix3 b r (⟨C.val - 4096, by omega⟩ : Fin 2048))
        (fun a ha => match a, ha with | ⟨0, _⟩, _ => rfl | ⟨1, _⟩, _ => rfl | ⟨2, _⟩, ha => absurd rfl ha) (by show 4096 + (C.val - 4096) = C.val; omega)).trans ?_
      rw [val_main_v68_apply]
      exact congrArg _ (funext fun a => Fin.ext (by match a with | ⟨0, _⟩ => rfl | ⟨1, _⟩ => rfl | ⟨2, _⟩ => (show 4096 + (C.val - 4096) = C.val; omega)))

/-- Every result of the reference. -/
theorem result_at (R : Fin 9216) (C : Fin 6144) :
    val_main_v75 (F := Ideal) x0 x1 x2 x3 (ix2 R C)
      = oddIn (fun r j => x0 (ix2 r j)) (fun s q j => x1 (ix3 s q j)) (fun j => x2 (ix1 j)) (fun k j => x3 (ix3 0 k j)) R C := by
  rw [val_main_v75_apply]
  show val_main_v74 (F := Ideal) x0 x1 x2 x3 (ix2 R C) = _
  unfold val_main_v74
  by_cases hR : R.val < 8192
  · rw [concatenate_pair_apply_left (s₁ := S8192x6144) (s₂ := S1024x6144) 0 _ _ _ (ix2 R C) rfl (ix2 (⟨R.val, hR⟩ : Fin 8192) C)
      (fun a => match a with | ⟨0, _⟩ => rfl | ⟨1, _⟩ => rfl), val_main_v72_apply]
    have ei : idx_main_v72 (ix2 (⟨R.val, hR⟩ : Fin 8192) C) = ix3 (⟨R.val / 2048, by omega⟩ : Fin 4) (⟨R.val % 2048, by omega⟩ : Fin 2048) C :=
      funext fun a => Fin.ext (by match a with | ⟨0, _⟩ => (simp [ix2, ix3] <;> omega) | ⟨1, _⟩ => (simp [ix2, ix3] <;> omega) | ⟨2, _⟩ => (simp [ix2, ix3] <;> omega))
    rw [ei, o_lat]
    have e0 : (⟨R.val / 2048 * 2048 + R.val % 2048, by omega⟩ : Fin 9216) = R := Fin.ext (by show R.val / 2048 * 2048 + R.val % 2048 = R.val; omega)
    have e1 : (⟨R.val / 2048, by omega⟩ : Fin 4).castSucc = (⟨min (R.val / 2048) 4, by omega⟩ : Fin 5) := Fin.ext (by show R.val / 2048 = min (R.val / 2048) 4; omega)
    rw [e1, oddIn, mixRow]
    exact congrArg (fun q : Fin 9216 => dotOf (modRow (fun j => x0 (ix2 q j)) _ _ _) _ * oddScale C.val) e0
  · rw [concatenate_pair_apply_right (s₁ := S8192x6144) (s₂ := S1024x6144) 0 _ _ _ (ix2 R C) rfl rfl (ix2 (⟨R.val - 8192, by omega⟩ : Fin 1024) C)
      (fun a ha => match a, ha with | ⟨0, _⟩, ha => absurd rfl ha | ⟨1, _⟩, _ => rfl)
      (by show R.val - 8192 + 8192 = R.val; omega), val_main_v73_apply]
    have ei : idx_main_v73 (ix2 (⟨R.val - 8192, by omega⟩ : Fin 1024) C) = ix3 (⟨(R.val - 8192) / 256, by omega⟩ : Fin 4) (⟨(R.val - 8192) % 256, by omega⟩ : Fin 256) C :=
      funext fun a => Fin.ext (by match a with | ⟨0, _⟩ => (simp [ix2, ix3] <;> omega) | ⟨1, _⟩ => (simp [ix2, ix3] <;> omega) | ⟨2, _⟩ => (simp [ix2, ix3] <;> omega))
    rw [ei, o_ctx]
    have e0 : (⟨8192 + ((R.val - 8192) / 256 * 256 + (R.val - 8192) % 256), by omega⟩ : Fin 9216) = R :=
      Fin.ext (by show 8192 + ((R.val - 8192) / 256 * 256 + (R.val - 8192) % 256) = R.val; omega)
    have e1 : (4 : Fin 5) = (⟨min (R.val / 2048) 4, by omega⟩ : Fin 5) := Fin.ext (by show 4 = min (R.val / 2048) 4; omega)
    rw [e1, oddIn, mixRow]
    exact congrArg (fun q : Fin 9216 => dotOf (modRow (fun j => x0 (ix2 q j)) _ _ _) _ * oddScale C.val) e0

end Cert.Reference4Ideal.OddIn

end
-- ==== Proof.OddIn.Equation.lean ====
module

public import proofs.«01_k».proof.Defs
public import proofs.«01_k».proof.Proof.Gen.Reference4Ideal.Run
public import proofs.«01_k».proof.Proof.OddIn.Kernel
public import proofs.«01_k».proof.Proof.OddIn.Reference

/-! The odd projection: the call and the reference end with the same array, on any arguments. -/

@[expose] public section

noncomputable section

namespace Cert.Proof

open Idealize.ShloMosaic Idealize.SL.Sem

attribute [local instance] Cert.Kernel4Ideal.Gen.facts Cert.Reference4Ideal.Gen.facts in
/-- The odd projection's call computes the reference's result. -/
theorem odd_in_equal : algebraic_Kernel4Ideal_Reference4Ideal := by
  intro m g m' g' hp ha
  refine ⟨fun c => fun i => Cert.Proj.oddIn
      (fun r j => m ((c.tc : Thread Cert.Kernel4Ideal.nD Cert.Kernel4Ideal.τ).loc Cert.Kernel4Ideal.main_arg0) (ix2 r j))
      (fun s q j => m ((c.tc : Thread Cert.Kernel4Ideal.nD Cert.Kernel4Ideal.τ).loc Cert.Kernel4Ideal.main_arg1) (ix3 s q j))
      (fun j => m ((c.tc : Thread Cert.Kernel4Ideal.nD Cert.Kernel4Ideal.τ).loc Cert.Kernel4Ideal.main_arg2) (ix1 j))
      (fun k j => m ((c.tc : Thread Cert.Kernel4Ideal.nD Cert.Kernel4Ideal.τ).loc Cert.Kernel4Ideal.main_arg3) (ix3 0 k j)) (i 0) (i 1),
    (θ_run _ _ _).mono (fun r h c => ?_) (Cert.Kernel4Ideal.Value.run_blocks (F := Ideal) m g),
    (θ_run _ _ _).mono (fun r h c => ?_) (Cert.Reference4Ideal.Value.run (F := Ideal) m' g')⟩
  · obtain ⟨h5, k⟩ := h c
    exact ⟨h5.trans (Cert.Kernel4Ideal.OddIn.final4 m c), k⟩
  · obtain ⟨h5, k⟩ := h c
    obtain ⟨a0, a1, a2, a3⟩ := ha c
    refine ⟨h5.trans ((Cert.Reference4Ideal.Read.val_main_v75_eq m' c).trans ?_), k⟩
    rw [a0, a1, a2, a3]
    funext i
    obtain ⟨R, C, rfl⟩ : ∃ (R : Fin 9216) (C : Fin 6144), i = ix2 R C :=
      ⟨i 0, i 1, funext fun a => match a with | ⟨0, _⟩ => rfl | ⟨1, _⟩ => rfl⟩
    exact Cert.Reference4Ideal.OddIn.result_at _ _ _ _ R C

end Cert.Proof

end
-- ==== Proof.EvenIn.Spec.lean ====
module

public import proofs.«01_k».proof.Proof.OddIn.Spec

/-! The even layer's projection into the mixers, with its rotary embedding: the formulas. -/

@[expose] public section

noncomputable section

namespace Cert.Proj

open Idealize.ShloMosaic
open Cert.Ffn

/-- The other lane of a lane's pair: lanes pair up at distance sixteen within each group of thirty-two. -/
def partner (C : ℕ) : ℕ := if C % 32 < 16 then C + 16 else C - 16

/-- The rotary embedding's cosine for row `R` and lane `l` of a head, from the angles of the grid rows `ar` and grid columns `ac`:
    a head's lanes turn in groups of thirty-two with the token's grid row and its grid column by turns; context rows stay. -/
def ropeCos (ar ac : Fin 2048 → Fin 16 → EReal) (R : Fin 9216) (l : Fin 128) : EReal :=
  if R.val < 8192 then
    Ideal.cos ((if l.val % 64 < 32 then ar else ac) ⟨R.val % 2048, Nat.mod_lt _ (by decide)⟩ ⟨l.val % 16, Nat.mod_lt _ (by decide)⟩)
  else 1

/-- Its signed sine: minus on the first lane of a pair, plus on the second. -/
def ropeSin (ar ac : Fin 2048 → Fin 16 → EReal) (R : Fin 9216) (l : Fin 128) : EReal :=
  if R.val < 8192 then
    (if l.val % 32 < 16 then (-1 : EReal) else 1)
      * Ideal.sin ((if l.val % 64 < 32 then ar else ac) ⟨R.val % 2048, Nat.mod_lt _ (by decide)⟩ ⟨l.val % 16, Nat.mod_lt _ (by decide)⟩)
  else 0

/-- The column of the weights that column `C` of the first result takes: the thirty-two gate columns are left out. -/
def evenCol (C : Fin 7168) : Fin 7200 := ⟨if C.val < 4096 then C.val else C.val + 32, by split <;> omega⟩

/-- The gate column that column `C` of the second result takes, for the first thirty-two. -/
def gateCol (C : Fin 128) (h : C.val < 32) : Fin 7200 := ⟨4096 + C.val, by omega⟩

theorem partner_lt (C : Fin 7168) : partner C.val < 7168 := by
  unfold partner
  split <;> omega

/-- Entry `(R, C)` of the first result: the product, turned on the columns of the queries and keys. -/
def evenIn (ar ac : Fin 2048 → Fin 16 → EReal) (x : Fin 9216 → Fin 2048 → EReal) (md : Fin 5 → Fin 9 → Fin 2048 → EReal)
    (g : Fin 2048 → EReal) (w : Fin 2048 → Fin 7200 → EReal) (R : Fin 9216) (C : Fin 7168) : EReal :=
  if 4096 ≤ C.val ∧ C.val < 6144 then
    dotOf (mixRow x md g R) (fun k => w k (evenCol C)) * ropeCos ar ac R ⟨C.val % 128, Nat.mod_lt _ (by decide)⟩
      + dotOf (mixRow x md g R) (fun k => w k (evenCol ⟨partner C.val, partner_lt C⟩)) * ropeSin ar ac R ⟨C.val % 128, Nat.mod_lt _ (by decide)⟩
  else dotOf (mixRow x md g R) (fun k => w k (evenCol C))

/-- Entry `(R, C)` of the second result: the gates, with zeros after them. -/
def evenGates (x : Fin 9216 → Fin 2048 → EReal) (md : Fin 5 → Fin 9 → Fin 2048 → EReal)
    (g : Fin 2048 → EReal) (w : Fin 2048 → Fin 7200 → EReal) (R : Fin 9216) (C : Fin 128) : EReal :=
  if h : C.val < 32 then dotOf (mixRow x md g R) (fun k => w k (gateCol C h)) else 0

end Cert.Proj

end
-- ==== Proof.EvenIn.Block.lean ====
module

public import proofs.«01_k».proof.Proof.Gen.Kernel5Ideal.Value
public import Idealize.ShloMosaic.Lib.Pipeline.ValueKit
public import Idealize.ShloMosaic.Lib.Pipeline.ValueKit.Held
public import Idealize.ShloMosaic.Lib.Pipeline.ReadBack
public import Idealize.ShloMosaic.Lib.Writes
public import proofs.«01_k».proof.Proof.EvenIn.Spec

/-! What one block of the even projection computes. -/

@[expose] public section

set_option maxRecDepth 16384

noncomputable section

namespace Cert.Kernel5Ideal.EvenIn

open Cert.Ffn Cert.Proj
open Cert.Kernel5Ideal Cert.Kernel5Ideal.Gen
open Idealize.ShloMosaic Idealize.ShloMosaic.TcCoe Idealize.SL.Sem
open Idealize.ShloMosaic.Pipeline (Dat)

theorem pay1_apply (g : Vec Ideal S1x2048 .f32) (sc sh : Vec Ideal S1x1x2048 .f32) (x : Vec Ideal S32x2048 .f32)
    (i : Fin 32) (j : Fin 2048) : k0_pay1 g sc sh x (ix2 i j)
      = modRow (fun k => x (ix2 i k)) (fun k => g (ix2 0 k)) (fun k => sc (ix3 0 0 k)) (fun k => sh (ix3 0 0 k)) j := by
  pointwise [k0_pay1]
  rfl

theorem pay2_apply (u : Vec Ideal S1024x2048 .bf16) (w : Vec Ideal S2048x128 .f32) (i : Fin 1024) (j : Fin 128) :
    k0_pay2 u w (ix2 i j) = dotOf (fun k => u (ix2 i k)) (fun k => w (ix2 k j)) := by
  pointwise [k0_pay2]
  rfl

theorem pay4_apply (u : Vec Ideal S1024x2048 .bf16) (w : Vec Ideal S2048x1024 .bf16) (i j : Fin 1024) :
    k0_pay4 u w (ix2 i j) = dotOf (fun k => u (ix2 i k)) (fun k => w (ix2 k j)) := by
  pointwise [k0_pay4]
  rfl

theorem first_word (i : Fin 1024) (l : Fin 128) : (k0_pay10 (ix2 i l) : BitVec 1) = if l.val % 32 < 16 then 1#1 else 0#1 := by
  pointwise [k0_pay10]
  revert l
  decide

theorem partner_lt' (C : Fin 1024) : partner C.val < 1024 := by
  unfold partner
  split <;> omega

theorem seg_apply (o : ℕ) (ho : o % 128 = 0) (X : FVec Ideal S1024x1024 .f32) (c s : FVec Ideal S1024x128 .f32)
    (hs : S1024x1024.Slices ![0, o] S1024x128) (i : Fin 1024) (l : Fin 128) (C : Fin 1024) (hC : C.val = o + l.val) :
    addf (mulf (extractStridedSlice S1024x128 ![0, o] X hs) c)
        (mulf (select k0_pay10 (dynamicRotate 1 112#32 none (extractStridedSlice S1024x128 ![0, o] X hs) rotates_S1024x128_d1)
          (dynamicRotate 1 16#32 none (extractStridedSlice S1024x128 ![0, o] X hs) rotates_S1024x128_d1)) s) (ix2 i l)
      = X (ix2 i C) * c (ix2 i l) + X (ix2 i ⟨partner C.val, partner_lt' C⟩) * s (ix2 i l) := by
  have e0 : extractStridedSlice S1024x128 ![0, o] X hs (ix2 i l) = X (ix2 i C) := by
    pointwise
    exact congrArg X (funext fun a => Fin.ext (by match a with | ⟨0, _⟩ => (simp [ix2] <;> omega) | ⟨1, _⟩ => (simp [ix2] <;> omega)))
  have e1 : select k0_pay10 (dynamicRotate 1 112#32 none (extractStridedSlice S1024x128 ![0, o] X hs) rotates_S1024x128_d1)
          (dynamicRotate 1 16#32 none (extractStridedSlice S1024x128 ![0, o] X hs) rotates_S1024x128_d1) (ix2 i l)
      = X (ix2 i ⟨partner C.val, partner_lt' C⟩) := by
    have hw : (k0_pay10 (ix2 i l) : BitVec 1) = if l.val % 32 < 16 then 1#1 else 0#1 := first_word i l
    show Scalar.select (k0_pay10 (ix2 i l)) _ _ = _
    rw [hw]
    by_cases h : l.val % 32 < 16
    · rw [if_pos h]
      pointwise
      refine congrArg X (funext fun a => Fin.ext ?_)
      match a with
      | ⟨0, _⟩ => simp [ix2]
      | ⟨1, _⟩ =>
        show o + (l.val + 128 - 112) % 128 = partner C.val
        rw [partner, if_pos (show C.val % 32 < 16 by omega)]
        omega
    · rw [if_neg h]
      pointwise
      refine congrArg X (funext fun a => Fin.ext ?_)
      match a with
      | ⟨0, _⟩ => simp [ix2]
      | ⟨1, _⟩ =>
        show o + (l.val + 128 - 16) % 128 = partner C.val
        rw [partner, if_neg (show ¬ C.val % 32 < 16 by omega)]
        omega
  exact congrArg₂ (fun p q : EReal => p + q) (congrArg (fun p : EReal => p * c (ix2 i l)) e0) (congrArg (fun p : EReal => p * s (ix2 i l)) e1)

theorem pay3_eq (v : Vec Ideal S1024x128 .f32) : k0_pay3 v = v := by
  funext y
  pointwise [k0_pay3]

theorem pay7_eq (u : Vec Ideal S1024x2048 .bf16) (w : Vec Ideal S2048x1024 .bf16) : k0_pay7 u w = k0_pay4 u w := rfl

theorem pay8_eq (v : Vec Ideal S1024x128 .f32) : k0_pay8 v = v := by
  funext y
  pointwise [k0_pay8]

theorem pay9_eq (v : Vec Ideal S1024x128 .f32) : k0_pay9 v = v := by
  funext y
  pointwise [k0_pay9]

/-- The block of the turned columns: from the product with the weight block and the tables' rows. -/
def turned (u : Vec Ideal S1024x2048 .bf16) (w : Vec Ideal S2048x1024 .bf16) (c s : Vec Ideal S1024x128 .f32) :
    Vec Ideal S1024x1024 .f32 :=
  fun y => dotOf (fun k => u (ix2 (y 0) k)) (fun k => w (ix2 k (y 1))) * c (ix2 (y 0) (⟨(y 1).val % 128, Nat.mod_lt _ (by decide)⟩ : Fin 128))
    + dotOf (fun k => u (ix2 (y 0) k)) (fun k => w (ix2 k (⟨partner (y 1).val, partner_lt' (y 1)⟩ : Fin 1024)))
      * s (ix2 (y 0) (⟨(y 1).val % 128, Nat.mod_lt _ (by decide)⟩ : Fin 128))

/-- One head's slice of it. -/
theorem seg_at (o : ℕ) (ho : o % 128 = 0) (u : Vec Ideal S1024x2048 .bf16) (w : Vec Ideal S2048x1024 .bf16) (c s : Vec Ideal S1024x128 .f32)
    (hs : S1024x1024.Slices ![0, o] S1024x128) (hb) (y : S1024x128.Idx) :
    addf (F := Ideal) (φ := .f32) (mulf (extractStridedSlice S1024x128 ![0, o] (k0_pay4 u w) hs) c)
        (mulf (select k0_pay10 (dynamicRotate 1 112#32 none (extractStridedSlice S1024x128 ![0, o] (k0_pay4 u w) hs) rotates_S1024x128_d1)
          (dynamicRotate 1 16#32 none (extractStridedSlice S1024x128 ![0, o] (k0_pay4 u w) hs) rotates_S1024x128_d1)) s) y
      = turned u w c s ((Rect.unit (s := S1024x1024) ![0, o] ![1024, 128] hb).emb y) := by
  obtain ⟨i, l, rfl⟩ : ∃ (i : Fin 1024) (l : Fin 128), y = ix2 i l :=
    ⟨y 0, y 1, funext fun a => match a with | ⟨0, _⟩ => rfl | ⟨1, _⟩ => rfl⟩
  have hc : o + l.val < 1024 := by have := hb 1; simp at this; omega
  have e : (Rect.unit (s := S1024x1024) ![0, o] ![1024, 128] hb).emb (ix2 i l) = ix2 i (⟨o + l.val, hc⟩ : Fin 1024) :=
    funext fun a => Fin.ext (by match a with | ⟨0, _⟩ => simp [Rect.idx_unit_val, ix2] | ⟨1, _⟩ => simp [Rect.idx_unit_val, ix2])
  rw [e, seg_apply o ho (k0_pay4 u w) c s hs i l ⟨o + l.val, hc⟩ rfl, pay4_apply, pay4_apply]
  have el : (⟨(o + l.val) % 128, Nat.mod_lt _ (by decide)⟩ : Fin 128) = l := Fin.ext (by show (o + l.val) % 128 = l.val; omega)
  show _ = dotOf (fun k => u (ix2 i k)) (fun k => w (ix2 k (⟨o + l.val, hc⟩ : Fin 1024))) * c (ix2 i (⟨(o + l.val) % 128, Nat.mod_lt _ (by decide)⟩ : Fin 128))
    + dotOf (fun k => u (ix2 i k)) (fun k => w (ix2 k (⟨partner (o + l.val), partner_lt' ⟨o + l.val, hc⟩⟩ : Fin 1024)))
      * s (ix2 i (⟨(o + l.val) % 128, Nat.mod_lt _ (by decide)⟩ : Fin 128))
  rw [el]

/-- The whole scratch block after the loop, from the row tile `x`. -/
def modTile (x : Vec Ideal S1024x2048 .f32) (g : Vec Ideal S1x2048 .f32) (sc sh : Vec Ideal S1x1x2048 .f32) :
    Vec Ideal S1024x2048 .bf16 :=
  fun y => modRow (fun k => x (ix2 (y 0) k)) (fun k => g (ix2 0 k)) (fun k => sc (ix3 0 0 k)) (fun k => sh (ix3 0 0 k)) (y 1)

theorem rows_at (x : Vec Ideal S1024x2048 .f32) (g : Vec Ideal S1x2048 .f32) (sc sh : Vec Ideal S1x1x2048 .f32)
    (off : Fin 2 → ℕ) (r : ℕ) (hr : r + 32 ≤ 1024) (e : off = ![r, 0]) (hb) (i : Fin 32) (j : Fin 2048) :
    modRow (fun k => View.ld x (Rect.unit (s := S1024x2048) off ![32, 2048] hb) (ix2 i k))
        (fun k => g (ix2 0 k)) (fun k => sc (ix3 0 0 k)) (fun k => sh (ix3 0 0 k)) j
      = modTile x g sc sh ((Rect.unit (s := S1024x2048) off ![32, 2048] hb).emb (ix2 i j)) := by
  subst e
  have a0 : (((Rect.unit (s := S1024x2048) ![r, 0] ![32, 2048] hb).emb (ix2 i j)) 0 : Fin _).val = r + i.val := by
    simp [Rect.idx_unit_val]
  have a1 : ((Rect.unit (s := S1024x2048) ![r, 0] ![32, 2048] hb).emb (ix2 i j)) 1 = j := Fin.ext (by
    simp [Rect.idx_unit_val])
  unfold modTile
  rw [a1]
  congr 1
  funext k
  rw [View.ld_apply]
  congr 1
  refine funext fun a => match a with
    | ⟨0, _⟩ => Fin.ext (by simp [Rect.idx_unit_val])
    | ⟨1, _⟩ => Fin.ext (by simp [Rect.idx_unit_val])

/-- One trip writes thirty-two rows of it. -/
theorem trip_rows (c : Dev nD) (t : Fin cfg0.N) (h1 : k0_cond1 (grid0.coords t) = 1#1)
    (x : Vec Ideal S1024x2048 .f32) (g : Vec Ideal S1x2048 .f32) (sc sh : Vec Ideal S1x1x2048 .f32) (k : Fin k0_t1_loop.trips) :
    ∀ p ∈ tripL_k0_t1 (F := Ideal) Variants.none c none (grid0.coords t) (ms0_0 t) (hs0_0 t) (ms0_1 t) (hs0_1 t) (ms0_2 t) (hs0_2 t)
        (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h1 g sc sh ((hs0_0 t).unread x) k,
      ∀ y, p.2 y = modTile x g sc sh (p.1.emb y) := by
  unfold tripL_k0_t1 trip_k0_t1
  dsimp only
  sl_unfold_words
  simp only [List.mem_singleton, forall_eq]
  have e : ![BitVec.toNat (Scalar.indexCast (Scalar.muli (Scf.iv 0#32 1#32 ↑k) 32#32)), 0] = ![32 * k.val, 0] := k0_off1_eq k
  intro y
  obtain ⟨i, j, rfl⟩ : ∃ (i : Fin 32) (j : Fin 2048), y = ix2 i j :=
    ⟨y 0, y 1, funext fun a => match a with | ⟨0, _⟩ => rfl | ⟨1, _⟩ => rfl⟩
  refine (pay1_apply _ _ _ _ i j).trans ?_
  simp only [View.readAt_eq_ld, Memref.IsWhole.read_unread]
  exact rows_at x g sc sh _ _ (by have := k.isLt; have := k0_t1_abs.2.1; omega) e _ i j

theorem loop_rows (c : Dev nD) (t : Fin cfg0.N) (h1 : k0_cond1 (grid0.coords t) = 1#1)
    (x : Vec Ideal S1024x2048 .f32) (g : Vec Ideal S1x2048 .f32) (sc sh : Vec Ideal S1x1x2048 .f32) (n : ℕ) (hn : n ≤ k0_t1_loop.trips) :
    ∀ p ∈ pb_k0_t1 (F := Ideal) Variants.none c none (grid0.coords t) (ms0_0 t) (hs0_0 t) (ms0_1 t) (hs0_1 t) (ms0_2 t) (hs0_2 t)
        (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h1 g sc sh ((hs0_0 t).unread x) n,
      ∀ y, p.2 y = modTile x g sc sh (p.1.emb y) := by
  induction n with
  | zero => intro p hp; exact absurd hp List.not_mem_nil
  | succ n ih =>
    intro p hp
    rw [pb_k0_t1_succ _ _ _ _ _ _ _ _ _ _ _ _ _ _ _ _ _ _ _ _ _ _ _ _ _ _ _ _ _ ⟨n, hn⟩] at hp
    rcases List.mem_append.mp hp with h | h
    · exact trip_rows c t h1 x g sc sh ⟨n, hn⟩ p h
    · exact ih (by omega) p h

variable (m : (ℓ : Loc nD τ sig) → Buf (Elt Ideal) ℓ)

/-- At the first point of a row tile the scratch holds the tile's modulated rows … -/
theorem scrA (c : Dev nD) (t : Fin cfg0.N) (h : t.val % 7 = 0) (y) :
    (outsAt0 m c t.val t.isLt).2.2 y = modTile (iblk m c 0 t) (iblk m c 2 t)
      (View.ld (iblk m c 1 t) (Rect.unit ![0, 4, 0] ![1, 1, 2048] inb_S1x9x2048_S1x1x2048_0_4_0))
      (View.ld (iblk m c 1 t) (Rect.unit ![0, 3, 0] ![1, 1, 2048] inb_S1x9x2048_S1x1x2048_0_3_0)) y := by
  rw [outsAt0_A m c t h (by omega) (by omega) (by omega)]
  dsimp only
  unfold sout0_A_0
  refine View.read_writes_apply_of_pieces _ _ _ _ ?_ y (scover0_A_0 ..)
  unfold kernelRun0_A
  dsimp only
  sl_unfold_words
  simp (disch := decide) only [View.readAt_eq_ld, Memref.IsWhole.read_unread, View.ld_unit_lit]
  exact loop_rows c t ((hcond0_0 t).mpr h) (iblk m c 0 t) (iblk m c 2 t) _ _ k0_t1_loop.trips le_rfl

/-- … and the points after it leave it. -/
theorem scrB (c : Dev nD) (t : Fin cfg0.N) (h : ¬ t.val % 7 = 0) :
    (outsAt0 m c t.val t.isLt).2.2 = (outsAt0 m c (t.val-1) (Nat.lt_of_le_of_lt (Nat.sub_le _ _) t.isLt)).2.2 := by
  by_cases h2 : 4 ≤ t.val % 7 ∧ t.val % 7 ≤ 5
  · rw [outsAt0_C m c t h (by omega) (by omega) h2]
    rfl
  · rw [outsAt0_B m c t h (by omega) h2 h2]
    rfl

/-- At the first point of a row tile the gates' block is the product with the gate weights … -/
theorem gatesA (c : Dev nD) (t : Fin cfg0.N) (h : t.val % 7 = 0) :
    (outsAt0 m c t.val t.isLt).2.1 = k0_pay2 (outsAt0 m c t.val t.isLt).2.2 (iblk m c 4 t) := by
  rw [outsAt0_A m c t h (by omega) (by omega) (by omega)]
  frame_out
  congr 1
  rw [View.readCov_eq_canon']
  exact View.ld_unit_lit _ _ (by decide)

/-- … and the points after it store what it holds. -/
theorem gatesB (c : Dev nD) (t : Fin cfg0.N) (h : ¬ t.val % 7 = 0) :
    (outsAt0 m c t.val t.isLt).2.1 = (outsAt0 m c (t.val-1) (Nat.lt_of_le_of_lt (Nat.sub_le _ _) t.isLt)).2.1 := by
  by_cases h2 : 4 ≤ t.val % 7 ∧ t.val % 7 ≤ 5
  · rw [outsAt0_C m c t h (by omega) (by omega) h2]
    frame_out
    exact pay3_eq _
  · rw [outsAt0_B m c t h (by omega) h2 h2]
    frame_out
    exact pay3_eq _

/-- The output block on columns that are not turned. -/
theorem out_plain (c : Dev nD) (t : Fin cfg0.N) (h2 : ¬ (4 ≤ t.val % 7 ∧ t.val % 7 ≤ 5)) :
    (outsAt0 m c t.val t.isLt).1 = k0_pay4 (outsAt0 m c t.val t.isLt).2.2 (iblk m c 3 t) := by
  by_cases h : t.val % 7 = 0
  · rw [outsAt0_A m c t h (by omega) (by omega) (by omega)]
    frame_out
    congr 1
    rw [View.readCov_eq_canon']
    exact View.ld_unit_lit _ _ (by decide)
  · rw [outsAt0_B m c t h (by omega) h2 h2]
    frame_out
    simp only [read_unread_whole]
    rfl

/-- The output block on the turned columns. -/
theorem out_turned (c : Dev nD) (t : Fin cfg0.N) (h2 : 4 ≤ t.val % 7 ∧ t.val % 7 ≤ 5) (y) :
    (outsAt0 m c t.val t.isLt).1 y
      = turned (outsAt0 m c t.val t.isLt).2.2 (iblk m c 3 t) (iblk m c 5 t) (iblk m c 6 t) y := by
  rw [scrB m c t (by omega), outsAt0_C m c t (by omega) (by omega) (by omega) h2]
  dsimp only
  unfold out0_C_7
  refine View.read_writes_apply_of_pieces _ _ _ _ ?_ y (cover0_C_7 ..)
  unfold kernelRun0_C
  dsimp only
  sl_unfold_words
  simp (disch := decide) only [View.readAt_eq_ld, Memref.IsWhole.read_unread, View.ld_unit_lit]
  simp only [List.forall_mem_cons, List.not_mem_nil, false_imp_iff, implies_true, and_true]
  simp only [k0_pay11, k0_pay12, k0_pay13, pay7_eq, pay8_eq, pay9_eq, read_unread_whole]
  refine ⟨?_, ?_, ?_, ?_, ?_, ?_, ?_, ?_⟩
  · exact fun y => seg_at 896 (by decide) _ _ _ _ _ _ y
  · exact fun y => seg_at 768 (by decide) _ _ _ _ _ _ y
  · exact fun y => seg_at 640 (by decide) _ _ _ _ _ _ y
  · exact fun y => seg_at 512 (by decide) _ _ _ _ _ _ y
  · exact fun y => seg_at 384 (by decide) _ _ _ _ _ _ y
  · exact fun y => seg_at 256 (by decide) _ _ _ _ _ _ y
  · exact fun y => seg_at 128 (by decide) _ _ _ _ _ _ y
  · exact fun y => seg_at 0 (by decide) _ _ _ _ _ _ y

end Cert.Kernel5Ideal.EvenIn
end
-- ==== Proof.EvenIn.Angle.lean ====
module

public import proofs.«01_k».proof.Proof.Gen.Reference5Ideal.Read
public import proofs.«01_k».proof.Proof.EvenIn.Spec

/-! The rotary embedding's angles, as the reference computes them. -/

@[expose] public section

noncomputable section

namespace Cert.Reference5Ideal.EvenIn

open Cert.Reference5Ideal.Read
open Idealize.ShloMosaic

/-- The angles of the grid rows and of the grid columns, by token and frequency. -/
def rowAngle (t : Fin 2048) (f : Fin 16) : EReal := val_main_v13 (F := Ideal) (ix3 t 0 f)

def colAngle (t : Fin 2048) (f : Fin 16) : EReal := val_main_v20 (F := Ideal) (ix3 t 0 f)

end Cert.Reference5Ideal.EvenIn

end
-- ==== Proof.EvenIn.Host.lean ====
module

public import proofs.«01_k».proof.Proof.EvenIn.Block
public import proofs.«01_k».proof.Proof.EvenIn.Angle
public import Idealize.ShloMosaic.Lib.StableHlo.ReadAt
public import Idealize.ShloMosaic.Lib.KernelVsHost

/-! What the even projection's host code hands to the call: the weights without their gate columns, the gate columns with zeros after
them, and the rotary embedding's two tables. -/

@[expose] public section

set_option maxRecDepth 16384

noncomputable section

namespace Cert.Kernel5Ideal.EvenIn

open Cert.Ffn Cert.Proj Cert.Reference5Ideal.EvenIn
open Cert.Kernel5Ideal Cert.Kernel5Ideal.Gen
open Idealize.ShloMosaic Idealize.ShloMosaic.TcCoe Idealize.SL.Sem

variable (m : (ℓ : Loc nD τ sig) → Buf (Elt Ideal) ℓ)

theorem minus_one : (Ideal.ofBits .f32 0xBF800000#32 : EReal) = -1 := by
  simp [Ideal.ofBits, Ideal.ieee, -EReal.coe_mul]
  norm_num

theorem cos0 (c : Dev nD) (t : Fin 2048) (l : Fin 64) (h : 0 ≤ l.val ∧ l.val < 16) :
    (StableHlo.upto (List.flatten [hostOps0, hostOps0_1, hostOps0_2, hostOps0_3, hostOps0_4, hostOps0_5, hostOps0_6])
      (fun b => m (c, b)) 122 (Proc.devRef .tc main_v42) : (⟨S2048x64, .f32⟩ : BufTy).Contents (Elt Ideal)) (ix2 t l)
      = Ideal.cos (rowAngle t ⟨l.val % 16, Nat.mod_lt _ (by decide)⟩) := by
  after_reads_simp
  refine (concatenate_apply_piece (t := S2048x64) 1 _ _ (ix2 t l) 0 (by show _ < 4; decide) S2048x16 _ rfl rfl 0 rfl
    (ix2 t ⟨l.val % 16, Nat.mod_lt _ (by decide)⟩) (fun a ha => match a, ha with | ⟨0, _⟩, _ => rfl | ⟨1, _⟩, ha => absurd rfl ha)
    (by show 0 + l.val % 16 = l.val; omega)).trans ?_
  dsimp only [Matrix.cons_val_zero, Matrix.cons_val_one, Matrix.cons_val]
  after_reads_simp
  rw [rowAngle, Cert.Reference5Ideal.Read.val_main_v13_apply]
  rfl

theorem cos1 (c : Dev nD) (t : Fin 2048) (l : Fin 64) (h : 16 ≤ l.val ∧ l.val < 32) :
    (StableHlo.upto (List.flatten [hostOps0, hostOps0_1, hostOps0_2, hostOps0_3, hostOps0_4, hostOps0_5, hostOps0_6])
      (fun b => m (c, b)) 122 (Proc.devRef .tc main_v42) : (⟨S2048x64, .f32⟩ : BufTy).Contents (Elt Ideal)) (ix2 t l)
      = Ideal.cos (rowAngle t ⟨l.val % 16, Nat.mod_lt _ (by decide)⟩) := by
  after_reads_simp
  refine (concatenate_apply_piece (t := S2048x64) 1 _ _ (ix2 t l) 1 (by show _ < 4; decide) S2048x16 _ rfl rfl 16 rfl
    (ix2 t ⟨l.val % 16, Nat.mod_lt _ (by decide)⟩) (fun a ha => match a, ha with | ⟨0, _⟩, _ => rfl | ⟨1, _⟩, ha => absurd rfl ha)
    (by show 16 + l.val % 16 = l.val; omega)).trans ?_
  dsimp only [Matrix.cons_val_zero, Matrix.cons_val_one, Matrix.cons_val]
  after_reads_simp
  rw [rowAngle, Cert.Reference5Ideal.Read.val_main_v13_apply]
  rfl

theorem cos2 (c : Dev nD) (t : Fin 2048) (l : Fin 64) (h : 32 ≤ l.val ∧ l.val < 48) :
    (StableHlo.upto (List.flatten [hostOps0, hostOps0_1, hostOps0_2, hostOps0_3, hostOps0_4, hostOps0_5, hostOps0_6])
      (fun b => m (c, b)) 122 (Proc.devRef .tc main_v42) : (⟨S2048x64, .f32⟩ : BufTy).Contents (Elt Ideal)) (ix2 t l)
      = Ideal.cos (colAngle t ⟨l.val % 16, Nat.mod_lt _ (by decide)⟩) := by
  after_reads_simp
  refine (concatenate_apply_piece (t := S2048x64) 1 _ _ (ix2 t l) 2 (by show _ < 4; decide) S2048x16 _ rfl rfl 32 rfl
    (ix2 t ⟨l.val % 16, Nat.mod_lt _ (by decide)⟩) (fun a ha => match a, ha with | ⟨0, _⟩, _ => rfl | ⟨1, _⟩, ha => absurd rfl ha)
    (by show 32 + l.val % 16 = l.val; omega)).trans ?_
  dsimp only [Matrix.cons_val_zero, Matrix.cons_val_one, Matrix.cons_val]
  after_reads_simp
  rw [colAngle, Cert.Reference5Ideal.Read.val_main_v20_apply]
  rfl

theorem cos3 (c : Dev nD) (t : Fin 2048) (l : Fin 64) (h : 48 ≤ l.val ∧ l.val < 64) :
    (StableHlo.upto (List.flatten [hostOps0, hostOps0_1, hostOps0_2, hostOps0_3, hostOps0_4, hostOps0_5, hostOps0_6])
      (fun b => m (c, b)) 122 (Proc.devRef .tc main_v42) : (⟨S2048x64, .f32⟩ : BufTy).Contents (Elt Ideal)) (ix2 t l)
      = Ideal.cos (colAngle t ⟨l.val % 16, Nat.mod_lt _ (by decide)⟩) := by
  after_reads_simp
  refine (concatenate_apply_piece (t := S2048x64) 1 _ _ (ix2 t l) 3 (by show _ < 4; decide) S2048x16 _ rfl rfl 48 rfl
    (ix2 t ⟨l.val % 16, Nat.mod_lt _ (by decide)⟩) (fun a ha => match a, ha with | ⟨0, _⟩, _ => rfl | ⟨1, _⟩, ha => absurd rfl ha)
    (by show 48 + l.val % 16 = l.val; omega)).trans ?_
  dsimp only [Matrix.cons_val_zero, Matrix.cons_val_one, Matrix.cons_val]
  after_reads_simp
  rw [colAngle, Cert.Reference5Ideal.Read.val_main_v20_apply]
  rfl

theorem sin0 (c : Dev nD) (t : Fin 2048) (l : Fin 64) (h : 0 ≤ l.val ∧ l.val < 16) :
    (StableHlo.upto (List.flatten [hostOps0, hostOps0_1, hostOps0_2, hostOps0_3, hostOps0_4, hostOps0_5, hostOps0_6])
      (fun b => m (c, b)) 126 (Proc.devRef .tc main_v75) : (⟨S2048x64, .f32⟩ : BufTy).Contents (Elt Ideal)) (ix2 t l)
      = (-1 : EReal) * Ideal.sin (rowAngle t ⟨l.val % 16, Nat.mod_lt _ (by decide)⟩) := by
  after_reads_simp
  refine (concatenate_apply_piece (t := S2048x64) 1 _ _ (ix2 t l) 0 (by show _ < 4; decide) S2048x16 _ rfl rfl 0 rfl
    (ix2 t ⟨l.val % 16, Nat.mod_lt _ (by decide)⟩) (fun a ha => match a, ha with | ⟨0, _⟩, _ => rfl | ⟨1, _⟩, ha => absurd rfl ha)
    (by show 0 + l.val % 16 = l.val; omega)).trans ?_
  dsimp only [Matrix.cons_val_zero, Matrix.cons_val_one, Matrix.cons_val]
  after_reads_simp
  rw [rowAngle, Cert.Reference5Ideal.Read.val_main_v13_apply, ← minus_one]
  rfl

theorem sin1 (c : Dev nD) (t : Fin 2048) (l : Fin 64) (h : 16 ≤ l.val ∧ l.val < 32) :
    (StableHlo.upto (List.flatten [hostOps0, hostOps0_1, hostOps0_2, hostOps0_3, hostOps0_4, hostOps0_5, hostOps0_6])
      (fun b => m (c, b)) 126 (Proc.devRef .tc main_v75) : (⟨S2048x64, .f32⟩ : BufTy).Contents (Elt Ideal)) (ix2 t l)
      = (1 : EReal) * Ideal.sin (rowAngle t ⟨l.val % 16, Nat.mod_lt _ (by decide)⟩) := by
  after_reads_simp
  refine (concatenate_apply_piece (t := S2048x64) 1 _ _ (ix2 t l) 1 (by show _ < 4; decide) S2048x16 _ rfl rfl 16 rfl
    (ix2 t ⟨l.val % 16, Nat.mod_lt _ (by decide)⟩) (fun a ha => match a, ha with | ⟨0, _⟩, _ => rfl | ⟨1, _⟩, ha => absurd rfl ha)
    (by show 16 + l.val % 16 = l.val; omega)).trans ?_
  dsimp only [Matrix.cons_val_zero, Matrix.cons_val_one, Matrix.cons_val]
  after_reads_simp
  rw [rowAngle, Cert.Reference5Ideal.Read.val_main_v13_apply, ← Cert.Proj.one32]
  rfl

theorem sin2 (c : Dev nD) (t : Fin 2048) (l : Fin 64) (h : 32 ≤ l.val ∧ l.val < 48) :
    (StableHlo.upto (List.flatten [hostOps0, hostOps0_1, hostOps0_2, hostOps0_3, hostOps0_4, hostOps0_5, hostOps0_6])
      (fun b => m (c, b)) 126 (Proc.devRef .tc main_v75) : (⟨S2048x64, .f32⟩ : BufTy).Contents (Elt Ideal)) (ix2 t l)
      = (-1 : EReal) * Ideal.sin (colAngle t ⟨l.val % 16, Nat.mod_lt _ (by decide)⟩) := by
  after_reads_simp
  refine (concatenate_apply_piece (t := S2048x64) 1 _ _ (ix2 t l) 2 (by show _ < 4; decide) S2048x16 _ rfl rfl 32 rfl
    (ix2 t ⟨l.val % 16, Nat.mod_lt _ (by decide)⟩) (fun a ha => match a, ha with | ⟨0, _⟩, _ => rfl | ⟨1, _⟩, ha => absurd rfl ha)
    (by show 32 + l.val % 16 = l.val; omega)).trans ?_
  dsimp only [Matrix.cons_val_zero, Matrix.cons_val_one, Matrix.cons_val]
  after_reads_simp
  rw [colAngle, Cert.Reference5Ideal.Read.val_main_v20_apply, ← minus_one]
  rfl

theorem sin3 (c : Dev nD) (t : Fin 2048) (l : Fin 64) (h : 48 ≤ l.val ∧ l.val < 64) :
    (StableHlo.upto (List.flatten [hostOps0, hostOps0_1, hostOps0_2, hostOps0_3, hostOps0_4, hostOps0_5, hostOps0_6])
      (fun b => m (c, b)) 126 (Proc.devRef .tc main_v75) : (⟨S2048x64, .f32⟩ : BufTy).Contents (Elt Ideal)) (ix2 t l)
      = (1 : EReal) * Ideal.sin (colAngle t ⟨l.val % 16, Nat.mod_lt _ (by decide)⟩) := by
  after_reads_simp
  refine (concatenate_apply_piece (t := S2048x64) 1 _ _ (ix2 t l) 3 (by show _ < 4; decide) S2048x16 _ rfl rfl 48 rfl
    (ix2 t ⟨l.val % 16, Nat.mod_lt _ (by decide)⟩) (fun a ha => match a, ha with | ⟨0, _⟩, _ => rfl | ⟨1, _⟩, ha => absurd rfl ha)
    (by show 48 + l.val % 16 = l.val; omega)).trans ?_
  dsimp only [Matrix.cons_val_zero, Matrix.cons_val_one, Matrix.cons_val]
  after_reads_simp
  rw [colAngle, Cert.Reference5Ideal.Read.val_main_v20_apply, ← Cert.Proj.one32]
  rfl

theorem cos_at (c : Dev nD) (t : Fin 2048) (l : Fin 64) :
    (StableHlo.upto (List.flatten [hostOps0, hostOps0_1, hostOps0_2, hostOps0_3, hostOps0_4, hostOps0_5, hostOps0_6])
      (fun b => m (c, b)) 122 (Proc.devRef .tc main_v42) : (⟨S2048x64, .f32⟩ : BufTy).Contents (Elt Ideal)) (ix2 t l)
      = Ideal.cos ((if l.val < 32 then rowAngle else colAngle) t ⟨l.val % 16, Nat.mod_lt _ (by decide)⟩) := by
  by_cases h0 : l.val < 32
  · rw [if_pos h0]
    by_cases h1 : l.val % 32 < 16
    · exact cos0 m c t l (by omega)
    · exact cos1 m c t l (by omega)
  · rw [if_neg h0]
    by_cases h1 : l.val % 32 < 16
    · exact cos2 m c t l (by omega)
    · exact cos3 m c t l (by omega)

theorem sin_at (c : Dev nD) (t : Fin 2048) (l : Fin 64) :
    (StableHlo.upto (List.flatten [hostOps0, hostOps0_1, hostOps0_2, hostOps0_3, hostOps0_4, hostOps0_5, hostOps0_6])
      (fun b => m (c, b)) 126 (Proc.devRef .tc main_v75) : (⟨S2048x64, .f32⟩ : BufTy).Contents (Elt Ideal)) (ix2 t l)
      = (if l.val % 32 < 16 then (-1 : EReal) else 1)
          * Ideal.sin ((if l.val < 32 then rowAngle else colAngle) t ⟨l.val % 16, Nat.mod_lt _ (by decide)⟩) := by
  by_cases h0 : l.val < 32
  · rw [if_pos h0]
    by_cases h1 : l.val % 32 < 16
    · rw [if_pos h1]
      exact sin0 m c t l (by omega)
    · rw [if_neg h1]
      exact sin1 m c t l (by omega)
  · rw [if_neg h0]
    by_cases h1 : l.val % 32 < 16
    · rw [if_pos h1]
      exact sin2 m c t l (by omega)
    · rw [if_neg h1]
      exact sin3 m c t l (by omega)

/-- The weights without their gate columns. -/
theorem weight_at (c : Dev nD) (k : Fin 2048) (C : Fin 7168) :
    (V m c main_v4 : (⟨S2048x7168, .bf16⟩ : BufTy).Contents (Elt Ideal)) (ix2 k C) = m ((c : Thread nD τ).loc main_arg3) (ix3 0 k (evenCol C)) := by
  unfold V
  after_reads_simp
  pointwise
  by_cases h : C.val < 4096
  · rw [dif_pos h]
    after_reads_simp
    pointwise
    exact congrArg (m ((c : Thread nD τ).loc main_arg3)) (congrArg (ix3 0 k) (Fin.ext (by show C.val = if C.val < 4096 then C.val else C.val + 32; rw [if_pos h])))
  · rw [dif_neg h]
    after_reads_simp
    pointwise
    exact congrArg (m ((c : Thread nD τ).loc main_arg3)) (congrArg (ix3 0 k) (Fin.ext (by show 4128 + (C.val - 4096) = if C.val < 4096 then C.val else C.val + 32; rw [if_neg h]; omega)))

/-- The gate columns, with zeros after them. -/
theorem gate_weight_at (c : Dev nD) (k : Fin 2048) (j : Fin 128) :
    (V m c main_v6 : (⟨S2048x128, .f32⟩ : BufTy).Contents (Elt Ideal)) (ix2 k j)
      = if h : j.val < 32 then m ((c : Thread nD τ).loc main_arg3) (ix3 0 k (gateCol j h)) else (0 : EReal) := by
  unfold V
  after_reads_simp
  simp -implicitDefEqProofs only [StableHlo.TRef.toBuf, StableHlo.TRef.ofBuf, cast_cast, cast_eq]
  by_cases h : j.val < 32
  · rw [dif_pos h]
    refine (pad_apply_of_inside _ _ _ _ _ _ _ (ix2 k j) (ix2 k ⟨j.val, h⟩) (fun a => match a with
      | ⟨0, _⟩ => by show k.val = 0 + k.val * (0 + 1); omega | ⟨1, _⟩ => by show j.val = 0 + j.val * (0 + 1); omega)).trans ?_
    pointwise
    rfl
  · rw [dif_neg h]
    refine (pad_apply_of_not_inside _ _ _ _ _ _ _ (ix2 k j) 1 (by show ¬ (0 ≤ j.val ∧ (j.val - 0) % (0 + 1) = 0 ∧ (j.val - 0) / (0 + 1) < 32); omega)).trans ?_
    show ((((0#32 : BitVec 32).toInt : ℝ) : EReal)) = 0
    simp

/-- The cosine table. -/
theorem cos_table_at (c : Dev nD) (R : Fin 9216) (l : Fin 128) :
    (V m c main_v85 : (⟨S9216x128, .f32⟩ : BufTy).Contents (Elt Ideal)) (ix2 R l) = ropeCos rowAngle colAngle R l := by
  unfold V ropeCos
  after_reads_simp
  by_cases h : R.val < 8192
  · rw [if_pos h]
    refine (concatenate_pair_apply_left (s₁ := S8192x128) (s₂ := S1024x128) _ _ _ _ (ix2 R l) rfl (ix2 ⟨R.val, h⟩ l)
      (fun a => match a with | ⟨0, _⟩ => rfl | ⟨1, _⟩ => rfl)).trans ?_
    pointwise
    by_cases h1 : l.val < 64
    · rw [dif_pos h1]
      refine (cos_at m c _ ⟨l.val, h1⟩).trans (congrArg Ideal.cos ?_)
      have e : l.val % 64 = l.val := Nat.mod_eq_of_lt h1
      rw [e]
    · rw [dif_neg h1]
      refine (cos_at m c _ ⟨l.val - 64, by omega⟩).trans (congrArg Ideal.cos ?_)
      have e : l.val % 64 = l.val - 64 := by omega
      have e' : (l.val - 64) % 16 = l.val % 16 := by omega
      simp only [e, e']
  · rw [if_neg h]
    refine (concatenate_pair_apply_right (s₁ := S8192x128) (s₂ := S1024x128) _ _ _ _ (ix2 R l) rfl rfl (ix2 ⟨R.val - 8192, by omega⟩ l)
      (fun a ha => match a, ha with | ⟨0, _⟩, ha => absurd rfl ha | ⟨1, _⟩, _ => rfl) (by show R.val - 8192 + 8192 = R.val; omega)).trans ?_
    pointwise

/-- The signed sine table. -/
theorem sin_table_at (c : Dev nD) (R : Fin 9216) (l : Fin 128) :
    (V m c main_v87 : (⟨S9216x128, .f32⟩ : BufTy).Contents (Elt Ideal)) (ix2 R l) = ropeSin rowAngle colAngle R l := by
  unfold V ropeSin
  after_reads_simp
  by_cases h : R.val < 8192
  · rw [if_pos h]
    refine (concatenate_pair_apply_left (s₁ := S8192x128) (s₂ := S1024x128) _ _ _ _ (ix2 R l) rfl (ix2 ⟨R.val, h⟩ l)
      (fun a => match a with | ⟨0, _⟩ => rfl | ⟨1, _⟩ => rfl)).trans ?_
    pointwise
    by_cases h1 : l.val < 64
    · rw [dif_pos h1]
      refine (sin_at m c _ ⟨l.val, h1⟩).trans ?_
      have e : l.val % 64 = l.val := Nat.mod_eq_of_lt h1
      rw [e]
    · rw [dif_neg h1]
      refine (sin_at m c _ ⟨l.val - 64, by omega⟩).trans ?_
      have e : l.val % 64 = l.val - 64 := by omega
      have e' : (l.val - 64) % 16 = l.val % 16 := by omega
      have e'' : (l.val - 64) % 32 = l.val % 32 := by omega
      simp only [e, e', e'']
  · rw [if_neg h]
    refine (concatenate_pair_apply_right (s₁ := S8192x128) (s₂ := S1024x128) _ _ _ _ (ix2 R l) rfl rfl (ix2 ⟨R.val - 8192, by omega⟩ l)
      (fun a ha => match a, ha with | ⟨0, _⟩, ha => absurd rfl ha | ⟨1, _⟩, _ => rfl) (by show R.val - 8192 + 8192 = R.val; omega)).trans ?_
    pointwise

end Cert.Kernel5Ideal.EvenIn
end
-- ==== Proof.EvenIn.Kernel.lean ====
module

public import proofs.«01_k».proof.Proof.EvenIn.Host

/-! What the even projection's two result arrays hold after the run, element by element. -/

@[expose] public section

set_option maxRecDepth 16384

noncomputable section

namespace Cert.Kernel5Ideal.EvenIn

open Cert.Ffn Cert.Proj Cert.Reference5Ideal.EvenIn
open Cert.Kernel5Ideal Cert.Kernel5Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 7, 0] ∧ win0_1.index t = ![min (t.val / 7 / 2) 4, 0, 0]
    ∧ win0_2.index t = ![0, 0] ∧ win0_3.index t = ![0, t.val % 7] ∧ win0_4.index t = ![0, 0] ∧ win0_5.index t = ![t.val / 7, 0]
    ∧ win0_6.index t = ![t.val / 7, 0] ∧ win0_7.index t = ![t.val / 7, t.val % 7]
    ∧ win0_8.index t = ![t.val / 7, 0] := (by decide +kernel : ∀ t : Fin grid0.N, _)

/-- The blocks the body reads, as elements of the argument arrays. -/
theorem x0 (c : Dev nD) (t : Fin cfg0.N) (i : Fin 1024) (k : Fin 2048) (y : S9216x2048.Idx)
    (h0 : (y 0).val = t.val / 7 * 1024 + i.val) (h1 : (y 1).val = k.val) :
    iblk m c 0 t (ix2 i k) = m ((c : Thread nD τ).loc main_arg0) y := by
  blk_ext [iblk, V, idx t]

theorem x1 (c : Dev nD) (t : Fin cfg0.N) (r : Nat) (hb) (k : Fin 2048) (y : S5x9x2048.Idx)
    (h0 : (y 0).val = min (t.val / 7 / 2) 4) (h1 : (y 1).val = r) (h2 : (y 2).val = k.val) :
    View.ld (iblk m c 1 t) (Rect.unit ![0, r, 0] ![1, 1, 2048] hb) (ix3 0 0 k) = m ((c : Thread nD τ).loc main_arg1) y := by
  rw [View.ld_apply]
  blk_ext [iblk, V, idx t]
  all_goals (simp [Rect.idx_unit_val]; omega)

theorem x2 (c : Dev nD) (t : Fin cfg0.N) (k : Fin 2048) :
    iblk m c 2 t (ix2 0 k) = m ((c : Thread nD τ).loc main_arg2) (ix1 k) := by
  have e : (V m c main_v88 : (⟨S1x2048, .f32⟩ : BufTy).Contents (Elt Ideal)) (ix2 0 k) = m ((c : Thread nD τ).loc main_arg2) (ix1 k) := by
    unfold V
    after_reads_simp
    pointwise
  refine Eq.trans ?_ e
  blk_ext [iblk, idx t]

theorem x3 (c : Dev nD) (t : Fin cfg0.N) (k : Fin 2048) (j : Fin 1024) (C : Fin 7168) (hC : C.val = t.val % 7 * 1024 + j.val) :
    iblk m c 3 t (ix2 k j) = m ((c : Thread nD τ).loc main_arg3) (ix3 0 k (evenCol C)) := by
  refine Eq.trans ?_ (weight_at m c k C)
  blk_ext [iblk, idx t]

theorem x4 (c : Dev nD) (t : Fin cfg0.N) (k : Fin 2048) (j : Fin 128) :
    iblk m c 4 t (ix2 k j) = if h : j.val < 32 then m ((c : Thread nD τ).loc main_arg3) (ix3 0 k (gateCol j h)) else (0 : EReal) := by
  refine Eq.trans ?_ (gate_weight_at m c k j)
  blk_ext [iblk, idx t]

theorem x5 (c : Dev nD) (t : Fin cfg0.N) (i : Fin 1024) (l : Fin 128) (R : Fin 9216) (hR : R.val = t.val / 7 * 1024 + i.val) :
    iblk m c 5 t (ix2 i l) = ropeCos rowAngle colAngle R l := by
  refine Eq.trans ?_ (cos_table_at m c R l)
  blk_ext [iblk, idx t]

theorem x6 (c : Dev nD) (t : Fin cfg0.N) (i : Fin 1024) (l : Fin 128) (R : Fin 9216) (hR : R.val = t.val / 7 * 1024 + i.val) :
    iblk m c 6 t (ix2 i l) = ropeSin rowAngle colAngle R l := by
  refine Eq.trans ?_ (sin_table_at m c R l)
  blk_ext [iblk, idx t]

/-- The scratch at every point: the modulated rows of the point's row tile. -/
theorem scratch_at (c : Dev nD) (t : Fin cfg0.N) (i : Fin 1024) (k : Fin 2048) (R : Fin 9216) (hR : R.val = t.val / 7 * 1024 + i.val) :
    (outsAt0 m c t.val t.isLt).2.2 (ix2 i k)
      = modRow (fun j => m ((c : Thread nD τ).loc main_arg0) (ix2 R j)) (fun j => m ((c : Thread nD τ).loc main_arg2) (ix1 j))
          (fun j => m ((c : Thread nD τ).loc main_arg1) (ix3 ⟨min (R.val / 2048) 4, by omega⟩ 4 j))
          (fun j => m ((c : Thread nD τ).loc main_arg1) (ix3 ⟨min (R.val / 2048) 4, by omega⟩ 3 j)) k := by
  rw [Pipeline.eq_of_write_hold_apply (fun n h => (outsAt0 m c n h).2.2) 7 _ (fun t h i => scrA m c t h i)
    (fun t h i => congrFun (scrB m c t h) i) t (ix2 i k)]
  have ht : t.val < 63 := t.isLt
  have hm : min (R.val / 2048) 4 = min (7 * (t.val / 7) / 7 / 2) 4 := by omega
  show modRow _ _ _ _ _ = _
  congr 1
  · funext j
    exact x0 m c _ i j _ (by show R.val = 7 * (t.val / 7) / 7 * 1024 + i.val; omega) rfl
  · funext j
    exact x2 m c _ j
  · funext j
    exact x1 m c _ 4 _ j _ hm rfl rfl
  · funext j
    exact x1 m c _ 3 _ j _ hm rfl rfl

/-- The argument arrays, by coordinates. -/
def argH (c : Dev nD) (r : Fin 9216) (j : Fin 2048) : EReal := m ((c : Thread nD τ).loc main_arg0) (ix2 r j)
def argM (c : Dev nD) (s : Fin 5) (q : Fin 9) (j : Fin 2048) : EReal := m ((c : Thread nD τ).loc main_arg1) (ix3 s q j)
def argG (c : Dev nD) (j : Fin 2048) : EReal := m ((c : Thread nD τ).loc main_arg2) (ix1 j)
def argW (c : Dev nD) (k : Fin 2048) (j : Fin 7200) : EReal := m ((c : Thread nD τ).loc main_arg3) (ix3 0 k j)

/-- The product of the point's rows with a column of its weight block. -/
theorem product_at (c : Dev nD) (t : Fin cfg0.N) (i j : Fin 1024) (R : Fin 9216) (C : Fin 7168)
    (hR : R.val = t.val / 7 * 1024 + i.val) (hC : C.val = t.val % 7 * 1024 + j.val) :
    k0_pay4 (outsAt0 m c t.val t.isLt).2.2 (iblk m c 3 t) (ix2 i j)
      = dotOf (mixRow (argH m c) (argM m c) (argG m c) R) (fun k => argW m c k (evenCol C)) := by
  rw [pay4_apply]
  refine congrArg₂ dotOf ?_ ?_
  · funext k
    exact scratch_at m c t i k R hR
  · funext k
    exact x3 m c t k j C hC

theorem point7 (c : Dev nD) (t : Fin cfg0.N) (y : S1024x1024.Idx) (R : Fin 9216) (C : Fin 7168)
    (hR : R.val = t.val / 7 * 1024 + (y 0).val) (hC : C.val = t.val % 7 * 1024 + (y 1).val) :
    (outsAt0 m c t.val t.isLt).1 y
      = evenIn rowAngle colAngle (argH m c) (argM m c) (argG m c) (argW m c) R C := by
  obtain ⟨i, j, rfl⟩ : ∃ (i : Fin 1024) (j : Fin 1024), y = ix2 i j :=
    ⟨y 0, y 1, funext fun a => match a with | ⟨0, _⟩ => rfl | ⟨1, _⟩ => rfl⟩
  have hR' : R.val = t.val / 7 * 1024 + i.val := hR
  have hC' : C.val = t.val % 7 * 1024 + j.val := hC
  rw [evenIn]
  by_cases h : 4 ≤ t.val % 7 ∧ t.val % 7 ≤ 5
  · rw [if_pos (by omega), out_turned m c t h]
    have hp : (⟨partner C.val, partner_lt C⟩ : Fin 7168).val = t.val % 7 * 1024 + (⟨partner j.val, partner_lt' j⟩ : Fin 1024).val := by
      show partner C.val = t.val % 7 * 1024 + partner j.val
      unfold partner
      split <;> split <;> omega
    have hl : (⟨C.val % 128, Nat.mod_lt _ (by decide)⟩ : Fin 128) = ⟨j.val % 128, Nat.mod_lt _ (by decide)⟩ := Fin.ext (by show C.val % 128 = j.val % 128; omega)
    rw [hl, ← product_at m c t i j R C hR' hC', ← product_at m c t i _ R _ hR' hp, ← x5 m c t i _ R hR', ← x6 m c t i _ R hR', pay4_apply, pay4_apply]
    rfl
  · rw [if_neg (by omega), out_plain m c t h]
    exact product_at m c t i j R C hR' hC'

/-- The first result after the run. -/
theorem final7 (c : Dev nD) : (dats m 0 c).arrAt 7 cfg0.N
    = fun i => evenIn rowAngle colAngle (argH m c) (argM m c) (argG m c) (argW m c) (i 0) (i 1) := by
  refine (dats m 0 c).arrAt_eq_of_covers 7 _ (by decide +kernel) fun t hf y => ?_
  rw [after0_7]
  refine point7 m c t y _ _ ?_ ?_
  · blk_simp [idx t]
  · blk_simp [idx t]

theorem point8 (c : Dev nD) (t : Fin cfg0.N) (y : S1024x128.Idx) (R : Fin 9216) (C : Fin 128)
    (hR : R.val = t.val / 7 * 1024 + (y 0).val) (hC : C.val = (y 1).val) :
    (outsAt0 m c t.val t.isLt).2.1 y = evenGates (argH m c) (argM m c) (argG m c) (argW m c) R C := by
  obtain ⟨i, j, rfl⟩ : ∃ (i : Fin 1024) (j : Fin 128), y = ix2 i j :=
    ⟨y 0, y 1, funext fun a => match a with | ⟨0, _⟩ => rfl | ⟨1, _⟩ => rfl⟩
  have hR' : R.val = t.val / 7 * 1024 + i.val := hR
  obtain rfl : C = j := Fin.ext hC
  have ht : t.val < 63 := t.isLt
  rw [Pipeline.eq_of_write_hold_apply (fun n h => (outsAt0 m c n h).2.1) 7 _ (fun t h i => congrFun (gatesA m c t h) i)
    (fun t h i => congrFun (gatesB m c t h) i) t (ix2 i C)]
  rw [pay2_apply, evenGates]
  have hu : ∀ k, (outsAt0 m c (7 * (t.val / 7)) (by show 7 * (t.val / 7) < 63; omega)).2.2 (ix2 i k) = mixRow (argH m c) (argM m c) (argG m c) R k := fun k =>
    scratch_at m c ⟨7 * (t.val / 7), by show 7 * (t.val / 7) < 63; omega⟩ i k R (by show R.val = 7 * (t.val / 7) / 7 * 1024 + i.val; omega)
  by_cases h : C.val < 32
  · rw [dif_pos h]
    refine congrArg₂ dotOf (funext hu) (funext fun k => ?_)
    exact (x4 m c _ k C).trans (dif_pos h)
  · rw [dif_neg h]
    refine (congrArg₂ dotOf (funext hu) (funext fun k => (x4 m c _ k C).trans (dif_neg h))).trans ?_
    simp [dotOf]

/-- The second result after the run. -/
theorem final8 (c : Dev nD) : (dats m 0 c).arrAt 8 cfg0.N
    = fun i => evenGates (argH m c) (argM m c) (argG m c) (argW m c) (i 0) (i 1) := by
  refine (dats m 0 c).arrAt_eq_of_covers 8 _ (by decide +kernel) fun t hf y => ?_
  rw [after0_8]
  refine point8 m c t y _ _ ?_ ?_
  · blk_simp [idx t]
  · blk_simp [idx t]

end Cert.Kernel5Ideal.EvenIn
end
-- ==== Proof.EvenIn.Reference.lean ====
module

public import proofs.«01_k».proof.Proof.EvenIn.Angle
public import Idealize.ShloMosaic.Lib.Pipeline.ValueKit
public import Idealize.ShloMosaic.Lib.KernelVsHost

/-! The even projection as the reference computes it: one stream at a time, then both stacked. -/

@[expose] public section

set_option maxRecDepth 16384

noncomputable section

namespace Cert.Reference5Ideal.EvenIn

open Cert.Reference5Ideal Cert.Reference5Ideal.Gen Cert.Reference5Ideal.Read Cert.Ffn Cert.Proj Cert.Diff
open Idealize.ShloMosaic Idealize.ShloMosaic.TcCoe Idealize.SL.Sem

variable (x0 : (⟨S9216x2048, .f32⟩ : BufTy).Contents (Elt Ideal)) (x1 : (⟨S5x9x2048, .f32⟩ : BufTy).Contents (Elt Ideal))
  (x2 : (⟨S2048, .f32⟩ : BufTy).Contents (Elt Ideal)) (x3 : (⟨S1x2048x7200, .f32⟩ : BufTy).Contents (Elt Ideal))

/-- A row of the latent stream. -/
theorem h_lat (b : Fin 4) (r : Fin 2048) (k : Fin 2048) : val_main_v26 (F := Ideal) x0 (ix3 b r k) = x0 (ix2 ⟨b.val * 2048 + r.val, by omega⟩ k) := by
  rw [val_main_v26_apply, val_main_v25_apply]
  exact congrArg x0 (funext fun a => Fin.ext (by match a with | ⟨0, _⟩ => (simp [ix2, ix3] <;> omega) | ⟨1, _⟩ => (simp [ix2, ix3] <;> omega)))

/-- The shift of a latent sample. -/
theorem sh_lat (b : Fin 4) (k : Fin 2048) : val_main_v28 (F := Ideal) x1 (ix3 b 0 k) = x1 (ix3 b.castSucc 3 k) := by
  rw [val_main_v28_apply, val_main_v27_apply, val_main_v22_apply, val_main_v21_apply]
  exact congrArg x1 (funext fun a => Fin.ext (by match a with | ⟨0, _⟩ => (simp [ix3] <;> omega) | ⟨1, _⟩ => (simp [ix3] <;> omega) | ⟨2, _⟩ => (simp [ix3] <;> omega)))

/-- The scale of a latent sample. -/
theorem sc_lat (b : Fin 4) (k : Fin 2048) : val_main_v30 (F := Ideal) x1 (ix3 b 0 k) = x1 (ix3 b.castSucc 4 k) := by
  rw [val_main_v30_apply, val_main_v29_apply, val_main_v22_apply, val_main_v21_apply]
  exact congrArg x1 (funext fun a => Fin.ext (by match a with | ⟨0, _⟩ => (simp [ix3] <;> omega) | ⟨1, _⟩ => (simp [ix3] <;> omega) | ⟨2, _⟩ => (simp [ix3] <;> omega)))

/-- The scale of a normalised latent row. -/
theorem rs_lat (b : Fin 4) (r : Fin 2048) (k : Fin 2048) :
    val_main_v39 (F := Ideal) x0 (ix3 b r k) = rowScale (fun j => x0 (ix2 ⟨b.val * 2048 + r.val, by omega⟩ j)) := by
  rw [val_main_v39_apply, val_main_v38_apply, val_main_v37_apply, val_main_v35_apply, val_main_v33_apply, val_main_v32_apply]
  have e : ∀ j : Fin 2048, val_main_v31 (F := Ideal) x0 (idx_main_v32 (idx_main_v33 (idx_main_v39 (ix3 b r k))) j) = x0 (ix2 ⟨b.val * 2048 + r.val, by omega⟩ j) * x0 (ix2 ⟨b.val * 2048 + r.val, by omega⟩ j) := fun j => by
    have ei : idx_main_v32 (idx_main_v33 (idx_main_v39 (ix3 b r k))) j = ix3 b r j :=
      funext fun a => match a with | ⟨0, _⟩ => rfl | ⟨1, _⟩ => rfl | ⟨2, _⟩ => rfl
    rw [ei, val_main_v31_apply, h_lat]
    rfl
  refine congrArg Ideal.rsqrt (congrArg₂ (· + ·) (congrArg₂ Ideal.div ?_ rfl) rfl)
  refine (congrArg (· + _) zero32).trans ((zero_add _).trans (Finset.sum_congr rfl fun j _ => e j))

/-- A modulated latent row. -/
theorem u_lat (b : Fin 4) (r : Fin 2048) (k : Fin 2048) :
    val_main_v49 (F := Ideal) x0 x1 x2 (ix3 b r k)
      = modRow (fun j => x0 (ix2 ⟨b.val * 2048 + r.val, by omega⟩ j)) (fun j => x2 (ix1 j)) (fun j => x1 (ix3 b.castSucc 4 j)) (fun j => x1 (ix3 b.castSucc 3 j)) k := by
  rw [val_main_v49_apply, val_main_v47_apply, val_main_v43_apply, val_main_v40_apply, val_main_v42_apply, val_main_v41_apply, val_main_v46_apply, val_main_v45_apply, val_main_v48_apply, h_lat, rs_lat]
  have eg : idx_main_v41 (idx_main_v42 (ix3 b r k)) = ix1 k := funext fun a => match a with | ⟨0, _⟩ => rfl
  have ec : idx_main_v46 (ix3 b r k) = ix3 b 0 k := funext fun a => match a with | ⟨0, _⟩ => rfl | ⟨1, _⟩ => rfl | ⟨2, _⟩ => rfl
  have eh : idx_main_v48 (ix3 b r k) = ix3 b 0 k := funext fun a => match a with | ⟨0, _⟩ => rfl | ⟨1, _⟩ => rfl | ⟨2, _⟩ => rfl
  rw [eg, ec, eh, sc_lat, sh_lat]
  show x0 (ix2 ⟨b.val * 2048 + r.val, by omega⟩ k) * rowScale (fun j => x0 (ix2 ⟨b.val * 2048 + r.val, by omega⟩ j)) * x2 (ix1 k) * (Ideal.ofBits .f32 0x3F800000#32 + x1 (ix3 b.castSucc 4 k)) + x1 (ix3 b.castSucc 3 k) = _
  rw [one32, mul_assoc (x0 (ix2 ⟨b.val * 2048 + r.val, by omega⟩ k) * _)]
  rfl

/-- The weights the latent rows meet. -/
theorem w_lat (k : Fin 2048) (j : Fin 7200) : val_main_v77 (F := Ideal) x3 (ix2 k j) = x3 (ix3 0 k j) := by
  rw [val_main_v77_apply]
  exact congrArg x3 (funext fun a => Fin.ext (by match a with | ⟨0, _⟩ => (simp [ix2, ix3] <;> omega) | ⟨1, _⟩ => (simp [ix2, ix3] <;> omega) | ⟨2, _⟩ => (simp [ix2, ix3] <;> omega)))

/-- A product entry of the latent rows. -/
theorem p_lat (b : Fin 4) (r : Fin 2048) (j : Fin 7200) :
    val_main_v78 (F := Ideal) x0 x1 x2 x3 (ix3 b r j)
      = dotOf (modRow (fun j => x0 (ix2 ⟨b.val * 2048 + r.val, by omega⟩ j)) (fun j => x2 (ix1 j)) (fun j => x1 (ix3 b.castSucc 4 j)) (fun j => x1 (ix3 b.castSucc 3 j))) (fun k => x3 (ix3 0 k j)) := by
  rw [val_main_v78_apply]
  refine Finset.sum_congr rfl fun k _ => ?_
  have el : lidx_main_v78 (ix3 b r j) k = ix3 b r k := funext fun a => match a with | ⟨0, _⟩ => rfl | ⟨1, _⟩ => rfl | ⟨2, _⟩ => rfl
  have er : ridx_main_v78 (ix3 b r j) k = ix2 k j := funext fun a => match a with | ⟨0, _⟩ => rfl | ⟨1, _⟩ => rfl
  rw [el, er, u_lat, w_lat]

/-- A row of the context stream. -/
theorem h_ctx (b : Fin 4) (r : Fin 256) (k : Fin 2048) : val_main_v51 (F := Ideal) x0 (ix3 b r k) = x0 (ix2 ⟨8192 + (b.val * 256 + r.val), by omega⟩ k) := by
  rw [val_main_v51_apply, val_main_v50_apply]
  exact congrArg x0 (funext fun a => Fin.ext (by match a with | ⟨0, _⟩ => (simp [ix2, ix3] <;> omega) | ⟨1, _⟩ => (simp [ix2, ix3] <;> omega)))

/-- The shift of the context. -/
theorem sh_ctx (k : Fin 2048) : val_main_v53 (F := Ideal) x1 (ix1 k) = x1 (ix3 4 3 k) := by
  rw [val_main_v53_apply, val_main_v52_apply, val_main_v24_apply, val_main_v23_apply]
  exact congrArg x1 (funext fun a => Fin.ext (by match a with | ⟨0, _⟩ => (simp [ix1, ix3] <;> omega) | ⟨1, _⟩ => (simp [ix1, ix3] <;> omega) | ⟨2, _⟩ => (simp [ix1, ix3] <;> omega)))

/-- The scale of the context. -/
theorem sc_ctx (k : Fin 2048) : val_main_v55 (F := Ideal) x1 (ix1 k) = x1 (ix3 4 4 k) := by
  rw [val_main_v55_apply, val_main_v54_apply, val_main_v24_apply, val_main_v23_apply]
  exact congrArg x1 (funext fun a => Fin.ext (by match a with | ⟨0, _⟩ => (simp [ix1, ix3] <;> omega) | ⟨1, _⟩ => (simp [ix1, ix3] <;> omega) | ⟨2, _⟩ => (simp [ix1, ix3] <;> omega)))

/-- The scale of a normalised context row. -/
theorem rs_ctx (b : Fin 4) (r : Fin 256) (k : Fin 2048) :
    val_main_v64 (F := Ideal) x0 (ix3 b r k) = rowScale (fun j => x0 (ix2 ⟨8192 + (b.val * 256 + r.val), by omega⟩ j)) := by
  rw [val_main_v64_apply, val_main_v63_apply, val_main_v62_apply, val_main_v60_apply, val_main_v58_apply, val_main_v57_apply]
  have e : ∀ j : Fin 2048, val_main_v56 (F := Ideal) x0 (idx_main_v57 (idx_main_v58 (idx_main_v64 (ix3 b r k))) j) = x0 (ix2 ⟨8192 + (b.val * 256 + r.val), by omega⟩ j) * x0 (ix2 ⟨8192 + (b.val * 256 + r.val), by omega⟩ j) := fun j => by
    have ei : idx_main_v57 (idx_main_v58 (idx_main_v64 (ix3 b r k))) j = ix3 b r j :=
      funext fun a => match a with | ⟨0, _⟩ => rfl | ⟨1, _⟩ => rfl | ⟨2, _⟩ => rfl
    rw [ei, val_main_v56_apply, h_ctx]
    rfl
  refine congrArg Ideal.rsqrt (congrArg₂ (· + ·) (congrArg₂ Ideal.div ?_ rfl) rfl)
  refine (congrArg (· + _) zero32).trans ((zero_add _).trans (Finset.sum_congr rfl fun j _ => e j))

/-- A modulated context row. -/
theorem u_ctx (b : Fin 4) (r : Fin 256) (k : Fin 2048) :
    val_main_v76 (F := Ideal) x0 x1 x2 (ix3 b r k)
      = modRow (fun j => x0 (ix2 ⟨8192 + (b.val * 256 + r.val), by omega⟩ j)) (fun j => x2 (ix1 j)) (fun j => x1 (ix3 4 4 j)) (fun j => x1 (ix3 4 3 j)) k := by
  rw [val_main_v76_apply, val_main_v73_apply, val_main_v68_apply, val_main_v65_apply, val_main_v67_apply, val_main_v66_apply, val_main_v72_apply, val_main_v71_apply, val_main_v70_apply, val_main_v75_apply, val_main_v74_apply, h_ctx, rs_ctx]
  have eg : idx_main_v66 (idx_main_v67 (ix3 b r k)) = ix1 k := funext fun a => match a with | ⟨0, _⟩ => rfl
  have ec : idx_main_v71 (idx_main_v72 (ix3 b r k)) = ix1 k := funext fun a => match a with | ⟨0, _⟩ => rfl
  have eh : idx_main_v74 (idx_main_v75 (ix3 b r k)) = ix1 k := funext fun a => match a with | ⟨0, _⟩ => rfl
  rw [eg, ec, eh, sc_ctx, sh_ctx]
  show x0 (ix2 ⟨8192 + (b.val * 256 + r.val), by omega⟩ k) * rowScale (fun j => x0 (ix2 ⟨8192 + (b.val * 256 + r.val), by omega⟩ j)) * x2 (ix1 k) * (Ideal.ofBits .f32 0x3F800000#32 + x1 (ix3 4 4 k)) + x1 (ix3 4 3 k) = _
  rw [one32, mul_assoc (x0 (ix2 ⟨8192 + (b.val * 256 + r.val), by omega⟩ k) * _)]
  rfl

/-- The weights the context rows meet. -/
theorem w_ctx (k : Fin 2048) (j : Fin 7200) : val_main_v84 (F := Ideal) x3 (ix2 k j) = x3 (ix3 0 k j) := by
  rw [val_main_v84_apply]
  exact congrArg x3 (funext fun a => Fin.ext (by match a with | ⟨0, _⟩ => (simp [ix2, ix3] <;> omega) | ⟨1, _⟩ => (simp [ix2, ix3] <;> omega) | ⟨2, _⟩ => (simp [ix2, ix3] <;> omega)))

/-- A product entry of the context rows. -/
theorem p_ctx (b : Fin 4) (r : Fin 256) (j : Fin 7200) :
    val_main_v85 (F := Ideal) x0 x1 x2 x3 (ix3 b r j)
      = dotOf (modRow (fun j => x0 (ix2 ⟨8192 + (b.val * 256 + r.val), by omega⟩ j)) (fun j => x2 (ix1 j)) (fun j => x1 (ix3 4 4 j)) (fun j => x1 (ix3 4 3 j))) (fun k => x3 (ix3 0 k j)) := by
  rw [val_main_v85_apply]
  refine Finset.sum_congr rfl fun k _ => ?_
  have el : lidx_main_v85 (ix3 b r j) k = ix3 b r k := funext fun a => match a with | ⟨0, _⟩ => rfl | ⟨1, _⟩ => rfl | ⟨2, _⟩ => rfl
  have er : ridx_main_v85 (ix3 b r j) k = ix2 k j := funext fun a => match a with | ⟨0, _⟩ => rfl | ⟨1, _⟩ => rfl
  rw [el, er, u_ctx, w_ctx]

/-- A table spread over the batch and the heads. -/
def spread (a : (⟨S2048x1x16, .f32⟩ : BufTy).Contents (Elt Ideal)) : (⟨S4x2048x16x16, .f32⟩ : BufTy).Contents (Elt Ideal) :=
  broadcastInDim S4x2048x16x16 ![0, 1, 2, 3] bcast_S1x2048x1x16_S4x2048x16x16_0_1_2_3 (broadcastInDim S1x2048x1x16 ![1, 2, 3] bcast_S2048x1x16_S1x2048x1x16_1_2_3 a)

/-- Each head's four groups of sixteen lanes, turned in pairs: the first two by the grid row's angle, the last two by the grid column's. -/
def turn (q : (⟨S4x2048x1024, .f32⟩ : BufTy).Contents (Elt Ideal)) : (⟨S4x2048x16x64, .f32⟩ : BufTy).Contents (Elt Ideal) :=
  concatenate S4x2048x16x64 3
    [⟨S4x2048x16x16, (subf (F := Ideal) (φ := .f32)
        (mulf (extractStridedSlice S4x2048x16x16 ![0, 0, 0, 0] (shapeCast S4x2048x16x64 q shapeCasts_S4x2048x1024_S4x2048x16x64) slices_S4x2048x16x64_S4x2048x16x16_0_0_0_0) (spread (val_main_v96 (F := Ideal))))
        (mulf (extractStridedSlice S4x2048x16x16 ![0, 0, 0, 16] (shapeCast S4x2048x16x64 q shapeCasts_S4x2048x1024_S4x2048x16x64) slices_S4x2048x16x64_S4x2048x16x16_0_0_0_16) (spread (val_main_v97 (F := Ideal)))))⟩,
      ⟨S4x2048x16x16, (addf (F := Ideal) (φ := .f32)
        (mulf (extractStridedSlice S4x2048x16x16 ![0, 0, 0, 16] (shapeCast S4x2048x16x64 q shapeCasts_S4x2048x1024_S4x2048x16x64) slices_S4x2048x16x64_S4x2048x16x16_0_0_0_16) (spread (val_main_v96 (F := Ideal))))
        (mulf (extractStridedSlice S4x2048x16x16 ![0, 0, 0, 0] (shapeCast S4x2048x16x64 q shapeCasts_S4x2048x1024_S4x2048x16x64) slices_S4x2048x16x64_S4x2048x16x16_0_0_0_0) (spread (val_main_v97 (F := Ideal)))))⟩,
      ⟨S4x2048x16x16, (subf (F := Ideal) (φ := .f32)
        (mulf (extractStridedSlice S4x2048x16x16 ![0, 0, 0, 32] (shapeCast S4x2048x16x64 q shapeCasts_S4x2048x1024_S4x2048x16x64) slices_S4x2048x16x64_S4x2048x16x16_0_0_0_32) (spread (val_main_v112 (F := Ideal))))
        (mulf (extractStridedSlice S4x2048x16x16 ![0, 0, 0, 48] (shapeCast S4x2048x16x64 q shapeCasts_S4x2048x1024_S4x2048x16x64) slices_S4x2048x16x64_S4x2048x16x16_0_0_0_48) (spread (val_main_v113 (F := Ideal)))))⟩,
      ⟨S4x2048x16x16, (addf (F := Ideal) (φ := .f32)
        (mulf (extractStridedSlice S4x2048x16x16 ![0, 0, 0, 48] (shapeCast S4x2048x16x64 q shapeCasts_S4x2048x1024_S4x2048x16x64) slices_S4x2048x16x64_S4x2048x16x16_0_0_0_48) (spread (val_main_v112 (F := Ideal))))
        (mulf (extractStridedSlice S4x2048x16x16 ![0, 0, 0, 32] (shapeCast S4x2048x16x64 q shapeCasts_S4x2048x1024_S4x2048x16x64) slices_S4x2048x16x64_S4x2048x16x16_0_0_0_32) (spread (val_main_v113 (F := Ideal)))))⟩]
    concatenates_S4x2048x16x16_S4x2048x16x16_S4x2048x16x16_S4x2048x16x16_S4x2048x16x64_d3

theorem queries_turned : val_main_v128 (F := Ideal) x0 x1 x2 x3 = turn (val_main_v81 (F := Ideal) x0 x1 x2 x3) := rfl

theorem keys_turned : val_main_v167 (F := Ideal) x0 x1 x2 x3 = turn (val_main_v82 (F := Ideal) x0 x1 x2 x3) := rfl

theorem turn0 (q : (⟨S4x2048x1024, .f32⟩ : BufTy).Contents (Elt Ideal)) (b : Fin 4) (r : Fin 2048) (h : Fin 16) (l : Fin 64)
    (hl : 0 ≤ l.val ∧ l.val < 16) :
    turn q (ix4 b r h l)
      = (q (ix3 b r ⟨h.val * 64 + l.val, by omega⟩) : EReal) * Ideal.cos (rowAngle r ⟨l.val % 16, Nat.mod_lt _ (by decide)⟩)
        - (q (ix3 b r ⟨h.val * 64 + l.val + 16, by omega⟩) : EReal) * Ideal.sin (rowAngle r ⟨l.val % 16, Nat.mod_lt _ (by decide)⟩) := by
  unfold turn
  refine (concatenate_apply_piece (t := S4x2048x16x64) 3 _ _ (ix4 b r h l) 0 (by show _ < 4; decide) S4x2048x16x16 _ rfl rfl 0 rfl
    (ix4 b r h ⟨l.val % 16, Nat.mod_lt _ (by decide)⟩) (fun a ha => match a, ha with | ⟨0, _⟩, _ => rfl | ⟨1, _⟩, _ => rfl | ⟨2, _⟩, _ => rfl | ⟨3, _⟩, ha => absurd rfl ha)
    (by show 0 + l.val % 16 = l.val; omega)).trans ?_
  pointwise [spread, val_main_v96, val_main_v97, val_main_v112, val_main_v113]
  have e1 : h.val * 64 + l.val % 16 = h.val * 64 + l.val := by omega
  have e2 : h.val * 64 + (16 + l.val % 16) = h.val * 64 + l.val + 16 := by omega
  simp only [e1, e2]
  rfl

theorem turn1 (q : (⟨S4x2048x1024, .f32⟩ : BufTy).Contents (Elt Ideal)) (b : Fin 4) (r : Fin 2048) (h : Fin 16) (l : Fin 64)
    (hl : 16 ≤ l.val ∧ l.val < 32) :
    turn q (ix4 b r h l)
      = (q (ix3 b r ⟨h.val * 64 + l.val, by omega⟩) : EReal) * Ideal.cos (rowAngle r ⟨l.val % 16, Nat.mod_lt _ (by decide)⟩)
        + (q (ix3 b r ⟨h.val * 64 + l.val - 16, by omega⟩) : EReal) * Ideal.sin (rowAngle r ⟨l.val % 16, Nat.mod_lt _ (by decide)⟩) := by
  unfold turn
  refine (concatenate_apply_piece (t := S4x2048x16x64) 3 _ _ (ix4 b r h l) 1 (by show _ < 4; decide) S4x2048x16x16 _ rfl rfl 16 rfl
    (ix4 b r h ⟨l.val % 16, Nat.mod_lt _ (by decide)⟩) (fun a ha => match a, ha with | ⟨0, _⟩, _ => rfl | ⟨1, _⟩, _ => rfl | ⟨2, _⟩, _ => rfl | ⟨3, _⟩, ha => absurd rfl ha)
    (by show 16 + l.val % 16 = l.val; omega)).trans ?_
  pointwise [spread, val_main_v96, val_main_v97, val_main_v112, val_main_v113]
  have e1 : h.val * 64 + (16 + l.val % 16) = h.val * 64 + l.val := by omega
  have e2 : h.val * 64 + l.val % 16 = h.val * 64 + l.val - 16 := by omega
  simp only [e1, e2]
  rfl

theorem turn2 (q : (⟨S4x2048x1024, .f32⟩ : BufTy).Contents (Elt Ideal)) (b : Fin 4) (r : Fin 2048) (h : Fin 16) (l : Fin 64)
    (hl : 32 ≤ l.val ∧ l.val < 48) :
    turn q (ix4 b r h l)
      = (q (ix3 b r ⟨h.val * 64 + l.val, by omega⟩) : EReal) * Ideal.cos (colAngle r ⟨l.val % 16, Nat.mod_lt _ (by decide)⟩)
        - (q (ix3 b r ⟨h.val * 64 + l.val + 16, by omega⟩) : EReal) * Ideal.sin (colAngle r ⟨l.val % 16, Nat.mod_lt _ (by decide)⟩) := by
  unfold turn
  refine (concatenate_apply_piece (t := S4x2048x16x64) 3 _ _ (ix4 b r h l) 2 (by show _ < 4; decide) S4x2048x16x16 _ rfl rfl 32 rfl
    (ix4 b r h ⟨l.val % 16, Nat.mod_lt _ (by decide)⟩) (fun a ha => match a, ha with | ⟨0, _⟩, _ => rfl | ⟨1, _⟩, _ => rfl | ⟨2, _⟩, _ => rfl | ⟨3, _⟩, ha => absurd rfl ha)
    (by show 32 + l.val % 16 = l.val; omega)).trans ?_
  pointwise [spread, val_main_v96, val_main_v97, val_main_v112, val_main_v113]
  have e1 : h.val * 64 + (32 + l.val % 16) = h.val * 64 + l.val := by omega
  have e2 : h.val * 64 + (48 + l.val % 16) = h.val * 64 + l.val + 16 := by omega
  simp only [e1, e2]
  rfl

theorem turn3 (q : (⟨S4x2048x1024, .f32⟩ : BufTy).Contents (Elt Ideal)) (b : Fin 4) (r : Fin 2048) (h : Fin 16) (l : Fin 64)
    (hl : 48 ≤ l.val ∧ l.val < 64) :
    turn q (ix4 b r h l)
      = (q (ix3 b r ⟨h.val * 64 + l.val, by omega⟩) : EReal) * Ideal.cos (colAngle r ⟨l.val % 16, Nat.mod_lt _ (by decide)⟩)
        + (q (ix3 b r ⟨h.val * 64 + l.val - 16, by omega⟩) : EReal) * Ideal.sin (colAngle r ⟨l.val % 16, Nat.mod_lt _ (by decide)⟩) := by
  unfold turn
  refine (concatenate_apply_piece (t := S4x2048x16x64) 3 _ _ (ix4 b r h l) 3 (by show _ < 4; decide) S4x2048x16x16 _ rfl rfl 48 rfl
    (ix4 b r h ⟨l.val % 16, Nat.mod_lt _ (by decide)⟩) (fun a ha => match a, ha with | ⟨0, _⟩, _ => rfl | ⟨1, _⟩, _ => rfl | ⟨2, _⟩, _ => rfl | ⟨3, _⟩, ha => absurd rfl ha)
    (by show 48 + l.val % 16 = l.val; omega)).trans ?_
  pointwise [spread, val_main_v96, val_main_v97, val_main_v112, val_main_v113]
  have e1 : h.val * 64 + (48 + l.val % 16) = h.val * 64 + l.val := by omega
  have e2 : h.val * 64 + (32 + l.val % 16) = h.val * 64 + l.val - 16 := by omega
  simp only [e1, e2]
  rfl

/-- The turned columns: each with its partner, the sine signed. -/
theorem turned_at (q : (⟨S4x2048x1024, .f32⟩ : BufTy).Contents (Elt Ideal)) (b : Fin 4) (r : Fin 2048) (C D : Fin 1024) (hD : D.val = partner C.val) :
    turn q (ix4 b r ⟨C.val / 64, by omega⟩ ⟨C.val % 64, Nat.mod_lt _ (by decide)⟩)
      = (q (ix3 b r C) : EReal) * Ideal.cos ((if C.val % 64 < 32 then rowAngle else colAngle) r ⟨C.val % 16, Nat.mod_lt _ (by decide)⟩)
        + (q (ix3 b r D) : EReal) * ((if C.val % 32 < 16 then (-1 : EReal) else 1)
            * Ideal.sin ((if C.val % 64 < 32 then rowAngle else colAngle) r ⟨C.val % 16, Nat.mod_lt _ (by decide)⟩)) := by
  have eC : C.val / 64 * 64 + C.val % 64 = C.val := by omega
  have e16 : C.val % 64 % 16 = C.val % 16 := by omega
  by_cases h0 : C.val % 32 < 16
  · have eD : C.val + 16 = D.val := by rw [hD, partner, if_pos h0]
    rw [if_pos h0, neg_one_mul, mul_neg, ← sub_eq_add_neg]
    by_cases h1 : C.val % 64 < 32
    · rw [if_pos h1]
      refine (turn0 q b r _ _ (by show 0 ≤ C.val % 64 ∧ C.val % 64 < 16; omega)).trans ?_
      simp only [eC, e16, eD]
    · rw [if_neg h1]
      refine (turn2 q b r _ _ (by show 32 ≤ C.val % 64 ∧ C.val % 64 < 48; omega)).trans ?_
      simp only [eC, e16, eD]
  · have eD : C.val - 16 = D.val := by rw [hD, partner, if_neg h0]
    rw [if_neg h0, one_mul]
    by_cases h1 : C.val % 64 < 32
    · rw [if_pos h1]
      refine (turn1 q b r _ _ (by show 16 ≤ C.val % 64 ∧ C.val % 64 < 32; omega)).trans ?_
      simp only [eC, e16, eD]
    · rw [if_neg h1]
      refine (turn3 q b r _ _ (by show 48 ≤ C.val % 64 ∧ C.val % 64 < 64; omega)).trans ?_
      simp only [eC, e16, eD]

/-- The columns of each stream's product. -/
theorem v79_at (b : Fin 4) (r : Fin 2048) (C : Fin 4096) (j : Fin 7200) (hj : j.val = 0 + C.val) :
    val_main_v79 (F := Ideal) x0 x1 x2 x3 (ix3 b r C) = val_main_v78 (F := Ideal) x0 x1 x2 x3 (ix3 b r j) := by
  rw [val_main_v79_apply]
  exact congrArg _ (funext fun a => Fin.ext (by match a with | ⟨0, _⟩ => rfl | ⟨1, _⟩ => rfl | ⟨2, _⟩ => (simp [ix3]; try omega)))

theorem v80_at (b : Fin 4) (r : Fin 2048) (C : Fin 32) (j : Fin 7200) (hj : j.val = 4096 + C.val) :
    val_main_v80 (F := Ideal) x0 x1 x2 x3 (ix3 b r C) = val_main_v78 (F := Ideal) x0 x1 x2 x3 (ix3 b r j) := by
  rw [val_main_v80_apply]
  exact congrArg _ (funext fun a => Fin.ext (by match a with | ⟨0, _⟩ => rfl | ⟨1, _⟩ => rfl | ⟨2, _⟩ => (simp [ix3]; try omega)))

theorem v81_at (b : Fin 4) (r : Fin 2048) (C : Fin 1024) (j : Fin 7200) (hj : j.val = 4128 + C.val) :
    val_main_v81 (F := Ideal) x0 x1 x2 x3 (ix3 b r C) = val_main_v78 (F := Ideal) x0 x1 x2 x3 (ix3 b r j) := by
  rw [val_main_v81_apply]
  exact congrArg _ (funext fun a => Fin.ext (by match a with | ⟨0, _⟩ => rfl | ⟨1, _⟩ => rfl | ⟨2, _⟩ => (simp [ix3]; try omega)))

theorem v82_at (b : Fin 4) (r : Fin 2048) (C : Fin 1024) (j : Fin 7200) (hj : j.val = 5152 + C.val) :
    val_main_v82 (F := Ideal) x0 x1 x2 x3 (ix3 b r C) = val_main_v78 (F := Ideal) x0 x1 x2 x3 (ix3 b r j) := by
  rw [val_main_v82_apply]
  exact congrArg _ (funext fun a => Fin.ext (by match a with | ⟨0, _⟩ => rfl | ⟨1, _⟩ => rfl | ⟨2, _⟩ => (simp [ix3]; try omega)))

theorem v83_at (b : Fin 4) (r : Fin 2048) (C : Fin 1024) (j : Fin 7200) (hj : j.val = 6176 + C.val) :
    val_main_v83 (F := Ideal) x0 x1 x2 x3 (ix3 b r C) = val_main_v78 (F := Ideal) x0 x1 x2 x3 (ix3 b r j) := by
  rw [val_main_v83_apply]
  exact congrArg _ (funext fun a => Fin.ext (by match a with | ⟨0, _⟩ => rfl | ⟨1, _⟩ => rfl | ⟨2, _⟩ => (simp [ix3]; try omega)))

theorem v86_at (b : Fin 4) (r : Fin 256) (C : Fin 4096) (j : Fin 7200) (hj : j.val = 0 + C.val) :
    val_main_v86 (F := Ideal) x0 x1 x2 x3 (ix3 b r C) = val_main_v85 (F := Ideal) x0 x1 x2 x3 (ix3 b r j) := by
  rw [val_main_v86_apply]
  exact congrArg _ (funext fun a => Fin.ext (by match a with | ⟨0, _⟩ => rfl | ⟨1, _⟩ => rfl | ⟨2, _⟩ => (simp [ix3]; try omega)))

theorem v87_at (b : Fin 4) (r : Fin 256) (C : Fin 32) (j : Fin 7200) (hj : j.val = 4096 + C.val) :
    val_main_v87 (F := Ideal) x0 x1 x2 x3 (ix3 b r C) = val_main_v85 (F := Ideal) x0 x1 x2 x3 (ix3 b r j) := by
  rw [val_main_v87_apply]
  exact congrArg _ (funext fun a => Fin.ext (by match a with | ⟨0, _⟩ => rfl | ⟨1, _⟩ => rfl | ⟨2, _⟩ => (simp [ix3]; try omega)))

theorem v88_at (b : Fin 4) (r : Fin 256) (C : Fin 1024) (j : Fin 7200) (hj : j.val = 4128 + C.val) :
    val_main_v88 (F := Ideal) x0 x1 x2 x3 (ix3 b r C) = val_main_v85 (F := Ideal) x0 x1 x2 x3 (ix3 b r j) := by
  rw [val_main_v88_apply]
  exact congrArg _ (funext fun a => Fin.ext (by match a with | ⟨0, _⟩ => rfl | ⟨1, _⟩ => rfl | ⟨2, _⟩ => (simp [ix3]; try omega)))

theorem v89_at (b : Fin 4) (r : Fin 256) (C : Fin 1024) (j : Fin 7200) (hj : j.val = 5152 + C.val) :
    val_main_v89 (F := Ideal) x0 x1 x2 x3 (ix3 b r C) = val_main_v85 (F := Ideal) x0 x1 x2 x3 (ix3 b r j) := by
  rw [val_main_v89_apply]
  exact congrArg _ (funext fun a => Fin.ext (by match a with | ⟨0, _⟩ => rfl | ⟨1, _⟩ => rfl | ⟨2, _⟩ => (simp [ix3]; try omega)))

theorem v90_at (b : Fin 4) (r : Fin 256) (C : Fin 1024) (j : Fin 7200) (hj : j.val = 6176 + C.val) :
    val_main_v90 (F := Ideal) x0 x1 x2 x3 (ix3 b r C) = val_main_v85 (F := Ideal) x0 x1 x2 x3 (ix3 b r j) := by
  rw [val_main_v90_apply]
  exact congrArg _ (funext fun a => Fin.ext (by match a with | ⟨0, _⟩ => rfl | ⟨1, _⟩ => rfl | ⟨2, _⟩ => (simp [ix3]; try omega)))

theorem q_turned (b : Fin 4) (r : Fin 2048) (C D : Fin 1024) (hD : D.val = partner C.val) :
    val_main_v129 (F := Ideal) x0 x1 x2 x3 (ix3 b r C)
      = (val_main_v81 (F := Ideal) x0 x1 x2 x3 (ix3 b r C) : EReal) * Ideal.cos ((if C.val % 64 < 32 then rowAngle else colAngle) r ⟨C.val % 16, Nat.mod_lt _ (by decide)⟩)
        + (val_main_v81 (F := Ideal) x0 x1 x2 x3 (ix3 b r D) : EReal) * ((if C.val % 32 < 16 then (-1 : EReal) else 1)
            * Ideal.sin ((if C.val % 64 < 32 then rowAngle else colAngle) r ⟨C.val % 16, Nat.mod_lt _ (by decide)⟩)) := by
  rw [val_main_v129_apply, queries_turned]
  have ei : idx_main_v129 (ix3 b r C) = ix4 b r ⟨C.val / 64, by omega⟩ ⟨C.val % 64, Nat.mod_lt _ (by decide)⟩ :=
    funext fun a => Fin.ext (by match a with | ⟨0, _⟩ => (simp [ix3, ix4] <;> omega) | ⟨1, _⟩ => (simp [ix3, ix4] <;> omega) | ⟨2, _⟩ => (simp [ix3, ix4] <;> omega) | ⟨3, _⟩ => (simp [ix3, ix4] <;> omega))
  rw [ei]
  exact turned_at _ b r C D hD

theorem k_turned (b : Fin 4) (r : Fin 2048) (C D : Fin 1024) (hD : D.val = partner C.val) :
    val_main_v168 (F := Ideal) x0 x1 x2 x3 (ix3 b r C)
      = (val_main_v82 (F := Ideal) x0 x1 x2 x3 (ix3 b r C) : EReal) * Ideal.cos ((if C.val % 64 < 32 then rowAngle else colAngle) r ⟨C.val % 16, Nat.mod_lt _ (by decide)⟩)
        + (val_main_v82 (F := Ideal) x0 x1 x2 x3 (ix3 b r D) : EReal) * ((if C.val % 32 < 16 then (-1 : EReal) else 1)
            * Ideal.sin ((if C.val % 64 < 32 then rowAngle else colAngle) r ⟨C.val % 16, Nat.mod_lt _ (by decide)⟩)) := by
  rw [val_main_v168_apply, keys_turned]
  have ei : idx_main_v168 (ix3 b r C) = ix4 b r ⟨C.val / 64, by omega⟩ ⟨C.val % 64, Nat.mod_lt _ (by decide)⟩ :=
    funext fun a => Fin.ext (by match a with | ⟨0, _⟩ => (simp [ix3, ix4] <;> omega) | ⟨1, _⟩ => (simp [ix3, ix4] <;> omega) | ⟨2, _⟩ => (simp [ix3, ix4] <;> omega) | ⟨3, _⟩ => (simp [ix3, ix4] <;> omega))
  rw [ei]
  exact turned_at _ b r C D hD

/-- The column of the weights behind a column of the result. -/
theorem col_low (C : Fin 7168) (h : C.val < 4096) : (evenCol C).val = C.val := if_pos h

theorem col_high (C : Fin 7168) (h : ¬ C.val < 4096) : (evenCol C).val = C.val + 32 := if_neg h

/-- A result of the latent stream: the queries and the keys turned. -/
theorem o_lat (b : Fin 4) (r : Fin 2048) (C : Fin 7168) :
    val_main_v169 (F := Ideal) x0 x1 x2 x3 (ix3 b r C)
      = if 4096 ≤ C.val ∧ C.val < 6144 then
          dotOf (modRow (fun j => x0 (ix2 ⟨b.val * 2048 + r.val, by omega⟩ j)) (fun j => x2 (ix1 j)) (fun j => x1 (ix3 b.castSucc 4 j)) (fun j => x1 (ix3 b.castSucc 3 j))) (fun k => x3 (ix3 0 k (evenCol C)))
              * Ideal.cos ((if C.val % 64 < 32 then rowAngle else colAngle) r ⟨C.val % 16, Nat.mod_lt _ (by decide)⟩)
            + dotOf (modRow (fun j => x0 (ix2 ⟨b.val * 2048 + r.val, by omega⟩ j)) (fun j => x2 (ix1 j)) (fun j => x1 (ix3 b.castSucc 4 j)) (fun j => x1 (ix3 b.castSucc 3 j))) (fun k => x3 (ix3 0 k (evenCol ⟨partner C.val, partner_lt C⟩)))
              * ((if C.val % 32 < 16 then (-1 : EReal) else 1) * Ideal.sin ((if C.val % 64 < 32 then rowAngle else colAngle) r ⟨C.val % 16, Nat.mod_lt _ (by decide)⟩))
        else dotOf (modRow (fun j => x0 (ix2 ⟨b.val * 2048 + r.val, by omega⟩ j)) (fun j => x2 (ix1 j)) (fun j => x1 (ix3 b.castSucc 4 j)) (fun j => x1 (ix3 b.castSucc 3 j))) (fun k => x3 (ix3 0 k (evenCol C))) := by
  rw [← p_lat, ← p_lat]
  unfold val_main_v169
  by_cases h0 : C.val < 4096
  · rw [if_neg (by omega)]
    refine (concatenate_apply_piece (t := S4x2048x7168) 2 _ _ (ix3 b r C) 0 (by show _ < 4; decide) S4x2048x4096 _ rfl rfl 0 rfl (ix3 b r (⟨C.val, by omega⟩ : Fin 4096))
      (fun a ha => match a, ha with | ⟨0, _⟩, _ => rfl | ⟨1, _⟩, _ => rfl | ⟨2, _⟩, ha => absurd rfl ha) (Nat.zero_add _)).trans ?_
    exact v79_at _ _ _ _ b r _ (evenCol C) (by show _ = 0 + C.val; rw [col_low C h0]; omega)
  by_cases h3 : C.val < 6144
  · rw [if_pos (by omega)]
    have hp : (evenCol ⟨partner C.val, partner_lt C⟩).val = partner C.val + 32 := col_high _ (by show ¬ partner C.val < 4096; unfold partner; split <;> omega)
    by_cases h1 : C.val < 5120
    · refine (concatenate_apply_piece (t := S4x2048x7168) 2 _ _ (ix3 b r C) 1 (by show _ < 4; decide) S4x2048x1024 _ rfl rfl 4096 rfl (ix3 b r (⟨C.val - 4096, by omega⟩ : Fin 1024))
            (fun a ha => match a, ha with | ⟨0, _⟩, _ => rfl | ⟨1, _⟩, _ => rfl | ⟨2, _⟩, ha => absurd rfl ha) (by show 4096 + (C.val - 4096) = C.val; omega)).trans ?_
      refine (q_turned _ _ _ _ b r _ ⟨partner C.val - 4096, by unfold partner; split <;> omega⟩ (by show partner C.val - 4096 = partner (C.val - 4096); unfold partner; split <;> split <;> omega)).trans ?_
      rw [v81_at _ _ _ _ b r _ (evenCol C) (by show _ = 4128 + (C.val - 4096); rw [col_high C h0]; omega),
        v81_at _ _ _ _ b r _ (evenCol ⟨partner C.val, partner_lt C⟩) (by show _ = 4128 + (partner C.val - 4096); rw [hp]; unfold partner; split <;> omega)]
      have e64 : (C.val - 4096) % 64 = C.val % 64 := by omega
      have e32 : (C.val - 4096) % 32 = C.val % 32 := by omega
      have e16 : (C.val - 4096) % 16 = C.val % 16 := by omega
      simp only [e64, e32, e16]
    · refine (concatenate_apply_piece (t := S4x2048x7168) 2 _ _ (ix3 b r C) 2 (by show _ < 4; decide) S4x2048x1024 _ rfl rfl 5120 rfl (ix3 b r (⟨C.val - 5120, by omega⟩ : Fin 1024))
            (fun a ha => match a, ha with | ⟨0, _⟩, _ => rfl | ⟨1, _⟩, _ => rfl | ⟨2, _⟩, ha => absurd rfl ha) (by show 5120 + (C.val - 5120) = C.val; omega)).trans ?_
      refine (k_turned _ _ _ _ b r _ ⟨partner C.val - 5120, by unfold partner; split <;> omega⟩ (by show partner C.val - 5120 = partner (C.val - 5120); unfold partner; split <;> split <;> omega)).trans ?_
      rw [v82_at _ _ _ _ b r _ (evenCol C) (by show _ = 5152 + (C.val - 5120); rw [col_high C h0]; omega),
        v82_at _ _ _ _ b r _ (evenCol ⟨partner C.val, partner_lt C⟩) (by show _ = 5152 + (partner C.val - 5120); rw [hp]; unfold partner; split <;> omega)]
      have e64 : (C.val - 5120) % 64 = C.val % 64 := by omega
      have e32 : (C.val - 5120) % 32 = C.val % 32 := by omega
      have e16 : (C.val - 5120) % 16 = C.val % 16 := by omega
      simp only [e64, e32, e16]
  · rw [if_neg (by omega)]
    refine (concatenate_apply_piece (t := S4x2048x7168) 2 _ _ (ix3 b r C) 3 (by show _ < 4; decide) S4x2048x1024 _ rfl rfl 6144 rfl (ix3 b r (⟨C.val - 6144, by omega⟩ : Fin 1024))
      (fun a ha => match a, ha with | ⟨0, _⟩, _ => rfl | ⟨1, _⟩, _ => rfl | ⟨2, _⟩, ha => absurd rfl ha) (by show 6144 + (C.val - 6144) = C.val; omega)).trans ?_
    exact v83_at _ _ _ _ b r _ (evenCol C) (by show _ = 6176 + (C.val - 6144); rw [col_high C h0]; omega)

/-- A result of the context stream: nothing is turned. -/
theorem o_ctx (b : Fin 4) (r : Fin 256) (C : Fin 7168) :
    val_main_v170 (F := Ideal) x0 x1 x2 x3 (ix3 b r C) = dotOf (modRow (fun j => x0 (ix2 ⟨8192 + (b.val * 256 + r.val), by omega⟩ j)) (fun j => x2 (ix1 j)) (fun j => x1 (ix3 4 4 j)) (fun j => x1 (ix3 4 3 j))) (fun k => x3 (ix3 0 k (evenCol C))) := by
  rw [← p_ctx]
  unfold val_main_v170
  by_cases h0 : C.val < 4096
  · refine (concatenate_apply_piece (t := S4x256x7168) 2 _ _ (ix3 b r C) 0 (by show _ < 4; decide) S4x256x4096 _ rfl rfl 0 rfl (ix3 b r (⟨C.val, by omega⟩ : Fin 4096))
      (fun a ha => match a, ha with | ⟨0, _⟩, _ => rfl | ⟨1, _⟩, _ => rfl | ⟨2, _⟩, ha => absurd rfl ha) (Nat.zero_add _)).trans ?_
    exact v86_at _ _ _ _ b r _ (evenCol C) (by show _ = 0 + C.val; rw [col_low C h0]; omega)
  by_cases h1 : C.val < 5120
  · refine (concatenate_apply_piece (t := S4x256x7168) 2 _ _ (ix3 b r C) 1 (by show _ < 4; decide) S4x256x1024 _ rfl rfl 4096 rfl (ix3 b r (⟨C.val - 4096, by omega⟩ : Fin 1024))
      (fun a ha => match a, ha with | ⟨0, _⟩, _ => rfl | ⟨1, _⟩, _ => rfl | ⟨2, _⟩, ha => absurd rfl ha) (by show 4096 + (C.val - 4096) = C.val; omega)).trans ?_
    exact v88_at _ _ _ _ b r _ (evenCol C) (by show _ = 4128 + (C.val - 4096); rw [col_high C h0]; omega)
  by_cases h2 : C.val < 6144
  · refine (concatenate_apply_piece (t := S4x256x7168) 2 _ _ (ix3 b r C) 2 (by show _ < 4; decide) S4x256x1024 _ rfl rfl 5120 rfl (ix3 b r (⟨C.val - 5120, by omega⟩ : Fin 1024))
      (fun a ha => match a, ha with | ⟨0, _⟩, _ => rfl | ⟨1, _⟩, _ => rfl | ⟨2, _⟩, ha => absurd rfl ha) (by show 5120 + (C.val - 5120) = C.val; omega)).trans ?_
    exact v89_at _ _ _ _ b r _ (evenCol C) (by show _ = 5152 + (C.val - 5120); rw [col_high C h0]; omega)
  · refine (concatenate_apply_piece (t := S4x256x7168) 2 _ _ (ix3 b r C) 3 (by show _ < 4; decide) S4x256x1024 _ rfl rfl 6144 rfl (ix3 b r (⟨C.val - 6144, by omega⟩ : Fin 1024))
      (fun a ha => match a, ha with | ⟨0, _⟩, _ => rfl | ⟨1, _⟩, _ => rfl | ⟨2, _⟩, ha => absurd rfl ha) (by show 6144 + (C.val - 6144) = C.val; omega)).trans ?_
    exact v90_at _ _ _ _ b r _ (evenCol C) (by show _ = 6176 + (C.val - 6144); rw [col_high C h0]; omega)

/-- Every entry of the reference's first result. -/
theorem result_at (R : Fin 9216) (C : Fin 7168) :
    val_main_v173 (F := Ideal) x0 x1 x2 x3 (ix2 R C)
      = evenIn rowAngle colAngle (fun r j => x0 (ix2 r j)) (fun s q j => x1 (ix3 s q j)) (fun j => x2 (ix1 j)) (fun k j => x3 (ix3 0 k j)) R C := by
  unfold val_main_v173
  by_cases hR : R.val < 8192
  · rw [concatenate_pair_apply_left (s₁ := S8192x7168) (s₂ := S1024x7168) 0 _ _ _ (ix2 R C) rfl (ix2 (⟨R.val, hR⟩ : Fin 8192) C)
      (fun a => match a with | ⟨0, _⟩ => rfl | ⟨1, _⟩ => rfl), val_main_v171_apply]
    have ei : idx_main_v171 (ix2 (⟨R.val, hR⟩ : Fin 8192) C) = ix3 (⟨R.val / 2048, by omega⟩ : Fin 4) (⟨R.val % 2048, by omega⟩ : Fin 2048) C :=
      funext fun a => Fin.ext (by match a with | ⟨0, _⟩ => (simp [ix2, ix3] <;> omega) | ⟨1, _⟩ => (simp [ix2, ix3] <;> omega) | ⟨2, _⟩ => (simp [ix2, ix3] <;> omega))
    have e0 : (⟨R.val / 2048 * 2048 + R.val % 2048, by omega⟩ : Fin 9216) = R := Fin.ext (by show R.val / 2048 * 2048 + R.val % 2048 = R.val; omega)
    have e1 : (⟨R.val / 2048, by omega⟩ : Fin 4).castSucc = (⟨min (R.val / 2048) 4, by omega⟩ : Fin 5) := Fin.ext (by show R.val / 2048 = min (R.val / 2048) 4; omega)
    have eu : modRow (fun j => x0 (ix2 (⟨R.val / 2048 * 2048 + R.val % 2048, by omega⟩ : Fin 9216) j)) (fun j => x2 (ix1 j)) (fun j => x1 (ix3 (⟨min (R.val / 2048) 4, by omega⟩ : Fin 5) 4 j)) (fun j => x1 (ix3 (⟨min (R.val / 2048) 4, by omega⟩ : Fin 5) 3 j))
        = mixRow (fun r j => x0 (ix2 r j)) (fun s q j => x1 (ix3 s q j)) (fun j => x2 (ix1 j)) R :=
      congrArg (fun q : Fin 9216 => modRow (fun j => x0 (ix2 q j)) _ _ _) e0
    rw [ei, o_lat, e1, eu, evenIn]
    have e64 : C.val % 128 % 64 = C.val % 64 := by omega
    have e32 : C.val % 128 % 32 = C.val % 32 := by omega
    have e16 : C.val % 128 % 16 = C.val % 16 := by omega
    simp only [ropeCos, ropeSin, if_pos hR, e64, e32, e16]
  · rw [concatenate_pair_apply_right (s₁ := S8192x7168) (s₂ := S1024x7168) 0 _ _ _ (ix2 R C) rfl rfl (ix2 (⟨R.val - 8192, by omega⟩ : Fin 1024) C)
      (fun a ha => match a, ha with | ⟨0, _⟩, ha => absurd rfl ha | ⟨1, _⟩, _ => rfl)
      (by show R.val - 8192 + 8192 = R.val; omega), val_main_v172_apply]
    have ei : idx_main_v172 (ix2 (⟨R.val - 8192, by omega⟩ : Fin 1024) C) = ix3 (⟨(R.val - 8192) / 256, by omega⟩ : Fin 4) (⟨(R.val - 8192) % 256, by omega⟩ : Fin 256) C :=
      funext fun a => Fin.ext (by match a with | ⟨0, _⟩ => (simp [ix2, ix3] <;> omega) | ⟨1, _⟩ => (simp [ix2, ix3] <;> omega) | ⟨2, _⟩ => (simp [ix2, ix3] <;> omega))
    have e0 : (⟨8192 + ((R.val - 8192) / 256 * 256 + (R.val - 8192) % 256), by omega⟩ : Fin 9216) = R :=
      Fin.ext (by show 8192 + ((R.val - 8192) / 256 * 256 + (R.val - 8192) % 256) = R.val; omega)
    have e1 : (4 : Fin 5) = (⟨min (R.val / 2048) 4, by omega⟩ : Fin 5) := Fin.ext (by show 4 = min (R.val / 2048) 4; omega)
    have eu : modRow (fun j => x0 (ix2 (⟨8192 + ((R.val - 8192) / 256 * 256 + (R.val - 8192) % 256), by omega⟩ : Fin 9216) j)) (fun j => x2 (ix1 j)) (fun j => x1 (ix3 (⟨min (R.val / 2048) 4, by omega⟩ : Fin 5) 4 j)) (fun j => x1 (ix3 (⟨min (R.val / 2048) 4, by omega⟩ : Fin 5) 3 j))
        = mixRow (fun r j => x0 (ix2 r j)) (fun s q j => x1 (ix3 s q j)) (fun j => x2 (ix1 j)) R :=
      congrArg (fun q : Fin 9216 => modRow (fun j => x0 (ix2 q j)) _ _ _) e0
    rw [ei, o_ctx, e1, eu, evenIn]
    split
    · rw [ropeCos, ropeSin, if_neg hR, if_neg hR, mul_one, mul_zero, add_zero]
    · rfl

/-- Every gate of the reference. -/
theorem gates_at (R : Fin 9216) (C : Fin 32) :
    val_main_v176 (F := Ideal) x0 x1 x2 x3 (ix2 R C)
      = dotOf (mixRow (fun r j => x0 (ix2 r j)) (fun s q j => x1 (ix3 s q j)) (fun j => x2 (ix1 j)) R) (fun k => x3 (ix3 0 k (gateCol ⟨C.val, by omega⟩ C.isLt))) := by
  unfold val_main_v176
  by_cases hR : R.val < 8192
  · rw [concatenate_pair_apply_left (s₁ := S8192x32) (s₂ := S1024x32) 0 _ _ _ (ix2 R C) rfl (ix2 (⟨R.val, hR⟩ : Fin 8192) C)
      (fun a => match a with | ⟨0, _⟩ => rfl | ⟨1, _⟩ => rfl), val_main_v174_apply]
    have ei : idx_main_v174 (ix2 (⟨R.val, hR⟩ : Fin 8192) C) = ix3 (⟨R.val / 2048, by omega⟩ : Fin 4) (⟨R.val % 2048, by omega⟩ : Fin 2048) C :=
      funext fun a => Fin.ext (by match a with | ⟨0, _⟩ => (simp [ix2, ix3] <;> omega) | ⟨1, _⟩ => (simp [ix2, ix3] <;> omega) | ⟨2, _⟩ => (simp [ix2, ix3] <;> omega))
    have e0 : (⟨R.val / 2048 * 2048 + R.val % 2048, by omega⟩ : Fin 9216) = R := Fin.ext (by show R.val / 2048 * 2048 + R.val % 2048 = R.val; omega)
    have e1 : (⟨R.val / 2048, by omega⟩ : Fin 4).castSucc = (⟨min (R.val / 2048) 4, by omega⟩ : Fin 5) := Fin.ext (by show R.val / 2048 = min (R.val / 2048) 4; omega)
    have eu : modRow (fun j => x0 (ix2 (⟨R.val / 2048 * 2048 + R.val % 2048, by omega⟩ : Fin 9216) j)) (fun j => x2 (ix1 j)) (fun j => x1 (ix3 (⟨min (R.val / 2048) 4, by omega⟩ : Fin 5) 4 j)) (fun j => x1 (ix3 (⟨min (R.val / 2048) 4, by omega⟩ : Fin 5) 3 j))
        = mixRow (fun r j => x0 (ix2 r j)) (fun s q j => x1 (ix3 s q j)) (fun j => x2 (ix1 j)) R :=
      congrArg (fun q : Fin 9216 => modRow (fun j => x0 (ix2 q j)) _ _ _) e0
    rw [ei, v80_at _ _ _ _ _ _ C (gateCol ⟨C.val, by omega⟩ C.isLt) rfl, p_lat, e1, eu]
  · rw [concatenate_pair_apply_right (s₁ := S8192x32) (s₂ := S1024x32) 0 _ _ _ (ix2 R C) rfl rfl (ix2 (⟨R.val - 8192, by omega⟩ : Fin 1024) C)
      (fun a ha => match a, ha with | ⟨0, _⟩, ha => absurd rfl ha | ⟨1, _⟩, _ => rfl)
      (by show R.val - 8192 + 8192 = R.val; omega), val_main_v175_apply]
    have ei : idx_main_v175 (ix2 (⟨R.val - 8192, by omega⟩ : Fin 1024) C) = ix3 (⟨(R.val - 8192) / 256, by omega⟩ : Fin 4) (⟨(R.val - 8192) % 256, by omega⟩ : Fin 256) C :=
      funext fun a => Fin.ext (by match a with | ⟨0, _⟩ => (simp [ix2, ix3] <;> omega) | ⟨1, _⟩ => (simp [ix2, ix3] <;> omega) | ⟨2, _⟩ => (simp [ix2, ix3] <;> omega))
    have e0 : (⟨8192 + ((R.val - 8192) / 256 * 256 + (R.val - 8192) % 256), by omega⟩ : Fin 9216) = R :=
      Fin.ext (by show 8192 + ((R.val - 8192) / 256 * 256 + (R.val - 8192) % 256) = R.val; omega)
    have e1 : (4 : Fin 5) = (⟨min (R.val / 2048) 4, by omega⟩ : Fin 5) := Fin.ext (by show 4 = min (R.val / 2048) 4; omega)
    have eu : modRow (fun j => x0 (ix2 (⟨8192 + ((R.val - 8192) / 256 * 256 + (R.val - 8192) % 256), by omega⟩ : Fin 9216) j)) (fun j => x2 (ix1 j)) (fun j => x1 (ix3 (⟨min (R.val / 2048) 4, by omega⟩ : Fin 5) 4 j)) (fun j => x1 (ix3 (⟨min (R.val / 2048) 4, by omega⟩ : Fin 5) 3 j))
        = mixRow (fun r j => x0 (ix2 r j)) (fun s q j => x1 (ix3 s q j)) (fun j => x2 (ix1 j)) R :=
      congrArg (fun q : Fin 9216 => modRow (fun j => x0 (ix2 q j)) _ _ _) e0
    rw [ei, v87_at _ _ _ _ _ _ C (gateCol ⟨C.val, by omega⟩ C.isLt) rfl, p_ctx, e1, eu]

/-- Every entry of the reference's second result. -/
theorem padded_at (R : Fin 9216) (C : Fin 128) :
    val_main_v177 (F := Ideal) x0 x1 x2 x3 (ix2 R C)
      = evenGates (fun r j => x0 (ix2 r j)) (fun s q j => x1 (ix3 s q j)) (fun j => x2 (ix1 j)) (fun k j => x3 (ix3 0 k j)) R C := by
  unfold val_main_v177
  rw [evenGates]
  by_cases h : C.val < 32
  · rw [dif_pos h]
    refine (pad_apply_of_inside _ _ _ _ _ _ _ (ix2 R C) (ix2 R ⟨C.val, h⟩) (fun a => match a with
      | ⟨0, _⟩ => by show R.val = 0 + R.val * (0 + 1); omega | ⟨1, _⟩ => by show C.val = 0 + C.val * (0 + 1); omega)).trans ?_
    exact gates_at _ _ _ _ R ⟨C.val, h⟩
  · rw [dif_neg h]
    refine (pad_apply_of_not_inside _ _ _ _ _ _ _ (ix2 R C) 1 (by show ¬ (0 ≤ C.val ∧ (C.val - 0) % (0 + 1) = 0 ∧ (C.val - 0) / (0 + 1) < 32); omega)).trans ?_
    show ((((0#32 : BitVec 32).toInt : ℝ) : EReal)) = 0
    simp

end Cert.Reference5Ideal.EvenIn

end
-- ==== Proof.EvenIn.Equation.lean ====
module

public import proofs.«01_k».proof.Defs
public import proofs.«01_k».proof.Proof.Gen.Reference5Ideal.Run
public import proofs.«01_k».proof.Proof.EvenIn.Kernel
public import proofs.«01_k».proof.Proof.EvenIn.Reference

/-! The even projection: the call and the reference end with the same two arrays, on any arguments. -/

@[expose] public section

noncomputable section

namespace Cert.Proof

open Idealize.ShloMosaic Idealize.SL.Sem
open Cert.Kernel5Ideal.EvenIn Cert.Reference5Ideal.EvenIn

attribute [local instance] Cert.Kernel5Ideal.Gen.facts Cert.Reference5Ideal.Gen.facts in
/-- The even projection's call computes the reference's results. -/
theorem even_in_equal : algebraic_Kernel5Ideal_Reference5Ideal := by
  intro m g m' g' hp ha
  refine ⟨fun c => fun i => Cert.Proj.evenIn rowAngle colAngle (argH m c) (argM m c) (argG m c) (argW m c) (i 0) (i 1),
    fun c => fun i => Cert.Proj.evenGates (argH m c) (argM m c) (argG m c) (argW m c) (i 0) (i 1),
    (θ_run _ _ _).mono (fun r h c => ?_) (Cert.Kernel5Ideal.Value.run_blocks (F := Ideal) m g),
    (θ_run _ _ _).mono (fun r h c => ?_) (Cert.Reference5Ideal.Value.run (F := Ideal) m' g')⟩
  · obtain ⟨h5, h6, k⟩ := h c
    exact ⟨h5.trans (final7 m c), h6.trans (final8 m c), k⟩
  · obtain ⟨h5, h6, k⟩ := h c
    obtain ⟨a0, a1, a2, a3⟩ := ha c
    refine ⟨h5.trans ((Cert.Reference5Ideal.Read.val_main_v173_eq (StableHlo.launchContents m' c)).trans ?_),
      h6.trans ((Cert.Reference5Ideal.Read.val_main_v177_eq (StableHlo.launchContents m' c)).trans ?_), k⟩
    · funext i
      obtain ⟨R, C, rfl⟩ : ∃ (R : Fin 9216) (C : Fin 7168), i = ix2 R C :=
        ⟨i 0, i 1, funext fun a => match a with | ⟨0, _⟩ => rfl | ⟨1, _⟩ => rfl⟩
      refine (Cert.Reference5Ideal.EvenIn.result_at
        (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2))
        (m' ((c.tc : Thread Cert.Reference5Ideal.nD Cert.Reference5Ideal.τ).loc Cert.Reference5Ideal.main_arg3)) R C).trans ?_
      rw [a0, a1, a2, a3]
      rfl
    · funext i
      obtain ⟨R, C, rfl⟩ : ∃ (R : Fin 9216) (C : Fin 128), i = ix2 R C :=
        ⟨i 0, i 1, funext fun a => match a with | ⟨0, _⟩ => rfl | ⟨1, _⟩ => rfl⟩
      refine (Cert.Reference5Ideal.EvenIn.padded_at
        (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2))
        (m' ((c.tc : Thread Cert.Reference5Ideal.nD Cert.Reference5Ideal.τ).loc Cert.Reference5Ideal.main_arg3)) R C).trans ?_
      rw [a0, a1, a2, a3]
      rfl

end Cert.Proof

end
-- ==== Proof.MixOut.Spec.lean ====
module

public import proofs.«01_k».proof.Proof.OddIn.Spec

/-! The mixer's output projection for one row: the product of the two mixed halves with the output weights, its root mean
    square normalisation under the gate, added to the residual row. -/

@[expose] public section

noncomputable section

namespace Cert.Proj

open Idealize.ShloMosaic Cert.Ffn Cert.Diff

/-- A sum of products over 1024 entries. -/
def halfDot (a w : Fin 1024 → EReal) : EReal := ∑ k, a k * w k

/-- The residual row `h` plus the normalised row `y` under the gate and the norm's weight. -/
def gateRow (y h gate g : Fin 2048 → EReal) (j : Fin 2048) : EReal :=
  h j + y j * rowScale y * (gate j * g j)

/-- The product row of the two halves. -/
def pairDot (a b : Fin 1024 → EReal) (w : Fin 2048 → Fin 2048 → EReal) (j : Fin 2048) : EReal :=
  halfDot a (fun k => w ⟨k.val, by omega⟩ j) + halfDot b (fun k => w ⟨1024 + k.val, by omega⟩ j)

/-- A sum over both halves is the sum of the halves' sums. -/
theorem sum_halves (f : Fin 2048 → EReal) :
    ∑ k, f k = ∑ k : Fin 1024, f ⟨k.val, by omega⟩ + ∑ k : Fin 1024, f ⟨1024 + k.val, by omega⟩ :=
  Fin.sum_univ_add (a := 1024) (b := 1024) f

/-- Row `R`, column `C` of the result: the row's sample is its tile of 2048 rows, the context rows sharing the last. -/
def mixOut (a b : Fin 9216 → Fin 1024 → EReal) (w : Fin 2048 → Fin 2048 → EReal) (h : Fin 9216 → Fin 2048 → EReal)
    (md : Fin 5 → Fin 9 → Fin 2048 → EReal) (g : Fin 2048 → EReal) (R : Fin 9216) (C : Fin 2048) : EReal :=
  gateRow (pairDot (a R) (b R) w) (h R) (md ⟨min (R.val / 2048) 4, by omega⟩ 5) g C

end Cert.Proj

end
-- ==== Proof.MixOut.Block.lean ====
module

public import proofs.«01_k».proof.Proof.Gen.Kernel6Ideal.Value
public import Idealize.ShloMosaic.Lib.Pipeline.ValueKit
public import Idealize.ShloMosaic.Lib.Pipeline.ValueKit.Held
public import Idealize.ShloMosaic.Lib.Pipeline.ReadBack
public import Idealize.ShloMosaic.Lib.Writes
public import Idealize.ShloMosaic.Lib.VecWindow
public import proofs.«01_k».proof.Proof.MixOut.Spec

/-! What one block of the output projection computes. -/

@[expose] public section

set_option maxRecDepth 16384

noncomputable section

namespace Cert.Kernel6Ideal.MixOut

open Cert.Ffn Cert.Proj
open Cert.Kernel6Ideal Cert.Kernel6Ideal.Gen
open Idealize.ShloMosaic Idealize.ShloMosaic.TcCoe Idealize.SL.Sem
open Idealize.ShloMosaic.Pipeline (Dat)

theorem pay1_apply (a : Vec Ideal S1024x1024 .bf16) (w : Vec Ideal S1024x2048 .bf16) (i : Fin 1024) (j : Fin 2048) :
    k0_pay1 a w (ix2 i j) = ∑ k : Fin 1024, a (ix2 i k) * w (ix2 k j) := by
  pointwise [k0_pay1]

theorem pay3_apply (p : Vec Ideal S1024x2048 .f32) (a : Vec Ideal S1024x1024 .bf16) (w : Vec Ideal S1024x2048 .bf16) (i : Fin 1024) (j : Fin 2048) :
    k0_pay3 p a w (ix2 i j) = p (ix2 i j) + ∑ k : Fin 1024, a (ix2 i k) * w (ix2 k j) := by
  pointwise [k0_pay3]

theorem pay4_apply (ga : Vec Ideal S1x1x2048 .f32) (g : Vec Ideal S1x2048 .f32) (y h : Vec Ideal S32x2048 .f32)
    (i : Fin 32) (j : Fin 2048) : k0_pay4 ga g y h (ix2 i j)
      = gateRow (fun k => y (ix2 i k)) (fun k => h (ix2 i k)) (fun k => ga (ix3 0 0 k)) (fun k => g (ix2 0 k)) j := by
  pointwise [k0_pay4]
  rfl

/-- The whole output block after the loop, from the accumulated tile `y` and the residual tile `h`. -/
def residTile (y h : Vec Ideal S1024x2048 .f32) (ga : Vec Ideal S1x1x2048 .f32) (g : Vec Ideal S1x2048 .f32) :
    Vec Ideal S1024x2048 .f32 :=
  fun z => gateRow (fun k => y (ix2 (z 0) k)) (fun k => h (ix2 (z 0) k)) (fun k => ga (ix3 0 0 k)) (fun k => g (ix2 0 k)) (z 1)

theorem ld_rows (x : Vec Ideal S1024x2048 .f32) (r : ℕ) (hb) (i : Fin 32) (j k : Fin 2048) :
    View.ld x (Rect.unit (s := S1024x2048) ![r, 0] ![32, 2048] hb) (ix2 i k)
      = x (ix2 (((Rect.unit (s := S1024x2048) ![r, 0] ![32, 2048] hb).emb (ix2 i j)) 0) k) := by
  rw [View.ld_apply]
  congr 1
  refine funext fun a => match a with
    | ⟨0, _⟩ => Fin.ext (by simp [Rect.idx_unit_val])
    | ⟨1, _⟩ => Fin.ext (by simp [Rect.idx_unit_val])

theorem rows_at (x h : Vec Ideal S1024x2048 .f32) (ga : Vec Ideal S1x1x2048 .f32) (g : Vec Ideal S1x2048 .f32)
    (off : Fin 2 → ℕ) (r : ℕ) (e : off = ![r, 0]) (hb) (i : Fin 32) (j : Fin 2048) :
    gateRow (fun k => View.ld x (Rect.unit (s := S1024x2048) off ![32, 2048] hb) (ix2 i k))
        (fun k => View.ld h (Rect.unit (s := S1024x2048) off ![32, 2048] hb) (ix2 i k))
        (fun k => ga (ix3 0 0 k)) (fun k => g (ix2 0 k)) j
      = residTile x h ga g ((Rect.unit (s := S1024x2048) off ![32, 2048] hb).emb (ix2 i j)) := by
  subst e
  have a1 : ((Rect.unit (s := S1024x2048) ![r, 0] ![32, 2048] hb).emb (ix2 i j)) 1 = j := Fin.ext (by
    simp [Rect.idx_unit_val])
  unfold residTile
  rw [a1]
  congr 1
  · funext k
    exact ld_rows x r hb i j k
  · funext k
    exact ld_rows h r hb i j k

/-- One trip writes thirty-two rows of it. -/
theorem trip_rows (c : Dev nD) (t : Fin cfg0.N) (h3 : k0_cond4 (grid0.coords t) = 1#1)
    (x : Vec Ideal S1024x2048 .f32) (h : Vec Ideal S1024x2048 .f32) (ga : Vec Ideal S1x1x2048 .f32) (g : Vec Ideal S1x2048 .f32)
    (X) (hX : scM0_0.view.read (Elt Ideal) X = x) (k : Fin k0_t1_loop.trips) :
    ∀ p ∈ tripL_k0_t1 (F := Ideal) Variants.none c none (grid0.coords t) (ms0_0 t) (hs0_0 t) (ms0_1 t) (hs0_1 t) (ms0_2 t) (hs0_2 t)
        (ms0_3 t) (hs0_3 t) (ms0_4 t) (hs0_4 t) (ms0_5 t) (hs0_5 t) (ms0_6 t) (hs0_6 t) scM0_0 (Memref.isWhole_whole _) h3 ga g ((hs0_3 t).unread h) X k,
      ∀ y, p.2 y = residTile x h ga g (p.1.emb y) := by
  unfold tripL_k0_t1 trip_k0_t1
  dsimp only
  sl_unfold_words
  simp only [List.mem_singleton, forall_eq]
  have e : ![BitVec.toNat (Scalar.indexCast (Scalar.muli (Scf.iv 0#32 1#32 ↑k) 32#32)), 0] = ![32 * k.val, 0] := k0_off1_eq k
  intro y
  obtain ⟨i, j, rfl⟩ : ∃ (i : Fin 32) (j : Fin 2048), y = ix2 i j :=
    ⟨y 0, y 1, funext fun a => match a with | ⟨0, _⟩ => rfl | ⟨1, _⟩ => rfl⟩
  refine (pay4_apply _ _ _ _ i j).trans ?_
  simp only [View.readAt_eq_ld, Memref.IsWhole.read_unread, hX]
  exact rows_at x h ga g _ _ e _ i j

theorem loop_rows (c : Dev nD) (t : Fin cfg0.N) (h3 : k0_cond4 (grid0.coords t) = 1#1)
    (x : Vec Ideal S1024x2048 .f32) (h : Vec Ideal S1024x2048 .f32) (ga : Vec Ideal S1x1x2048 .f32) (g : Vec Ideal S1x2048 .f32)
    (X) (hX : scM0_0.view.read (Elt Ideal) X = x) (n : ℕ) (hn : n ≤ k0_t1_loop.trips) :
    ∀ p ∈ pb_k0_t1 (F := Ideal) Variants.none c none (grid0.coords t) (ms0_0 t) (hs0_0 t) (ms0_1 t) (hs0_1 t) (ms0_2 t) (hs0_2 t)
        (ms0_3 t) (hs0_3 t) (ms0_4 t) (hs0_4 t) (ms0_5 t) (hs0_5 t) (ms0_6 t) (hs0_6 t) scM0_0 (Memref.isWhole_whole _) h3 ga g ((hs0_3 t).unread h) X n,
      ∀ y, p.2 y = residTile x h ga g (p.1.emb y) := by
  induction n with
  | zero => intro p hp; exact absurd hp List.not_mem_nil
  | succ n ih =>
    intro p hp
    rw [pb_k0_t1_succ _ _ _ _ _ _ _ _ _ _ _ _ _ _ _ _ _ _ _ _ _ _ _ _ _ ⟨n, hn⟩] at hp
    rcases List.mem_append.mp hp with q | q
    · exact trip_rows c t h3 x h ga g X hX ⟨n, hn⟩ p q
    · exact ih (by omega) p q

variable (m : (ℓ : Loc nD τ sig) → Buf (Elt Ideal) ℓ)

/-- At the first point of a row tile the scratch holds the product of the first half … -/
theorem accA (c : Dev nD) (t : Fin cfg0.N) (h : t.val % 2 = 0) :
    (outsAt0 m c t.val t.isLt).2 = k0_pay1 (iblk m c 0 t) (iblk m c 2 t) := by
  rw [outsAt0_A m c t h (by omega) (by omega)]
  frame_out

/-- … and the second point adds that of the second half. -/
theorem accB (c : Dev nD) (t : Fin cfg0.N) (h : t.val % 2 = 1) :
    (outsAt0 m c t.val t.isLt).2
      = k0_pay3 (outsAt0 m c (t.val-1) (Nat.lt_of_le_of_lt (Nat.sub_le _ _) t.isLt)).2 (iblk m c 1 t) (iblk m c 2 t) := by
  rw [outsAt0_B m c t (by omega) h h]
  frame_out
  simp only [read_unread_whole]

/-- The output block at the last point of a row tile. -/
theorem out_at (c : Dev nD) (t : Fin cfg0.N) (h : t.val % 2 = 1) (y) :
    (outsAt0 m c t.val t.isLt).1 y = residTile (outsAt0 m c t.val t.isLt).2 (iblk m c 3 t)
      (View.ld (iblk m c 4 t) (Rect.unit ![0, 5, 0] ![1, 1, 2048] inb_S1x9x2048_S1x1x2048_0_5_0)) (iblk m c 5 t) y := by
  rw [accB m c t h, outsAt0_B m c t (by omega) h h]
  dsimp only
  unfold out0_B_6
  refine View.read_writes_apply_of_pieces _ _ _ _ ?_ y (cover0_B_6 ..)
  unfold kernelRun0_B
  dsimp only
  sl_unfold_words
  simp (disch := decide) only [View.readAt_eq_ld, Memref.IsWhole.read_unread, View.ld_unit_lit]
  refine loop_rows c t ((hcond0_3 t).mpr h) _ (iblk m c 3 t) _ (iblk m c 5 t) _ ?_ k0_t1_loop.trips le_rfl
  rw [read_unread_whole]
  exact View.read_writes_full _ _ _ _ _

end Cert.Kernel6Ideal.MixOut
end
-- ==== Proof.MixOut.Kernel.lean ====
module

public import proofs.«01_k».proof.Proof.MixOut.Block

/-! What the output projection's result array holds after the run, element by element. -/

@[expose] public section

set_option maxRecDepth 16384

noncomputable section

namespace Cert.Kernel6Ideal.MixOut

open Cert.Ffn Cert.Proj
open Cert.Kernel6Ideal Cert.Kernel6Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0] ∧ win0_1.index t = ![t.val / 2, 0] ∧ win0_2.index t = ![t.val % 2, 0]
    ∧ win0_3.index t = ![t.val / 2, 0] ∧ win0_4.index t = ![min (t.val / 2 / 2) 4, 0, 0] ∧ win0_5.index t = ![0, 0]
    ∧ win0_6.index t = ![t.val / 2, 0] := (by decide +kernel : ∀ t : Fin grid0.N, _)

/-- The blocks the body reads, as elements of the argument arrays. -/
theorem x0 (c : Dev nD) (t : Fin cfg0.N) (i k : Fin 1024) (y : S9216x1024.Idx)
    (h0 : (y 0).val = t.val / 2 * 1024 + i.val) (h1 : (y 1).val = k.val) :
    iblk m c 0 t (ix2 i k) = m ((c : Thread nD τ).loc main_arg0) y := by
  blk_simp [iblk]
  entry_read
  pointwise
  blk_ext [V, idx t]

theorem x1 (c : Dev nD) (t : Fin cfg0.N) (i k : Fin 1024) (y : S9216x1024.Idx)
    (h0 : (y 0).val = t.val / 2 * 1024 + i.val) (h1 : (y 1).val = k.val) :
    iblk m c 1 t (ix2 i k) = m ((c : Thread nD τ).loc main_arg1) y := by
  blk_simp [iblk]
  entry_read
  pointwise
  blk_ext [V, idx t]

theorem x2 (c : Dev nD) (t : Fin cfg0.N) (k : Fin 1024) (j : Fin 2048) (K : Fin 2048) (h : K.val = t.val % 2 * 1024 + k.val) :
    iblk m c 2 t (ix2 k j) = m ((c : Thread nD τ).loc main_arg2) (ix3 0 K j) := by
  blk_simp [iblk]
  entry_read
  pointwise
  blk_ext [V, idx t]

theorem x3 (c : Dev nD) (t : Fin cfg0.N) (i : Fin 1024) (k : Fin 2048) (y : S9216x2048.Idx)
    (h0 : (y 0).val = t.val / 2 * 1024 + i.val) (h1 : (y 1).val = k.val) :
    iblk m c 3 t (ix2 i k) = m ((c : Thread nD τ).loc main_arg3) y := by
  blk_ext [iblk, V, idx t]

theorem x4 (c : Dev nD) (t : Fin cfg0.N) (r : Nat) (hb) (k : Fin 2048) (y : S5x9x2048.Idx)
    (h0 : (y 0).val = min (t.val / 2 / 2) 4) (h1 : (y 1).val = r) (h2 : (y 2).val = k.val) :
    View.ld (iblk m c 4 t) (Rect.unit ![0, r, 0] ![1, 1, 2048] hb) (ix3 0 0 k) = m ((c : Thread nD τ).loc main_arg4) y := by
  rw [View.ld_apply]
  blk_ext [iblk, V, idx t]
  all_goals (simp [Rect.idx_unit_val]; omega)

theorem x5 (c : Dev nD) (t : Fin cfg0.N) (k : Fin 2048) :
    iblk m c 5 t (ix2 0 k) = m ((c : Thread nD τ).loc main_arg5) (ix1 k) := by
  blk_simp [iblk]
  entry_read
  pointwise
  blk_ext [V, idx t]

/-- The accumulator at the last point of a row tile: both products. -/
theorem acc_at (c : Dev nD) (t : Fin cfg0.N) (h : t.val % 2 = 1) (i : Fin 1024) (j : Fin 2048) (R : Fin 9216)
    (hR : R.val = t.val / 2 * 1024 + i.val) :
    (outsAt0 m c t.val t.isLt).2 (ix2 i j)
      = pairDot (fun k => m ((c : Thread nD τ).loc main_arg0) (ix2 R k)) (fun k => m ((c : Thread nD τ).loc main_arg1) (ix2 R k)) (fun k j => m ((c : Thread nD τ).loc main_arg2) (ix3 0 k j)) j := by
  have hp : t.val - 1 < cfg0.N := Nat.lt_of_le_of_lt (Nat.sub_le _ _) t.isLt
  have ea := accA m c ⟨t.val - 1, hp⟩ (by show (t.val - 1) % 2 = 0; omega)
  rw [accB m c t h, pay3_apply]
  refine congrArg₂ (fun p q : EReal => p + q) ((congrFun ea (ix2 i j)).trans ((pay1_apply _ _ i j).trans ?_)) ?_
  · refine Finset.sum_congr rfl fun k _ => congrArg₂ (fun p q : EReal => p * q) (x0 m c _ i k _ ?_ rfl) (x2 m c _ k j _ ?_)
    · show R.val = (t.val - 1) / 2 * 1024 + i.val
      omega
    · show k.val = (t.val - 1) % 2 * 1024 + k.val
      omega
  · refine Finset.sum_congr rfl fun k _ => congrArg₂ (fun p q : EReal => p * q) (x1 m c _ i k _ hR rfl) (x2 m c _ k j _ ?_)
    show 1024 + k.val = t.val % 2 * 1024 + k.val
    omega

theorem point6 (c : Dev nD) (t : Fin cfg0.N) (h : t.val % 2 = 1) (y : S1024x2048.Idx) (R : Fin 9216) (C : Fin 2048)
    (hR : R.val = t.val / 2 * 1024 + (y 0).val) (hC : C.val = (y 1).val) :
    (outsAt0 m c t.val t.isLt).1 y
      = mixOut (fun r k => m ((c : Thread nD τ).loc main_arg0) (ix2 r k)) (fun r k => m ((c : Thread nD τ).loc main_arg1) (ix2 r k)) (fun k j => m ((c : Thread nD τ).loc main_arg2) (ix3 0 k j))
          (fun r j => m ((c : Thread nD τ).loc main_arg3) (ix2 r j)) (fun s q j => m ((c : Thread nD τ).loc main_arg4) (ix3 s q j)) (fun j => m ((c : Thread nD τ).loc main_arg5) (ix1 j)) R C := by
  obtain ⟨i, j, rfl⟩ : ∃ (i : Fin 1024) (j : Fin 2048), y = ix2 i j :=
    ⟨y 0, y 1, funext fun a => match a with | ⟨0, _⟩ => rfl | ⟨1, _⟩ => rfl⟩
  have hR' : R.val = t.val / 2 * 1024 + i.val := hR
  obtain rfl : C = j := Fin.ext hC
  have ht : t.val < 18 := t.isLt
  rw [out_at m c t h, residTile, mixOut]
  show gateRow (fun k => (outsAt0 m c t.val t.isLt).2 (ix2 i k)) (fun k => iblk m c 3 t (ix2 i k)) _ _ C = _
  congr 1
  · funext k
    exact acc_at m c t h i k R hR'
  · funext k
    exact x3 m c t i k _ hR' rfl
  · funext k
    exact x4 m c t 5 _ k _ (by show min (R.val / 2048) 4 = min (t.val / 2 / 2) 4; omega) rfl rfl
  · funext k
    exact x5 m c t k

/-- The result after the run. -/
theorem final6 (c : Dev nD) : (dats m 0 c).arrAt 6 cfg0.N
    = fun i => mixOut (fun r k => m ((c : Thread nD τ).loc main_arg0) (ix2 r k)) (fun r k => m ((c : Thread nD τ).loc main_arg1) (ix2 r k)) (fun k j => m ((c : Thread nD τ).loc main_arg2) (ix3 0 k j))
          (fun r j => m ((c : Thread nD τ).loc main_arg3) (ix2 r j)) (fun s q j => m ((c : Thread nD τ).loc main_arg4) (ix3 s q j)) (fun j => m ((c : Thread nD τ).loc main_arg5) (ix1 j)) (i 0) (i 1) := by
  refine (dats m 0 c).arrAt_eq_of_covers 6 _ (by decide +kernel) fun t hf y => ?_
  rw [after0_6]
  refine point6 m c t ((flush0_6 t).mp hf) y _ _ ?_ ?_
  · blk_simp [idx t]
  · blk_simp [idx t]

end Cert.Kernel6Ideal.MixOut
end
-- ==== Proof.MixOut.Reference.lean ====
module

public import proofs.«01_k».proof.Proof.Gen.Reference6Ideal.Read
public import proofs.«01_k».proof.Proof.MixOut.Spec
public import Idealize.ShloMosaic.Lib.Pipeline.ValueKit

/-! The mixer's output projection as the reference computes it: one stream at a time, then both stacked. -/

@[expose] public section

set_option maxRecDepth 16384

noncomputable section

namespace Cert.Reference6Ideal.MixOut

open Cert.Reference6Ideal Cert.Reference6Ideal.Gen Cert.Reference6Ideal.Read Cert.Ffn Cert.Proj Cert.Diff
open Idealize.ShloMosaic Idealize.ShloMosaic.TcCoe Idealize.SL.Sem

variable (x0 x1 : (⟨S9216x1024, .f32⟩ : BufTy).Contents (Elt Ideal)) (x2 : (⟨S1x2048x2048, .f32⟩ : BufTy).Contents (Elt Ideal))
  (x3 : (⟨S9216x2048, .f32⟩ : BufTy).Contents (Elt Ideal)) (x4 : (⟨S5x9x2048, .f32⟩ : BufTy).Contents (Elt Ideal))
  (x5 : (⟨S2048, .f32⟩ : BufTy).Contents (Elt Ideal))

/-- The weights. -/
theorem w_at (k j : Fin 2048) : val_main_v5 (F := Ideal) x2 (ix2 k j) = x2 (ix3 0 k j) := by
  rw [val_main_v5_apply]
  exact congrArg x2 (funext fun a => Fin.ext (by match a with | ⟨0, _⟩ => (simp [ix2, ix3] <;> omega) | ⟨1, _⟩ => (simp [ix2, ix3] <;> omega) | ⟨2, _⟩ => (simp [ix2, ix3] <;> omega)))

/-- The two halves side by side. -/
theorem cat_left (R : Fin 9216) (k : Fin 1024) : val_main_v4 (F := Ideal) x0 x1 (ix2 R (⟨k.val, by omega⟩ : Fin 2048)) = x0 (ix2 R k) :=
  concatenate_pair_apply_left (s₁ := S9216x1024) (s₂ := S9216x1024) 1 _ _ _ (ix2 R (⟨k.val, by omega⟩ : Fin 2048)) rfl (ix2 R k)
    (fun a => match a with | ⟨0, _⟩ => rfl | ⟨1, _⟩ => rfl)

theorem cat_right (R : Fin 9216) (k : Fin 1024) : val_main_v4 (F := Ideal) x0 x1 (ix2 R (⟨1024 + k.val, by omega⟩ : Fin 2048)) = x1 (ix2 R k) :=
  concatenate_pair_apply_right (s₁ := S9216x1024) (s₂ := S9216x1024) 1 _ _ _ (ix2 R (⟨1024 + k.val, by omega⟩ : Fin 2048)) rfl rfl (ix2 R k)
    (fun a ha => match a, ha with | ⟨0, _⟩, _ => rfl | ⟨1, _⟩, ha => absurd rfl ha) (Nat.add_comm _ _)

/-- An entry of the product with the output weights. -/
theorem p_at (R : Fin 9216) (j : Fin 2048) :
    val_main_v6 (F := Ideal) x0 x1 x2 (ix2 R j)
      = pairDot (fun q => x0 (ix2 R q)) (fun q => x1 (ix2 R q)) (fun q j => x2 (ix3 0 q j)) j := by
  rw [val_main_v6_apply]
  refine (sum_halves _).trans ?_
  have el : ∀ k, lidx_main_v6 (ix2 R j) k = ix2 R k := fun k => funext fun a => match a with | ⟨0, _⟩ => rfl | ⟨1, _⟩ => rfl
  have er : ∀ k, ridx_main_v6 (ix2 R j) k = ix2 k j := fun k => funext fun a => match a with | ⟨0, _⟩ => rfl | ⟨1, _⟩ => rfl
  refine congrArg₂ (fun p q : EReal => p + q) (Finset.sum_congr rfl fun k _ => ?_) (Finset.sum_congr rfl fun k _ => ?_)
  · rw [el, er, cat_left, w_at]
  · rw [el, er, cat_right, w_at]

/-- The normalised row under the gate, as the reference spells it. -/
theorem resid_form (y h gate g : Fin 2048 → EReal) (j : Fin 2048) :
    h j + gate j * (y j * rowScale y * g j) = gateRow y h gate g j := by
  rw [gateRow, mul_left_comm]

/-- A residual row of the latent stream. -/
theorem h_lat (b : Fin 4) (r : Fin 2048) (k : Fin 2048) : val_main_v8 (F := Ideal) x3 (ix3 b r k) = x3 (ix2 ⟨b.val * 2048 + r.val, by omega⟩ k) := by
  rw [val_main_v8_apply, val_main_v7_apply]
  exact congrArg x3 (funext fun a => Fin.ext (by match a with | ⟨0, _⟩ => (simp [ix2, ix3] <;> omega) | ⟨1, _⟩ => (simp [ix2, ix3] <;> omega)))

/-- A product row of the latent stream. -/
theorem y_lat (b : Fin 4) (r : Fin 2048) (k : Fin 2048) :
    val_main_v12 (F := Ideal) x0 x1 x2 (ix3 b r k) = pairDot (fun q => x0 (ix2 ⟨b.val * 2048 + r.val, by omega⟩ q)) (fun q => x1 (ix2 ⟨b.val * 2048 + r.val, by omega⟩ q)) (fun q j => x2 (ix3 0 q j)) k := by
  rw [val_main_v12_apply, val_main_v11_apply, ← p_at x0 x1 x2 ⟨b.val * 2048 + r.val, by omega⟩ k]
  exact congrArg _ (funext fun a => Fin.ext (by match a with | ⟨0, _⟩ => (simp [ix2, ix3] <;> omega) | ⟨1, _⟩ => (simp [ix2, ix3] <;> omega)))

/-- The gate of the latent stream. -/
theorem gate_lat (b : Fin 4) (k : Fin 2048) : val_main_v16 (F := Ideal) x4 (ix3 b 0 k) = x4 (ix3 b.castSucc 5 k) := by
  rw [val_main_v16_apply, val_main_v15_apply, val_main_v1_apply, val_main_v0_apply]
  exact congrArg x4 (funext fun a => Fin.ext (by match a with | ⟨0, _⟩ => (simp [ix1, ix3] <;> omega) | ⟨1, _⟩ => (simp [ix1, ix3] <;> omega) | ⟨2, _⟩ => (simp [ix1, ix3] <;> omega)))

/-- The scale of a normalised latent row. -/
theorem rs_lat (b : Fin 4) (r : Fin 2048) (k : Fin 2048) :
    val_main_v25 (F := Ideal) x0 x1 x2 (ix3 b r k) = rowScale (fun j => pairDot (fun q => x0 (ix2 ⟨b.val * 2048 + r.val, by omega⟩ q)) (fun q => x1 (ix2 ⟨b.val * 2048 + r.val, by omega⟩ q)) (fun q j => x2 (ix3 0 q j)) j) := by
  rw [val_main_v25_apply, val_main_v24_apply, val_main_v23_apply, val_main_v21_apply, val_main_v19_apply, val_main_v18_apply]
  have e : ∀ j : Fin 2048, val_main_v17 (F := Ideal) x0 x1 x2 (idx_main_v18 (idx_main_v19 (idx_main_v25 (ix3 b r k))) j)
      = pairDot (fun q => x0 (ix2 ⟨b.val * 2048 + r.val, by omega⟩ q)) (fun q => x1 (ix2 ⟨b.val * 2048 + r.val, by omega⟩ q)) (fun q j => x2 (ix3 0 q j)) j * pairDot (fun q => x0 (ix2 ⟨b.val * 2048 + r.val, by omega⟩ q)) (fun q => x1 (ix2 ⟨b.val * 2048 + r.val, by omega⟩ q)) (fun q j => x2 (ix3 0 q j)) j := fun j => by
    have ei : idx_main_v18 (idx_main_v19 (idx_main_v25 (ix3 b r k))) j = ix3 b r j :=
      funext fun a => match a with | ⟨0, _⟩ => rfl | ⟨1, _⟩ => rfl | ⟨2, _⟩ => rfl
    rw [ei, val_main_v17_apply, y_lat]
    rfl
  refine congrArg Ideal.rsqrt (congrArg₂ (· + ·) (congrArg₂ Ideal.div ?_ rfl) rfl)
  refine (congrArg (· + _) zero32).trans ((zero_add _).trans (Finset.sum_congr rfl fun j _ => e j))

/-- A result of the latent stream. -/
theorem o_lat (b : Fin 4) (r : Fin 2048) (j : Fin 2048) :
    val_main_v32 (F := Ideal) x0 x1 x2 x3 x4 x5 (ix3 b r j)
      = gateRow (fun j => pairDot (fun q => x0 (ix2 ⟨b.val * 2048 + r.val, by omega⟩ q)) (fun q => x1 (ix2 ⟨b.val * 2048 + r.val, by omega⟩ q)) (fun q j => x2 (ix3 0 q j)) j) (fun j => x3 (ix2 ⟨b.val * 2048 + r.val, by omega⟩ j))
          (fun j => x4 (ix3 b.castSucc 5 j)) (fun j => x5 (ix1 j)) j := by
  rw [val_main_v32_apply, val_main_v31_apply, val_main_v30_apply, val_main_v29_apply, val_main_v26_apply, val_main_v28_apply, val_main_v27_apply, h_lat, y_lat, rs_lat]
  have eg : idx_main_v27 (idx_main_v28 (ix3 b r j)) = ix1 j := funext fun a => match a with | ⟨0, _⟩ => rfl
  have ec : idx_main_v30 (ix3 b r j) = ix3 b 0 j := funext fun a => match a with | ⟨0, _⟩ => rfl | ⟨1, _⟩ => rfl | ⟨2, _⟩ => rfl
  rw [eg, ec, gate_lat]
  exact resid_form (fun j => pairDot (fun q => x0 (ix2 ⟨b.val * 2048 + r.val, by omega⟩ q)) (fun q => x1 (ix2 ⟨b.val * 2048 + r.val, by omega⟩ q)) (fun q j => x2 (ix3 0 q j)) j) (fun j => x3 (ix2 ⟨b.val * 2048 + r.val, by omega⟩ j))
    (fun j => x4 (ix3 b.castSucc 5 j)) (fun j => x5 (ix1 j)) j

/-- A residual row of the context stream. -/
theorem h_ctx (b : Fin 4) (r : Fin 256) (k : Fin 2048) : val_main_v10 (F := Ideal) x3 (ix3 b r k) = x3 (ix2 ⟨8192 + (b.val * 256 + r.val), by omega⟩ k) := by
  rw [val_main_v10_apply, val_main_v9_apply]
  exact congrArg x3 (funext fun a => Fin.ext (by match a with | ⟨0, _⟩ => (simp [ix2, ix3] <;> omega) | ⟨1, _⟩ => (simp [ix2, ix3] <;> omega)))

/-- A product row of the context stream. -/
theorem y_ctx (b : Fin 4) (r : Fin 256) (k : Fin 2048) :
    val_main_v14 (F := Ideal) x0 x1 x2 (ix3 b r k) = pairDot (fun q => x0 (ix2 ⟨8192 + (b.val * 256 + r.val), by omega⟩ q)) (fun q => x1 (ix2 ⟨8192 + (b.val * 256 + r.val), by omega⟩ q)) (fun q j => x2 (ix3 0 q j)) k := by
  rw [val_main_v14_apply, val_main_v13_apply, ← p_at x0 x1 x2 ⟨8192 + (b.val * 256 + r.val), by omega⟩ k]
  exact congrArg _ (funext fun a => Fin.ext (by match a with | ⟨0, _⟩ => (simp [ix2, ix3] <;> omega) | ⟨1, _⟩ => (simp [ix2, ix3] <;> omega)))

/-- The gate of the context stream. -/
theorem gate_ctx (k : Fin 2048) : val_main_v34 (F := Ideal) x4 (ix1 k) = x4 (ix3 4 5 k) := by
  rw [val_main_v34_apply, val_main_v33_apply, val_main_v3_apply, val_main_v2_apply]
  exact congrArg x4 (funext fun a => Fin.ext (by match a with | ⟨0, _⟩ => (simp [ix1, ix3] <;> omega) | ⟨1, _⟩ => (simp [ix1, ix3] <;> omega) | ⟨2, _⟩ => (simp [ix1, ix3] <;> omega)))

/-- The scale of a normalised context row. -/
theorem rs_ctx (b : Fin 4) (r : Fin 256) (k : Fin 2048) :
    val_main_v43 (F := Ideal) x0 x1 x2 (ix3 b r k) = rowScale (fun j => pairDot (fun q => x0 (ix2 ⟨8192 + (b.val * 256 + r.val), by omega⟩ q)) (fun q => x1 (ix2 ⟨8192 + (b.val * 256 + r.val), by omega⟩ q)) (fun q j => x2 (ix3 0 q j)) j) := by
  rw [val_main_v43_apply, val_main_v42_apply, val_main_v41_apply, val_main_v39_apply, val_main_v37_apply, val_main_v36_apply]
  have e : ∀ j : Fin 2048, val_main_v35 (F := Ideal) x0 x1 x2 (idx_main_v36 (idx_main_v37 (idx_main_v43 (ix3 b r k))) j)
      = pairDot (fun q => x0 (ix2 ⟨8192 + (b.val * 256 + r.val), by omega⟩ q)) (fun q => x1 (ix2 ⟨8192 + (b.val * 256 + r.val), by omega⟩ q)) (fun q j => x2 (ix3 0 q j)) j * pairDot (fun q => x0 (ix2 ⟨8192 + (b.val * 256 + r.val), by omega⟩ q)) (fun q => x1 (ix2 ⟨8192 + (b.val * 256 + r.val), by omega⟩ q)) (fun q j => x2 (ix3 0 q j)) j := fun j => by
    have ei : idx_main_v36 (idx_main_v37 (idx_main_v43 (ix3 b r k))) j = ix3 b r j :=
      funext fun a => match a with | ⟨0, _⟩ => rfl | ⟨1, _⟩ => rfl | ⟨2, _⟩ => rfl
    rw [ei, val_main_v35_apply, y_ctx]
    rfl
  refine congrArg Ideal.rsqrt (congrArg₂ (· + ·) (congrArg₂ Ideal.div ?_ rfl) rfl)
  refine (congrArg (· + _) zero32).trans ((zero_add _).trans (Finset.sum_congr rfl fun j _ => e j))

/-- A result of the context stream. -/
theorem o_ctx (b : Fin 4) (r : Fin 256) (j : Fin 2048) :
    val_main_v51 (F := Ideal) x0 x1 x2 x3 x4 x5 (ix3 b r j)
      = gateRow (fun j => pairDot (fun q => x0 (ix2 ⟨8192 + (b.val * 256 + r.val), by omega⟩ q)) (fun q => x1 (ix2 ⟨8192 + (b.val * 256 + r.val), by omega⟩ q)) (fun q j => x2 (ix3 0 q j)) j) (fun j => x3 (ix2 ⟨8192 + (b.val * 256 + r.val), by omega⟩ j))
          (fun j => x4 (ix3 4 5 j)) (fun j => x5 (ix1 j)) j := by
  rw [val_main_v51_apply, val_main_v50_apply, val_main_v49_apply, val_main_v48_apply, val_main_v47_apply, val_main_v44_apply, val_main_v46_apply, val_main_v45_apply, h_ctx, y_ctx, rs_ctx]
  have eg : idx_main_v45 (idx_main_v46 (ix3 b r j)) = ix1 j := funext fun a => match a with | ⟨0, _⟩ => rfl
  have ec : idx_main_v48 (idx_main_v49 (ix3 b r j)) = ix1 j := funext fun a => match a with | ⟨0, _⟩ => rfl
  rw [eg, ec, gate_ctx]
  exact resid_form (fun j => pairDot (fun q => x0 (ix2 ⟨8192 + (b.val * 256 + r.val), by omega⟩ q)) (fun q => x1 (ix2 ⟨8192 + (b.val * 256 + r.val), by omega⟩ q)) (fun q j => x2 (ix3 0 q j)) j) (fun j => x3 (ix2 ⟨8192 + (b.val * 256 + r.val), by omega⟩ j))
    (fun j => x4 (ix3 4 5 j)) (fun j => x5 (ix1 j)) j

/-- Every result of the reference. -/
theorem result_at (R : Fin 9216) (C : Fin 2048) :
    val_main_v54 (F := Ideal) x0 x1 x2 x3 x4 x5 (ix2 R C)
      = mixOut (fun r k => x0 (ix2 r k)) (fun r k => x1 (ix2 r k)) (fun k j => x2 (ix3 0 k j)) (fun r j => x3 (ix2 r j)) (fun s q j => x4 (ix3 s q j)) (fun j => x5 (ix1 j)) R C := by
  unfold val_main_v54
  by_cases hR : R.val < 8192
  · rw [concatenate_pair_apply_left (s₁ := S8192x2048) (s₂ := S1024x2048) 0 _ _ _ (ix2 R C) rfl (ix2 (⟨R.val, hR⟩ : Fin 8192) C)
      (fun a => match a with | ⟨0, _⟩ => rfl | ⟨1, _⟩ => rfl), val_main_v52_apply]
    have ei : idx_main_v52 (ix2 (⟨R.val, hR⟩ : Fin 8192) C) = ix3 (⟨R.val / 2048, by omega⟩ : Fin 4) (⟨R.val % 2048, by omega⟩ : Fin 2048) C :=
      funext fun a => Fin.ext (by match a with | ⟨0, _⟩ => (simp [ix2, ix3] <;> omega) | ⟨1, _⟩ => (simp [ix2, ix3] <;> omega) | ⟨2, _⟩ => (simp [ix2, ix3] <;> omega))
    rw [ei, o_lat]
    have e0 : (⟨R.val / 2048 * 2048 + R.val % 2048, by omega⟩ : Fin 9216) = R := Fin.ext (by show R.val / 2048 * 2048 + R.val % 2048 = R.val; omega)
    have e1 : (⟨R.val / 2048, by omega⟩ : Fin 4).castSucc = (⟨min (R.val / 2048) 4, by omega⟩ : Fin 5) := Fin.ext (by show R.val / 2048 = min (R.val / 2048) 4; omega)
    rw [e1, mixOut]
    exact congrArg (fun p : Fin 9216 => gateRow (fun j => pairDot (fun q => x0 (ix2 p q)) (fun q => x1 (ix2 p q)) (fun q j => x2 (ix3 0 q j)) j) (fun j => x3 (ix2 p j)) _ _ C) e0
  · rw [concatenate_pair_apply_right (s₁ := S8192x2048) (s₂ := S1024x2048) 0 _ _ _ (ix2 R C) rfl rfl (ix2 (⟨R.val - 8192, by omega⟩ : Fin 1024) C)
      (fun a ha => match a, ha with | ⟨0, _⟩, ha => absurd rfl ha | ⟨1, _⟩, _ => rfl)
      (by show R.val - 8192 + 8192 = R.val; omega), val_main_v53_apply]
    have ei : idx_main_v53 (ix2 (⟨R.val - 8192, by omega⟩ : Fin 1024) C) = ix3 (⟨(R.val - 8192) / 256, by omega⟩ : Fin 4) (⟨(R.val - 8192) % 256, by omega⟩ : Fin 256) C :=
      funext fun a => Fin.ext (by match a with | ⟨0, _⟩ => (simp [ix2, ix3] <;> omega) | ⟨1, _⟩ => (simp [ix2, ix3] <;> omega) | ⟨2, _⟩ => (simp [ix2, ix3] <;> omega))
    rw [ei, o_ctx]
    have e0 : (⟨8192 + ((R.val - 8192) / 256 * 256 + (R.val - 8192) % 256), by omega⟩ : Fin 9216) = R :=
      Fin.ext (by show 8192 + ((R.val - 8192) / 256 * 256 + (R.val - 8192) % 256) = R.val; omega)
    have e1 : (4 : Fin 5) = (⟨min (R.val / 2048) 4, by omega⟩ : Fin 5) := Fin.ext (by show 4 = min (R.val / 2048) 4; omega)
    rw [e1, mixOut]
    exact congrArg (fun p : Fin 9216 => gateRow (fun j => pairDot (fun q => x0 (ix2 p q)) (fun q => x1 (ix2 p q)) (fun q j => x2 (ix3 0 q j)) j) (fun j => x3 (ix2 p j)) _ _ C) e0

end Cert.Reference6Ideal.MixOut

end
-- ==== Proof.MixOut.Equation.lean ====
module

public import proofs.«01_k».proof.Defs
public import proofs.«01_k».proof.Proof.Gen.Reference6Ideal.Run
public import proofs.«01_k».proof.Proof.MixOut.Kernel
public import proofs.«01_k».proof.Proof.MixOut.Reference

/-! The mixer's output projection: the call and the reference end with the same array, on any arguments. -/

@[expose] public section

noncomputable section

namespace Cert.Proof

open Idealize.ShloMosaic Idealize.SL.Sem

attribute [local instance] Cert.Kernel6Ideal.Gen.facts Cert.Reference6Ideal.Gen.facts in
/-- The call of the mixer's output projection computes the reference's result. -/
theorem mix_out_equal : algebraic_Kernel6Ideal_Reference6Ideal := by
  intro m g m' g' hp ha
  refine ⟨fun c => fun i => Cert.Proj.mixOut
      (fun r k => m ((c.tc : Thread Cert.Kernel6Ideal.nD Cert.Kernel6Ideal.τ).loc Cert.Kernel6Ideal.main_arg0) (ix2 r k))
      (fun r k => m ((c.tc : Thread Cert.Kernel6Ideal.nD Cert.Kernel6Ideal.τ).loc Cert.Kernel6Ideal.main_arg1) (ix2 r k))
      (fun k j => m ((c.tc : Thread Cert.Kernel6Ideal.nD Cert.Kernel6Ideal.τ).loc Cert.Kernel6Ideal.main_arg2) (ix3 0 k j))
      (fun r j => m ((c.tc : Thread Cert.Kernel6Ideal.nD Cert.Kernel6Ideal.τ).loc Cert.Kernel6Ideal.main_arg3) (ix2 r j))
      (fun s q j => m ((c.tc : Thread Cert.Kernel6Ideal.nD Cert.Kernel6Ideal.τ).loc Cert.Kernel6Ideal.main_arg4) (ix3 s q j))
      (fun j => m ((c.tc : Thread Cert.Kernel6Ideal.nD Cert.Kernel6Ideal.τ).loc Cert.Kernel6Ideal.main_arg5) (ix1 j)) (i 0) (i 1),
    (θ_run _ _ _).mono (fun r h c => ?_) (Cert.Kernel6Ideal.Value.run_blocks (F := Ideal) m g),
    (θ_run _ _ _).mono (fun r h c => ?_) (Cert.Reference6Ideal.Value.run (F := Ideal) m' g')⟩
  · obtain ⟨h6, k⟩ := h c
    exact ⟨h6.trans (Cert.Kernel6Ideal.MixOut.final6 m c), k⟩
  · obtain ⟨h6, k⟩ := h c
    obtain ⟨a0, a1, a2, a3, a4, a5⟩ := ha c
    refine ⟨h6.trans ((Cert.Reference6Ideal.Read.val_main_v54_eq m' c).trans ?_), k⟩
    rw [a0, a1, a2, a3, a4, a5]
    funext i
    obtain ⟨R, C, rfl⟩ : ∃ (R : Fin 9216) (C : Fin 2048), i = ix2 R C :=
      ⟨i 0, i 1, funext fun a => match a with | ⟨0, _⟩ => rfl | ⟨1, _⟩ => rfl⟩
    exact Cert.Reference6Ideal.MixOut.result_at _ _ _ _ _ _ R C

end Cert.Proof

end
-- ==== Proof.OddOut.Spec.lean ====
module

public import proofs.«01_k».proof.Proof.MixOut.Spec

/-! The odd layer's output projection for one latent row: the product of the mixed row with the output weights, its root mean
    square normalisation under the gate, added to the residual row. -/

@[expose] public section

noncomputable section

namespace Cert.Proj

open Idealize.ShloMosaic Cert.Ffn

/-- Row `R`, column `C` of the result: the row's sample is its tile of 2048 rows. -/
def oddOut (a : Fin 8192 → Fin 2048 → EReal) (w : Fin 2048 → Fin 2048 → EReal) (h : Fin 9216 → Fin 2048 → EReal)
    (md : Fin 5 → Fin 9 → Fin 2048 → EReal) (g : Fin 2048 → EReal) (R : Fin 8192) (C : Fin 2048) : EReal :=
  gateRow (fun j => dotOf (a R) (fun k => w k j)) (h ⟨R.val, by omega⟩) (md ⟨R.val / 2048, by omega⟩ 5) g C

end Cert.Proj

end
-- ==== Proof.OddOut.Block.lean ====
module

public import proofs.«01_k».proof.Proof.Gen.Kernel7Ideal.Value
public import Idealize.ShloMosaic.Lib.Pipeline.ValueKit
public import Idealize.ShloMosaic.Lib.Pipeline.ValueKit.Held
public import Idealize.ShloMosaic.Lib.Pipeline.ReadBack
public import Idealize.ShloMosaic.Lib.Writes
public import Idealize.ShloMosaic.Lib.VecWindow
public import proofs.«01_k».proof.Proof.OddOut.Spec

/-! What one block of the odd layer's output projection computes. -/

@[expose] public section

set_option maxRecDepth 16384

noncomputable section

namespace Cert.Kernel7Ideal.OddOut

open Cert.Ffn Cert.Proj
open Cert.Kernel7Ideal Cert.Kernel7Ideal.Gen
open Idealize.ShloMosaic Idealize.ShloMosaic.TcCoe Idealize.SL.Sem
open Idealize.ShloMosaic.Pipeline (Dat)

theorem pay1_apply (a : Vec Ideal S1024x1024 .bf16) (w : Vec Ideal S1024x2048 .bf16) (i : Fin 1024) (j : Fin 2048) :
    k0_pay1 a w (ix2 i j) = ∑ k : Fin 1024, a (ix2 i k) * w (ix2 k j) := by
  pointwise [k0_pay1]

theorem pay2_apply (p : Vec Ideal S1024x2048 .f32) (a : Vec Ideal S1024x1024 .bf16) (w : Vec Ideal S1024x2048 .bf16) (i : Fin 1024) (j : Fin 2048) :
    k0_pay2 p a w (ix2 i j) = p (ix2 i j) + ∑ k : Fin 1024, a (ix2 i k) * w (ix2 k j) := by
  pointwise [k0_pay2]

theorem pay3_apply (ga : Vec Ideal S1x1x2048 .f32) (g : Vec Ideal S1x2048 .f32) (y h : Vec Ideal S32x2048 .f32)
    (i : Fin 32) (j : Fin 2048) : k0_pay3 ga g y h (ix2 i j)
      = gateRow (fun k => y (ix2 i k)) (fun k => h (ix2 i k)) (fun k => ga (ix3 0 0 k)) (fun k => g (ix2 0 k)) j := by
  pointwise [k0_pay3]
  rfl

/-- The whole output block after the loop, from the accumulated tile `y` and the residual tile `h`. -/
def residTile (y h : Vec Ideal S1024x2048 .f32) (ga : Vec Ideal S1x1x2048 .f32) (g : Vec Ideal S1x2048 .f32) :
    Vec Ideal S1024x2048 .f32 :=
  fun z => gateRow (fun k => y (ix2 (z 0) k)) (fun k => h (ix2 (z 0) k)) (fun k => ga (ix3 0 0 k)) (fun k => g (ix2 0 k)) (z 1)

theorem ld_rows (x : Vec Ideal S1024x2048 .f32) (r : ℕ) (hb) (i : Fin 32) (j k : Fin 2048) :
    View.ld x (Rect.unit (s := S1024x2048) ![r, 0] ![32, 2048] hb) (ix2 i k)
      = x (ix2 (((Rect.unit (s := S1024x2048) ![r, 0] ![32, 2048] hb).emb (ix2 i j)) 0) k) := by
  rw [View.ld_apply]
  congr 1
  refine funext fun a => match a with
    | ⟨0, _⟩ => Fin.ext (by simp [Rect.idx_unit_val])
    | ⟨1, _⟩ => Fin.ext (by simp [Rect.idx_unit_val])

theorem rows_at (x h : Vec Ideal S1024x2048 .f32) (ga : Vec Ideal S1x1x2048 .f32) (g : Vec Ideal S1x2048 .f32)
    (off : Fin 2 → ℕ) (r : ℕ) (e : off = ![r, 0]) (hb) (i : Fin 32) (j : Fin 2048) :
    gateRow (fun k => View.ld x (Rect.unit (s := S1024x2048) off ![32, 2048] hb) (ix2 i k))
        (fun k => View.ld h (Rect.unit (s := S1024x2048) off ![32, 2048] hb) (ix2 i k))
        (fun k => ga (ix3 0 0 k)) (fun k => g (ix2 0 k)) j
      = residTile x h ga g ((Rect.unit (s := S1024x2048) off ![32, 2048] hb).emb (ix2 i j)) := by
  subst e
  have a1 : ((Rect.unit (s := S1024x2048) ![r, 0] ![32, 2048] hb).emb (ix2 i j)) 1 = j := Fin.ext (by
    simp [Rect.idx_unit_val])
  unfold residTile
  rw [a1]
  congr 1
  · funext k
    exact ld_rows x r hb i j k
  · funext k
    exact ld_rows h r hb i j k

/-- One trip writes thirty-two rows of it. -/
theorem trip_rows (c : Dev nD) (t : Fin cfg0.N) (h3 : k0_cond3 (grid0.coords t) = 1#1)
    (x : Vec Ideal S1024x2048 .f32) (h : Vec Ideal S1024x2048 .f32) (ga : Vec Ideal S1x1x2048 .f32) (g : Vec Ideal S1x2048 .f32)
    (X) (hX : scM0_0.view.read (Elt Ideal) X = x) (k : Fin k0_t1_loop.trips) :
    ∀ p ∈ tripL_k0_t1 (F := Ideal) Variants.none c none (grid0.coords t) (ms0_0 t) (hs0_0 t) (ms0_1 t) (hs0_1 t) (ms0_2 t) (hs0_2 t)
        (ms0_3 t) (hs0_3 t) (ms0_4 t) (hs0_4 t) (ms0_5 t) (hs0_5 t) scM0_0 (Memref.isWhole_whole _) h3 ga g ((hs0_2 t).unread h) X k,
      ∀ y, p.2 y = residTile x h ga g (p.1.emb y) := by
  unfold tripL_k0_t1 trip_k0_t1
  dsimp only
  sl_unfold_words
  simp only [List.mem_singleton, forall_eq]
  have e : ![BitVec.toNat (Scalar.indexCast (Scalar.muli (Scf.iv 0#32 1#32 ↑k) 32#32)), 0] = ![32 * k.val, 0] := k0_off1_eq k
  intro y
  obtain ⟨i, j, rfl⟩ : ∃ (i : Fin 32) (j : Fin 2048), y = ix2 i j :=
    ⟨y 0, y 1, funext fun a => match a with | ⟨0, _⟩ => rfl | ⟨1, _⟩ => rfl⟩
  refine (pay3_apply _ _ _ _ i j).trans ?_
  simp only [View.readAt_eq_ld, Memref.IsWhole.read_unread, hX]
  exact rows_at x h ga g _ _ e _ i j

theorem loop_rows (c : Dev nD) (t : Fin cfg0.N) (h3 : k0_cond3 (grid0.coords t) = 1#1)
    (x : Vec Ideal S1024x2048 .f32) (h : Vec Ideal S1024x2048 .f32) (ga : Vec Ideal S1x1x2048 .f32) (g : Vec Ideal S1x2048 .f32)
    (X) (hX : scM0_0.view.read (Elt Ideal) X = x) (n : ℕ) (hn : n ≤ k0_t1_loop.trips) :
    ∀ p ∈ pb_k0_t1 (F := Ideal) Variants.none c none (grid0.coords t) (ms0_0 t) (hs0_0 t) (ms0_1 t) (hs0_1 t) (ms0_2 t) (hs0_2 t)
        (ms0_3 t) (hs0_3 t) (ms0_4 t) (hs0_4 t) (ms0_5 t) (hs0_5 t) scM0_0 (Memref.isWhole_whole _) h3 ga g ((hs0_2 t).unread h) X n,
      ∀ y, p.2 y = residTile x h ga g (p.1.emb y) := by
  induction n with
  | zero => intro p hp; exact absurd hp List.not_mem_nil
  | succ n ih =>
    intro p hp
    rw [pb_k0_t1_succ _ _ _ _ _ _ _ _ _ _ _ _ _ _ _ _ _ _ _ _ _ _ _ ⟨n, hn⟩] at hp
    rcases List.mem_append.mp hp with q | q
    · exact trip_rows c t h3 x h ga g X hX ⟨n, hn⟩ p q
    · exact ih (by omega) p q

variable (m : (ℓ : Loc nD τ sig) → Buf (Elt Ideal) ℓ)

/-- At the first point of a row tile the scratch holds the product over the first half … -/
theorem accA (c : Dev nD) (t : Fin cfg0.N) (h : t.val % 2 = 0) :
    (outsAt0 m c t.val t.isLt).2 = k0_pay1 (iblk m c 0 t) (iblk m c 1 t) := by
  rw [outsAt0_A m c t h (by omega) (by omega)]
  frame_out

/-- … and the second point adds that over the second half. -/
theorem accB (c : Dev nD) (t : Fin cfg0.N) (h : t.val % 2 = 1) :
    (outsAt0 m c t.val t.isLt).2
      = k0_pay2 (outsAt0 m c (t.val-1) (Nat.lt_of_le_of_lt (Nat.sub_le _ _) t.isLt)).2 (iblk m c 0 t) (iblk m c 1 t) := by
  rw [outsAt0_B m c t (by omega) h h]
  frame_out
  simp only [read_unread_whole]

/-- The output block at the last point of a row tile. -/
theorem out_at (c : Dev nD) (t : Fin cfg0.N) (h : t.val % 2 = 1) (y) :
    (outsAt0 m c t.val t.isLt).1 y = residTile (outsAt0 m c t.val t.isLt).2 (iblk m c 2 t)
      (View.ld (iblk m c 3 t) (Rect.unit ![0, 5, 0] ![1, 1, 2048] inb_S1x9x2048_S1x1x2048_0_5_0)) (iblk m c 4 t) y := by
  rw [accB m c t h, outsAt0_B m c t (by omega) h h]
  dsimp only
  unfold out0_B_5
  refine View.read_writes_apply_of_pieces _ _ _ _ ?_ y (cover0_B_5 ..)
  unfold kernelRun0_B
  dsimp only
  sl_unfold_words
  simp (disch := decide) only [View.readAt_eq_ld, Memref.IsWhole.read_unread, View.ld_unit_lit]
  refine loop_rows c t ((hcond0_2 t).mpr h) _ (iblk m c 2 t) _ (iblk m c 4 t) _ ?_ k0_t1_loop.trips le_rfl
  rw [read_unread_whole]
  exact View.read_writes_full _ _ _ _ _

end Cert.Kernel7Ideal.OddOut
end
-- ==== Proof.OddOut.Kernel.lean ====
module

public import proofs.«01_k».proof.Proof.OddOut.Block

/-! What the odd layer's output projection's result array holds after the run, element by element. -/

@[expose] public section

set_option maxRecDepth 16384

noncomputable section

namespace Cert.Kernel7Ideal.OddOut

open Cert.Ffn Cert.Proj
open Cert.Kernel7Ideal Cert.Kernel7Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, t.val % 2] ∧ win0_1.index t = ![t.val % 2, 0]
    ∧ win0_2.index t = ![t.val / 2, 0] ∧ win0_3.index t = ![t.val / 2 / 2, 0, 0] ∧ win0_4.index t = ![0, 0]
    ∧ win0_5.index t = ![t.val / 2, 0] := (by decide +kernel : ∀ t : Fin grid0.N, _)

/-- The blocks the body reads, as elements of the argument arrays. -/
theorem x0 (c : Dev nD) (t : Fin cfg0.N) (i k : Fin 1024) (y : S8192x2048.Idx)
    (h0 : (y 0).val = t.val / 2 * 1024 + i.val) (h1 : (y 1).val = t.val % 2 * 1024 + k.val) :
    iblk m c 0 t (ix2 i k) = m ((c : Thread nD τ).loc main_arg0) y := by
  blk_simp [iblk]
  entry_read
  pointwise
  blk_ext [V, idx t]

theorem x1 (c : Dev nD) (t : Fin cfg0.N) (k : Fin 1024) (j : Fin 2048) (K : Fin 2048) (h : K.val = t.val % 2 * 1024 + k.val) :
    iblk m c 1 t (ix2 k j) = m ((c : Thread nD τ).loc main_arg1) (ix3 0 K j) := by
  blk_simp [iblk]
  entry_read
  pointwise
  blk_ext [V, idx t]

theorem x2 (c : Dev nD) (t : Fin cfg0.N) (i : Fin 1024) (k : Fin 2048) (y : S9216x2048.Idx)
    (h0 : (y 0).val = t.val / 2 * 1024 + i.val) (h1 : (y 1).val = k.val) :
    iblk m c 2 t (ix2 i k) = m ((c : Thread nD τ).loc main_arg2) y := by
  blk_ext [iblk, V, idx t]

theorem x3 (c : Dev nD) (t : Fin cfg0.N) (r : Nat) (hb) (k : Fin 2048) (y : S5x9x2048.Idx)
    (h0 : (y 0).val = t.val / 2 / 2) (h1 : (y 1).val = r) (h2 : (y 2).val = k.val) :
    View.ld (iblk m c 3 t) (Rect.unit ![0, r, 0] ![1, 1, 2048] hb) (ix3 0 0 k) = m ((c : Thread nD τ).loc main_arg3) y := by
  rw [View.ld_apply]
  blk_ext [iblk, V, idx t]
  all_goals (simp [Rect.idx_unit_val]; omega)

theorem x4 (c : Dev nD) (t : Fin cfg0.N) (k : Fin 2048) :
    iblk m c 4 t (ix2 0 k) = m ((c : Thread nD τ).loc main_arg4) (ix1 k) := by
  blk_simp [iblk]
  entry_read
  pointwise
  blk_ext [V, idx t]

/-- The accumulator at the last point of a row tile: the whole product. -/
theorem acc_at (c : Dev nD) (t : Fin cfg0.N) (h : t.val % 2 = 1) (i : Fin 1024) (j : Fin 2048) (R : Fin 8192)
    (hR : R.val = t.val / 2 * 1024 + i.val) :
    (outsAt0 m c t.val t.isLt).2 (ix2 i j)
      = dotOf (fun k => m ((c : Thread nD τ).loc main_arg0) (ix2 R k)) (fun k => m ((c : Thread nD τ).loc main_arg1) (ix3 0 k j)) := by
  have hp : t.val - 1 < cfg0.N := Nat.lt_of_le_of_lt (Nat.sub_le _ _) t.isLt
  have ea := accA m c ⟨t.val - 1, hp⟩ (by show (t.val - 1) % 2 = 0; omega)
  rw [accB m c t h, pay2_apply]
  refine Eq.trans ?_ (sum_halves _).symm
  refine congrArg₂ (fun p q : EReal => p + q) ((congrFun ea (ix2 i j)).trans ((pay1_apply _ _ i j).trans ?_)) ?_
  · refine Finset.sum_congr rfl fun k _ => congrArg₂ (fun p q : EReal => p * q) (x0 m c _ i k _ ?_ ?_) (x1 m c _ k j _ ?_)
    · show R.val = (t.val - 1) / 2 * 1024 + i.val
      omega
    · show k.val = (t.val - 1) % 2 * 1024 + k.val
      omega
    · show k.val = (t.val - 1) % 2 * 1024 + k.val
      omega
  · refine Finset.sum_congr rfl fun k _ => congrArg₂ (fun p q : EReal => p * q) (x0 m c _ i k _ hR ?_) (x1 m c _ k j _ ?_)
    · show 1024 + k.val = t.val % 2 * 1024 + k.val
      omega
    · show 1024 + k.val = t.val % 2 * 1024 + k.val
      omega

theorem point5 (c : Dev nD) (t : Fin cfg0.N) (h : t.val % 2 = 1) (y : S1024x2048.Idx) (R : Fin 8192) (C : Fin 2048)
    (hR : R.val = t.val / 2 * 1024 + (y 0).val) (hC : C.val = (y 1).val) :
    (outsAt0 m c t.val t.isLt).1 y
      = oddOut (fun r k => m ((c : Thread nD τ).loc main_arg0) (ix2 r k)) (fun k j => m ((c : Thread nD τ).loc main_arg1) (ix3 0 k j))
          (fun r j => m ((c : Thread nD τ).loc main_arg2) (ix2 r j)) (fun s q j => m ((c : Thread nD τ).loc main_arg3) (ix3 s q j)) (fun j => m ((c : Thread nD τ).loc main_arg4) (ix1 j)) R C := by
  obtain ⟨i, j, rfl⟩ : ∃ (i : Fin 1024) (j : Fin 2048), y = ix2 i j :=
    ⟨y 0, y 1, funext fun a => match a with | ⟨0, _⟩ => rfl | ⟨1, _⟩ => rfl⟩
  have hR' : R.val = t.val / 2 * 1024 + i.val := hR
  obtain rfl : C = j := Fin.ext hC
  have ht : t.val < 16 := t.isLt
  rw [out_at m c t h, residTile, oddOut]
  show gateRow (fun k => (outsAt0 m c t.val t.isLt).2 (ix2 i k)) (fun k => iblk m c 2 t (ix2 i k)) _ _ C = _
  congr 1
  · funext k
    exact acc_at m c t h i k R hR'
  · funext k
    exact x2 m c t i k _ hR' rfl
  · funext k
    exact x3 m c t 5 _ k _ (by show R.val / 2048 = t.val / 2 / 2; omega) rfl rfl
  · funext k
    exact x4 m c t k

/-- The result after the run. -/
theorem final5 (c : Dev nD) : (dats m 0 c).arrAt 5 cfg0.N
    = fun i => oddOut (fun r k => m ((c : Thread nD τ).loc main_arg0) (ix2 r k)) (fun k j => m ((c : Thread nD τ).loc main_arg1) (ix3 0 k j))
          (fun r j => m ((c : Thread nD τ).loc main_arg2) (ix2 r j)) (fun s q j => m ((c : Thread nD τ).loc main_arg3) (ix3 s q j)) (fun j => m ((c : Thread nD τ).loc main_arg4) (ix1 j)) (i 0) (i 1) := by
  refine (dats m 0 c).arrAt_eq_of_covers 5 _ (by decide +kernel) fun t hf y => ?_
  rw [after0_5]
  refine point5 m c t ((flush0_5 t).mp hf) y _ _ ?_ ?_
  · blk_simp [idx t]
  · blk_simp [idx t]

end Cert.Kernel7Ideal.OddOut
end
-- ==== Proof.OddOut.Reference.lean ====
module

public import proofs.«01_k».proof.Proof.Gen.Reference7Ideal.Read
public import proofs.«01_k».proof.Proof.OddOut.Spec
public import Idealize.ShloMosaic.Lib.Pipeline.ValueKit

/-! The odd layer's output projection as the reference computes it. -/

@[expose] public section

set_option maxRecDepth 16384

noncomputable section

namespace Cert.Reference7Ideal.OddOut

open Cert.Reference7Ideal Cert.Reference7Ideal.Gen Cert.Reference7Ideal.Read Cert.Ffn Cert.Proj Cert.Diff
open Idealize.ShloMosaic Idealize.ShloMosaic.TcCoe Idealize.SL.Sem

variable (x0 : (⟨S8192x2048, .f32⟩ : BufTy).Contents (Elt Ideal)) (x1 : (⟨S1x2048x2048, .f32⟩ : BufTy).Contents (Elt Ideal))
  (x2 : (⟨S9216x2048, .f32⟩ : BufTy).Contents (Elt Ideal)) (x3 : (⟨S5x9x2048, .f32⟩ : BufTy).Contents (Elt Ideal))
  (x4 : (⟨S2048, .f32⟩ : BufTy).Contents (Elt Ideal))

/-- The weights. -/
theorem w_at (k j : Fin 2048) : val_main_v4 (F := Ideal) x1 (ix2 k j) = x1 (ix3 0 k j) := by
  rw [val_main_v4_apply]
  exact congrArg x1 (funext fun a => Fin.ext (by match a with | ⟨0, _⟩ => (simp [ix2, ix3] <;> omega) | ⟨1, _⟩ => (simp [ix2, ix3] <;> omega) | ⟨2, _⟩ => (simp [ix2, ix3] <;> omega)))

/-- An entry of the product with the output weights. -/
theorem p_at (R : Fin 8192) (j : Fin 2048) :
    val_main_v5 (F := Ideal) x0 x1 (ix2 R j) = dotOf (fun q => x0 (ix2 R q)) (fun q => x1 (ix3 0 q j)) := by
  rw [val_main_v5_apply]
  have el : ∀ k, lidx_main_v5 (ix2 R j) k = ix2 R k := fun k => funext fun a => match a with | ⟨0, _⟩ => rfl | ⟨1, _⟩ => rfl
  have er : ∀ k, ridx_main_v5 (ix2 R j) k = ix2 k j := fun k => funext fun a => match a with | ⟨0, _⟩ => rfl | ⟨1, _⟩ => rfl
  refine Finset.sum_congr rfl fun k _ => ?_
  rw [el, er, w_at]

/-- The normalised row under the gate, as the reference spells it. -/
theorem resid_form (y h gate g : Fin 2048 → EReal) (j : Fin 2048) :
    h j + gate j * (y j * rowScale y * g j) = gateRow y h gate g j := by
  rw [gateRow, mul_left_comm]

/-- A residual row. -/
theorem h_at (b : Fin 4) (r k : Fin 2048) : val_main_v3 (F := Ideal) x2 (ix3 b r k) = x2 (ix2 ⟨b.val * 2048 + r.val, by omega⟩ k) := by
  rw [val_main_v3_apply, val_main_v2_apply]
  exact congrArg x2 (funext fun a => Fin.ext (by match a with | ⟨0, _⟩ => (simp [ix2, ix3] <;> omega) | ⟨1, _⟩ => (simp [ix2, ix3] <;> omega)))

/-- A product row. -/
theorem y_at (b : Fin 4) (r k : Fin 2048) :
    val_main_v6 (F := Ideal) x0 x1 (ix3 b r k) = dotOf (fun q => x0 (ix2 ⟨b.val * 2048 + r.val, by omega⟩ q)) (fun q => x1 (ix3 0 q k)) := by
  rw [val_main_v6_apply, ← p_at x0 x1 ⟨b.val * 2048 + r.val, by omega⟩ k]
  exact congrArg _ (funext fun a => Fin.ext (by match a with | ⟨0, _⟩ => (simp [ix2, ix3] <;> omega) | ⟨1, _⟩ => (simp [ix2, ix3] <;> omega)))

/-- The gate. -/
theorem gate_at (b : Fin 4) (k : Fin 2048) : val_main_v8 (F := Ideal) x3 (ix3 b 0 k) = x3 (ix3 b.castSucc 5 k) := by
  rw [val_main_v8_apply, val_main_v7_apply, val_main_v1_apply, val_main_v0_apply]
  exact congrArg x3 (funext fun a => Fin.ext (by match a with | ⟨0, _⟩ => (simp [ix1, ix3] <;> omega) | ⟨1, _⟩ => (simp [ix1, ix3] <;> omega) | ⟨2, _⟩ => (simp [ix1, ix3] <;> omega)))

/-- The scale of a normalised row. -/
theorem rs_at (b : Fin 4) (r k : Fin 2048) :
    val_main_v17 (F := Ideal) x0 x1 (ix3 b r k) = rowScale (fun j => dotOf (fun q => x0 (ix2 ⟨b.val * 2048 + r.val, by omega⟩ q)) (fun q => x1 (ix3 0 q j))) := by
  rw [val_main_v17_apply, val_main_v16_apply, val_main_v15_apply, val_main_v13_apply, val_main_v11_apply, val_main_v10_apply]
  have e : ∀ j : Fin 2048, val_main_v9 (F := Ideal) x0 x1 (idx_main_v10 (idx_main_v11 (idx_main_v17 (ix3 b r k))) j)
      = dotOf (fun q => x0 (ix2 ⟨b.val * 2048 + r.val, by omega⟩ q)) (fun q => x1 (ix3 0 q j)) * dotOf (fun q => x0 (ix2 ⟨b.val * 2048 + r.val, by omega⟩ q)) (fun q => x1 (ix3 0 q j)) := fun j => by
    have ei : idx_main_v10 (idx_main_v11 (idx_main_v17 (ix3 b r k))) j = ix3 b r j :=
      funext fun a => match a with | ⟨0, _⟩ => rfl | ⟨1, _⟩ => rfl | ⟨2, _⟩ => rfl
    rw [ei, val_main_v9_apply, y_at]
    rfl
  refine congrArg Ideal.rsqrt (congrArg₂ (· + ·) (congrArg₂ Ideal.div ?_ rfl) rfl)
  refine (congrArg (· + _) zero32).trans ((zero_add _).trans (Finset.sum_congr rfl fun j _ => e j))

/-- A result, before the rows are stacked. -/
theorem o_at (b : Fin 4) (r j : Fin 2048) :
    val_main_v24 (F := Ideal) x0 x1 x2 x3 x4 (ix3 b r j)
      = gateRow (fun j => dotOf (fun q => x0 (ix2 ⟨b.val * 2048 + r.val, by omega⟩ q)) (fun q => x1 (ix3 0 q j))) (fun j => x2 (ix2 ⟨b.val * 2048 + r.val, by omega⟩ j)) (fun j => x3 (ix3 b.castSucc 5 j)) (fun j => x4 (ix1 j)) j := by
  rw [val_main_v24_apply, val_main_v23_apply, val_main_v22_apply, val_main_v21_apply, val_main_v18_apply, val_main_v20_apply, val_main_v19_apply, h_at, y_at, rs_at]
  have eg : idx_main_v19 (idx_main_v20 (ix3 b r j)) = ix1 j := funext fun a => match a with | ⟨0, _⟩ => rfl
  have ec : idx_main_v22 (ix3 b r j) = ix3 b 0 j := funext fun a => match a with | ⟨0, _⟩ => rfl | ⟨1, _⟩ => rfl | ⟨2, _⟩ => rfl
  rw [eg, ec, gate_at]
  exact resid_form (fun j => dotOf (fun q => x0 (ix2 ⟨b.val * 2048 + r.val, by omega⟩ q)) (fun q => x1 (ix3 0 q j))) (fun j => x2 (ix2 ⟨b.val * 2048 + r.val, by omega⟩ j)) (fun j => x3 (ix3 b.castSucc 5 j)) (fun j => x4 (ix1 j)) j

/-- Every result of the reference. -/
theorem result_at (R : Fin 8192) (C : Fin 2048) :
    val_main_v25 (F := Ideal) x0 x1 x2 x3 x4 (ix2 R C)
      = oddOut (fun r k => x0 (ix2 r k)) (fun k j => x1 (ix3 0 k j)) (fun r j => x2 (ix2 r j)) (fun s q j => x3 (ix3 s q j)) (fun j => x4 (ix1 j)) R C := by
  rw [val_main_v25_apply]
  have ei : idx_main_v25 (ix2 R C) = ix3 (⟨R.val / 2048, by omega⟩ : Fin 4) (⟨R.val % 2048, by omega⟩ : Fin 2048) C :=
    funext fun a => Fin.ext (by match a with | ⟨0, _⟩ => (simp [ix2, ix3] <;> omega) | ⟨1, _⟩ => (simp [ix2, ix3] <;> omega) | ⟨2, _⟩ => (simp [ix2, ix3] <;> omega))
  rw [ei, o_at, oddOut]
  have e0 : (⟨R.val / 2048 * 2048 + R.val % 2048, by omega⟩ : Fin 8192) = R := Fin.ext (by show R.val / 2048 * 2048 + R.val % 2048 = R.val; omega)
  exact congrArg (fun p : Fin 8192 => gateRow (fun j => dotOf (fun q => x0 (ix2 p q)) (fun q => x1 (ix3 0 q j))) (fun j => x2 (ix2 (⟨p.val, by omega⟩ : Fin 9216) j)) _ _ C) e0

end Cert.Reference7Ideal.OddOut

end
-- ==== Proof.OddOut.Equation.lean ====
module

public import proofs.«01_k».proof.Defs
public import proofs.«01_k».proof.Proof.Gen.Reference7Ideal.Run
public import proofs.«01_k».proof.Proof.OddOut.Kernel
public import proofs.«01_k».proof.Proof.OddOut.Reference

/-! The odd layer's output projection: the call and the reference end with the same array, on any arguments. -/

@[expose] public section

noncomputable section

namespace Cert.Proof

open Idealize.ShloMosaic Idealize.SL.Sem

attribute [local instance] Cert.Kernel7Ideal.Gen.facts Cert.Reference7Ideal.Gen.facts in
/-- The call of the odd layer's output projection computes the reference's result. -/
theorem odd_out_equal : algebraic_Kernel7Ideal_Reference7Ideal := by
  intro m g m' g' hp ha
  refine ⟨fun c => fun i => Cert.Proj.oddOut
      (fun r k => m ((c.tc : Thread Cert.Kernel7Ideal.nD Cert.Kernel7Ideal.τ).loc Cert.Kernel7Ideal.main_arg0) (ix2 r k))
      (fun k j => m ((c.tc : Thread Cert.Kernel7Ideal.nD Cert.Kernel7Ideal.τ).loc Cert.Kernel7Ideal.main_arg1) (ix3 0 k j))
      (fun r j => m ((c.tc : Thread Cert.Kernel7Ideal.nD Cert.Kernel7Ideal.τ).loc Cert.Kernel7Ideal.main_arg2) (ix2 r j))
      (fun s q j => m ((c.tc : Thread Cert.Kernel7Ideal.nD Cert.Kernel7Ideal.τ).loc Cert.Kernel7Ideal.main_arg3) (ix3 s q j))
      (fun j => m ((c.tc : Thread Cert.Kernel7Ideal.nD Cert.Kernel7Ideal.τ).loc Cert.Kernel7Ideal.main_arg4) (ix1 j)) (i 0) (i 1),
    (θ_run _ _ _).mono (fun r h c => ?_) (Cert.Kernel7Ideal.Value.run_blocks (F := Ideal) m g),
    (θ_run _ _ _).mono (fun r h c => ?_) (Cert.Reference7Ideal.Value.run (F := Ideal) m' g')⟩
  · obtain ⟨h5, k⟩ := h c
    exact ⟨h5.trans (Cert.Kernel7Ideal.OddOut.final5 m c), k⟩
  · obtain ⟨h5, k⟩ := h c
    obtain ⟨a0, a1, a2, a3, a4⟩ := ha c
    refine ⟨h5.trans ((Cert.Reference7Ideal.Read.val_main_v25_eq _ _ _ _ _).trans ?_), k⟩
    rw [a0, a1, a2, a3, a4]
    funext i
    obtain ⟨R, C, rfl⟩ : ∃ (R : Fin 8192) (C : Fin 2048), i = ix2 R C :=
      ⟨i 0, i 1, funext fun a => match a with | ⟨0, _⟩ => rfl | ⟨1, _⟩ => rfl⟩
    exact Cert.Reference7Ideal.OddOut.result_at _ _ _ _ _ R C

end Cert.Proof

end
-- ==== Proof.Ada.Spec.lean ====
module

public import proofs.«01_k».proof.Proof.FfnOut.Spec

/-! The modulation: for every layer and every conditioning row, the product of the row under silu with the layer's weights, plus
    the layer's bias. The eight conditioning rows are those of the four samples, that of the context and three rows of zeros. -/

@[expose] public section

noncomputable section

namespace Cert.Ada

open Idealize.ShloMosaic Cert.Ffn

/-- The conditioning rows. -/
def condRow (x : Fin 4 → Fin 2048 → EReal) (y : Fin 2048 → EReal) (s : Fin 8) (k : Fin 2048) : EReal :=
  if h : s.val < 4 then x ⟨s.val, h⟩ k else if s.val = 4 then y k else 0

/-- Row `s`, column `j` of layer `l`'s modulation. -/
def ada (x : Fin 4 → Fin 2048 → EReal) (y : Fin 2048 → EReal) (w : Fin 2 → Fin 2048 → Fin 18432 → EReal)
    (b : Fin 2 → Fin 18432 → EReal) (l : Fin 2) (s : Fin 8) (j : Fin 18432) : EReal :=
  dotOf (fun k => silu (condRow x y s k)) (fun k => w l k j) + b l j

/-- The row of a sample. -/
theorem ada_sample (x : Fin 4 → Fin 2048 → EReal) (y : Fin 2048 → EReal) (w : Fin 2 → Fin 2048 → Fin 18432 → EReal)
    (b : Fin 2 → Fin 18432 → EReal) (l : Fin 2) (s : Fin 8) (j : Fin 18432) (h : s.val < 4) :
    ada x y w b l s j = dotOf (fun k => silu (x ⟨s.val, h⟩ k)) (fun k => w l k j) + b l j := by
  simp only [ada, condRow, dif_pos h]

/-- The row of the context. -/
theorem ada_context (x : Fin 4 → Fin 2048 → EReal) (y : Fin 2048 → EReal) (w : Fin 2 → Fin 2048 → Fin 18432 → EReal)
    (b : Fin 2 → Fin 18432 → EReal) (l : Fin 2) (s : Fin 8) (j : Fin 18432) (h : s.val = 4) :
    ada x y w b l s j = dotOf (fun k => silu (y k)) (fun k => w l k j) + b l j := by
  have h4 : ¬ s.val < 4 := by omega
  simp only [ada, condRow, dif_neg h4, if_pos h]

/-- A row of zeros: the bias alone. -/
theorem ada_zero (x : Fin 4 → Fin 2048 → EReal) (y : Fin 2048 → EReal) (w : Fin 2 → Fin 2048 → Fin 18432 → EReal)
    (b : Fin 2 → Fin 18432 → EReal) (l : Fin 2) (s : Fin 8) (j : Fin 18432) (h : 4 < s.val) :
    ada x y w b l s j = b l j := by
  have h4 : ¬ s.val < 4 := by omega
  have h5 : ¬ s.val = 4 := by omega
  simp only [ada, condRow, dif_neg h4, if_neg h5, silu, dotOf, zero_mul, Finset.sum_const_zero, zero_add]

end Cert.Ada

end
-- ==== Proof.Ada.Kernel.lean ====
module

public import proofs.«01_k».proof.Proof.Gen.Kernel8Ideal.Value
public import Idealize.ShloMosaic.Lib.Pipeline.ValueKit
public import Idealize.ShloMosaic.Lib.StableHlo.ReadAt
public import proofs.«01_k».proof.Proof.Ada.Spec
public import proofs.«01_k».proof.Proof.Diff.Math
public import proofs.«01_k».proof.Proof.OddIn.Spec

/-! What the modulation call's result array holds after the run, element by element. -/

@[expose] public section

set_option maxRecDepth 16384

noncomputable section

namespace Cert.Kernel8Ideal.Ada

open Cert.Ffn Cert.Ada
open Cert.Kernel8Ideal Cert.Kernel8Ideal.Gen
open Idealize.ShloMosaic Idealize.ShloMosaic.TcCoe Idealize.SL.Sem
open Idealize.ShloMosaic.Pipeline (Dat)

/-- The stored block at an index. -/
theorem pay1_apply (x : Vec Ideal S8x2048 .f32) (w : Vec Ideal S1x2048x1024 .f32) (b : Vec Ideal S1x1x1024 .f32) (i : Fin 8) (j : Fin 1024) :
    k0_pay1 x w b (ix3 0 i j) = dotOf (fun k => silu (x (ix2 i k))) (fun k => w (ix3 0 k j)) + b (ix3 0 0 j) := by
  pointwise [k0_pay1]
  simp only [dotOf, silu, Cert.Proj.one32, Cert.Diff.zero32]

variable (m : (ℓ : Loc nD τ sig) → Buf (Elt Ideal) ℓ)

theorem idx : ∀ t : Fin cfg0.N, win0_0.index t = ![0, 0] ∧ win0_1.index t = ![t.val / 18, 0, t.val % 18]
    ∧ win0_2.index t = ![t.val / 18, 0, t.val % 18] ∧ win0_3.index t = ![t.val / 18, 0, t.val % 18] := (by decide +kernel : ∀ t : Fin grid0.N, _)

/-- The conditioning rows as the host joins them. -/
theorem cond_at (c : Dev nD) (s : Fin 8) (k : Fin 2048) :
    (V m c main_v2 : (⟨S8x2048, .f32⟩ : BufTy).Contents (Elt Ideal)) (ix2 s k)
      = condRow (fun s k => m ((c : Thread nD τ).loc main_arg0) (ix2 s k)) (fun k => m ((c : Thread nD τ).loc main_arg1) (ix1 k)) s k := by
  unfold V condRow
  after_reads_simp
  by_cases h : s.val < 4
  · rw [dif_pos h]
    refine (concatenate_apply_piece (t := S8x2048) 0 _ _ (ix2 s k) 0 (by show _ < 3; decide) S4x2048 _ rfl rfl 0 rfl
      (ix2 ⟨s.val, h⟩ k) (fun a ha => match a, ha with | ⟨1, _⟩, _ => rfl | ⟨0, _⟩, ha => absurd rfl ha)
      (by show 0 + s.val = s.val; omega)).trans ?_
    dsimp only [Matrix.cons_val_zero, Matrix.cons_val_one, Matrix.cons_val]
  · rw [dif_neg h]
    by_cases h4 : s.val = 4
    · rw [if_pos h4]
      refine (concatenate_apply_piece (t := S8x2048) 0 _ _ (ix2 s k) 1 (by show _ < 3; decide) S1x2048 _ rfl rfl 4 rfl
        (ix2 0 k) (fun a ha => match a, ha with | ⟨1, _⟩, _ => rfl | ⟨0, _⟩, ha => absurd rfl ha)
        (by show 4 + 0 = s.val; omega)).trans ?_
      dsimp only [Matrix.cons_val_zero, Matrix.cons_val_one, Matrix.cons_val]
      after_reads_simp
      pointwise
    · rw [if_neg h4]
      refine (concatenate_apply_piece (t := S8x2048) 0 _ _ (ix2 s k) 2 (by show _ < 3; decide) S3x2048 _ rfl rfl 5 rfl
        (ix2 ⟨s.val - 5, by omega⟩ k) (fun a ha => match a, ha with | ⟨1, _⟩, _ => rfl | ⟨0, _⟩, ha => absurd rfl ha)
        (by show 5 + (s.val - 5) = s.val; omega)).trans ?_
      dsimp only [Matrix.cons_val_zero, Matrix.cons_val_one, Matrix.cons_val]
      after_reads_simp
      exact Cert.Diff.zero32

/-- The blocks the body reads, as elements of the argument arrays. -/
theorem x0 (c : Dev nD) (t : Fin cfg0.N) (s : Fin 8) (k : Fin 2048) :
    iblk m c 0 t (ix2 s k)
      = condRow (fun s k => m ((c : Thread nD τ).loc main_arg0) (ix2 s k)) (fun k => m ((c : Thread nD τ).loc main_arg1) (ix1 k)) s k := by
  refine Eq.trans ?_ (cond_at m c s k)
  blk_ext [iblk, idx t]

theorem x1 (c : Dev nD) (t : Fin cfg0.N) (k : Fin 2048) (j : Fin 1024) (y : S2x2048x18432.Idx)
    (h0 : (y 0).val = t.val / 18) (h1 : (y 1).val = k.val) (h2 : (y 2).val = t.val % 18 * 1024 + j.val) :
    iblk m c 1 t (ix3 0 k j) = m ((c : Thread nD τ).loc main_arg2) y := by
  blk_ext [iblk, V, idx t]

theorem x2 (c : Dev nD) (t : Fin cfg0.N) (j : Fin 1024) (y : S2x18432.Idx)
    (h0 : (y 0).val = t.val / 18) (h1 : (y 1).val = t.val % 18 * 1024 + j.val) :
    iblk m c 2 t (ix3 0 0 j) = m ((c : Thread nD τ).loc main_arg3) y := by
  blk_simp [iblk]
  entry_read
  pointwise
  blk_ext [V, idx t]

/-- What one grid point leaves in its block. -/
theorem point3 (c : Dev nD) (t : Fin cfg0.N) (y : S1x8x1024.Idx) (L : Fin 2) (s : Fin 8) (J : Fin 18432)
    (hL : L.val = t.val / 18) (hs : s.val = (y 1).val) (hJ : J.val = t.val % 18 * 1024 + (y 2).val) :
    out0_3 (iblk m c 0 t) (iblk m c 1 t) (iblk m c 2 t) y
      = ada (fun s k => m ((c : Thread nD τ).loc main_arg0) (ix2 s k)) (fun k => m ((c : Thread nD τ).loc main_arg1) (ix1 k))
          (fun l k j => m ((c : Thread nD τ).loc main_arg2) (ix3 l k j)) (fun l j => m ((c : Thread nD τ).loc main_arg3) (ix2 l j)) L s J := by
  obtain ⟨i, j, rfl⟩ : ∃ (i : Fin 8) (j : Fin 1024), y = ix3 0 i j :=
    ⟨y 1, y 2, funext fun a => match a with | ⟨0, _⟩ => Fin.ext (Nat.lt_one_iff.mp (y 0).isLt) | ⟨1, _⟩ => rfl | ⟨2, _⟩ => rfl⟩
  obtain rfl : s = i := Fin.ext hs
  frame_out
  refine (pay1_apply _ _ _ s j).trans ?_
  unfold ada
  refine congrArg₂ (fun p q : EReal => p + q) (congrArg₂ dotOf (funext fun k => congrArg silu ?_) (funext fun k => ?_)) ?_
  · exact x0 m c t s k
  · exact x1 m c t k j _ hL rfl hJ
  · exact x2 m c t j _ hL hJ

/-- The result after the run. -/
theorem final3 (c : Dev nD) : (dats m 0 c).arrAt 3 cfg0.N
    = fun i => ada (fun s k => m ((c : Thread nD τ).loc main_arg0) (ix2 s k)) (fun k => m ((c : Thread nD τ).loc main_arg1) (ix1 k))
          (fun l k j => m ((c : Thread nD τ).loc main_arg2) (ix3 l k j)) (fun l j => m ((c : Thread nD τ).loc main_arg3) (ix2 l j)) (i 0) (i 1) (i 2) := by
  refine (dats m 0 c).arrAt_eq_of_covers 3 _ (by decide +kernel) fun t hf y => ?_
  rw [after0_3]
  have H := point3 m c t
  generalize out0_3 (iblk m c 0 t) (iblk m c 1 t) (iblk m c 2 t) = o at H ⊢
  refine H y _ _ _ ?_ ?_ ?_
  · blk_simp [idx t]
  · blk_simp [idx t]
  · blk_simp [idx t]

end Cert.Kernel8Ideal.Ada
end
-- ==== Proof.Ada.Reference.lean ====
module

public import proofs.«01_k».proof.Proof.Gen.Reference8Ideal.Read
public import proofs.«01_k».proof.Proof.Ada.Spec
public import proofs.«01_k».proof.Proof.OddIn.Spec
public import Idealize.ShloMosaic.Lib.Pipeline.ValueKit

/-! The modulation as the reference computes it: one layer after the other, the samples' rows, the context's row and the bias
    under the rows of zeros. -/

@[expose] public section

set_option maxRecDepth 16384

noncomputable section

namespace Cert.Reference8Ideal.Ada

open Cert.Reference8Ideal Cert.Reference8Ideal.Gen Cert.Reference8Ideal.Read Cert.Ffn Cert.Ada
open Idealize.ShloMosaic Idealize.ShloMosaic.TcCoe Idealize.SL.Sem

variable (x0 : (⟨S4x2048, .f32⟩ : BufTy).Contents (Elt Ideal)) (x1 : (⟨S2048, .f32⟩ : BufTy).Contents (Elt Ideal))
  (x2 : (⟨S2x2048x18432, .f32⟩ : BufTy).Contents (Elt Ideal)) (x3 : (⟨S2x18432, .f32⟩ : BufTy).Contents (Elt Ideal))

/-- The reference's silu. -/
theorem silu_spelt (x : EReal) :
    x * Ideal.div (Ideal.ofBits .f32 0x3F800000#32) (Ideal.ofBits .f32 0x3F800000#32 + Ideal.exp (-x)) = silu x := by
  rw [Cert.Proj.one32, silu, zero_sub]

/-- A sample's conditioning under silu, layer 0. -/
theorem act0 (s : Fin 4) (k : Fin 2048) : val_main_v0 (F := Ideal) x0 (ix2 s k) = silu (x0 (ix2 s k)) := by
  rw [val_main_v0_apply, val_main_call0_v5_apply, val_main_call0_v4_apply, val_main_call0_v3_apply, val_main_call0_v2_apply,
    val_main_call0_v1_apply, val_main_call0_v0_apply]
  exact silu_spelt _

/-- The context's conditioning under silu, layer 0. -/
theorem ctx0 (k : Fin 2048) : val_main_v9 (F := Ideal) x1 (ix1 k) = silu (x1 (ix1 k)) := by
  rw [val_main_v9_apply, val_main_call1_v5_apply, val_main_call1_v4_apply, val_main_call1_v3_apply, val_main_call1_v2_apply,
    val_main_call1_v1_apply, val_main_call1_v0_apply]
  exact silu_spelt _

/-- The weights of layer 0, as the samples' product reads them. -/
theorem w0 (k : Fin 2048) (j : Fin 18432) : val_main_v2 (F := Ideal) x2 (ix2 k j) = x2 (ix3 0 k j) := by
  rw [val_main_v2_apply, val_main_v1_apply]
  exact congrArg x2 (funext fun a => Fin.ext (by match a with | ⟨0, _⟩ => rfl | ⟨1, _⟩ => (simp [ix2, ix3] <;> omega) | ⟨2, _⟩ => (simp [ix2, ix3] <;> omega)))

/-- The weights of layer 0, as the context's product reads them. -/
theorem wc0 (k : Fin 2048) (j : Fin 18432) : val_main_v11 (F := Ideal) x2 (ix2 k j) = x2 (ix3 0 k j) := by
  rw [val_main_v11_apply, val_main_v10_apply]
  exact congrArg x2 (funext fun a => Fin.ext (by match a with | ⟨0, _⟩ => rfl | ⟨1, _⟩ => (simp [ix2, ix3] <;> omega) | ⟨2, _⟩ => (simp [ix2, ix3] <;> omega)))

/-- The bias of layer 0, in the three places where it is read. -/
theorem b0 (s : Fin 4) (j : Fin 18432) : val_main_v7 (F := Ideal) x3 (ix2 s j) = x3 (ix2 0 j) := by
  rw [val_main_v7_apply, val_main_v6_apply, val_main_v5_apply, val_main_v4_apply]
  exact congrArg x3 (funext fun a => Fin.ext (by match a with | ⟨0, _⟩ => rfl | ⟨1, _⟩ => exact Nat.mod_eq_of_lt j.isLt))

theorem bc0 (j : Fin 18432) : val_main_v14 (F := Ideal) x3 (ix1 j) = x3 (ix2 0 j) := by
  rw [val_main_v14_apply, val_main_v13_apply]
  exact congrArg x3 (funext fun a => Fin.ext (by match a with | ⟨0, _⟩ => rfl | ⟨1, _⟩ => exact Nat.mod_eq_of_lt j.isLt))

theorem bz0 (s : Fin 3) (j : Fin 18432) : val_main_v18 (F := Ideal) x3 (ix2 s j) = x3 (ix2 0 j) := by
  rw [val_main_v18_apply, val_main_v17_apply, val_main_v16_apply]
  exact congrArg x3 (funext fun a => Fin.ext (by match a with | ⟨0, _⟩ => rfl | ⟨1, _⟩ => exact Nat.mod_eq_of_lt j.isLt))

/-- The samples' rows of layer 0. -/
theorem rows0 (s : Fin 4) (j : Fin 18432) :
    val_main_v8 (F := Ideal) x0 x2 x3 (ix2 s j) = dotOf (fun k => silu (x0 (ix2 s k))) (fun k => x2 (ix3 0 k j)) + x3 (ix2 0 j) := by
  rw [val_main_v8_apply, val_main_v3_apply, b0]
  have el : ∀ k, lidx_main_v3 (ix2 s j) k = ix2 s k := fun k => funext fun a => match a with | ⟨0, _⟩ => rfl | ⟨1, _⟩ => rfl
  have er : ∀ k, ridx_main_v3 (ix2 s j) k = ix2 k j := fun k => funext fun a => match a with | ⟨0, _⟩ => rfl | ⟨1, _⟩ => rfl
  refine congrArg (fun p : EReal => p + x3 (ix2 0 j)) (Finset.sum_congr rfl fun k _ => ?_)
  rw [el, er, act0, w0]

/-- The context's row of layer 0. -/
theorem crow0 (j : Fin 18432) :
    val_main_v19 (F := Ideal) x1 x2 x3 (ix2 0 j) = dotOf (fun k => silu (x1 (ix1 k))) (fun k => x2 (ix3 0 k j)) + x3 (ix2 0 j) := by
  have e : idx_main_v19 (ix2 0 j) = ix1 j := funext fun a => match a with | ⟨0, _⟩ => rfl
  rw [val_main_v19_apply, e, val_main_v15_apply, val_main_v12_apply, bc0]
  have el : ∀ k, lidx_main_v12 (ix1 j) k = ix1 k := fun k => funext fun a => match a with | ⟨0, _⟩ => rfl
  have er : ∀ k, ridx_main_v12 (ix1 j) k = ix2 k j := fun k => funext fun a => match a with | ⟨0, _⟩ => rfl | ⟨1, _⟩ => rfl
  refine congrArg (fun p : EReal => p + x3 (ix2 0 j)) (Finset.sum_congr rfl fun k _ => ?_)
  rw [el, er, ctx0, wc0]

/-- All eight rows of layer 0. -/
theorem layer0 (s : Fin 8) (j : Fin 18432) :
    val_main_v20 (F := Ideal) x0 x1 x2 x3 (ix2 s j)
      = ada (fun s k => x0 (ix2 s k)) (fun k => x1 (ix1 k)) (fun l k j => x2 (ix3 l k j)) (fun l j => x3 (ix2 l j)) 0 s j := by
  unfold val_main_v20
  by_cases h : s.val < 4
  · rw [ada_sample _ _ _ _ _ s j h]
    refine (concatenate_apply_piece (t := S8x18432) 0 _ _ (ix2 s j) 0 (by show _ < 3; decide) S4x18432 _ rfl rfl 0 rfl
      (ix2 ⟨s.val, h⟩ j) (fun a ha => match a, ha with | ⟨1, _⟩, _ => rfl | ⟨0, _⟩, ha => absurd rfl ha)
      (by show 0 + s.val = s.val; omega)).trans ?_
    exact rows0 x0 x2 x3 ⟨s.val, h⟩ j
  · by_cases h4 : s.val = 4
    · rw [ada_context _ _ _ _ _ s j h4]
      refine (concatenate_apply_piece (t := S8x18432) 0 _ _ (ix2 s j) 1 (by show _ < 3; decide) S1x18432 _ rfl rfl 4 rfl
        (ix2 0 j) (fun a ha => match a, ha with | ⟨1, _⟩, _ => rfl | ⟨0, _⟩, ha => absurd rfl ha)
        (by show 4 + 0 = s.val; omega)).trans ?_
      exact crow0 x1 x2 x3 j
    · rw [ada_zero _ _ _ _ _ s j (by omega)]
      refine (concatenate_apply_piece (t := S8x18432) 0 _ _ (ix2 s j) 2 (by show _ < 3; decide) S3x18432 _ rfl rfl 5 rfl
        (ix2 ⟨s.val - 5, by omega⟩ j) (fun a ha => match a, ha with | ⟨1, _⟩, _ => rfl | ⟨0, _⟩, ha => absurd rfl ha)
        (by show 5 + (s.val - 5) = s.val; omega)).trans ?_
      exact bz0 x3 ⟨s.val - 5, by omega⟩ j

/-- A sample's conditioning under silu, layer 1. -/
theorem act1 (s : Fin 4) (k : Fin 2048) : val_main_v21 (F := Ideal) x0 (ix2 s k) = silu (x0 (ix2 s k)) := by
  rw [val_main_v21_apply, val_main_call2_v5_apply, val_main_call2_v4_apply, val_main_call2_v3_apply, val_main_call2_v2_apply,
    val_main_call2_v1_apply, val_main_call2_v0_apply]
  exact silu_spelt _

/-- The context's conditioning under silu, layer 1. -/
theorem ctx1 (k : Fin 2048) : val_main_v30 (F := Ideal) x1 (ix1 k) = silu (x1 (ix1 k)) := by
  rw [val_main_v30_apply, val_main_call3_v5_apply, val_main_call3_v4_apply, val_main_call3_v3_apply, val_main_call3_v2_apply,
    val_main_call3_v1_apply, val_main_call3_v0_apply]
  exact silu_spelt _

/-- The weights of layer 1, as the samples' product reads them. -/
theorem w1 (k : Fin 2048) (j : Fin 18432) : val_main_v23 (F := Ideal) x2 (ix2 k j) = x2 (ix3 1 k j) := by
  rw [val_main_v23_apply, val_main_v22_apply]
  exact congrArg x2 (funext fun a => Fin.ext (by match a with | ⟨0, _⟩ => rfl | ⟨1, _⟩ => (simp [ix2, ix3] <;> omega) | ⟨2, _⟩ => (simp [ix2, ix3] <;> omega)))

/-- The weights of layer 1, as the context's product reads them. -/
theorem wc1 (k : Fin 2048) (j : Fin 18432) : val_main_v32 (F := Ideal) x2 (ix2 k j) = x2 (ix3 1 k j) := by
  rw [val_main_v32_apply, val_main_v31_apply]
  exact congrArg x2 (funext fun a => Fin.ext (by match a with | ⟨0, _⟩ => rfl | ⟨1, _⟩ => (simp [ix2, ix3] <;> omega) | ⟨2, _⟩ => (simp [ix2, ix3] <;> omega)))

/-- The bias of layer 1, in the three places where it is read. -/
theorem b1 (s : Fin 4) (j : Fin 18432) : val_main_v28 (F := Ideal) x3 (ix2 s j) = x3 (ix2 1 j) := by
  rw [val_main_v28_apply, val_main_v27_apply, val_main_v26_apply, val_main_v25_apply]
  exact congrArg x3 (funext fun a => Fin.ext (by match a with | ⟨0, _⟩ => rfl | ⟨1, _⟩ => exact Nat.mod_eq_of_lt j.isLt))

theorem bc1 (j : Fin 18432) : val_main_v35 (F := Ideal) x3 (ix1 j) = x3 (ix2 1 j) := by
  rw [val_main_v35_apply, val_main_v34_apply]
  exact congrArg x3 (funext fun a => Fin.ext (by match a with | ⟨0, _⟩ => rfl | ⟨1, _⟩ => exact Nat.mod_eq_of_lt j.isLt))

theorem bz1 (s : Fin 3) (j : Fin 18432) : val_main_v39 (F := Ideal) x3 (ix2 s j) = x3 (ix2 1 j) := by
  rw [val_main_v39_apply, val_main_v38_apply, val_main_v37_apply]
  exact congrArg x3 (funext fun a => Fin.ext (by match a with | ⟨0, _⟩ => rfl | ⟨1, _⟩ => exact Nat.mod_eq_of_lt j.isLt))

/-- The samples' rows of layer 1. -/
theorem rows1 (s : Fin 4) (j : Fin 18432) :
    val_main_v29 (F := Ideal) x0 x2 x3 (ix2 s j) = dotOf (fun k => silu (x0 (ix2 s k))) (fun k => x2 (ix3 1 k j)) + x3 (ix2 1 j) := by
  rw [val_main_v29_apply, val_main_v24_apply, b1]
  have el : ∀ k, lidx_main_v24 (ix2 s j) k = ix2 s k := fun k => funext fun a => match a with | ⟨0, _⟩ => rfl | ⟨1, _⟩ => rfl
  have er : ∀ k, ridx_main_v24 (ix2 s j) k = ix2 k j := fun k => funext fun a => match a with | ⟨0, _⟩ => rfl | ⟨1, _⟩ => rfl
  refine congrArg (fun p : EReal => p + x3 (ix2 1 j)) (Finset.sum_congr rfl fun k _ => ?_)
  rw [el, er, act1, w1]

/-- The context's row of layer 1. -/
theorem crow1 (j : Fin 18432) :
    val_main_v40 (F := Ideal) x1 x2 x3 (ix2 0 j) = dotOf (fun k => silu (x1 (ix1 k))) (fun k => x2 (ix3 1 k j)) + x3 (ix2 1 j) := by
  have e : idx_main_v40 (ix2 0 j) = ix1 j := funext fun a => match a with | ⟨0, _⟩ => rfl
  rw [val_main_v40_apply, e, val_main_v36_apply, val_main_v33_apply, bc1]
  have el : ∀ k, lidx_main_v33 (ix1 j) k = ix1 k := fun k => funext fun a => match a with | ⟨0, _⟩ => rfl
  have er : ∀ k, ridx_main_v33 (ix1 j) k = ix2 k j := fun k => funext fun a => match a with | ⟨0, _⟩ => rfl | ⟨1, _⟩ => rfl
  refine congrArg (fun p : EReal => p + x3 (ix2 1 j)) (Finset.sum_congr rfl fun k _ => ?_)
  rw [el, er, ctx1, wc1]

/-- All eight rows of layer 1. -/
theorem layer1 (s : Fin 8) (j : Fin 18432) :
    val_main_v41 (F := Ideal) x0 x1 x2 x3 (ix2 s j)
      = ada (fun s k => x0 (ix2 s k)) (fun k => x1 (ix1 k)) (fun l k j => x2 (ix3 l k j)) (fun l j => x3 (ix2 l j)) 1 s j := by
  unfold val_main_v41
  by_cases h : s.val < 4
  · rw [ada_sample _ _ _ _ _ s j h]
    refine (concatenate_apply_piece (t := S8x18432) 0 _ _ (ix2 s j) 0 (by show _ < 3; decide) S4x18432 _ rfl rfl 0 rfl
      (ix2 ⟨s.val, h⟩ j) (fun a ha => match a, ha with | ⟨1, _⟩, _ => rfl | ⟨0, _⟩, ha => absurd rfl ha)
      (by show 0 + s.val = s.val; omega)).trans ?_
    exact rows1 x0 x2 x3 ⟨s.val, h⟩ j
  · by_cases h4 : s.val = 4
    · rw [ada_context _ _ _ _ _ s j h4]
      refine (concatenate_apply_piece (t := S8x18432) 0 _ _ (ix2 s j) 1 (by show _ < 3; decide) S1x18432 _ rfl rfl 4 rfl
        (ix2 0 j) (fun a ha => match a, ha with | ⟨1, _⟩, _ => rfl | ⟨0, _⟩, ha => absurd rfl ha)
        (by show 4 + 0 = s.val; omega)).trans ?_
      exact crow1 x1 x2 x3 j
    · rw [ada_zero _ _ _ _ _ s j (by omega)]
      refine (concatenate_apply_piece (t := S8x18432) 0 _ _ (ix2 s j) 2 (by show _ < 3; decide) S3x18432 _ rfl rfl 5 rfl
        (ix2 ⟨s.val - 5, by omega⟩ j) (fun a ha => match a, ha with | ⟨1, _⟩, _ => rfl | ⟨0, _⟩, ha => absurd rfl ha)
        (by show 5 + (s.val - 5) = s.val; omega)).trans ?_
      exact bz1 x3 ⟨s.val - 5, by omega⟩ j

/-- Every result of the reference. -/
theorem result_at (l : Fin 2) (s : Fin 8) (j : Fin 18432) :
    val_main_v44 (F := Ideal) x0 x1 x2 x3 (ix3 l s j)
      = ada (fun s k => x0 (ix2 s k)) (fun k => x1 (ix1 k)) (fun l k j => x2 (ix3 l k j)) (fun l j => x3 (ix2 l j)) l s j := by
  unfold val_main_v44
  match l with
  | ⟨0, _⟩ =>
    refine (concatenate_apply_piece (t := S2x8x18432) 0 _ _ (ix3 0 s j) 0 (by show _ < 2; decide) S1x8x18432 _ rfl rfl 0 rfl
      (ix3 0 s j) (fun a ha => match a, ha with | ⟨1, _⟩, _ => rfl | ⟨2, _⟩, _ => rfl | ⟨0, _⟩, ha => absurd rfl ha) rfl).trans ?_
    refine (val_main_v42_apply _ _ _ _ _).trans ?_
    have e : idx_main_v42 (ix3 0 s j) = ix2 s j := funext fun a => match a with | ⟨0, _⟩ => rfl | ⟨1, _⟩ => rfl
    rw [e]
    exact layer0 x0 x1 x2 x3 s j
  | ⟨1, _⟩ =>
    refine (concatenate_apply_piece (t := S2x8x18432) 0 _ _ (ix3 1 s j) 1 (by show _ < 2; decide) S1x8x18432 _ rfl rfl 1 rfl
      (ix3 0 s j) (fun a ha => match a, ha with | ⟨1, _⟩, _ => rfl | ⟨2, _⟩, _ => rfl | ⟨0, _⟩, ha => absurd rfl ha) rfl).trans ?_
    refine (val_main_v43_apply _ _ _ _ _).trans ?_
    have e : idx_main_v43 (ix3 0 s j) = ix2 s j := funext fun a => match a with | ⟨0, _⟩ => rfl | ⟨1, _⟩ => rfl
    rw [e]
    exact layer1 x0 x1 x2 x3 s j

end Cert.Reference8Ideal.Ada

end
-- ==== Proof.Ada.Equation.lean ====
module

public import proofs.«01_k».proof.Defs
public import proofs.«01_k».proof.Proof.Gen.Reference8Ideal.Run
public import proofs.«01_k».proof.Proof.Ada.Kernel
public import proofs.«01_k».proof.Proof.Ada.Reference

/-! The modulation: the call and the reference end with the same array, on any arguments. -/

@[expose] public section

noncomputable section

namespace Cert.Proof

open Idealize.ShloMosaic Idealize.SL.Sem

attribute [local instance] Cert.Kernel8Ideal.Gen.facts Cert.Reference8Ideal.Gen.facts in
/-- The modulation's call computes the reference's result. -/
theorem ada_equal : algebraic_Kernel8Ideal_Reference8Ideal := by
  intro m g m' g' hp ha
  refine ⟨fun c => fun i => Cert.Ada.ada
      (fun s k => m ((c.tc : Thread Cert.Kernel8Ideal.nD Cert.Kernel8Ideal.τ).loc Cert.Kernel8Ideal.main_arg0) (ix2 s k))
      (fun k => m ((c.tc : Thread Cert.Kernel8Ideal.nD Cert.Kernel8Ideal.τ).loc Cert.Kernel8Ideal.main_arg1) (ix1 k))
      (fun l k j => m ((c.tc : Thread Cert.Kernel8Ideal.nD Cert.Kernel8Ideal.τ).loc Cert.Kernel8Ideal.main_arg2) (ix3 l k j))
      (fun l j => m ((c.tc : Thread Cert.Kernel8Ideal.nD Cert.Kernel8Ideal.τ).loc Cert.Kernel8Ideal.main_arg3) (ix2 l j)) (i 0) (i 1) (i 2),
    (θ_run _ _ _).mono (fun r h c => ?_) (Cert.Kernel8Ideal.Value.run_blocks (F := Ideal) m g),
    (θ_run _ _ _).mono (fun r h c => ?_) (Cert.Reference8Ideal.Value.run (F := Ideal) m' g')⟩
  · obtain ⟨h3, k⟩ := h c
    exact ⟨h3.trans (Cert.Kernel8Ideal.Ada.final3 m c), k⟩
  · obtain ⟨h3, k⟩ := h c
    obtain ⟨a0, a1, a2, a3⟩ := ha c
    refine ⟨h3.trans ((Cert.Reference8Ideal.Read.val_main_v44_eq m' c).trans ?_), k⟩
    rw [a0, a1, a2, a3]
    funext i
    obtain ⟨l, s, j, rfl⟩ : ∃ (l : Fin 2) (s : Fin 8) (j : Fin 18432), i = ix3 l s j :=
      ⟨i 0, i 1, i 2, funext fun a => match a with | ⟨0, _⟩ => rfl | ⟨1, _⟩ => rfl | ⟨2, _⟩ => rfl⟩
    exact Cert.Reference8Ideal.Ada.result_at _ _ _ _ l s j

end Cert.Proof

end
-- ==== Proof.Conv.Spec.lean ====
module

public import proofs.«01_k».proof.Proof.FfnOut.Spec

/-! The mLSTM's convolution over time of its queries and keys: five taps, centred, within a stream of 2048 latent rows or of 256
    context rows, under silu, the keys scaled. -/

@[expose] public section

noncomputable section

namespace Cert.Conv

open Idealize.ShloMosaic Cert.Ffn

/-- Row `R + d - 2` lies in the stream of row `R`. -/
def inStream (R : Fin 9216) (d : ℕ) : Prop :=
  (R.val < 8192 ∧ 2 ≤ R.val % 2048 + d ∧ R.val % 2048 + d < 2050) ∨ (8192 ≤ R.val ∧ 2 ≤ R.val % 256 + d ∧ R.val % 256 + d < 258)

instance (R : Fin 9216) (d : ℕ) : Decidable (inStream R d) := by unfold inStream; infer_instance

/-- What tap `d` reads for row `R`: zero outside the stream. -/
def tap (X : Fin 9216 → Fin 7168 → EReal) (R : Fin 9216) (d : ℕ) (C : Fin 7168) : EReal :=
  if inStream R d then X ⟨(R.val + d - 2) % 9216, Nat.mod_lt _ (by decide)⟩ C else 0

theorem tap_in (X : Fin 9216 → Fin 7168 → EReal) (R : Fin 9216) (d : ℕ) (C : Fin 7168) (h : inStream R d) (Q : Fin 9216)
    (hQ : Q.val + 2 = R.val + d) : tap X R d C = X Q C := by
  have hq := Q.isLt
  rw [tap, if_pos h]
  exact congrArg (fun q => X q C) (Fin.ext (by show (R.val + d - 2) % 9216 = Q.val; omega))

theorem tap_out (X : Fin 9216 → Fin 7168 → EReal) (R : Fin 9216) (d : ℕ) (C : Fin 7168) (h : ¬ inStream R d) : tap X R d C = 0 := by
  rw [tap, if_neg h]

/-- The five taps in the order of time. -/
def taps (X : Fin 9216 → Fin 7168 → EReal) (W : Fin 5 → Fin 2048 → EReal) (R : Fin 9216) (C : Fin 2048) : EReal :=
  tap X R 0 ⟨C.val, by omega⟩ * W 0 C + tap X R 1 ⟨C.val, by omega⟩ * W 1 C + tap X R 2 ⟨C.val, by omega⟩ * W 2 C
    + tap X R 3 ⟨C.val, by omega⟩ * W 3 C + tap X R 4 ⟨C.val, by omega⟩ * W 4 C

/-- Row `R`, column `C` of the result: the queries' columns first, the scaled keys' after them. -/
def convOut (X : Fin 9216 → Fin 7168 → EReal) (W : Fin 5 → Fin 2048 → EReal) (R : Fin 9216) (C : Fin 2048) : EReal :=
  if C.val < 1024 then silu (taps X W R C) else silu (taps X W R C) * Ideal.ofBits .f32 0x3DB504F3#32

end Cert.Conv

end
-- ==== Proof.Conv.Block.lean ====
module

public import proofs.«01_k».proof.Proof.Gen.Kernel9Ideal.Value
public import Idealize.ShloMosaic.Lib.Pipeline.ValueKit
public import Idealize.ShloMosaic.Lib.KernelVsHost
public import proofs.«01_k».proof.Proof.Conv.Spec
public import proofs.«01_k».proof.Proof.Diff.Math
public import proofs.«01_k».proof.Proof.OddIn.Spec

/-! What one block of the convolution computes. -/

@[expose] public section

set_option maxRecDepth 16384

noncomputable section

namespace Cert.Kernel9Ideal.Conv

open Cert.Ffn
open Cert.Kernel9Ideal Cert.Kernel9Ideal.Gen
open Idealize.ShloMosaic Idealize.ShloMosaic.TcCoe Idealize.SL.Sem

/-- A choice by a bit that says whether `p` holds. -/
theorem select_bit {α : Type} (p : Prop) [Decidable p] (b : BitVec 1) (hb : b = if p then 1#1 else 0#1) (x y : α) :
    Scalar.select b x y = if p then x else y := by
  subst hb
  by_cases h : p
  · rw [if_pos h, if_pos h]; rfl
  · rw [if_neg h, if_neg h]; rfl

theorem row0 : ∀ i : Fin 256, IntOp.cmpi CmpIPredicate.eq (BitVec.ofNat 32 i.val) 0#32 = if i.val = 0 then 1#1 else 0#1 := by decide +kernel
theorem row1 : ∀ i : Fin 256, IntOp.cmpi CmpIPredicate.eq (BitVec.ofNat 32 i.val) 1#32 = if i.val = 1 then 1#1 else 0#1 := by decide +kernel
theorem row254 : ∀ i : Fin 256, IntOp.cmpi CmpIPredicate.eq (BitVec.ofNat 32 i.val) 254#32 = if i.val = 254 then 1#1 else 0#1 := by decide +kernel
theorem row255 : ∀ i : Fin 256, IntOp.cmpi CmpIPredicate.eq (BitVec.ofNat 32 i.val) 255#32 = if i.val = 255 then 1#1 else 0#1 := by decide +kernel

/-- The block before has a row of this stream. -/
def hasPrev (r : ℕ) : Prop := r < 32 ∧ r % 8 ≠ 0
/-- The block after has a row of this stream. -/
def hasNext (r : ℕ) : Prop := r < 32 ∧ r % 8 ≠ 7

instance (r : ℕ) : Decidable (hasPrev r) := by unfold hasPrev; infer_instance
instance (r : ℕ) : Decidable (hasNext r) := by unfold hasNext; infer_instance

theorem prev_bit : ∀ r : Fin 36, (Scalar.andi (Scalar.cmpi CmpIPredicate.slt (BitVec.ofNat 32 r.val) 32#32)
        (Scalar.cmpi CmpIPredicate.ne
          (Scalar.select
            (Scalar.andi
              (Scalar.xori
                (Scalar.cmpi CmpIPredicate.slt
                  (Scalar.remsi (BitVec.ofNat 32 r.val)
                    (Scalar.select (Scalar.cmpi CmpIPredicate.eq 8#32 0#32) 1#32 8#32))
                  0#32)
                (Scalar.cmpi CmpIPredicate.slt (Scalar.select (Scalar.cmpi CmpIPredicate.eq 8#32 0#32) 1#32 8#32) 0#32))
              (Scalar.cmpi CmpIPredicate.ne
                (Scalar.remsi (BitVec.ofNat 32 r.val)
                  (Scalar.select (Scalar.cmpi CmpIPredicate.eq 8#32 0#32) 1#32 8#32))
                0#32))
            (Scalar.addi
              (Scalar.remsi (BitVec.ofNat 32 r.val) (Scalar.select (Scalar.cmpi CmpIPredicate.eq 8#32 0#32) 1#32 8#32))
              (Scalar.select (Scalar.cmpi CmpIPredicate.eq 8#32 0#32) 1#32 8#32))
            (Scalar.remsi (BitVec.ofNat 32 r.val) (Scalar.select (Scalar.cmpi CmpIPredicate.eq 8#32 0#32) 1#32 8#32)))
          0#32)) = if hasPrev r.val then 1#1 else 0#1 := by
  decide +kernel

theorem next_bit : ∀ r : Fin 36, (Scalar.andi (Scalar.cmpi CmpIPredicate.slt (BitVec.ofNat 32 r.val) 32#32)
        (Scalar.cmpi CmpIPredicate.ne
          (Scalar.select
            (Scalar.andi
              (Scalar.xori
                (Scalar.cmpi CmpIPredicate.slt
                  (Scalar.remsi (BitVec.ofNat 32 r.val)
                    (Scalar.select (Scalar.cmpi CmpIPredicate.eq 8#32 0#32) 1#32 8#32))
                  0#32)
                (Scalar.cmpi CmpIPredicate.slt (Scalar.select (Scalar.cmpi CmpIPredicate.eq 8#32 0#32) 1#32 8#32) 0#32))
              (Scalar.cmpi CmpIPredicate.ne
                (Scalar.remsi (BitVec.ofNat 32 r.val)
                  (Scalar.select (Scalar.cmpi CmpIPredicate.eq 8#32 0#32) 1#32 8#32))
                0#32))
            (Scalar.addi
              (Scalar.remsi (BitVec.ofNat 32 r.val) (Scalar.select (Scalar.cmpi CmpIPredicate.eq 8#32 0#32) 1#32 8#32))
              (Scalar.select (Scalar.cmpi CmpIPredicate.eq 8#32 0#32) 1#32 8#32))
            (Scalar.remsi (BitVec.ofNat 32 r.val) (Scalar.select (Scalar.cmpi CmpIPredicate.eq 8#32 0#32) 1#32 8#32)))
          7#32)) = if hasNext r.val then 1#1 else 0#1 := by
  decide +kernel

theorem key_bit : ∀ b : Fin 2, Scalar.cmpi CmpIPredicate.eq (BitVec.ofNat 32 b.val) 1#32 = if b.val = 1 then 1#1 else 0#1 := by
  decide +kernel

/-- The rows before the block, zero where the stream begins. -/
theorem pay2_apply (g : grid0.Coords) (v : Vec Ideal S8x1024 .f32) (i : Fin 8) (j : Fin 1024) :
    k0_pay2 g v (ix2 i j) = if hasPrev (g 0).val then v (ix2 i j) else 0 := by
  pointwise [k0_pay2]
  exact select_bit _ _ (prev_bit (g 0)) _ _

/-- The rows after the block, zero where the stream ends. -/
theorem pay3_apply (g : grid0.Coords) (v : Vec Ideal S8x1024 .f32) (i : Fin 8) (j : Fin 1024) :
    k0_pay3 g v (ix2 i j) = if hasNext (g 0).val then v (ix2 i j) else 0 := by
  pointwise [k0_pay3]
  exact select_bit _ _ (next_bit (g 0)) _ _

/-- The row one or two before, or one or two after, a row of the block. -/
def back1 (x : Vec Ideal S256x1024 .f32) (p : Vec Ideal S8x1024 .f32) (i : Fin 256) (j : Fin 1024) : EReal :=
  if i.val = 0 then p (ix2 7 j) else x (ix2 ⟨(i.val + 256 - 1) % 256, Nat.mod_lt _ (by decide)⟩ j)
def back2 (x : Vec Ideal S256x1024 .f32) (p : Vec Ideal S8x1024 .f32) (i : Fin 256) (j : Fin 1024) : EReal :=
  if i.val = 1 then p (ix2 7 j) else if i.val = 0 then p (ix2 6 j) else x (ix2 ⟨(i.val + 256 - 2) % 256, Nat.mod_lt _ (by decide)⟩ j)
def fwd1 (x : Vec Ideal S256x1024 .f32) (n : Vec Ideal S8x1024 .f32) (i : Fin 256) (j : Fin 1024) : EReal :=
  if i.val = 255 then n (ix2 0 j) else x (ix2 ⟨(i.val + 256 - 255) % 256, Nat.mod_lt _ (by decide)⟩ j)
def fwd2 (x : Vec Ideal S256x1024 .f32) (n : Vec Ideal S8x1024 .f32) (i : Fin 256) (j : Fin 1024) : EReal :=
  if i.val = 255 then n (ix2 1 j) else if i.val = 254 then n (ix2 0 j) else x (ix2 ⟨(i.val + 256 - 254) % 256, Nat.mod_lt _ (by decide)⟩ j)

theorem pay5_apply (x : Vec Ideal S256x1024 .f32) (p n : Vec Ideal S8x1024 .f32) (w : Vec Ideal S5x1024 .f32) (i : Fin 256) (j : Fin 1024) :
    k0_pay5 x p n (iota .tc S256x1024 32 [0] iota_S256x1024_d0_w32) w (ix2 i j)
      = x (ix2 i j) * w (ix2 2 j) + back1 x p i j * w (ix2 1 j) + fwd1 x n i j * w (ix2 3 j) := by
  pointwise [k0_pay5, k0_pay4]
  rw [select_bit _ _ (row0 i), select_bit _ _ (row255 i)]
  rfl

theorem pay6_apply (x : Vec Ideal S256x1024 .f32) (n : Vec Ideal S8x1024 .f32) (i : Fin 256) (j : Fin 1024) :
    k0_pay6 x n (iota .tc S256x1024 32 [0] iota_S256x1024_d0_w32) (ix2 i j)
      = if i.val = 254 then n (ix2 0 j) else x (ix2 ⟨(i.val + 256 - 254) % 256, Nat.mod_lt _ (by decide)⟩ j) := by
  pointwise [k0_pay6]
  exact select_bit _ _ (row254 i) _ _

theorem pay7_apply (x : Vec Ideal S256x1024 .f32) (p : Vec Ideal S8x1024 .f32) (i : Fin 256) (j : Fin 1024) :
    k0_pay7 x p (iota .tc S256x1024 32 [0] iota_S256x1024_d0_w32) (ix2 i j) = back2 x p i j := by
  pointwise [k0_pay7]
  rw [select_bit _ _ (row1 i), select_bit _ _ (row0 i)]
  rfl

theorem pay8_apply (i : Fin 256) (j : Fin 1024) :
    k0_pay8 (iota .tc S256x1024 32 [0] iota_S256x1024_d0_w32) (ix2 i j) = if i.val = 255 then 1#1 else 0#1 := by
  pointwise [k0_pay8]
  exact row255 i

theorem pay9_apply (n : Vec Ideal S8x1024 .f32) (j : Fin 1024) : k0_pay9 n (ix2 0 j) = n (ix2 1 j) := by
  pointwise [k0_pay9]

/-- The stored block at an index, from the blocks read. -/
theorem pay1_apply (b : Fin 2) (x : Vec Ideal S256x1024 .f32) (p n : Vec Ideal S8x1024 .f32) (w : Vec Ideal S5x1024 .f32) (i : Fin 256) (j : Fin 1024) :
    k0_pay1 (F := Ideal) (BitVec.ofNat 32 b.val) (k0_pay4 w) (k0_pay5 x p n (iota .tc S256x1024 32 [0] iota_S256x1024_d0_w32) w)
        (k0_pay6 x n (iota .tc S256x1024 32 [0] iota_S256x1024_d0_w32)) (k0_pay7 x p (iota .tc S256x1024 32 [0] iota_S256x1024_d0_w32))
        (k0_pay8 (iota .tc S256x1024 32 [0] iota_S256x1024_d0_w32)) (k0_pay9 n) (ix2 i j)
      = silu (back2 x p i j * w (ix2 0 j) + back1 x p i j * w (ix2 1 j) + x (ix2 i j) * w (ix2 2 j) + fwd1 x n i j * w (ix2 3 j)
          + fwd2 x n i j * w (ix2 4 j)) * (if b.val = 1 then Ideal.ofBits .f32 0x3DB504F3#32 else 1) := by
  have e4 : ∀ r : Fin 5, k0_pay4 w (ix2 r j) = w (ix2 r j) := fun r => by pointwise [k0_pay4]
  have ef : Scalar.select (k0_pay8 (iota .tc S256x1024 32 [0] iota_S256x1024_d0_w32) (ix2 i j)) (k0_pay9 n (ix2 0 j))
      (k0_pay6 x n (iota .tc S256x1024 32 [0] iota_S256x1024_d0_w32) (ix2 i j)) = fwd2 x n i j := by
    rw [pay6_apply, pay9_apply, select_bit _ _ (pay8_apply i j)]
    rfl
  have es : x (ix2 i j) * w (ix2 2 j) + back1 x p i j * w (ix2 1 j) + fwd1 x n i j * w (ix2 3 j) + back2 x p i j * w (ix2 0 j)
        + fwd2 x n i j * w (ix2 4 j)
      = back2 x p i j * w (ix2 0 j) + back1 x p i j * w (ix2 1 j) + x (ix2 i j) * w (ix2 2 j) + fwd1 x n i j * w (ix2 3 j)
        + fwd2 x n i j * w (ix2 4 j) := by
    ac_rfl
  pointwise [k0_pay1]
  rw [ef, e4, e4, pay5_apply, pay7_apply, es, select_bit _ _ (key_bit b)]
  rfl

end Cert.Kernel9Ideal.Conv
end
-- ==== Proof.Conv.Kernel.lean ====
module

public import proofs.«01_k».proof.Proof.Conv.Block
public import Idealize.ShloMosaic.Lib.StableHlo.ReadAt

/-! What the convolution call's result array holds after the run, element by element. -/

@[expose] public section

set_option maxRecDepth 16384

noncomputable section

namespace Cert.Kernel9Ideal.Conv

open Cert.Ffn Cert.Conv
open Cert.Kernel9Ideal Cert.Kernel9Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, t.val % 2] ∧ win0_1.index t = ![t.val / 2 * 32 - 1, t.val % 2]
    ∧ win0_2.index t = ![min ((t.val / 2 + 1) * 32) 1151, t.val % 2] ∧ win0_3.index t = ![0, t.val % 2]
    ∧ win0_4.index t = ![t.val / 2, t.val % 2] := (by decide +kernel : ∀ t : Fin grid0.N, _)

theorem crd : ∀ t : Fin cfg0.N, (grid0.coords t 0).val = t.val / 2 ∧ (grid0.coords t 1).val = t.val % 2 :=
  (by decide +kernel : ∀ t : Fin grid0.N, _)

/-- The blocks the body reads, as elements of the argument arrays. -/
theorem x0 (c : Dev nD) (t : Fin cfg0.N) (i : Fin 256) (j : Fin 1024) (y : S9216x7168.Idx)
    (h0 : (y 0).val = t.val / 2 * 256 + i.val) (h1 : (y 1).val = t.val % 2 * 1024 + j.val) :
    iblk m c 0 t (ix2 i j) = m ((c : Thread nD τ).loc main_arg0) y := by
  blk_ext [iblk, V, idx t]

theorem x1 (c : Dev nD) (t : Fin cfg0.N) (i : Fin 8) (j : Fin 1024) (y : S9216x7168.Idx)
    (h0 : (y 0).val = (t.val / 2 * 32 - 1) * 8 + i.val) (h1 : (y 1).val = t.val % 2 * 1024 + j.val) :
    iblk m c 1 t (ix2 i j) = m ((c : Thread nD τ).loc main_arg0) y := by
  blk_ext [iblk, V, idx t]

theorem x2 (c : Dev nD) (t : Fin cfg0.N) (i : Fin 8) (j : Fin 1024) (y : S9216x7168.Idx)
    (h0 : (y 0).val = min ((t.val / 2 + 1) * 32) 1151 * 8 + i.val) (h1 : (y 1).val = t.val % 2 * 1024 + j.val) :
    iblk m c 2 t (ix2 i j) = m ((c : Thread nD τ).loc main_arg0) y := by
  blk_ext [iblk, V, idx t]

theorem x3 (c : Dev nD) (t : Fin cfg0.N) (k : Fin 5) (j : Fin 1024) (C : Fin 2048) (h1 : C.val = t.val % 2 * 1024 + j.val) :
    iblk m c 3 t (ix2 k j) = m ((c : Thread nD τ).loc main_arg1) (ix3 0 k C) := by
  blk_simp [iblk]
  entry_read
  pointwise
  blk_ext [V, idx t]

/-- The projection and the weights the program starts from. -/
abbrev X0 (c : Dev nD) : Fin 9216 → Fin 7168 → EReal := fun r k => m ((c : Thread nD τ).loc main_arg0) (ix2 r k)
abbrev W0 (c : Dev nD) : Fin 5 → Fin 2048 → EReal := fun k C => m ((c : Thread nD τ).loc main_arg1) (ix3 0 k C)

section neighbours
variable (c : Dev nD) (t : Fin cfg0.N) (i : Fin 256) (j : Fin 1024) (R : Fin 9216) (C : Fin 7168)
  (hR : R.val = t.val / 2 * 256 + i.val) (hC : C.val = t.val % 2 * 1024 + j.val)
include hR hC

theorem tap2 : iblk m c 0 t (ix2 i j) = tap (X0 m c) R 2 C := by
  have ht : t.val < 72 := t.isLt
  rw [tap_in (X0 m c) R 2 C (by unfold inStream; omega) R rfl]
  exact x0 m c t i j _ hR hC

/-- A row of the block. -/
theorem inner (d : ℕ) (Q : Fin 9216) (i' : Fin 256) (hd : Q.val + 2 = R.val + d) (hi : i'.val + 2 = i.val + d) :
    iblk m c 0 t (ix2 i' j) = tap (X0 m c) R d C := by
  have ht : t.val < 72 := t.isLt
  have hi' := i'.isLt
  have hi2 := i.isLt
  rw [tap_in (X0 m c) R d C (by unfold inStream; omega) Q hd]
  exact x0 m c t i' j _ (by show Q.val = _; omega) hC

/-- A row of the block before. -/
theorem before (d : ℕ) (r : Fin 8) (hd : i.val + d < 2) (hr : r.val + 2 = 8 + i.val + d) :
    k0_pay2 (F := Ideal) (grid0.coords t) (iblk m c 1 t) (ix2 r j) = tap (X0 m c) R d C := by
  have ht : t.val < 72 := t.isLt
  rw [pay2_apply, (crd t).1]
  by_cases h : hasPrev (t.val / 2)
  · rw [if_pos h]
    unfold hasPrev at h
    rw [tap_in (X0 m c) R d C (by unfold inStream; omega) ⟨R.val + d - 2, by omega⟩ (by show R.val + d - 2 + 2 = _; omega)]
    exact x1 m c t r j _ (by show R.val + d - 2 = _; omega) hC
  · rw [if_neg h]
    unfold hasPrev at h
    rw [tap_out (X0 m c) R d C (by unfold inStream; omega)]

/-- A row of the block after. -/
theorem beyond (d : ℕ) (r : Fin 8) (h4 : d ≤ 4) (hr : r.val + 258 = i.val + d) :
    k0_pay3 (F := Ideal) (grid0.coords t) (iblk m c 2 t) (ix2 r j) = tap (X0 m c) R d C := by
  have ht : t.val < 72 := t.isLt
  have hi2 := i.isLt
  rw [pay3_apply, (crd t).1]
  by_cases h : hasNext (t.val / 2)
  · rw [if_pos h]
    unfold hasNext at h
    rw [tap_in (X0 m c) R d C (by unfold inStream; omega) ⟨R.val + d - 2, by omega⟩ (by show R.val + d - 2 + 2 = _; omega)]
    exact x2 m c t r j _ (by show R.val + d - 2 = _; omega) hC
  · rw [if_neg h]
    unfold hasNext at h
    rw [tap_out (X0 m c) R d C (by unfold inStream; omega)]

theorem tap1 : back1 (iblk m c 0 t) (k0_pay2 (F := Ideal) (grid0.coords t) (iblk m c 1 t)) i j = tap (X0 m c) R 1 C := by
  have ht : t.val < 72 := t.isLt
  have hi2 := i.isLt
  unfold back1
  split_ifs with h
  · exact before m c t i j R C hR hC 1 7 (by omega) (by show 7 + 2 = _; omega)
  · exact inner m c t i j R C hR hC 1 ⟨R.val - 1, by omega⟩ _ (by show R.val - 1 + 2 = _; omega)
      (by show (i.val + 256 - 1) % 256 + 2 = _; omega)

theorem tap0 : back2 (iblk m c 0 t) (k0_pay2 (F := Ideal) (grid0.coords t) (iblk m c 1 t)) i j = tap (X0 m c) R 0 C := by
  have ht : t.val < 72 := t.isLt
  have hi2 := i.isLt
  unfold back2
  split_ifs with h h'
  · exact before m c t i j R C hR hC 0 7 (by omega) (by show 7 + 2 = _; omega)
  · exact before m c t i j R C hR hC 0 6 (by omega) (by show 6 + 2 = _; omega)
  · exact inner m c t i j R C hR hC 0 ⟨R.val - 2, by omega⟩ _ (by show R.val - 2 + 2 = _; omega)
      (by show (i.val + 256 - 2) % 256 + 2 = _; omega)

theorem tap3 : fwd1 (iblk m c 0 t) (k0_pay3 (F := Ideal) (grid0.coords t) (iblk m c 2 t)) i j = tap (X0 m c) R 3 C := by
  have ht : t.val < 72 := t.isLt
  have hi2 := i.isLt
  unfold fwd1
  split_ifs with h
  · exact beyond m c t i j R C hR hC 3 0 (by omega) (by show 0 + 258 = _; omega)
  · exact inner m c t i j R C hR hC 3 ⟨R.val + 1, by omega⟩ _ (by show R.val + 1 + 2 = _; omega)
      (by show (i.val + 256 - 255) % 256 + 2 = _; omega)

theorem tap4 : fwd2 (iblk m c 0 t) (k0_pay3 (F := Ideal) (grid0.coords t) (iblk m c 2 t)) i j = tap (X0 m c) R 4 C := by
  have ht : t.val < 72 := t.isLt
  have hi2 := i.isLt
  unfold fwd2
  split_ifs with h h'
  · exact beyond m c t i j R C hR hC 4 1 (by omega) (by show 1 + 258 = _; omega)
  · exact beyond m c t i j R C hR hC 4 0 (by omega) (by show 0 + 258 = _; omega)
  · exact inner m c t i j R C hR hC 4 ⟨R.val + 2, by omega⟩ _ (by show R.val + 2 + 2 = _; omega)
      (by show (i.val + 256 - 254) % 256 + 2 = _; omega)

end neighbours

/-- What one grid point leaves in its block. -/
theorem point4 (c : Dev nD) (t : Fin cfg0.N) (y : S256x1024.Idx) (R : Fin 9216) (C : Fin 2048)
    (hR : R.val = t.val / 2 * 256 + (y 0).val) (hC : C.val = t.val % 2 * 1024 + (y 1).val) :
    out0_4 (grid0.coords t) (iblk m c 0 t) (iblk m c 1 t) (iblk m c 2 t) (iblk m c 3 t) y = convOut (X0 m c) (W0 m c) R C := by
  obtain ⟨i, j, rfl⟩ : ∃ (i : Fin 256) (j : Fin 1024), y = ix2 i j :=
    ⟨y 0, y 1, funext fun a => match a with | ⟨0, _⟩ => rfl | ⟨1, _⟩ => rfl⟩
  have ht : t.val < 72 := t.isLt
  have hj : j.val < 1024 := j.isLt
  have hC' : C.val = t.val % 2 * 1024 + j.val := hC
  unfold_out out0_4
  frame_out
  refine (pay1_apply (grid0.coords t 1) _ _ _ _ i j).trans ?_
  rw [tap0 m c t i j R ⟨C.val, by omega⟩ hR hC, tap1 m c t i j R ⟨C.val, by omega⟩ hR hC, tap2 m c t i j R ⟨C.val, by omega⟩ hR hC,
    tap3 m c t i j R ⟨C.val, by omega⟩ hR hC, tap4 m c t i j R ⟨C.val, by omega⟩ hR hC,
    x3 m c t 0 j C hC, x3 m c t 1 j C hC, x3 m c t 2 j C hC, x3 m c t 3 j C hC, x3 m c t 4 j C hC, (crd t).2]
  unfold convOut
  by_cases h : t.val % 2 = 1
  · rw [if_pos h, if_neg (by omega)]
    rfl
  · rw [if_neg h, if_pos (by omega), mul_one]
    rfl

/-- The result after the run. -/
theorem final4 (c : Dev nD) : (dats m 0 c).arrAt 4 cfg0.N = fun i => convOut (X0 m c) (W0 m c) (i 0) (i 1) := by
  refine (dats m 0 c).arrAt_eq_of_covers 4 _ (by decide +kernel) fun t hf y => ?_
  rw [after0_4]
  have H := point4 m c t
  generalize out0_4 (grid0.coords t) (iblk m c 0 t) (iblk m c 1 t) (iblk m c 2 t) (iblk m c 3 t) = o at H ⊢
  refine H y _ _ ?_ ?_
  · blk_simp [idx t]
  · blk_simp [idx t]

end Cert.Kernel9Ideal.Conv
end
-- ==== Proof.Conv.Reference.lean ====
module

public import proofs.«01_k».proof.Proof.Gen.Reference9Ideal.Read
public import proofs.«01_k».proof.Proof.Conv.Spec
public import proofs.«01_k».proof.Proof.OddIn.Spec
public import Idealize.ShloMosaic.Lib.Pipeline.ValueKit
public import Idealize.ShloMosaic.Lib.KernelVsHost

/-! The convolution as the reference computes it: each stream's rows between two rows of zeros on either side, five shifted products
    added in the order of time, silu, the keys' half scaled; then the latent rows above the context's. -/

@[expose] public section

set_option maxRecDepth 16384

noncomputable section

namespace Cert.Reference9Ideal.Conv

open Cert.Reference9Ideal Cert.Reference9Ideal.Gen Cert.Reference9Ideal.Read Cert.Ffn Cert.Conv
open Idealize.ShloMosaic Idealize.ShloMosaic.TcCoe Idealize.SL.Sem

variable (x0 : (⟨S9216x7168, .f32⟩ : BufTy).Contents (Elt Ideal)) (x1 : (⟨S1x5x2048, .f32⟩ : BufTy).Contents (Elt Ideal))

/-- The projection and the weights by row and column. -/
abbrev X0 : Fin 9216 → Fin 7168 → EReal := fun r k => x0 (ix2 r k)
abbrev W0 : Fin 5 → Fin 2048 → EReal := fun k C => x1 (ix3 0 k C)

/-- The reference's silu. -/
theorem silu_spelt (x : EReal) :
    x * Ideal.div (Ideal.ofBits .f32 0x3F800000#32) (Ideal.ofBits .f32 0x3F800000#32 + Ideal.exp (-x)) = silu x := by
  rw [Cert.Proj.one32, silu, zero_sub]

/-- The padding's value. -/
theorem zero_spelt : (FloatOps.sitofp .f32 (0#32 : BitVec 32) : Ideal .f32) = (0 : EReal) := by
  show (((0#32 : BitVec 32).toInt : ℝ) : EReal) = 0
  simp

/-! ### The latent rows -/

/-- The stream between its rows of zeros. -/
theorem lat_pad (s : Fin 4) (p : Fin 2048) (q : Fin 2052) (k : Fin 2048) (d : ℕ) (hq : q.val = p.val + d) (R : Fin 9216)
    (hR : R.val = 0 + s.val * 2048 + p.val) : val_main_v5 (F := Ideal) x0 (ix3 s q k) = tap (X0 x0) R d ⟨k.val, by omega⟩ := by
  have hs := s.isLt
  have hp := p.isLt
  unfold val_main_v5
  by_cases h : 2 ≤ q.val ∧ q.val < 2050
  · rw [tap_in (X0 x0) R d _ (by unfold inStream; omega) ⟨R.val + d - 2, by omega⟩ (by show R.val + d - 2 + 2 = _; omega)]
    refine (pad_apply_of_inside (s := S4x2048x2048) (t := S4x2052x2048) _ _ _ _ _ _ _ (ix3 s q k) (ix3 s ⟨q.val - 2, by omega⟩ k) (fun a => match a with
      | ⟨0, _⟩ => by show s.val = 0 + s.val * 1; omega
      | ⟨1, _⟩ => by show q.val = 2 + (q.val - 2) * 1; omega
      | ⟨2, _⟩ => by show k.val = 0 + k.val * 1; omega)).trans ?_
    rw [val_main_v1_apply, val_main_v0_apply]
    exact congrArg x0 (funext fun a => Fin.ext (by
      match a with
      | ⟨0, _⟩ => (simp [ix2, ix3] <;> omega)
      | ⟨1, _⟩ => (simp [ix2, ix3] <;> omega)))
  · rw [tap_out (X0 x0) R d _ (by unfold inStream; omega)]
    refine (pad_apply_of_not_inside (s := S4x2048x2048) (t := S4x2052x2048) _ _ _ _ _ _ _ (ix3 s q k) 1 (fun ha => h ?_)).trans ?_
    · obtain ⟨h1, -, h3⟩ := ha
      have h1' : 2 ≤ q.val := h1
      have h3' : (q.val - 2) / 1 < 2048 := h3
      omega
    · exact zero_spelt

theorem lat_tap0 (s : Fin 4) (p : Fin 2048) (k : Fin 2048) (R : Fin 9216) (hR : R.val = 0 + s.val * 2048 + p.val) :
    val_main_v6 (F := Ideal) x0 (ix3 s p k) = tap (X0 x0) R 0 ⟨k.val, by omega⟩ := by
  have hp := p.isLt
  have e : idx_main_v6 (ix3 s p k) = ix3 s ⟨p.val + 0, by omega⟩ k :=
    funext fun a => Fin.ext (by match a with | ⟨0, _⟩ => rfl | ⟨1, _⟩ => (simp [ix3] <;> omega) | ⟨2, _⟩ => rfl)
  rw [val_main_v6_apply, e]
  exact lat_pad x0 s p _ k 0 rfl R hR

theorem lat_w0 (s : Fin 4) (p : Fin 2048) (k : Fin 2048) : val_main_v10 (F := Ideal) x1 (ix3 s p k) = x1 (ix3 0 0 k) := by
  have hk := k.isLt
  rw [val_main_v10_apply, val_main_v9_apply, val_main_v8_apply, val_main_v7_apply, val_main_v4_apply]
  exact congrArg x1 (funext fun a => Fin.ext (by
    match a with
    | ⟨0, _⟩ => rfl
    | ⟨1, _⟩ => (simp [ix3] <;> omega)
    | ⟨2, _⟩ => (simp [ix3] <;> omega)))

theorem lat_tap1 (s : Fin 4) (p : Fin 2048) (k : Fin 2048) (R : Fin 9216) (hR : R.val = 0 + s.val * 2048 + p.val) :
    val_main_v12 (F := Ideal) x0 (ix3 s p k) = tap (X0 x0) R 1 ⟨k.val, by omega⟩ := by
  have hp := p.isLt
  have e : idx_main_v12 (ix3 s p k) = ix3 s ⟨p.val + 1, by omega⟩ k :=
    funext fun a => Fin.ext (by match a with | ⟨0, _⟩ => rfl | ⟨1, _⟩ => (simp [ix3] <;> omega) | ⟨2, _⟩ => rfl)
  rw [val_main_v12_apply, e]
  exact lat_pad x0 s p _ k 1 rfl R hR

theorem lat_w1 (s : Fin 4) (p : Fin 2048) (k : Fin 2048) : val_main_v16 (F := Ideal) x1 (ix3 s p k) = x1 (ix3 0 1 k) := by
  have hk := k.isLt
  rw [val_main_v16_apply, val_main_v15_apply, val_main_v14_apply, val_main_v13_apply, val_main_v4_apply]
  exact congrArg x1 (funext fun a => Fin.ext (by
    match a with
    | ⟨0, _⟩ => rfl
    | ⟨1, _⟩ => (simp [ix3] <;> omega)
    | ⟨2, _⟩ => (simp [ix3] <;> omega)))

theorem lat_tap2 (s : Fin 4) (p : Fin 2048) (k : Fin 2048) (R : Fin 9216) (hR : R.val = 0 + s.val * 2048 + p.val) :
    val_main_v19 (F := Ideal) x0 (ix3 s p k) = tap (X0 x0) R 2 ⟨k.val, by omega⟩ := by
  have hp := p.isLt
  have e : idx_main_v19 (ix3 s p k) = ix3 s ⟨p.val + 2, by omega⟩ k :=
    funext fun a => Fin.ext (by match a with | ⟨0, _⟩ => rfl | ⟨1, _⟩ => (simp [ix3] <;> omega) | ⟨2, _⟩ => rfl)
  rw [val_main_v19_apply, e]
  exact lat_pad x0 s p _ k 2 rfl R hR

theorem lat_w2 (s : Fin 4) (p : Fin 2048) (k : Fin 2048) : val_main_v23 (F := Ideal) x1 (ix3 s p k) = x1 (ix3 0 2 k) := by
  have hk := k.isLt
  rw [val_main_v23_apply, val_main_v22_apply, val_main_v21_apply, val_main_v20_apply, val_main_v4_apply]
  exact congrArg x1 (funext fun a => Fin.ext (by
    match a with
    | ⟨0, _⟩ => rfl
    | ⟨1, _⟩ => (simp [ix3] <;> omega)
    | ⟨2, _⟩ => (simp [ix3] <;> omega)))

theorem lat_tap3 (s : Fin 4) (p : Fin 2048) (k : Fin 2048) (R : Fin 9216) (hR : R.val = 0 + s.val * 2048 + p.val) :
    val_main_v26 (F := Ideal) x0 (ix3 s p k) = tap (X0 x0) R 3 ⟨k.val, by omega⟩ := by
  have hp := p.isLt
  have e : idx_main_v26 (ix3 s p k) = ix3 s ⟨p.val + 3, by omega⟩ k :=
    funext fun a => Fin.ext (by match a with | ⟨0, _⟩ => rfl | ⟨1, _⟩ => (simp [ix3] <;> omega) | ⟨2, _⟩ => rfl)
  rw [val_main_v26_apply, e]
  exact lat_pad x0 s p _ k 3 rfl R hR

theorem lat_w3 (s : Fin 4) (p : Fin 2048) (k : Fin 2048) : val_main_v30 (F := Ideal) x1 (ix3 s p k) = x1 (ix3 0 3 k) := by
  have hk := k.isLt
  rw [val_main_v30_apply, val_main_v29_apply, val_main_v28_apply, val_main_v27_apply, val_main_v4_apply]
  exact congrArg x1 (funext fun a => Fin.ext (by
    match a with
    | ⟨0, _⟩ => rfl
    | ⟨1, _⟩ => (simp [ix3] <;> omega)
    | ⟨2, _⟩ => (simp [ix3] <;> omega)))

theorem lat_tap4 (s : Fin 4) (p : Fin 2048) (k : Fin 2048) (R : Fin 9216) (hR : R.val = 0 + s.val * 2048 + p.val) :
    val_main_v33 (F := Ideal) x0 (ix3 s p k) = tap (X0 x0) R 4 ⟨k.val, by omega⟩ := by
  have hp := p.isLt
  have e : idx_main_v33 (ix3 s p k) = ix3 s ⟨p.val + 4, by omega⟩ k :=
    funext fun a => Fin.ext (by match a with | ⟨0, _⟩ => rfl | ⟨1, _⟩ => (simp [ix3] <;> omega) | ⟨2, _⟩ => rfl)
  rw [val_main_v33_apply, e]
  exact lat_pad x0 s p _ k 4 rfl R hR

theorem lat_w4 (s : Fin 4) (p : Fin 2048) (k : Fin 2048) : val_main_v37 (F := Ideal) x1 (ix3 s p k) = x1 (ix3 0 4 k) := by
  have hk := k.isLt
  rw [val_main_v37_apply, val_main_v36_apply, val_main_v35_apply, val_main_v34_apply, val_main_v4_apply]
  exact congrArg x1 (funext fun a => Fin.ext (by
    match a with
    | ⟨0, _⟩ => rfl
    | ⟨1, _⟩ => (simp [ix3] <;> omega)
    | ⟨2, _⟩ => (simp [ix3] <;> omega)))

/-- The five products added. -/
theorem lat_sum (s : Fin 4) (p : Fin 2048) (k : Fin 2048) (R : Fin 9216) (hR : R.val = 0 + s.val * 2048 + p.val) :
    val_main_v39 (F := Ideal) x0 x1 (ix3 s p k) = taps (X0 x0) (W0 x1) R k := by
  rw [val_main_v39_apply, val_main_v32_apply, val_main_v25_apply, val_main_v18_apply,
    val_main_v11_apply, val_main_v17_apply, val_main_v24_apply, val_main_v31_apply, val_main_v38_apply,
    lat_tap0 x0 s p k R hR, lat_w0 x1 s p k,
    lat_tap1 x0 s p k R hR, lat_w1 x1 s p k,
    lat_tap2 x0 s p k R hR, lat_w2 x1 s p k,
    lat_tap3 x0 s p k R hR, lat_w3 x1 s p k,
    lat_tap4 x0 s p k R hR, lat_w4 x1 s p k]
  rfl

/-- The sum under silu. -/
theorem lat_silu (s : Fin 4) (p : Fin 2048) (k : Fin 2048) (R : Fin 9216) (hR : R.val = 0 + s.val * 2048 + p.val) :
    val_main_v40 (F := Ideal) x0 x1 (ix3 s p k) = silu (taps (X0 x0) (W0 x1) R k) := by
  rw [val_main_v40_apply, val_main_call1_v5_apply, val_main_call1_v4_apply, val_main_call1_v3_apply, val_main_call1_v2_apply,
    val_main_call1_v1_apply, val_main_call1_v0_apply, lat_sum x0 x1 s p k R hR]
  exact silu_spelt _

/-- Queries beside scaled keys. -/
theorem lat_cat (s : Fin 4) (p : Fin 2048) (k : Fin 2048) (R : Fin 9216) (hR : R.val = 0 + s.val * 2048 + p.val) :
    val_main_v45 (F := Ideal) x0 x1 (ix3 s p k) = convOut (X0 x0) (W0 x1) R k := by
  unfold val_main_v45 convOut
  have hk := k.isLt
  by_cases h : k.val < 1024
  · rw [if_pos h]
    refine (concatenate_pair_apply_left (s₁ := S4x2048x1024) (s₂ := S4x2048x1024) _ _ _ _ (ix3 s p k) rfl (ix3 s p ⟨k.val, h⟩)
      (fun a => match a with | ⟨0, _⟩ => rfl | ⟨1, _⟩ => rfl | ⟨2, _⟩ => rfl)).trans ?_
    have e : idx_main_v41 (ix3 s p ⟨k.val, h⟩) = ix3 s p k := funext fun a => match a with | ⟨0, _⟩ => rfl | ⟨1, _⟩ => rfl | ⟨2, _⟩ => rfl
    rw [val_main_v41_apply, e]
    exact lat_silu x0 x1 s p k R hR
  · rw [if_neg h]
    refine (concatenate_pair_apply_right (s₁ := S4x2048x1024) (s₂ := S4x2048x1024) _ _ _ _ (ix3 s p k) rfl rfl (ix3 s p ⟨k.val - 1024, by omega⟩)
      (fun a ha => match a, ha with | ⟨0, _⟩, _ => rfl | ⟨1, _⟩, _ => rfl | ⟨2, _⟩, ha => absurd rfl ha)
      (by show k.val - 1024 + 1024 = k.val; omega)).trans ?_
    have e : idx_main_v42 (ix3 s p ⟨k.val - 1024, by omega⟩) = ix3 s p k :=
      funext fun a => Fin.ext (by match a with | ⟨0, _⟩ => rfl | ⟨1, _⟩ => rfl | ⟨2, _⟩ => (simp [ix3] <;> omega))
    rw [val_main_v44_apply, val_main_v42_apply, e, lat_silu x0 x1 s p k R hR, val_main_v43_apply]
    rfl

/-- The stream's rows one under the other. -/
theorem lat_flat (r : Fin 8192) (k : Fin 2048) (R : Fin 9216) (hR : R.val = 0 + r.val) :
    val_main_v46 (F := Ideal) x0 x1 (ix2 r k) = convOut (X0 x0) (W0 x1) R k := by
  have hr := r.isLt
  have hk := k.isLt
  have e : idx_main_v46 (ix2 r k) = ix3 ⟨r.val / 2048, by omega⟩ ⟨r.val % 2048, Nat.mod_lt _ (by decide)⟩ k :=
    funext fun a => Fin.ext (by
      match a with
      | ⟨0, _⟩ => (simp [ix2, ix3] <;> omega)
      | ⟨1, _⟩ => (simp [ix2, ix3] <;> omega)
      | ⟨2, _⟩ => (simp [ix2, ix3] <;> omega))
  rw [val_main_v46_apply, e]
  exact lat_cat x0 x1 _ _ k R (by show R.val = 0 + r.val / 2048 * 2048 + r.val % 2048; omega)

/-! ### The context's rows -/

/-- The stream between its rows of zeros. -/
theorem con_pad (s : Fin 4) (p : Fin 256) (q : Fin 260) (k : Fin 2048) (d : ℕ) (hq : q.val = p.val + d) (R : Fin 9216)
    (hR : R.val = 8192 + s.val * 256 + p.val) : val_main_v48 (F := Ideal) x0 (ix3 s q k) = tap (X0 x0) R d ⟨k.val, by omega⟩ := by
  have hs := s.isLt
  have hp := p.isLt
  unfold val_main_v48
  by_cases h : 2 ≤ q.val ∧ q.val < 258
  · rw [tap_in (X0 x0) R d _ (by unfold inStream; omega) ⟨R.val + d - 2, by omega⟩ (by show R.val + d - 2 + 2 = _; omega)]
    refine (pad_apply_of_inside (s := S4x256x2048) (t := S4x260x2048) _ _ _ _ _ _ _ (ix3 s q k) (ix3 s ⟨q.val - 2, by omega⟩ k) (fun a => match a with
      | ⟨0, _⟩ => by show s.val = 0 + s.val * 1; omega
      | ⟨1, _⟩ => by show q.val = 2 + (q.val - 2) * 1; omega
      | ⟨2, _⟩ => by show k.val = 0 + k.val * 1; omega)).trans ?_
    rw [val_main_v3_apply, val_main_v2_apply]
    exact congrArg x0 (funext fun a => Fin.ext (by
      match a with
      | ⟨0, _⟩ => (simp [ix2, ix3] <;> omega)
      | ⟨1, _⟩ => (simp [ix2, ix3] <;> omega)))
  · rw [tap_out (X0 x0) R d _ (by unfold inStream; omega)]
    refine (pad_apply_of_not_inside (s := S4x256x2048) (t := S4x260x2048) _ _ _ _ _ _ _ (ix3 s q k) 1 (fun ha => h ?_)).trans ?_
    · obtain ⟨h1, -, h3⟩ := ha
      have h1' : 2 ≤ q.val := h1
      have h3' : (q.val - 2) / 1 < 256 := h3
      omega
    · exact zero_spelt

theorem con_tap0 (s : Fin 4) (p : Fin 256) (k : Fin 2048) (R : Fin 9216) (hR : R.val = 8192 + s.val * 256 + p.val) :
    val_main_v49 (F := Ideal) x0 (ix3 s p k) = tap (X0 x0) R 0 ⟨k.val, by omega⟩ := by
  have hp := p.isLt
  have e : idx_main_v49 (ix3 s p k) = ix3 s ⟨p.val + 0, by omega⟩ k :=
    funext fun a => Fin.ext (by match a with | ⟨0, _⟩ => rfl | ⟨1, _⟩ => (simp [ix3] <;> omega) | ⟨2, _⟩ => rfl)
  rw [val_main_v49_apply, e]
  exact con_pad x0 s p _ k 0 rfl R hR

theorem con_w0 (s : Fin 4) (p : Fin 256) (k : Fin 2048) : val_main_v53 (F := Ideal) x1 (ix3 s p k) = x1 (ix3 0 0 k) := by
  have hk := k.isLt
  rw [val_main_v53_apply, val_main_v52_apply, val_main_v51_apply, val_main_v50_apply, val_main_v47_apply]
  exact congrArg x1 (funext fun a => Fin.ext (by
    match a with
    | ⟨0, _⟩ => rfl
    | ⟨1, _⟩ => (simp [ix3] <;> omega)
    | ⟨2, _⟩ => (simp [ix3] <;> omega)))

theorem con_tap1 (s : Fin 4) (p : Fin 256) (k : Fin 2048) (R : Fin 9216) (hR : R.val = 8192 + s.val * 256 + p.val) :
    val_main_v55 (F := Ideal) x0 (ix3 s p k) = tap (X0 x0) R 1 ⟨k.val, by omega⟩ := by
  have hp := p.isLt
  have e : idx_main_v55 (ix3 s p k) = ix3 s ⟨p.val + 1, by omega⟩ k :=
    funext fun a => Fin.ext (by match a with | ⟨0, _⟩ => rfl | ⟨1, _⟩ => (simp [ix3] <;> omega) | ⟨2, _⟩ => rfl)
  rw [val_main_v55_apply, e]
  exact con_pad x0 s p _ k 1 rfl R hR

theorem con_w1 (s : Fin 4) (p : Fin 256) (k : Fin 2048) : val_main_v59 (F := Ideal) x1 (ix3 s p k) = x1 (ix3 0 1 k) := by
  have hk := k.isLt
  rw [val_main_v59_apply, val_main_v58_apply, val_main_v57_apply, val_main_v56_apply, val_main_v47_apply]
  exact congrArg x1 (funext fun a => Fin.ext (by
    match a with
    | ⟨0, _⟩ => rfl
    | ⟨1, _⟩ => (simp [ix3] <;> omega)
    | ⟨2, _⟩ => (simp [ix3] <;> omega)))

theorem con_tap2 (s : Fin 4) (p : Fin 256) (k : Fin 2048) (R : Fin 9216) (hR : R.val = 8192 + s.val * 256 + p.val) :
    val_main_v62 (F := Ideal) x0 (ix3 s p k) = tap (X0 x0) R 2 ⟨k.val, by omega⟩ := by
  have hp := p.isLt
  have e : idx_main_v62 (ix3 s p k) = ix3 s ⟨p.val + 2, by omega⟩ k :=
    funext fun a => Fin.ext (by match a with | ⟨0, _⟩ => rfl | ⟨1, _⟩ => (simp [ix3] <;> omega) | ⟨2, _⟩ => rfl)
  rw [val_main_v62_apply, e]
  exact con_pad x0 s p _ k 2 rfl R hR

theorem con_w2 (s : Fin 4) (p : Fin 256) (k : Fin 2048) : val_main_v66 (F := Ideal) x1 (ix3 s p k) = x1 (ix3 0 2 k) := by
  have hk := k.isLt
  rw [val_main_v66_apply, val_main_v65_apply, val_main_v64_apply, val_main_v63_apply, val_main_v47_apply]
  exact congrArg x1 (funext fun a => Fin.ext (by
    match a with
    | ⟨0, _⟩ => rfl
    | ⟨1, _⟩ => (simp [ix3] <;> omega)
    | ⟨2, _⟩ => (simp [ix3] <;> omega)))

theorem con_tap3 (s : Fin 4) (p : Fin 256) (k : Fin 2048) (R : Fin 9216) (hR : R.val = 8192 + s.val * 256 + p.val) :
    val_main_v69 (F := Ideal) x0 (ix3 s p k) = tap (X0 x0) R 3 ⟨k.val, by omega⟩ := by
  have hp := p.isLt
  have e : idx_main_v69 (ix3 s p k) = ix3 s ⟨p.val + 3, by omega⟩ k :=
    funext fun a => Fin.ext (by match a with | ⟨0, _⟩ => rfl | ⟨1, _⟩ => (simp [ix3] <;> omega) | ⟨2, _⟩ => rfl)
  rw [val_main_v69_apply, e]
  exact con_pad x0 s p _ k 3 rfl R hR

theorem con_w3 (s : Fin 4) (p : Fin 256) (k : Fin 2048) : val_main_v73 (F := Ideal) x1 (ix3 s p k) = x1 (ix3 0 3 k) := by
  have hk := k.isLt
  rw [val_main_v73_apply, val_main_v72_apply, val_main_v71_apply, val_main_v70_apply, val_main_v47_apply]
  exact congrArg x1 (funext fun a => Fin.ext (by
    match a with
    | ⟨0, _⟩ => rfl
    | ⟨1, _⟩ => (simp [ix3] <;> omega)
    | ⟨2, _⟩ => (simp [ix3] <;> omega)))

theorem con_tap4 (s : Fin 4) (p : Fin 256) (k : Fin 2048) (R : Fin 9216) (hR : R.val = 8192 + s.val * 256 + p.val) :
    val_main_v76 (F := Ideal) x0 (ix3 s p k) = tap (X0 x0) R 4 ⟨k.val, by omega⟩ := by
  have hp := p.isLt
  have e : idx_main_v76 (ix3 s p k) = ix3 s ⟨p.val + 4, by omega⟩ k :=
    funext fun a => Fin.ext (by match a with | ⟨0, _⟩ => rfl | ⟨1, _⟩ => (simp [ix3] <;> omega) | ⟨2, _⟩ => rfl)
  rw [val_main_v76_apply, e]
  exact con_pad x0 s p _ k 4 rfl R hR

theorem con_w4 (s : Fin 4) (p : Fin 256) (k : Fin 2048) : val_main_v80 (F := Ideal) x1 (ix3 s p k) = x1 (ix3 0 4 k) := by
  have hk := k.isLt
  rw [val_main_v80_apply, val_main_v79_apply, val_main_v78_apply, val_main_v77_apply, val_main_v47_apply]
  exact congrArg x1 (funext fun a => Fin.ext (by
    match a with
    | ⟨0, _⟩ => rfl
    | ⟨1, _⟩ => (simp [ix3] <;> omega)
    | ⟨2, _⟩ => (simp [ix3] <;> omega)))

/-- The five products added. -/
theorem con_sum (s : Fin 4) (p : Fin 256) (k : Fin 2048) (R : Fin 9216) (hR : R.val = 8192 + s.val * 256 + p.val) :
    val_main_v82 (F := Ideal) x0 x1 (ix3 s p k) = taps (X0 x0) (W0 x1) R k := by
  rw [val_main_v82_apply, val_main_v75_apply, val_main_v68_apply, val_main_v61_apply,
    val_main_v54_apply, val_main_v60_apply, val_main_v67_apply, val_main_v74_apply, val_main_v81_apply,
    con_tap0 x0 s p k R hR, con_w0 x1 s p k,
    con_tap1 x0 s p k R hR, con_w1 x1 s p k,
    con_tap2 x0 s p k R hR, con_w2 x1 s p k,
    con_tap3 x0 s p k R hR, con_w3 x1 s p k,
    con_tap4 x0 s p k R hR, con_w4 x1 s p k]
  rfl

/-- The sum under silu. -/
theorem con_silu (s : Fin 4) (p : Fin 256) (k : Fin 2048) (R : Fin 9216) (hR : R.val = 8192 + s.val * 256 + p.val) :
    val_main_v83 (F := Ideal) x0 x1 (ix3 s p k) = silu (taps (X0 x0) (W0 x1) R k) := by
  rw [val_main_v83_apply, val_main_call3_v5_apply, val_main_call3_v4_apply, val_main_call3_v3_apply, val_main_call3_v2_apply,
    val_main_call3_v1_apply, val_main_call3_v0_apply, con_sum x0 x1 s p k R hR]
  exact silu_spelt _

/-- Queries beside scaled keys. -/
theorem con_cat (s : Fin 4) (p : Fin 256) (k : Fin 2048) (R : Fin 9216) (hR : R.val = 8192 + s.val * 256 + p.val) :
    val_main_v88 (F := Ideal) x0 x1 (ix3 s p k) = convOut (X0 x0) (W0 x1) R k := by
  unfold val_main_v88 convOut
  have hk := k.isLt
  by_cases h : k.val < 1024
  · rw [if_pos h]
    refine (concatenate_pair_apply_left (s₁ := S4x256x1024) (s₂ := S4x256x1024) _ _ _ _ (ix3 s p k) rfl (ix3 s p ⟨k.val, h⟩)
      (fun a => match a with | ⟨0, _⟩ => rfl | ⟨1, _⟩ => rfl | ⟨2, _⟩ => rfl)).trans ?_
    have e : idx_main_v84 (ix3 s p ⟨k.val, h⟩) = ix3 s p k := funext fun a => match a with | ⟨0, _⟩ => rfl | ⟨1, _⟩ => rfl | ⟨2, _⟩ => rfl
    rw [val_main_v84_apply, e]
    exact con_silu x0 x1 s p k R hR
  · rw [if_neg h]
    refine (concatenate_pair_apply_right (s₁ := S4x256x1024) (s₂ := S4x256x1024) _ _ _ _ (ix3 s p k) rfl rfl (ix3 s p ⟨k.val - 1024, by omega⟩)
      (fun a ha => match a, ha with | ⟨0, _⟩, _ => rfl | ⟨1, _⟩, _ => rfl | ⟨2, _⟩, ha => absurd rfl ha)
      (by show k.val - 1024 + 1024 = k.val; omega)).trans ?_
    have e : idx_main_v85 (ix3 s p ⟨k.val - 1024, by omega⟩) = ix3 s p k :=
      funext fun a => Fin.ext (by match a with | ⟨0, _⟩ => rfl | ⟨1, _⟩ => rfl | ⟨2, _⟩ => (simp [ix3] <;> omega))
    rw [val_main_v87_apply, val_main_v85_apply, e, con_silu x0 x1 s p k R hR, val_main_v86_apply]
    rfl

/-- The stream's rows one under the other. -/
theorem con_flat (r : Fin 1024) (k : Fin 2048) (R : Fin 9216) (hR : R.val = 8192 + r.val) :
    val_main_v89 (F := Ideal) x0 x1 (ix2 r k) = convOut (X0 x0) (W0 x1) R k := by
  have hr := r.isLt
  have hk := k.isLt
  have e : idx_main_v89 (ix2 r k) = ix3 ⟨r.val / 256, by omega⟩ ⟨r.val % 256, Nat.mod_lt _ (by decide)⟩ k :=
    funext fun a => Fin.ext (by
      match a with
      | ⟨0, _⟩ => (simp [ix2, ix3] <;> omega)
      | ⟨1, _⟩ => (simp [ix2, ix3] <;> omega)
      | ⟨2, _⟩ => (simp [ix2, ix3] <;> omega))
  rw [val_main_v89_apply, e]
  exact con_cat x0 x1 _ _ k R (by show R.val = 8192 + r.val / 256 * 256 + r.val % 256; omega)

/-! ### The result -/

/-- The result at a row and a column. -/
theorem result_at (R : Fin 9216) (C : Fin 2048) : val_main_v91 (F := Ideal) x0 x1 (ix2 R C) = convOut (X0 x0) (W0 x1) R C := by
  have hR := R.isLt
  rw [val_main_v91_apply]
  show val_main_v90 (F := Ideal) x0 x1 (ix2 R C) = _
  unfold val_main_v90
  by_cases h : R.val < 8192
  · refine (concatenate_pair_apply_left (s₁ := S8192x2048) (s₂ := S1024x2048) _ _ _ _ (ix2 R C) rfl (ix2 ⟨R.val, h⟩ C)
      (fun a => match a with | ⟨0, _⟩ => rfl | ⟨1, _⟩ => rfl)).trans ?_
    exact lat_flat x0 x1 ⟨R.val, h⟩ C R (by show R.val = 0 + R.val; omega)
  · refine (concatenate_pair_apply_right (s₁ := S8192x2048) (s₂ := S1024x2048) _ _ _ _ (ix2 R C) rfl rfl (ix2 ⟨R.val - 8192, by omega⟩ C)
      (fun a ha => match a, ha with | ⟨1, _⟩, _ => rfl | ⟨0, _⟩, ha => absurd rfl ha)
      (by show R.val - 8192 + 8192 = R.val; omega)).trans ?_
    exact con_flat x0 x1 ⟨R.val - 8192, by omega⟩ C R (by show R.val = 8192 + (R.val - 8192); omega)

end Cert.Reference9Ideal.Conv
end
-- ==== Proof.Conv.Equation.lean ====
module

public import proofs.«01_k».proof.Defs
public import proofs.«01_k».proof.Proof.Gen.Reference9Ideal.Run
public import proofs.«01_k».proof.Proof.Conv.Kernel
public import proofs.«01_k».proof.Proof.Conv.Reference

/-! The convolution: the call and the reference end with the same array, on any arguments. -/

@[expose] public section

noncomputable section

namespace Cert.Proof

open Idealize.ShloMosaic Idealize.SL.Sem

attribute [local instance] Cert.Kernel9Ideal.Gen.facts Cert.Reference9Ideal.Gen.facts in
/-- The convolution's call computes the reference's result. -/
theorem conv_equal : algebraic_Kernel9Ideal_Reference9Ideal := by
  intro m g m' g' hp ha
  refine ⟨fun c => fun i => Cert.Conv.convOut
      (fun r k => m ((c.tc : Thread Cert.Kernel9Ideal.nD Cert.Kernel9Ideal.τ).loc Cert.Kernel9Ideal.main_arg0) (ix2 r k))
      (fun k C => m ((c.tc : Thread Cert.Kernel9Ideal.nD Cert.Kernel9Ideal.τ).loc Cert.Kernel9Ideal.main_arg1) (ix3 0 k C)) (i 0) (i 1),
    (θ_run _ _ _).mono (fun r h c => ?_) (Cert.Kernel9Ideal.Value.run_blocks (F := Ideal) m g),
    (θ_run _ _ _).mono (fun r h c => ?_) (Cert.Reference9Ideal.Value.run (F := Ideal) m' g')⟩
  · obtain ⟨h3, k⟩ := h c
    exact ⟨h3.trans (Cert.Kernel9Ideal.Conv.final4 m c), k⟩
  · obtain ⟨h3, k⟩ := h c
    obtain ⟨a0, a1⟩ := ha c
    refine ⟨h3.trans ((Cert.Reference9Ideal.Read.val_main_v91_eq m' c).trans ?_), k⟩
    rw [a0, a1]
    funext i
    obtain ⟨R, C, rfl⟩ : ∃ (R : Fin 9216) (C : Fin 2048), i = ix2 R C :=
      ⟨i 0, i 1, funext fun a => match a with | ⟨0, _⟩ => rfl | ⟨1, _⟩ => rfl⟩
    exact Cert.Reference9Ideal.Conv.result_at _ _ R C

end Cert.Proof

end
-- ==== Proof.Finish.Spec.lean ====
module

public import proofs.«01_k».proof.Proof.FfnOut.Spec

/-! The mLSTM's last step: the two directions added, normed within each head of 128 columns, gated by a column group of the
    projection. -/

@[expose] public section

noncomputable section

namespace Cert.Finish

open Idealize.ShloMosaic

/-- The logistic function. -/
def gate (x : EReal) : EReal := Ideal.div 1 (1 + Ideal.exp (0 - x))

/-- One entry, from the entries of its head `a` and `b`, its gain and its gate. -/
def normed (a b : Fin 128 → EReal) (j : Fin 128) (g o : EReal) : EReal :=
  (a j + b j) * Ideal.rsqrt (Ideal.div (∑ k, (a k + b k) * (a k + b k)) (Ideal.ofBits .f32 0x43000000#32) + Ideal.ofBits .f32 0x358637BD#32)
    * g * gate o

/-- Row `R`, head `h`, entry `j` of the result. -/
def headOut (A B : Fin 9216 → Fin 1024 → EReal) (O : Fin 9216 → Fin 7168 → EReal) (G : Fin 1024 → EReal) (R : Fin 9216) (h : Fin 8)
    (j : Fin 128) : EReal :=
  normed (fun k => A R ⟨h.val * 128 + k.val, by omega⟩) (fun k => B R ⟨h.val * 128 + k.val, by omega⟩) j
    (G ⟨h.val * 128 + j.val, by omega⟩) (O R ⟨3072 + (h.val * 128 + j.val), by omega⟩)

/-- Row `R`, column `C` of the result. -/
def finish (A B : Fin 9216 → Fin 1024 → EReal) (O : Fin 9216 → Fin 7168 → EReal) (G : Fin 1024 → EReal) (R : Fin 9216) (C : Fin 1024) : EReal :=
  headOut A B O G R ⟨C.val / 128, by omega⟩ ⟨C.val % 128, Nat.mod_lt _ (by decide)⟩

end Cert.Finish

end
-- ==== Proof.Finish.Kernel.lean ====
module

public import proofs.«01_k».proof.Proof.Gen.Kernel10Ideal.Value
public import Idealize.ShloMosaic.Lib.Pipeline.ValueKit
public import Idealize.ShloMosaic.Lib.StableHlo.ReadAt
public import proofs.«01_k».proof.Proof.Finish.Spec
public import proofs.«01_k».proof.Proof.Diff.Math
public import proofs.«01_k».proof.Proof.OddIn.Spec

/-! What the last mLSTM call's result array holds after the run, element by element. -/

@[expose] public section

set_option maxRecDepth 16384

noncomputable section

namespace Cert.Kernel10Ideal.Finish

open Cert.Finish
open Cert.Kernel10Ideal Cert.Kernel10Ideal.Gen
open Idealize.ShloMosaic Idealize.ShloMosaic.TcCoe Idealize.SL.Sem
open Idealize.ShloMosaic.Pipeline (Dat)

section payloads
variable (a b : Vec Ideal S512x128 .f32) (g : Vec Ideal S1x128 .f32) (o : Vec Ideal S512x128 .f32) (i : Fin 512) (j : Fin 128)

/-- The eight stored blocks, one per head. -/
theorem head0 : k0_pay1 a b g o (ix2 i j) = normed (fun k => a (ix2 i k)) (fun k => b (ix2 i k)) j (g (ix2 0 j)) (o (ix2 i j)) := by
  pointwise [k0_pay1]
  rfl

theorem head1 : k0_pay4 (k0_pay2 a b) (k0_pay3 a b) g o (ix2 i j)
    = normed (fun k => a (ix2 i k)) (fun k => b (ix2 i k)) j (g (ix2 0 j)) (o (ix2 i j)) := by
  pointwise [k0_pay4, k0_pay2, k0_pay3]
  rfl

theorem head2 : k0_pay6 (k0_pay5 a b g) o (ix2 i j)
    = normed (fun k => a (ix2 i k)) (fun k => b (ix2 i k)) j (g (ix2 0 j)) (o (ix2 i j)) := by
  pointwise [k0_pay6, k0_pay5]
  rfl

theorem head3 : k0_pay7 a b g o (ix2 i j) = normed (fun k => a (ix2 i k)) (fun k => b (ix2 i k)) j (g (ix2 0 j)) (o (ix2 i j)) := by
  pointwise [k0_pay7]
  rfl

theorem head4 : k0_pay8 a b g o (ix2 i j) = normed (fun k => a (ix2 i k)) (fun k => b (ix2 i k)) j (g (ix2 0 j)) (o (ix2 i j)) := by
  pointwise [k0_pay8]
  rfl

theorem head5 : k0_pay11 (k0_pay9 a b) (k0_pay10 a b) g o (ix2 i j)
    = normed (fun k => a (ix2 i k)) (fun k => b (ix2 i k)) j (g (ix2 0 j)) (o (ix2 i j)) := by
  pointwise [k0_pay11, k0_pay9, k0_pay10]
  rfl

theorem head6 : k0_pay13 (k0_pay12 a b g) o (ix2 i j)
    = normed (fun k => a (ix2 i k)) (fun k => b (ix2 i k)) j (g (ix2 0 j)) (o (ix2 i j)) := by
  pointwise [k0_pay13, k0_pay12]
  rfl

theorem head7 : k0_pay14 a b g o (ix2 i j) = normed (fun k => a (ix2 i k)) (fun k => b (ix2 i k)) j (g (ix2 0 j)) (o (ix2 i j)) := by
  pointwise [k0_pay14]
  rfl

end payloads

variable (m : (ℓ : Loc nD τ sig) → Buf (Elt Ideal) ℓ)

theorem idx : ∀ t : Fin cfg0.N, win0_0.index t = ![t.val, 0] ∧ win0_1.index t = ![t.val, 0] ∧ win0_2.index t = ![t.val, 3]
    ∧ win0_3.index t = ![0, 0] ∧ win0_4.index t = ![t.val, 0] := (by decide +kernel : ∀ t : Fin grid0.N, _)

/-- The blocks the body reads, as elements of the argument arrays. -/
theorem x0 (c : Dev nD) (t : Fin cfg0.N) (z : S512x1024.Idx) (R : Fin 9216) (C : Fin 1024) (h0 : R.val = t.val * 512 + (z 0).val)
    (h1 : C.val = (z 1).val) : iblk m c 0 t z = m ((c : Thread nD τ).loc main_arg0) (ix2 R C) := by
  blk_ext [iblk, V, idx t]

theorem x1 (c : Dev nD) (t : Fin cfg0.N) (z : S512x1024.Idx) (R : Fin 9216) (C : Fin 1024) (h0 : R.val = t.val * 512 + (z 0).val)
    (h1 : C.val = (z 1).val) : iblk m c 1 t z = m ((c : Thread nD τ).loc main_arg1) (ix2 R C) := by
  blk_ext [iblk, V, idx t]

theorem x2 (c : Dev nD) (t : Fin cfg0.N) (z : S512x1024.Idx) (R : Fin 9216) (C : Fin 7168) (h0 : R.val = t.val * 512 + (z 0).val)
    (h1 : C.val = 3072 + (z 1).val) : iblk m c 2 t z = m ((c : Thread nD τ).loc main_arg2) (ix2 R C) := by
  blk_ext [iblk, V, idx t]

theorem x3 (c : Dev nD) (t : Fin cfg0.N) (C : Fin 1024) : iblk m c 3 t (ix2 0 C) = m ((c : Thread nD τ).loc main_arg3) (ix2 0 C) := by
  blk_simp [iblk]
  entry_read
  pointwise
  blk_ext [V, idx t]

/-- The arguments by row and column. -/
abbrev A0 (c : Dev nD) : Fin 9216 → Fin 1024 → EReal := fun r k => m ((c : Thread nD τ).loc main_arg0) (ix2 r k)
abbrev B0 (c : Dev nD) : Fin 9216 → Fin 1024 → EReal := fun r k => m ((c : Thread nD τ).loc main_arg1) (ix2 r k)
abbrev O0 (c : Dev nD) : Fin 9216 → Fin 7168 → EReal := fun r k => m ((c : Thread nD τ).loc main_arg2) (ix2 r k)
abbrev G0 (c : Dev nD) : Fin 1024 → EReal := fun k => m ((c : Thread nD τ).loc main_arg3) (ix2 0 k)

/-- One head's columns of the blocks. -/
theorem tile (c : Dev nD) (t : Fin cfg0.N) (h : Fin 8) (off : ℕ) (ho : off = h.val * 128) (hb : ∀ a, (![0, off] : Fin 2 → ℕ) a + S512x128.size a ≤ S512x1024.size a)
    (hg : ∀ a, (![0, off] : Fin 2 → ℕ) a + S1x128.size a ≤ S1x1024.size a) (i : Fin 512) (j : Fin 128) (R : Fin 9216) (C : Fin 1024)
    (hR : R.val = t.val * 512 + i.val) (hC : C.val = off + j.val) :
    normed (fun k => View.ld (iblk m c 0 t : Vec Ideal S512x1024 .f32) (Rect.unit (s := S512x1024) ![0, off] S512x128.size hb) (ix2 i k))
      (fun k => View.ld (iblk m c 1 t : Vec Ideal S512x1024 .f32) (Rect.unit (s := S512x1024) ![0, off] S512x128.size hb) (ix2 i k)) j
      (View.ld (iblk m c 3 t : Vec Ideal S1x1024 .f32) (Rect.unit (s := S1x1024) ![0, off] S1x128.size hg) (ix2 0 j))
      (View.ld (iblk m c 2 t : Vec Ideal S512x1024 .f32) (Rect.unit (s := S512x1024) ![0, off] S512x128.size hb) (ix2 i j))
      = finish (A0 m c) (B0 m c) (O0 m c) (G0 m c) R C := by
  subst ho
  have hj := j.isLt
  have hC7 : (⟨C.val / 128, by omega⟩ : Fin 8) = h := Fin.ext (by show C.val / 128 = h.val; omega)
  have hC1 : (⟨C.val % 128, Nat.mod_lt _ (by decide)⟩ : Fin 128) = j := Fin.ext (by show C.val % 128 = j.val; omega)
  have v0 : ∀ k : Fin 512, 0 + k.val * 1 = k.val := fun k => by omega
  unfold finish headOut
  rw [hC7, hC1]
  have e0 : (fun k : Fin 128 => View.ld (iblk m c 0 t : Vec Ideal S512x1024 .f32) (Rect.unit (s := S512x1024) ![0, h.val * 128] S512x128.size hb) (ix2 i k))
      = fun k => A0 m c R ⟨h.val * 128 + k.val, by omega⟩ := funext fun k =>
    x0 m c t _ R _ (by rw [Rect.idx_unit_val]; show R.val = t.val * 512 + (0 + i.val); omega)
      (by rw [Rect.idx_unit_val]; rfl)
  have e1 : (fun k : Fin 128 => View.ld (iblk m c 1 t : Vec Ideal S512x1024 .f32) (Rect.unit (s := S512x1024) ![0, h.val * 128] S512x128.size hb) (ix2 i k))
      = fun k => B0 m c R ⟨h.val * 128 + k.val, by omega⟩ := funext fun k =>
    x1 m c t _ R _ (by rw [Rect.idx_unit_val]; show R.val = t.val * 512 + (0 + i.val); omega)
      (by rw [Rect.idx_unit_val]; rfl)
  have e2 : View.ld (iblk m c 2 t : Vec Ideal S512x1024 .f32) (Rect.unit (s := S512x1024) ![0, h.val * 128] S512x128.size hb) (ix2 i j)
      = O0 m c R ⟨3072 + (h.val * 128 + j.val), by omega⟩ :=
    x2 m c t _ R _ (by rw [Rect.idx_unit_val]; show R.val = t.val * 512 + (0 + i.val); omega)
      (by rw [Rect.idx_unit_val]; rfl)
  have e3 : View.ld (iblk m c 3 t : Vec Ideal S1x1024 .f32) (Rect.unit (s := S1x1024) ![0, h.val * 128] S1x128.size hg) (ix2 0 j)
      = G0 m c ⟨h.val * 128 + j.val, by omega⟩ := by
    refine Eq.trans ?_ (x3 m c t ⟨h.val * 128 + j.val, by omega⟩)
    exact congrArg (iblk m c 3 t) (funext fun a => Fin.ext (by
      rw [Rect.idx_unit_val]
      match a with
      | ⟨0, _⟩ => rfl
      | ⟨1, _⟩ => rfl))
  rw [e0, e1, e2, e3]

/-- What one grid point leaves in its block. -/
theorem point4 (c : Dev nD) (t : Fin cfg0.N) (y : S512x1024.Idx) (R : Fin 9216) (C : Fin 1024)
    (hR : R.val = t.val * 512 + (y 0).val) (hC : C.val = (y 1).val) :
    out0_4 (iblk m c 0 t) (iblk m c 1 t) (iblk m c 2 t) (iblk m c 3 t) y = finish (A0 m c) (B0 m c) (O0 m c) (G0 m c) R C := by
  have ix : ∀ x : S512x128.Idx, ∃ (i : Fin 512) (j : Fin 128), x = ix2 i j ∧ i.val = (x 0).val ∧ j.val = (x 1).val := fun x =>
    ⟨x 0, x 1, funext fun a => match a with | ⟨0, _⟩ => rfl | ⟨1, _⟩ => rfl, rfl, rfl⟩
  canon_tiles x h
  all_goals obtain ⟨i, j, rfl, hi, hj⟩ := ix x
  · exact (head7 _ _ _ _ i j).trans (tile m c t 7 _ rfl _ _ i j R C (by omega) (by omega))
  · exact (head6 _ _ _ _ i j).trans (tile m c t 6 _ rfl _ _ i j R C (by omega) (by omega))
  · exact (head5 _ _ _ _ i j).trans (tile m c t 5 _ rfl _ _ i j R C (by omega) (by omega))
  · exact (head4 _ _ _ _ i j).trans (tile m c t 4 _ rfl _ _ i j R C (by omega) (by omega))
  · exact (head3 _ _ _ _ i j).trans (tile m c t 3 _ rfl _ _ i j R C (by omega) (by omega))
  · exact (head2 _ _ _ _ i j).trans (tile m c t 2 _ rfl _ _ i j R C (by omega) (by omega))
  · exact (head1 _ _ _ _ i j).trans (tile m c t 1 _ rfl _ _ i j R C (by omega) (by omega))
  · exact (head0 _ _ _ _ i j).trans (tile m c t 0 _ rfl _ _ i j R C (by omega) (by omega))

/-- The result after the run. -/
theorem final4 (c : Dev nD) : (dats m 0 c).arrAt 4 cfg0.N = fun i => finish (A0 m c) (B0 m c) (O0 m c) (G0 m c) (i 0) (i 1) := by
  refine (dats m 0 c).arrAt_eq_of_covers 4 _ (by decide +kernel) fun t hf y => ?_
  rw [after0_4]
  have H := point4 m c t
  generalize out0_4 (iblk m c 0 t) (iblk m c 1 t) (iblk m c 2 t) (iblk m c 3 t) = o at H ⊢
  refine H y _ _ ?_ ?_
  · blk_simp [idx t]
  · blk_simp [idx t]

end Cert.Kernel10Ideal.Finish
end
-- ==== Proof.Finish.Reference.lean ====
module

public import proofs.«01_k».proof.Proof.Gen.Reference10Ideal.Read
public import proofs.«01_k».proof.Proof.Finish.Spec
public import proofs.«01_k».proof.Proof.Diff.Math
public import proofs.«01_k».proof.Proof.OddIn.Spec
public import Idealize.ShloMosaic.Lib.Pipeline.ValueKit

/-! The mLSTM's last step as the reference computes it: the rows parted into heads, normed, put together again and gated. -/

@[expose] public section

set_option maxRecDepth 16384

noncomputable section

namespace Cert.Reference10Ideal.Finish

open Cert.Reference10Ideal Cert.Reference10Ideal.Gen Cert.Reference10Ideal.Read Cert.Finish
open Idealize.ShloMosaic Idealize.ShloMosaic.TcCoe Idealize.SL.Sem

variable (x0 x1 : (⟨S9216x1024, .f32⟩ : BufTy).Contents (Elt Ideal)) (x2 : (⟨S9216x7168, .f32⟩ : BufTy).Contents (Elt Ideal))
  (x3 : (⟨S1x1024, .f32⟩ : BufTy).Contents (Elt Ideal))

/-- The two directions added, by head. -/
theorem sum_at (R : Fin 9216) (h : Fin 8) (k : Fin 128) :
    val_main_v2 (F := Ideal) x0 x1 (ix3 R h k)
      = x0 (ix2 R ⟨h.val * 128 + k.val, by omega⟩) + x1 (ix2 R ⟨h.val * 128 + k.val, by omega⟩) := by
  have hk := k.isLt
  have hh := h.isLt
  have e : idx_main_v2 (ix3 R h k) = ix2 R ⟨h.val * 128 + k.val, by omega⟩ := funext fun a => Fin.ext (by
    match a with
    | ⟨0, _⟩ => (simp [ix2, ix3] <;> omega)
    | ⟨1, _⟩ => (simp [ix2, ix3] <;> omega))
  rw [val_main_v2_apply, e, val_main_v1_apply]
  rfl

/-- The reciprocal root of a head's mean square. -/
theorem root_at (R : Fin 9216) (h : Fin 8) :
    val_main_v12 (F := Ideal) x0 x1 (ix3 R h 0) = Ideal.rsqrt (Ideal.div (∑ k : Fin 128,
        (x0 (ix2 R ⟨h.val * 128 + k.val, by omega⟩) + x1 (ix2 R ⟨h.val * 128 + k.val, by omega⟩))
          * (x0 (ix2 R ⟨h.val * 128 + k.val, by omega⟩) + x1 (ix2 R ⟨h.val * 128 + k.val, by omega⟩)))
        (Ideal.ofBits .f32 0x43000000#32) + Ideal.ofBits .f32 0x358637BD#32) := by
  have e7 : idx_main_v7 (ix3 R h 0) = ix2 R h := funext fun a => match a with | ⟨0, _⟩ => rfl | ⟨1, _⟩ => rfl
  have e6 : ∀ k, idx_main_v6 (ix2 R h) k = ix3 R h k := fun k => funext fun a => match a with | ⟨0, _⟩ => rfl | ⟨1, _⟩ => rfl | ⟨2, _⟩ => rfl
  rw [val_main_v12_apply, val_main_v11_apply, val_main_v10_apply, val_main_v9_apply, val_main_v8_apply, val_main_v7_apply, e7,
    val_main_v6_apply]
  refine congrArg Ideal.rsqrt (congrArg (fun p : EReal => p + Ideal.ofBits .f32 0x358637BD#32)
    (congrArg (fun p : EReal => Ideal.div p (Ideal.ofBits .f32 0x43000000#32)) ?_))
  refine Eq.trans (congrArg₂ (fun p q : EReal => p + q) (Cert.Diff.zero32 : Ideal.ofBits .f32 0x00000000#32 = 0)
    (Finset.sum_congr rfl fun k _ => ?_)) (zero_add _)
  rw [e6, val_main_v5_apply, sum_at]
  rfl

/-- The gain by head. -/
theorem gain_at (R : Fin 9216) (h : Fin 8) (k : Fin 128) :
    val_main_v16 (F := Ideal) x3 (ix3 R h k) = x3 (ix2 0 ⟨h.val * 128 + k.val, by omega⟩) := by
  have hk := k.isLt
  have hh := h.isLt
  rw [val_main_v16_apply, val_main_v15_apply, val_main_v4_apply, val_main_v3_apply]
  exact congrArg x3 (funext fun a => Fin.ext (by
    match a with
    | ⟨0, _⟩ => rfl
    | ⟨1, _⟩ => (simp [ix2, ix3] <;> omega)))

/-- The gate. -/
theorem gate_at (R : Fin 9216) (C : Fin 1024) : val_main_v24 (F := Ideal) x2 (ix2 R C) = gate (x2 (ix2 R ⟨3072 + C.val, by omega⟩)) := by
  have e : idx_main_v0 (ix2 R C) = ix2 R ⟨3072 + C.val, by omega⟩ :=
    funext fun a => Fin.ext (by match a with | ⟨0, _⟩ => rfl | ⟨1, _⟩ => rfl)
  rw [val_main_v24_apply, val_main_v23_apply, val_main_v22_apply, val_main_v21_apply, val_main_v20_apply, val_main_v19_apply,
    val_main_v0_apply, e]
  show Ideal.div (Ideal.ofBits .f32 0x3F800000#32) (Ideal.ofBits .f32 0x3F800000#32 + Ideal.exp (-(x2 (ix2 R ⟨3072 + C.val, by omega⟩)))) = _
  rw [Cert.Proj.one32, gate, zero_sub]

/-- The result at a row and a column. -/
theorem result_at (R : Fin 9216) (C : Fin 1024) : val_main_v26 (F := Ideal) x0 x1 x2 x3 (ix2 R C)
    = finish (fun r k => x0 (ix2 r k)) (fun r k => x1 (ix2 r k)) (fun r k => x2 (ix2 r k)) (fun k => x3 (ix2 0 k)) R C := by
  have hC := C.isLt
  have hR := R.isLt
  obtain ⟨h, j, hC'⟩ : ∃ (h : Fin 8) (j : Fin 128), C.val = h.val * 128 + j.val :=
    ⟨⟨C.val / 128, by omega⟩, ⟨C.val % 128, Nat.mod_lt _ (by decide)⟩, by show C.val = C.val / 128 * 128 + C.val % 128; omega⟩
  have hj := j.isLt
  have hC7 : (⟨C.val / 128, by omega⟩ : Fin 8) = h := Fin.ext (by show C.val / 128 = h.val; omega)
  have hC1 : (⟨C.val % 128, Nat.mod_lt _ (by decide)⟩ : Fin 128) = j := Fin.ext (by show C.val % 128 = j.val; omega)
  have e18 : idx_main_v18 (ix2 R C) = ix3 R h j := funext fun a => Fin.ext (by
    match a with
    | ⟨0, _⟩ => (simp [ix2, ix3] <;> omega)
    | ⟨1, _⟩ => (simp [ix2, ix3] <;> omega)
    | ⟨2, _⟩ => (simp [ix2, ix3] <;> omega))
  have e13 : idx_main_v13 (ix3 R h j) = ix3 R h 0 := funext fun a => match a with | ⟨0, _⟩ => rfl | ⟨1, _⟩ => rfl | ⟨2, _⟩ => rfl
  have eC : C = ⟨h.val * 128 + j.val, by omega⟩ := Fin.ext hC'
  rw [val_main_v26_apply]
  show val_main_v25 (F := Ideal) x0 x1 x2 x3 (ix2 R C) = _
  rw [val_main_v25_apply, gate_at, val_main_v18_apply, e18, val_main_v17_apply, val_main_v14_apply, val_main_v13_apply, e13, root_at,
    sum_at, gain_at]
  unfold finish headOut
  rw [hC7, hC1]
  unfold normed
  refine congrArg (fun p : EReal => _ * p) (congrArg gate (congrArg x2 ?_))
  exact funext fun a => Fin.ext (by
    match a with
    | ⟨0, _⟩ => rfl
    | ⟨1, _⟩ => show 3072 + C.val = 3072 + (h.val * 128 + j.val); omega)

end Cert.Reference10Ideal.Finish
end
-- ==== Proof.Finish.Equation.lean ====
module

public import proofs.«01_k».proof.Defs
public import proofs.«01_k».proof.Proof.Gen.Reference10Ideal.Run
public import proofs.«01_k».proof.Proof.Finish.Kernel
public import proofs.«01_k».proof.Proof.Finish.Reference

/-! The mLSTM's last step: the call and the reference end with the same array, on any arguments. -/

@[expose] public section

noncomputable section

namespace Cert.Proof

open Idealize.ShloMosaic Idealize.SL.Sem

attribute [local instance] Cert.Kernel10Ideal.Gen.facts Cert.Reference10Ideal.Gen.facts in
/-- The last mLSTM call computes the reference's result. -/
theorem finish_equal : algebraic_Kernel10Ideal_Reference10Ideal := by
  intro m g m' g' hp ha
  refine ⟨fun c => fun i => Cert.Finish.finish
      (fun r k => m ((c.tc : Thread Cert.Kernel10Ideal.nD Cert.Kernel10Ideal.τ).loc Cert.Kernel10Ideal.main_arg0) (ix2 r k))
      (fun r k => m ((c.tc : Thread Cert.Kernel10Ideal.nD Cert.Kernel10Ideal.τ).loc Cert.Kernel10Ideal.main_arg1) (ix2 r k))
      (fun r k => m ((c.tc : Thread Cert.Kernel10Ideal.nD Cert.Kernel10Ideal.τ).loc Cert.Kernel10Ideal.main_arg2) (ix2 r k))
      (fun k => m ((c.tc : Thread Cert.Kernel10Ideal.nD Cert.Kernel10Ideal.τ).loc Cert.Kernel10Ideal.main_arg3) (ix2 0 k)) (i 0) (i 1),
    (θ_run _ _ _).mono (fun r h c => ?_) (Cert.Kernel10Ideal.Value.run_blocks (F := Ideal) m g),
    (θ_run _ _ _).mono (fun r h c => ?_) (Cert.Reference10Ideal.Value.run (F := Ideal) m' g')⟩
  · obtain ⟨h3, k⟩ := h c
    exact ⟨h3.trans (Cert.Kernel10Ideal.Finish.final4 m c), k⟩
  · obtain ⟨h3, k⟩ := h c
    obtain ⟨a0, a1, a2, a3⟩ := ha c
    refine ⟨h3.trans ((Cert.Reference10Ideal.Read.val_main_v26_eq _ _ _ _).trans ?_), k⟩
    rw [a0, a1, a2, a3]
    funext i
    obtain ⟨R, C, rfl⟩ : ∃ (R : Fin 9216) (C : Fin 1024), i = ix2 R C :=
      ⟨i 0, i 1, funext fun a => match a with | ⟨0, _⟩ => rfl | ⟨1, _⟩ => rfl⟩
    exact Cert.Reference10Ideal.Finish.result_at _ _ _ _ R C

end Cert.Proof

end
-- ==== Proof.lean ====
/- The claims about the calls: the frames, the idealizations, and the equations. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Reference5Ideal
public import proofs.«01_k».proof.Proof.Gen.Reference5Ideal.Run
public import proofs.«01_k».proof.Proof.Gen.Reference5Ideal.Read
public import proofs.«01_k».proof.Proof.Gen.Reference6Ideal
public import proofs.«01_k».proof.Proof.Gen.Reference6Ideal.Run
public import proofs.«01_k».proof.Proof.Gen.Reference6Ideal.Read
public import proofs.«01_k».proof.Proof.Gen.Reference7Ideal
public import proofs.«01_k».proof.Proof.Gen.Reference7Ideal.Run
public import proofs.«01_k».proof.Proof.Gen.Reference7Ideal.Read
public import proofs.«01_k».proof.Proof.Gen.Reference8Ideal
public import proofs.«01_k».proof.Proof.Gen.Reference8Ideal.Run
public import proofs.«01_k».proof.Proof.Gen.Reference8Ideal.Read
public import proofs.«01_k».proof.Proof.Gen.Reference9Ideal
public import proofs.«01_k».proof.Proof.Gen.Reference9Ideal.Run
public import proofs.«01_k».proof.Proof.Gen.Reference9Ideal.Read
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite
public import proofs.«01_k».proof.Proof.Diff.Equation
public import proofs.«01_k».proof.Proof.FfnIn.Equation
public import proofs.«01_k».proof.Proof.FfnOut.Equation
public import proofs.«01_k».proof.Proof.OddIn.Equation
public import proofs.«01_k».proof.Proof.EvenIn.Equation
public import proofs.«01_k».proof.Proof.MixOut.Equation
public import proofs.«01_k».proof.Proof.OddOut.Equation
public import proofs.«01_k».proof.Proof.Ada.Equation
public import proofs.«01_k».proof.Proof.Conv.Equation
public import proofs.«01_k».proof.Proof.Finish.Equation
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.ReferenceIdeal.Gen.facts in
theorem attention_reference_frame : quiescent_ReferenceIdeal := fun m g _ =>
  (θ_run _ _ _).mono (fun r h => ⟨fun c => (h c).2.2, sem_eq_zero_of_no_sems (by decide) r.2⟩) (Cert.ReferenceIdeal.Value.run (F := Ideal) m g)

attribute [local instance] Cert.Reference2Ideal.Gen.facts in
theorem gate_reference_frame : quiescent_Reference2Ideal := fun m g _ =>
  (θ_run _ _ _).mono (fun r h => ⟨fun c => (h c).2, sem_eq_zero_of_no_sems (by decide) r.2⟩) (Cert.Reference2Ideal.Value.run (F := Ideal) m g)

attribute [local instance] Cert.Reference3Ideal.Gen.facts in
theorem output_reference_frame : quiescent_Reference3Ideal := fun m g _ =>
  (θ_run _ _ _).mono (fun r h => ⟨fun c => (h c).2, sem_eq_zero_of_no_sems (by decide) r.2⟩) (Cert.Reference3Ideal.Value.run (F := Ideal) m g)

attribute [local instance] Cert.Reference4Ideal.Gen.facts in
theorem odd_reference_frame : quiescent_Reference4Ideal := fun m g _ =>
  (θ_run _ _ _).mono (fun r h => ⟨fun c => (h c).2, sem_eq_zero_of_no_sems (by decide) r.2⟩) (Cert.Reference4Ideal.Value.run (F := Ideal) m g)

attribute [local instance] Cert.Reference5Ideal.Gen.facts in
theorem even_reference_frame : quiescent_Reference5Ideal := fun m g _ =>
  (θ_run _ _ _).mono (fun r h => ⟨fun c => (h c).2.2, sem_eq_zero_of_no_sems (by decide) r.2⟩) (Cert.Reference5Ideal.Value.run (F := Ideal) m g)

attribute [local instance] Cert.Reference6Ideal.Gen.facts in
theorem mix_reference_frame : quiescent_Reference6Ideal := fun m g _ =>
  (θ_run _ _ _).mono (fun r h => ⟨fun c => (h c).2, sem_eq_zero_of_no_sems (by decide) r.2⟩) (Cert.Reference6Ideal.Value.run (F := Ideal) m g)

attribute [local instance] Cert.Reference7Ideal.Gen.facts in
theorem odd_out_reference_frame : quiescent_Reference7Ideal := fun m g _ =>
  (θ_run _ _ _).mono (fun r h => ⟨fun c => (h c).2, sem_eq_zero_of_no_sems (by decide) r.2⟩) (Cert.Reference7Ideal.Value.run (F := Ideal) m g)

attribute [local instance] Cert.Reference8Ideal.Gen.facts in
theorem ada_reference_frame : quiescent_Reference8Ideal := fun m g _ =>
  (θ_run _ _ _).mono (fun r h => ⟨fun c => (h c).2, sem_eq_zero_of_no_sems (by decide) r.2⟩) (Cert.Reference8Ideal.Value.run (F := Ideal) m g)

attribute [local instance] Cert.Reference9Ideal.Gen.facts in
theorem conv_reference_frame : quiescent_Reference9Ideal := fun m g _ =>
  (θ_run _ _ _).mono (fun r h => ⟨fun c => (h c).2, sem_eq_zero_of_no_sems (by decide) r.2⟩) (Cert.Reference9Ideal.Value.run (F := Ideal) m g)

attribute [local instance] Cert.Reference10Ideal.Gen.facts in
theorem finish_reference_frame : quiescent_Reference10Ideal := fun m g _ =>
  (θ_run _ _ _).mono (fun r h => ⟨fun c => (h c).2, sem_eq_zero_of_no_sems (by decide) r.2⟩) (Cert.Reference10Ideal.Value.run (F := Ideal) m g)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    attention_reference_frame,
    fun m ρ _ => attention_reference_frame m ρ trivial,
    fun m ρ _ => Cert.Kernel2.Gen.frame m ρ,
    fun m ρ _ => Cert.Kernel2Ideal.Gen.frame m ρ,
    gate_reference_frame,
    fun m ρ _ => Cert.Kernel3.Gen.frame m ρ,
    fun m ρ _ => Cert.Kernel3Ideal.Gen.frame m ρ,
    output_reference_frame,
    fun m ρ _ => Cert.Kernel4.Gen.frame m ρ,
    fun m ρ _ => Cert.Kernel4Ideal.Gen.frame m ρ,
    odd_reference_frame,
    fun m ρ _ => Cert.Kernel5.Gen.frame m ρ,
    fun m ρ _ => Cert.Kernel5Ideal.Gen.frame m ρ,
    even_reference_frame,
    fun m ρ _ => Cert.Kernel6.Gen.frame m ρ,
    fun m ρ _ => Cert.Kernel6Ideal.Gen.frame m ρ,
    mix_reference_frame,
    fun m ρ _ => Cert.Kernel7.Gen.frame m ρ,
    fun m ρ _ => Cert.Kernel7Ideal.Gen.frame m ρ,
    odd_out_reference_frame,
    fun m ρ _ => Cert.Kernel8.Gen.frame m ρ,
    fun m ρ _ => Cert.Kernel8Ideal.Gen.frame m ρ,
    ada_reference_frame,
    fun m ρ _ => Cert.Kernel9.Gen.frame m ρ,
    fun m ρ _ => Cert.Kernel9Ideal.Gen.frame m ρ,
    conv_reference_frame,
    fun m ρ _ => Cert.Kernel10.Gen.frame m ρ,
    fun m ρ _ => Cert.Kernel10Ideal.Gen.frame m ρ,
    finish_reference_frame,
    IdealRules.named_const.statement Cert.KernelIdeal.κ "qscale" .f32 0x3E38AA3B#32 (((1 / 8) * (Real.log 2)⁻¹ : ℝ) : EReal) rfl,
    diff_equal,
    trivial,
    ffn_in_equal,
    trivial,
    ffn_out_equal,
    trivial,
    odd_in_equal,
    trivial,
    even_in_equal,
    trivial,
    mix_out_equal,
    trivial,
    odd_out_equal,
    trivial,
    ada_equal,
    trivial,
    conv_equal,
    trivial,
    finish_equal⟩

end Cert.Proof

end
